-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v109) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v18_0)) (v1 : (c : Dev Cert.Kernel3Ideal.nD) → Buf (Elt Ideal) ((c.tc : Thread Cert.Kernel3Ideal.nD Cert.Kernel3Ideal.τ).loc Cert.Kernel3Ideal.main_v18_1)) (v2 : (c : Dev Cert.Kernel3Ideal.nD) → Buf (Elt Ideal) ((c.tc : Thread Cert.Kernel3Ideal.nD Cert.Kernel3Ideal.τ).loc Cert.Kernel3Ideal.main_v18_2)) (v3 : (c : Dev Cert.Kernel3Ideal.nD) → Buf (Elt Ideal) ((c.tc : Thread Cert.Kernel3Ideal.nD Cert.Kernel3Ideal.τ).loc Cert.Kernel3Ideal.main_v18_3)) (v4 : (c : Dev Cert.Kernel3Ideal.nD) → Buf (Elt Ideal) ((c.tc : Thread Cert.Kernel3Ideal.nD Cert.Kernel3Ideal.τ).loc Cert.Kernel3Ideal.main_v18_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18_0) = v0 c
          ∧ r.2.mem ((c.tc : Thread Cert.Kernel3Ideal.nD Cert.Kernel3Ideal.τ).loc Cert.Kernel3Ideal.main_v18_1) = v1 c
          ∧ r.2.mem ((c.tc : Thread Cert.Kernel3Ideal.nD Cert.Kernel3Ideal.τ).loc Cert.Kernel3Ideal.main_v18_2) = v2 c
          ∧ r.2.mem ((c.tc : Thread Cert.Kernel3Ideal.nD Cert.Kernel3Ideal.τ).loc Cert.Kernel3Ideal.main_v18_3) = v3 c
          ∧ r.2.mem ((c.tc : Thread Cert.Kernel3Ideal.nD Cert.Kernel3Ideal.τ).loc Cert.Kernel3Ideal.main_v18_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v50) = v0 c
          ∧ r.2.mem ((c.tc : Thread Cert.Reference3Ideal.nD Cert.Reference3Ideal.τ).loc Cert.Reference3Ideal.main_v51) = v1 c
          ∧ r.2.mem ((c.tc : Thread Cert.Reference3Ideal.nD Cert.Reference3Ideal.τ).loc Cert.Reference3Ideal.main_v54) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v69_2)) (v1 : (c : Dev Cert.Kernel4Ideal.nD) → Buf (Elt Ideal) ((c.tc : Thread Cert.Kernel4Ideal.nD Cert.Kernel4Ideal.τ).loc Cert.Kernel4Ideal.main_v69_3)) (v2 : (c : Dev Cert.Kernel4Ideal.nD) → Buf (Elt Ideal) ((c.tc : Thread Cert.Kernel4Ideal.nD Cert.Kernel4Ideal.τ).loc Cert.Kernel4Ideal.main_v69_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v69_2) = v0 c
          ∧ r.2.mem ((c.tc : Thread Cert.Kernel4Ideal.nD Cert.Kernel4Ideal.τ).loc Cert.Kernel4Ideal.main_v69_3) = v1 c
          ∧ r.2.mem ((c.tc : Thread Cert.Kernel4Ideal.nD Cert.Kernel4Ideal.τ).loc Cert.Kernel4Ideal.main_v69_4) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_v60) = v1 c
          ∧ r.2.mem ((c.tc : Thread Cert.Reference4Ideal.nD Cert.Reference4Ideal.τ).loc Cert.Reference4Ideal.main_v63) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S4x8x4096x96 : Shape := ⟨4, ![4, 8, 4096, 96]⟩
abbrev S4x8x4096x64 : Shape := ⟨4, ![4, 8, 4096, 64]⟩
abbrev S_ : Shape := ⟨0, ![]⟩

class Facts : Prop where
  bcast_S_S4x8x4096x96 : S_.BroadcastsInDim S4x8x4096x96 (![] : Fin 0 → Fin S4x8x4096x96.rank)
  reducesTo_S4x8x4096x96_S_d0_1_2_3 : S4x8x4096x96.ReducesTo [0, 1, 2, 3] S_
  h_S_ : 0 < S_.numel

variable [Facts]

def fn {F : FTy → Type} [FloatOps F] (main_arg0 : FVec F S4x8x4096x96 .f32) (main_arg1 : FVec F S4x8x4096x96 .f32) (main_arg2 : FVec F S4x8x4096x64 .f32) : IVec S_ 1 :=
  let main_v0 : FVec F S4x8x4096x96 .f32 := Host.absf main_arg0
  let main_cst : FVec F S_ .f32 := constant S_ .f32 0x7F800000#32
  let main_v1 : FVec F S4x8x4096x96 .f32 := broadcastInDim S4x8x4096x96 ![] bcast_S_S4x8x4096x96 main_cst
  let main_v2 : IVec S4x8x4096x96 1 := cmpf .olt main_v0 main_v1
  let main_c : IVec S_ 1 := constantI S_ 1 1#1
  let main_v3 : IVec S_ 1 := (fun x v => Host.reduce IntOp.andi x v reducesTo_S4x8x4096x96_S_d0_1_2_3 h_S_) main_v2 main_c
  let main_v4 : FVec F S4x8x4096x96 .f32 := Host.absf main_arg1
  let main_cst_0 : FVec F S_ .f32 := constant S_ .f32 0x7F800000#32
  let main_v5 : FVec F S4x8x4096x96 .f32 := broadcastInDim S4x8x4096x96 ![] bcast_S_S4x8x4096x96 main_cst_0
  let main_v6 : IVec S4x8x4096x96 1 := cmpf .olt main_v4 main_v5
  let main_c_1 : IVec S_ 1 := constantI S_ 1 1#1
  let main_v7 : IVec S_ 1 := (fun x v => Host.reduce IntOp.andi x v reducesTo_S4x8x4096x96_S_d0_1_2_3 h_S_) main_v6 main_c_1
  let main_v8 : IVec S_ 1 := andi main_v3 main_v7
  main_v8
-- ==== Kernel.lean ====
abbrev S4x8x4096x96 : Shape := ⟨4, ![4, 8, 4096, 96]⟩
abbrev S4x8x4096x64 : Shape := ⟨4, ![4, 8, 4096, 64]⟩
abbrev S_ : Shape := ⟨0, ![]⟩
abbrev S4x8x4096x128 : Shape := ⟨4, ![4, 8, 4096, 128]⟩
abbrev S4x4096x8x128 : Shape := ⟨4, ![4, 4096, 8, 128]⟩
abbrev S4x4096x1024 : Shape := ⟨3, ![4, 4096, 1024]⟩
abbrev S4x4x2x2x2048x64 : Shape := ⟨6, ![4, 4, 2, 2, 2048, 64]⟩
abbrev S4x4x2x2x64x2048 : Shape := ⟨6, ![4, 4, 2, 2, 64, 2048]⟩
abbrev S4x4x2x128x2048 : Shape := ⟨5, ![4, 4, 2, 128, 2048]⟩
abbrev S4x4096x512 : Shape := ⟨3, ![4, 4096, 512]⟩
abbrev S1x256x512 : Shape := ⟨3, ![1, 256, 512]⟩
abbrev S1x4096x512 : Shape := ⟨3, ![1, 4096, 512]⟩
abbrev S1x2x2x128x2048 : Shape := ⟨5, ![1, 2, 2, 128, 2048]⟩
abbrev S1x256x256 : Shape := ⟨3, ![1, 256, 256]⟩
abbrev S4x64x256 : Shape := ⟨3, ![4, 64, 256]⟩
abbrev S256x512 : Shape := ⟨2, ![256, 512]⟩
abbrev S256x128 : Shape := ⟨2, ![256, 128]⟩
abbrev S1x256 : Shape := ⟨2, ![1, 256]⟩
abbrev S1x2048x512 : Shape := ⟨3, ![1, 2048, 512]⟩
abbrev S2048x512 : Shape := ⟨2, ![2048, 512]⟩
abbrev S2048x128 : Shape := ⟨2, ![2048, 128]⟩
abbrev S256x256 : Shape := ⟨2, ![256, 256]⟩
abbrev S1x1x1x64x2048 : Shape := ⟨5, ![1, 1, 1, 64, 2048]⟩
abbrev S64x2048 : Shape := ⟨2, ![64, 2048]⟩
abbrev S256 : Shape := ⟨1, ![256]⟩
abbrev S2048x256 : Shape := ⟨2, ![2048, 256]⟩
abbrev S64x256 : Shape := ⟨2, ![64, 256]⟩
abbrev S1x64x256 : Shape := ⟨3, ![1, 64, 256]⟩
abbrev S1x1792x512 : Shape := ⟨3, ![1, 1792, 512]⟩
abbrev S1792x512 : Shape := ⟨2, ![1792, 512]⟩
abbrev S1792x128 : Shape := ⟨2, ![1792, 128]⟩
abbrev S1x1x1x64x1792 : Shape := ⟨5, ![1, 1, 1, 64, 1792]⟩
abbrev S64x1792 : Shape := ⟨2, ![64, 1792]⟩
abbrev S1792x256 : Shape := ⟨2, ![1792, 256]⟩
abbrev S1x1536x512 : Shape := ⟨3, ![1, 1536, 512]⟩
abbrev S1536x512 : Shape := ⟨2, ![1536, 512]⟩
abbrev S1536x128 : Shape := ⟨2, ![1536, 128]⟩
abbrev S1x1x1x64x1536 : Shape := ⟨5, ![1, 1, 1, 64, 1536]⟩
abbrev S64x1536 : Shape := ⟨2, ![64, 1536]⟩
abbrev S1536x256 : Shape := ⟨2, ![1536, 256]⟩
abbrev S1x1280x512 : Shape := ⟨3, ![1, 1280, 512]⟩
abbrev S1280x512 : Shape := ⟨2, ![1280, 512]⟩
abbrev S1280x128 : Shape := ⟨2, ![1280, 128]⟩
abbrev S1x1x1x64x1280 : Shape := ⟨5, ![1, 1, 1, 64, 1280]⟩
abbrev S64x1280 : Shape := ⟨2, ![64, 1280]⟩
abbrev S1280x256 : Shape := ⟨2, ![1280, 256]⟩
abbrev S1x1024x512 : Shape := ⟨3, ![1, 1024, 512]⟩
abbrev S1024x512 : Shape := ⟨2, ![1024, 512]⟩
abbrev S1024x128 : Shape := ⟨2, ![1024, 128]⟩
abbrev S1x1x1x64x1024 : Shape := ⟨5, ![1, 1, 1, 64, 1024]⟩
abbrev S64x1024 : Shape := ⟨2, ![64, 1024]⟩
abbrev S1024x256 : Shape := ⟨2, ![1024, 256]⟩
abbrev S1x768x512 : Shape := ⟨3, ![1, 768, 512]⟩
abbrev S768x512 : Shape := ⟨2, ![768, 512]⟩
abbrev S768x128 : Shape := ⟨2, ![768, 128]⟩
abbrev S1x1x1x64x768 : Shape := ⟨5, ![1, 1, 1, 64, 768]⟩
abbrev S64x768 : Shape := ⟨2, ![64, 768]⟩
abbrev S768x256 : Shape := ⟨2, ![768, 256]⟩
abbrev S1x512x512 : Shape := ⟨3, ![1, 512, 512]⟩
abbrev S512x512 : Shape := ⟨2, ![512, 512]⟩
abbrev S512x128 : Shape := ⟨2, ![512, 128]⟩
abbrev S1x1x1x64x512 : Shape := ⟨5, ![1, 1, 1, 64, 512]⟩
abbrev S64x512 : Shape := ⟨2, ![64, 512]⟩
abbrev S512x256 : Shape := ⟨2, ![512, 256]⟩
abbrev S1x1x1x64x256 : Shape := ⟨5, ![1, 1, 1, 64, 256]⟩

abbrev nBuf : Space → Nat
  | .hbm => 27
  | .vmem => 9
  | .smem => 0
  | _ => 0

abbrev bufTy : (tb : Table) → Fin (tcTables nBuf tb) → BufTy
  | .hbm, ⟨0, _⟩ => ⟨S4x8x4096x96, .f32⟩
  | .hbm, ⟨1, _⟩ => ⟨S4x8x4096x96, .f32⟩
  | .hbm, ⟨2, _⟩ => ⟨S4x8x4096x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8x4096x96, .f32⟩
  | .hbm, ⟨9, _⟩ => ⟨S4x8x4096x96, .f32⟩
  | .hbm, ⟨10, _⟩ => ⟨S_, .i32⟩
  | .hbm, ⟨11, _⟩ => ⟨S_, .f32⟩
  | .hbm, ⟨12, _⟩ => ⟨S4x8x4096x128, .f32⟩
  | .hbm, ⟨13, _⟩ => ⟨S4x4096x8x128, .f32⟩
  | .hbm, ⟨14, _⟩ => ⟨S4x4096x1024, .f32⟩
  | .hbm, ⟨15, _⟩ => ⟨S4x4096x1024, .bf16⟩
  | .hbm, ⟨16, _⟩ => ⟨S_, .i32⟩
  | .hbm, ⟨17, _⟩ => ⟨S_, .f32⟩
  | .hbm, ⟨18, _⟩ => ⟨S4x8x4096x128, .f32⟩
  | .hbm, ⟨19, _⟩ => ⟨S4x4096x8x128, .f32⟩
  | .hbm, ⟨20, _⟩ => ⟨S4x4096x1024, .f32⟩
  | .hbm, ⟨21, _⟩ => ⟨S4x4096x1024, .bf16⟩
  | .hbm, ⟨22, _⟩ => ⟨S4x4x2x2x2048x64, .f32⟩
  | .hbm, ⟨23, _⟩ => ⟨S4x4x2x2x64x2048, .f32⟩
  | .hbm, ⟨24, _⟩ => ⟨S4x4x2x128x2048, .f32⟩
  | .hbm, ⟨25, _⟩ => ⟨S4x4x2x128x2048, .bf16⟩
  | .hbm, ⟨26, _⟩ => ⟨S4x4096x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x2x2x128x2048, .bf16⟩
  | .local _ .vmem, ⟨5, _⟩ => ⟨S1x2x2x128x2048, .bf16⟩
  | .local _ .vmem, ⟨6, _⟩ => ⟨S1x256x256, .bf16⟩
  | .local _ .vmem, ⟨7, _⟩ => ⟨S1x256x256, .bf16⟩
  | .local _ .vmem, ⟨8, _⟩ => ⟨S4x64x256, .f32⟩
  | _, _ => ⟨S4x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_call1_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def k0_cond1 (i : grid0.Coords) : BitVec 1 :=
  let arg2 : BitVec 32 := BitVec.ofNat 32 (i 2).val
  let c8_i32_6 : BitVec 32 := 8#32
  let c0_i32_7 : BitVec 32 := 0#32
  let v23 : BitVec 1 := Scalar.cmpi .eq c8_i32_6 c0_i32_7
  let c1_i32_8 : BitVec 32 := 1#32
  let v24 : BitVec 32 := Scalar.select v23 c1_i32_8 c8_i32_6
  let v25 : BitVec 32 := Scalar.remsi arg2 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_12 : BitVec 32 := 0#32
  let v33 : BitVec 32 := Scalar.maxsi v32 c0_i32_12
  let c7_i32 : BitVec 32 := 7#32
  let v34 : BitVec 32 := Scalar.minsi v33 c7_i32
  let c0_i32_13 : BitVec 32 := 0#32
  let v35 : BitVec 1 := Scalar.cmpi .ne v34 c0_i32_13
  v35

def k0_cond2 (i : grid0.Coords) : BitVec 1 :=
  let arg2 : BitVec 32 := BitVec.ofNat 32 (i 2).val
  let c8_i32_6 : BitVec 32 := 8#32
  let c0_i32_7 : BitVec 32 := 0#32
  let v23 : BitVec 1 := Scalar.cmpi .eq c8_i32_6 c0_i32_7
  let c1_i32_8 : BitVec 32 := 1#32
  let v24 : BitVec 32 := Scalar.select v23 c1_i32_8 c8_i32_6
  let v25 : BitVec 32 := Scalar.remsi arg2 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_12 : BitVec 32 := 0#32
  let v33 : BitVec 32 := Scalar.maxsi v32 c0_i32_12
  let c7_i32 : BitVec 32 := 7#32
  let v34 : BitVec 32 := Scalar.minsi v33 c7_i32
  let c1_i32_30 : BitVec 32 := 1#32
  let v66 : BitVec 32 := Scalar.subi v34 c1_i32_30
  let c0_i32_31 : BitVec 32 := 0#32
  let v67 : BitVec 1 := Scalar.cmpi .ne v66 c0_i32_31
  v67

def k0_cond3 (i : grid0.Coords) : BitVec 1 :=
  let arg2 : BitVec 32 := BitVec.ofNat 32 (i 2).val
  let c8_i32_6 : BitVec 32 := 8#32
  let c0_i32_7 : BitVec 32 := 0#32
  let v23 : BitVec 1 := Scalar.cmpi .eq c8_i32_6 c0_i32_7
  let c1_i32_8 : BitVec 32 := 1#32
  let v24 : BitVec 32 := Scalar.select v23 c1_i32_8 c8_i32_6
  let v25 : BitVec 32 := Scalar.remsi arg2 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_12 : BitVec 32 := 0#32
  let v33 : BitVec 32 := Scalar.maxsi v32 c0_i32_12
  let c7_i32 : BitVec 32 := 7#32
  let v34 : BitVec 32 := Scalar.minsi v33 c7_i32
  let c1_i32_30 : BitVec 32 := 1#32
  let v66 : BitVec 32 := Scalar.subi v34 c1_i32_30
  let c1_i32_32 : BitVec 32 := 1#32
  let v69 : BitVec 32 := Scalar.subi v66 c1_i32_32
  let c0_i32_33 : BitVec 32 := 0#32
  let v70 : BitVec 1 := Scalar.cmpi .ne v69 c0_i32_33
  v70

def k0_cond4 (i : grid0.Coords) : BitVec 1 :=
  let arg2 : BitVec 32 := BitVec.ofNat 32 (i 2).val
  let c8_i32_6 : BitVec 32 := 8#32
  let c0_i32_7 : BitVec 32 := 0#32
  let v23 : BitVec 1 := Scalar.cmpi .eq c8_i32_6 c0_i32_7
  let c1_i32_8 : BitVec 32 := 1#32
  let v24 : BitVec 32 := Scalar.select v23 c1_i32_8 c8_i32_6
  let v25 : BitVec 32 := Scalar.remsi arg2 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_12 : BitVec 32 := 0#32
  let v33 : BitVec 32 := Scalar.maxsi v32 c0_i32_12
  let c7_i32 : BitVec 32 := 7#32
  let v34 : BitVec 32 := Scalar.minsi v33 c7_i32
  let c1_i32_30 : BitVec 32 := 1#32
  let v66 : BitVec 32 := Scalar.subi v34 c1_i32_30
  let c1_i32_32 : BitVec 32 := 1#32
  let v69 : BitVec 32 := Scalar.subi v66 c1_i32_32
  let c1_i32_34 : BitVec 32 := 1#32
  let v72 : BitVec 32 := Scalar.subi v69 c1_i32_34
  let c0_i32_35 : BitVec 32 := 0#32
  let v73 : BitVec 1 := Scalar.cmpi .ne v72 c0_i32_35
  v73

def k0_cond5 (i : grid0.Coords) : BitVec 1 :=
  let arg2 : BitVec 32 := BitVec.ofNat 32 (i 2).val
  let c8_i32_6 : BitVec 32 := 8#32
  let c0_i32_7 : BitVec 32 := 0#32
  let v23 : BitVec 1 := Scalar.cmpi .eq c8_i32_6 c0_i32_7
  let c1_i32_8 : BitVec 32 := 1#32
  let v24 : BitVec 32 := Scalar.select v23 c1_i32_8 c8_i32_6
  let v25 : BitVec 32 := Scalar.remsi arg2 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_12 : BitVec 32 := 0#32
  let v33 : BitVec 32 := Scalar.maxsi v32 c0_i32_12
  let c7_i32 : BitVec 32 := 7#32
  let v34 : BitVec 32 := Scalar.minsi v33 c7_i32
  let c1_i32_30 : BitVec 32 := 1#32
  let v66 : BitVec 32 := Scalar.subi v34 c1_i32_30
  let c1_i32_32 : BitVec 32 := 1#32
  let v69 : BitVec 32 := Scalar.subi v66 c1_i32_32
  let c1_i32_34 : BitVec 32 := 1#32
  let v72 : BitVec 32 := Scalar.subi v69 c1_i32_34
  let c1_i32_36 : BitVec 32 := 1#32
  let v75 : BitVec 32 := Scalar.subi v72 c1_i32_36
  let c0_i32_37 : BitVec 32 := 0#32
  let v76 : BitVec 1 := Scalar.cmpi .ne v75 c0_i32_37
  v76

def k0_cond6 (i : grid0.Coords) : BitVec 1 :=
  let arg2 : BitVec 32 := BitVec.ofNat 32 (i 2).val
  let c8_i32_6 : BitVec 32 := 8#32
  let c0_i32_7 : BitVec 32 := 0#32
  let v23 : BitVec 1 := Scalar.cmpi .eq c8_i32_6 c0_i32_7
  let c1_i32_8 : BitVec 32 := 1#32
  let v24 : BitVec 32 := Scalar.select v23 c1_i32_8 c8_i32_6
  let v25 : BitVec 32 := Scalar.remsi arg2 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_12 : BitVec 32 := 0#32
  let v33 : BitVec 32 := Scalar.maxsi v32 c0_i32_12
  let c7_i32 : BitVec 32 := 7#32
  let v34 : BitVec 32 := Scalar.minsi v33 c7_i32
  let c1_i32_30 : BitVec 32 := 1#32
  let v66 : BitVec 32 := Scalar.subi v34 c1_i32_30
  let c1_i32_32 : BitVec 32 := 1#32
  let v69 : BitVec 32 := Scalar.subi v66 c1_i32_32
  let c1_i32_34 : BitVec 32 := 1#32
  let v72 : BitVec 32 := Scalar.subi v69 c1_i32_34
  let c1_i32_36 : BitVec 32 := 1#32
  let v75 : BitVec 32 := Scalar.subi v72 c1_i32_36
  let c1_i32_38 : BitVec 32 := 1#32
  let v78 : BitVec 32 := Scalar.subi v75 c1_i32_38
  let c0_i32_39 : BitVec 32 := 0#32
  let v79 : BitVec 1 := Scalar.cmpi .ne v78 c0_i32_39
  v79

def k0_cond7 (i : grid0.Coords) : BitVec 1 :=
  let arg2 : BitVec 32 := BitVec.ofNat 32 (i 2).val
  let c8_i32_6 : BitVec 32 := 8#32
  let c0_i32_7 : BitVec 32 := 0#32
  let v23 : BitVec 1 := Scalar.cmpi .eq c8_i32_6 c0_i32_7
  let c1_i32_8 : BitVec 32 := 1#32
  let v24 : BitVec 32 := Scalar.select v23 c1_i32_8 c8_i32_6
  let v25 : BitVec 32 := Scalar.remsi arg2 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c0_i32_12 : BitVec 32 := 0#32
  let v33 : BitVec 32 := Scalar.maxsi v32 c0_i32_12
  let c7_i32 : BitVec 32 := 7#32
  let v34 : BitVec 32 := Scalar.minsi v33 c7_i32
  let c1_i32_30 : BitVec 32 := 1#32
  let v66 : BitVec 32 := Scalar.subi v34 c1_i32_30
  let c1_i32_32 : BitVec 32 := 1#32
  let v69 : BitVec 32 := Scalar.subi v66 c1_i32_32
  let c1_i32_34 : BitVec 32 := 1#32
  let v72 : BitVec 32 := Scalar.subi v69 c1_i32_34
  let c1_i32_36 : BitVec 32 := 1#32
  let v75 : BitVec 32 := Scalar.subi v72 c1_i32_36
  let c1_i32_38 : BitVec 32 := 1#32
  let v78 : BitVec 32 := Scalar.subi v75 c1_i32_38
  let c1_i32_40 : BitVec 32 := 1#32
  let v81 : BitVec 32 := Scalar.subi v78 c1_i32_40
  let c0_i32_41 : BitVec 32 := 0#32
  let v82 : BitVec 1 := Scalar.cmpi .ne v81 c0_i32_41
  v82

def k0_mult1 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_42 : BitVec 32 := 8#32
  let v84 : BitVec 32 := Scalar.muli v22 c8_i32_42
  let c256_i32 : BitVec 32 := 256#32
  let v85 : BitVec 32 := Scalar.muli v84 c256_i32
  v85
def k0_off1 (i : grid0.Coords) : Fin 3 → Nat :=
  let c0_43 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_42 : BitVec 32 := 8#32
  let v84 : BitVec 32 := Scalar.muli v22 c8_i32_42
  let c256_i32 : BitVec 32 := 256#32
  let v85 : BitVec 32 := Scalar.muli v84 c256_i32
  let v86 : BitVec 32 := v85
  let v87 : Index := Scalar.indexCast v86
  let c0_44 : Index := 0#32
  ![0, v87.toNat, 0]
def k0_off2 (i : grid0.Coords) : Fin 5 → Nat :=
  let c0_77 : Index := 0#32
  let c0_78 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v163 : Index := Scalar.indexCast v22
  let c0_79 : Index := 0#32
  let c0_80 : Index := 0#32
  ![0, 0, v163.toNat, 0, 0]
def k0_off3 (i : grid0.Coords) : Fin 5 → Nat :=
  let c0_102 : Index := 0#32
  let c0_103 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v254 : Index := Scalar.indexCast v22
  let c64 : Index := 64#32
  let c0_104 : Index := 0#32
  ![0, 0, v254.toNat, 64, 0]
def k0_off4 (i : grid0.Coords) : Fin 5 → Nat :=
  let c0_126 : Index := 0#32
  let c1_127 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v345 : Index := Scalar.indexCast v22
  let c0_128 : Index := 0#32
  let c0_129 : Index := 0#32
  ![0, 1, v345.toNat, 0, 0]
def k0_off5 (i : grid0.Coords) : Fin 5 → Nat :=
  let c0_151 : Index := 0#32
  let c1_152 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v436 : Index := Scalar.indexCast v22
  let c64_153 : Index := 64#32
  let c0_154 : Index := 0#32
  ![0, 1, v436.toNat, 64, 0]
def k0_mult2 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_42 : BitVec 32 := 8#32
  let v84 : BitVec 32 := Scalar.muli v22 c8_i32_42
  let c256_i32 : BitVec 32 := 256#32
  let v85 : BitVec 32 := Scalar.muli v84 c256_i32
  v85
def k0_off6 (i : grid0.Coords) : Fin 3 → Nat :=
  let c0_43 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_42 : BitVec 32 := 8#32
  let v84 : BitVec 32 := Scalar.muli v22 c8_i32_42
  let c256_i32 : BitVec 32 := 256#32
  let v85 : BitVec 32 := Scalar.muli v84 c256_i32
  let v86 : BitVec 32 := v85
  let v87 : Index := Scalar.indexCast v86
  let c0_44 : Index := 0#32
  ![0, v87.toNat, 0]
def k0_off7 (i : grid0.Coords) : Fin 5 → Nat :=
  let c0_73 : Index := 0#32
  let c0_74 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v155 : Index := Scalar.indexCast v22
  let c0_75 : Index := 0#32
  let c0_76 : Index := 0#32
  ![0, 0, v155.toNat, 0, 0]
def k0_off8 (i : grid0.Coords) : Fin 5 → Nat :=
  let c0_96 : Index := 0#32
  let c0_97 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v236 : Index := Scalar.indexCast v22
  let c64 : Index := 64#32
  let c0_98 : Index := 0#32
  ![0, 0, v236.toNat, 64, 0]
def k0_off9 (i : grid0.Coords) : Fin 5 → Nat :=
  let c0_118 : Index := 0#32
  let c1_119 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v317 : Index := Scalar.indexCast v22
  let c0_120 : Index := 0#32
  let c0_121 : Index := 0#32
  ![0, 1, v317.toNat, 0, 0]
def k0_off10 (i : grid0.Coords) : Fin 5 → Nat :=
  let c0_141 : Index := 0#32
  let c1_142 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v398 : Index := Scalar.indexCast v22
  let c64_143 : Index := 64#32
  let c0_144 : Index := 0#32
  ![0, 1, v398.toNat, 64, 0]
def k0_mult3 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_40 : BitVec 32 := 8#32
  let v81 : BitVec 32 := Scalar.muli v22 c8_i32_40
  let c256_i32 : BitVec 32 := 256#32
  let v82 : BitVec 32 := Scalar.muli v81 c256_i32
  v82
def k0_off11 (i : grid0.Coords) : Fin 3 → Nat :=
  let c0_41 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_40 : BitVec 32 := 8#32
  let v81 : BitVec 32 := Scalar.muli v22 c8_i32_40
  let c256_i32 : BitVec 32 := 256#32
  let v82 : BitVec 32 := Scalar.muli v81 c256_i32
  let v83 : BitVec 32 := v82
  let v84 : Index := Scalar.indexCast v83
  let c0_42 : Index := 0#32
  ![0, v84.toNat, 0]
def k0_off12 (i : grid0.Coords) : Fin 5 → Nat :=
  let c0_67 : Index := 0#32
  let c0_68 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v144 : Index := Scalar.indexCast v22
  let c0_69 : Index := 0#32
  let c0_70 : Index := 0#32
  ![0, 0, v144.toNat, 0, 0]
def k0_off13 (i : grid0.Coords) : Fin 5 → Nat :=
  let c0_88 : Index := 0#32
  let c0_89 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v215 : Index := Scalar.indexCast v22
  let c64 : Index := 64#32
  let c0_90 : Index := 0#32
  ![0, 0, v215.toNat, 64, 0]
def k0_off14 (i : grid0.Coords) : Fin 5 → Nat :=
  let c0_108 : Index := 0#32
  let c1_109 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v286 : Index := Scalar.indexCast v22
  let c0_110 : Index := 0#32
  let c0_111 : Index := 0#32
  ![0, 1, v286.toNat, 0, 0]
def k0_off15 (i : grid0.Coords) : Fin 5 → Nat :=
  let c0_129 : Index := 0#32
  let c1_130 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v357 : Index := Scalar.indexCast v22
  let c64_131 : Index := 64#32
  let c0_132 : Index := 0#32
  ![0, 1, v357.toNat, 64, 0]
def k0_mult4 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_38 : BitVec 32 := 8#32
  let v78 : BitVec 32 := Scalar.muli v22 c8_i32_38
  let c256_i32 : BitVec 32 := 256#32
  let v79 : BitVec 32 := Scalar.muli v78 c256_i32
  v79
def k0_off16 (i : grid0.Coords) : Fin 3 → Nat :=
  let c0_39 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_38 : BitVec 32 := 8#32
  let v78 : BitVec 32 := Scalar.muli v22 c8_i32_38
  let c256_i32 : BitVec 32 := 256#32
  let v79 : BitVec 32 := Scalar.muli v78 c256_i32
  let v80 : BitVec 32 := v79
  let v81 : Index := Scalar.indexCast v80
  let c0_40 : Index := 0#32
  ![0, v81.toNat, 0]
def k0_off17 (i : grid0.Coords) : Fin 5 → Nat :=
  let c0_61 : Index := 0#32
  let c0_62 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v133 : Index := Scalar.indexCast v22
  let c0_63 : Index := 0#32
  let c0_64 : Index := 0#32
  ![0, 0, v133.toNat, 0, 0]
def k0_off18 (i : grid0.Coords) : Fin 5 → Nat :=
  let c0_80 : Index := 0#32
  let c0_81 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v194 : Index := Scalar.indexCast v22
  let c64 : Index := 64#32
  let c0_82 : Index := 0#32
  ![0, 0, v194.toNat, 64, 0]
def k0_off19 (i : grid0.Coords) : Fin 5 → Nat :=
  let c0_98 : Index := 0#32
  let c1_99 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v255 : Index := Scalar.indexCast v22
  let c0_100 : Index := 0#32
  let c0_101 : Index := 0#32
  ![0, 1, v255.toNat, 0, 0]
def k0_off20 (i : grid0.Coords) : Fin 5 → Nat :=
  let c0_117 : Index := 0#32
  let c1_118 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v316 : Index := Scalar.indexCast v22
  let c64_119 : Index := 64#32
  let c0_120 : Index := 0#32
  ![0, 1, v316.toNat, 64, 0]
def k0_mult5 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_36 : BitVec 32 := 8#32
  let v75 : BitVec 32 := Scalar.muli v22 c8_i32_36
  let c256_i32 : BitVec 32 := 256#32
  let v76 : BitVec 32 := Scalar.muli v75 c256_i32
  v76
def k0_off21 (i : grid0.Coords) : Fin 3 → Nat :=
  let c0_37 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_36 : BitVec 32 := 8#32
  let v75 : BitVec 32 := Scalar.muli v22 c8_i32_36
  let c256_i32 : BitVec 32 := 256#32
  let v76 : BitVec 32 := Scalar.muli v75 c256_i32
  let v77 : BitVec 32 := v76
  let v78 : Index := Scalar.indexCast v77
  let c0_38 : Index := 0#32
  ![0, v78.toNat, 0]
def k0_off22 (i : grid0.Coords) : Fin 5 → Nat :=
  let c0_55 : Index := 0#32
  let c0_56 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v122 : Index := Scalar.indexCast v22
  let c0_57 : Index := 0#32
  let c0_58 : Index := 0#32
  ![0, 0, v122.toNat, 0, 0]
def k0_off23 (i : grid0.Coords) : Fin 5 → Nat :=
  let c0_72 : Index := 0#32
  let c0_73 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v173 : Index := Scalar.indexCast v22
  let c64 : Index := 64#32
  let c0_74 : Index := 0#32
  ![0, 0, v173.toNat, 64, 0]
def k0_off24 (i : grid0.Coords) : Fin 5 → Nat :=
  let c0_88 : Index := 0#32
  let c1_89 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v224 : Index := Scalar.indexCast v22
  let c0_90 : Index := 0#32
  let c0_91 : Index := 0#32
  ![0, 1, v224.toNat, 0, 0]
def k0_off25 (i : grid0.Coords) : Fin 5 → Nat :=
  let c0_105 : Index := 0#32
  let c1_106 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v275 : Index := Scalar.indexCast v22
  let c64_107 : Index := 64#32
  let c0_108 : Index := 0#32
  ![0, 1, v275.toNat, 64, 0]
def k0_mult6 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_34 : BitVec 32 := 8#32
  let v72 : BitVec 32 := Scalar.muli v22 c8_i32_34
  let c256_i32 : BitVec 32 := 256#32
  let v73 : BitVec 32 := Scalar.muli v72 c256_i32
  v73
def k0_off26 (i : grid0.Coords) : Fin 3 → Nat :=
  let c0_35 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_34 : BitVec 32 := 8#32
  let v72 : BitVec 32 := Scalar.muli v22 c8_i32_34
  let c256_i32 : BitVec 32 := 256#32
  let v73 : BitVec 32 := Scalar.muli v72 c256_i32
  let v74 : BitVec 32 := v73
  let v75 : Index := Scalar.indexCast v74
  let c0_36 : Index := 0#32
  ![0, v75.toNat, 0]
def k0_off27 (i : grid0.Coords) : Fin 5 → Nat :=
  let c0_49 : Index := 0#32
  let c0_50 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v111 : Index := Scalar.indexCast v22
  let c0_51 : Index := 0#32
  let c0_52 : Index := 0#32
  ![0, 0, v111.toNat, 0, 0]
def k0_off28 (i : grid0.Coords) : Fin 5 → Nat :=
  let c0_64 : Index := 0#32
  let c0_65 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v152 : Index := Scalar.indexCast v22
  let c64 : Index := 64#32
  let c0_66 : Index := 0#32
  ![0, 0, v152.toNat, 64, 0]
def k0_off29 (i : grid0.Coords) : Fin 5 → Nat :=
  let c0_78 : Index := 0#32
  let c1_79 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v193 : Index := Scalar.indexCast v22
  let c0_80 : Index := 0#32
  let c0_81 : Index := 0#32
  ![0, 1, v193.toNat, 0, 0]
def k0_off30 (i : grid0.Coords) : Fin 5 → Nat :=
  let c0_93 : Index := 0#32
  let c1_94 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v234 : Index := Scalar.indexCast v22
  let c64_95 : Index := 64#32
  let c0_96 : Index := 0#32
  ![0, 1, v234.toNat, 64, 0]
def k0_mult7 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_32 : BitVec 32 := 8#32
  let v69 : BitVec 32 := Scalar.muli v22 c8_i32_32
  let c256_i32 : BitVec 32 := 256#32
  let v70 : BitVec 32 := Scalar.muli v69 c256_i32
  v70
def k0_off31 (i : grid0.Coords) : Fin 3 → Nat :=
  let c0_33 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_32 : BitVec 32 := 8#32
  let v69 : BitVec 32 := Scalar.muli v22 c8_i32_32
  let c256_i32 : BitVec 32 := 256#32
  let v70 : BitVec 32 := Scalar.muli v69 c256_i32
  let v71 : BitVec 32 := v70
  let v72 : Index := Scalar.indexCast v71
  let c0_34 : Index := 0#32
  ![0, v72.toNat, 0]
def k0_off32 (i : grid0.Coords) : Fin 5 → Nat :=
  let c0_43 : Index := 0#32
  let c0_44 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v100 : Index := Scalar.indexCast v22
  let c0_45 : Index := 0#32
  let c0_46 : Index := 0#32
  ![0, 0, v100.toNat, 0, 0]
def k0_off33 (i : grid0.Coords) : Fin 5 → Nat :=
  let c0_56 : Index := 0#32
  let c0_57 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v131 : Index := Scalar.indexCast v22
  let c64 : Index := 64#32
  let c0_58 : Index := 0#32
  ![0, 0, v131.toNat, 64, 0]
def k0_off34 (i : grid0.Coords) : Fin 5 → Nat :=
  let c0_68 : Index := 0#32
  let c1_69 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v162 : Index := Scalar.indexCast v22
  let c0_70 : Index := 0#32
  let c0_71 : Index := 0#32
  ![0, 1, v162.toNat, 0, 0]
def k0_off35 (i : grid0.Coords) : Fin 5 → Nat :=
  let c0_81 : Index := 0#32
  let c1_82 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v193 : Index := Scalar.indexCast v22
  let c64_83 : Index := 64#32
  let c0_84 : Index := 0#32
  ![0, 1, v193.toNat, 64, 0]
def k0_mult8 (i : grid0.Coords) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_30 : BitVec 32 := 8#32
  let v66 : BitVec 32 := Scalar.muli v22 c8_i32_30
  let c256_i32 : BitVec 32 := 256#32
  let v67 : BitVec 32 := Scalar.muli v66 c256_i32
  v67
def k0_off36 (i : grid0.Coords) : Fin 3 → Nat :=
  let c0_31 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c8_i32_30 : BitVec 32 := 8#32
  let v66 : BitVec 32 := Scalar.muli v22 c8_i32_30
  let c256_i32 : BitVec 32 := 256#32
  let v67 : BitVec 32 := Scalar.muli v66 c256_i32
  let v68 : BitVec 32 := v67
  let v69 : Index := Scalar.indexCast v68
  let c0_32 : Index := 0#32
  ![0, v69.toNat, 0]
def k0_off37 (i : grid0.Coords) : Fin 5 → Nat :=
  let c0_37 : Index := 0#32
  let c0_38 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v85 : Index := Scalar.indexCast v22
  let c0_39 : Index := 0#32
  let c0_40 : Index := 0#32
  ![0, 0, v85.toNat, 0, 0]
def k0_off38 (i : grid0.Coords) : Fin 5 → Nat :=
  let c0_48 : Index := 0#32
  let c0_49 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v105 : Index := Scalar.indexCast v22
  let c64 : Index := 64#32
  let c0_50 : Index := 0#32
  ![0, 0, v105.toNat, 64, 0]
def k0_off39 (i : grid0.Coords) : Fin 5 → Nat :=
  let c0_58 : Index := 0#32
  let c1_59 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v125 : Index := Scalar.indexCast v22
  let c0_60 : Index := 0#32
  let c0_61 : Index := 0#32
  ![0, 1, v125.toNat, 0, 0]
def k0_off40 (i : grid0.Coords) : Fin 5 → Nat :=
  let c0_69 : Index := 0#32
  let c1_70 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v145 : Index := Scalar.indexCast v22
  let c64_71 : Index := 64#32
  let c0_72 : Index := 0#32
  ![0, 1, v145.toNat, 64, 0]
@[reducible] def k0_t1_loop (i : grid0.Coords) : Scf.Loop 32 :=
  let c0_i32_14 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let c1_i32_16 : BitVec 32 := 1#32
  ⟨c0_i32_14, v41, c1_i32_16⟩
def k0_mult9 (i : grid0.Coords) (k0_t1 : Fin (k0_t1_loop i).trips) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let c1_i32_16 : BitVec 32 := 1#32
  let arg8 : BitVec 32 := Scf.iv c0_i32_14 c1_i32_16 k0_t1
  let v67 : BitVec 32 := Scalar.subi v66 arg8
  let c8_i32_31 : BitVec 32 := 8#32
  let v68 : BitVec 32 := Scalar.muli v67 c8_i32_31
  let c256_i32 : BitVec 32 := 256#32
  let v69 : BitVec 32 := Scalar.muli v68 c256_i32
  v69
def k0_off41 (i : grid0.Coords) (k0_t1 : Fin (k0_t1_loop i).trips) : Fin 3 → Nat :=
  let c0_32 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let c1_i32_16 : BitVec 32 := 1#32
  let arg8 : BitVec 32 := Scf.iv c0_i32_14 c1_i32_16 k0_t1
  let v67 : BitVec 32 := Scalar.subi v66 arg8
  let c8_i32_31 : BitVec 32 := 8#32
  let v68 : BitVec 32 := Scalar.muli v67 c8_i32_31
  let c256_i32 : BitVec 32 := 256#32
  let v69 : BitVec 32 := Scalar.muli v68 c256_i32
  let v70 : BitVec 32 := v69
  let v71 : Index := Scalar.indexCast v70
  let c0_33 : Index := 0#32
  ![0, v71.toNat, 0]
def k0_off42 (i : grid0.Coords) (k0_t1 : Fin (k0_t1_loop i).trips) : Fin 5 → Nat :=
  let c0_65 : Index := 0#32
  let c0_66 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let c1_i32_16 : BitVec 32 := 1#32
  let arg8 : BitVec 32 := Scf.iv c0_i32_14 c1_i32_16 k0_t1
  let v67 : BitVec 32 := Scalar.subi v66 arg8
  let v142 : Index := Scalar.indexCast v67
  let c0_67 : Index := 0#32
  let c0_68 : Index := 0#32
  ![0, 0, v142.toNat, 0, 0]
def k0_off43 (i : grid0.Coords) (k0_t1 : Fin (k0_t1_loop i).trips) : Fin 5 → Nat :=
  let c0_92 : Index := 0#32
  let c0_93 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let c1_i32_16 : BitVec 32 := 1#32
  let arg8 : BitVec 32 := Scf.iv c0_i32_14 c1_i32_16 k0_t1
  let v67 : BitVec 32 := Scalar.subi v66 arg8
  let v238 : Index := Scalar.indexCast v67
  let c64 : Index := 64#32
  let c0_94 : Index := 0#32
  ![0, 0, v238.toNat, 64, 0]
def k0_off44 (i : grid0.Coords) (k0_t1 : Fin (k0_t1_loop i).trips) : Fin 5 → Nat :=
  let c0_118 : Index := 0#32
  let c1_119 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let c1_i32_16 : BitVec 32 := 1#32
  let arg8 : BitVec 32 := Scf.iv c0_i32_14 c1_i32_16 k0_t1
  let v67 : BitVec 32 := Scalar.subi v66 arg8
  let v334 : Index := Scalar.indexCast v67
  let c0_120 : Index := 0#32
  let c0_121 : Index := 0#32
  ![0, 1, v334.toNat, 0, 0]
def k0_off45 (i : grid0.Coords) (k0_t1 : Fin (k0_t1_loop i).trips) : Fin 5 → Nat :=
  let c0_145 : Index := 0#32
  let c1_146 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let c1_i32_16 : BitVec 32 := 1#32
  let arg8 : BitVec 32 := Scf.iv c0_i32_14 c1_i32_16 k0_t1
  let v67 : BitVec 32 := Scalar.subi v66 arg8
  let v430 : Index := Scalar.indexCast v67
  let c64_147 : Index := 64#32
  let c0_148 : Index := 0#32
  ![0, 1, v430.toNat, 64, 0]
@[reducible] def k0_t2_loop (i : grid0.Coords) : Scf.Loop 32 :=
  let c0_i32_14 : BitVec 32 := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let v38 : BitVec 32 := Scalar.addi c0_i32_14 v37
  let c1_i32_17 : BitVec 32 := 1#32
  ⟨v41, v38, c1_i32_17⟩
def k0_mult10 (i : grid0.Coords) (k0_t2 : Fin (k0_t2_loop i).trips) : BitVec 32 :=
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let c1_i32_17 : BitVec 32 := 1#32
  let arg8 : BitVec 32 := Scf.iv v41 c1_i32_17 k0_t2
  let v67 : BitVec 32 := Scalar.subi v66 arg8
  let c8_i32_31 : BitVec 32 := 8#32
  let v68 : BitVec 32 := Scalar.muli v67 c8_i32_31
  let c256_i32 : BitVec 32 := 256#32
  let v69 : BitVec 32 := Scalar.muli v68 c256_i32
  v69
def k0_off46 (i : grid0.Coords) (k0_t2 : Fin (k0_t2_loop i).trips) : Fin 3 → Nat :=
  let c0_32 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let c1_i32_17 : BitVec 32 := 1#32
  let arg8 : BitVec 32 := Scf.iv v41 c1_i32_17 k0_t2
  let v67 : BitVec 32 := Scalar.subi v66 arg8
  let c8_i32_31 : BitVec 32 := 8#32
  let v68 : BitVec 32 := Scalar.muli v67 c8_i32_31
  let c256_i32 : BitVec 32 := 256#32
  let v69 : BitVec 32 := Scalar.muli v68 c256_i32
  let v70 : BitVec 32 := v69
  let v71 : Index := Scalar.indexCast v70
  let c0_33 : Index := 0#32
  ![0, v71.toNat, 0]
def k0_off47 (i : grid0.Coords) (k0_t2 : Fin (k0_t2_loop i).trips) : Fin 5 → Nat :=
  let c0_65 : Index := 0#32
  let c0_66 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let c1_i32_17 : BitVec 32 := 1#32
  let arg8 : BitVec 32 := Scf.iv v41 c1_i32_17 k0_t2
  let v67 : BitVec 32 := Scalar.subi v66 arg8
  let v142 : Index := Scalar.indexCast v67
  let c0_67 : Index := 0#32
  let c0_68 : Index := 0#32
  ![0, 0, v142.toNat, 0, 0]
def k0_off48 (i : grid0.Coords) (k0_t2 : Fin (k0_t2_loop i).trips) : Fin 5 → Nat :=
  let c0_92 : Index := 0#32
  let c0_93 : Index := 0#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let c1_i32_17 : BitVec 32 := 1#32
  let arg8 : BitVec 32 := Scf.iv v41 c1_i32_17 k0_t2
  let v67 : BitVec 32 := Scalar.subi v66 arg8
  let v238 : Index := Scalar.indexCast v67
  let c64 : Index := 64#32
  let c0_94 : Index := 0#32
  ![0, 0, v238.toNat, 64, 0]
def k0_off49 (i : grid0.Coords) (k0_t2 : Fin (k0_t2_loop i).trips) : Fin 5 → Nat :=
  let c0_118 : Index := 0#32
  let c1_119 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let c1_i32_17 : BitVec 32 := 1#32
  let arg8 : BitVec 32 := Scf.iv v41 c1_i32_17 k0_t2
  let v67 : BitVec 32 := Scalar.subi v66 arg8
  let v334 : Index := Scalar.indexCast v67
  let c0_120 : Index := 0#32
  let c0_121 : Index := 0#32
  ![0, 1, v334.toNat, 0, 0]
def k0_off50 (i : grid0.Coords) (k0_t2 : Fin (k0_t2_loop i).trips) : Fin 5 → Nat :=
  let c0_145 : Index := 0#32
  let c1_146 : Index := 1#32
  let arg2 : BitVec 32 := BitVec.ofNat 32 (i 2).val
  let c0_i32 : BitVec 32 := 0#32
  let v7 : BitVec 1 := Scalar.cmpi .sgt arg2 c0_i32
  let v8 : BitVec 32 := Scalar.extui v7
  let c0_i32_2 : BitVec 32 := 0#32
  let v9 : BitVec 1 := Scalar.cmpi .slt arg2 c0_i32_2
  let v10 : BitVec 32 := Scalar.extui v9
  let v11 : BitVec 32 := Scalar.subi v8 v10
  let c8_i32 : BitVec 32 := 8#32
  let c0_i32_3 : BitVec 32 := 0#32
  let v12 : BitVec 1 := Scalar.cmpi .sgt c8_i32 c0_i32_3
  let v13 : BitVec 32 := Scalar.extui v12
  let c0_i32_4 : BitVec 32 := 0#32
  let v14 : BitVec 1 := Scalar.cmpi .slt c8_i32 c0_i32_4
  let v15 : BitVec 32 := Scalar.extui v14
  let v16 : BitVec 32 := Scalar.subi v13 v15
  let v17 : BitVec 1 := Scalar.cmpi .ne v11 v16
  let v18 : BitVec 32 := Scalar.remsi arg2 c8_i32
  let c0_i32_5 : BitVec 32 := 0#32
  let v19 : BitVec 1 := Scalar.cmpi .ne v18 c0_i32_5
  let v20 : BitVec 1 := Scalar.andi v17 v19
  let v6 : BitVec 32 := Scalar.divsi arg2 c8_i32
  let c1_i32 : BitVec 32 := 1#32
  let v21 : BitVec 32 := Scalar.subi v6 c1_i32
  let v22 : BitVec 32 := Scalar.select v20 v21 v6
  let c1_i32_30 : BitVec 32 := 1#32
  let v66 : BitVec 32 := Scalar.subi v22 c1_i32_30
  let c0_i32_14 : BitVec 32 := 0#32
  let v37 : BitVec 32 := Scalar.subi v22 c0_i32_14
  let c1_i32_15 : BitVec 32 := 1#32
  let v39 : BitVec 32 := Scalar.divsi v37 c1_i32_15
  let v40 : BitVec 32 := Scalar.muli v39 c1_i32_15
  let v41 : BitVec 32 := Scalar.addi c0_i32_14 v40
  let c1_i32_17 : BitVec 32 := 1#32
  let arg8 : BitVec 32 := Scf.iv v41 c1_i32_17 k0_t2
  let v67 : BitVec 32 := Scalar.subi v66 arg8
  let v430 : Index := Scalar.indexCast v67
  let c64_147 : Index := 64#32
  let c0_148 : Index := 0#32
  ![0, 1, v430.toNat, 64, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x2x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x8x4096x96 : Shape := ⟨4, ![4, 8, 4096, 96]⟩
abbrev S4x8x4096x64 : Shape := ⟨4, ![4, 8, 4096, 64]⟩
abbrev S4096 : Shape := ⟨1, ![4096]⟩
abbrev S4x8x4096x4096 : Shape := ⟨4, ![4, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x4096x8x64 : Shape := ⟨4, ![4, 4096, 8, 64]⟩
abbrev S4x4096x512 : Shape := ⟨3, ![4, 4096, 512]⟩

abbrev nBuf : Space → Nat
  | .hbm => 36
  | .vmem => 0
  | .smem => 0
  | _ => 0

abbrev bufTy : (tb : Table) → Fin (tcTables nBuf tb) → BufTy
  | .hbm, ⟨0, _⟩ => ⟨S4x8x4096x96, .f32⟩
  | .hbm, ⟨1, _⟩ => ⟨S4x8x4096x96, .f32⟩
  | .hbm, ⟨2, _⟩ => ⟨S4x8x4096x64, .f32⟩
  | .hbm, ⟨3, _⟩ => ⟨S4096, .i32⟩
  | .hbm, ⟨4, _⟩ => ⟨S4x8x4096x4096, .f32⟩
  | .hbm, ⟨5, _⟩ => ⟨S_, .f32⟩
  | .hbm, ⟨6, _⟩ => ⟨S4x8x4096x4096, .f32⟩
  | .hbm, ⟨7, _⟩ => ⟨S4x8x4096x4096, .f32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S4x8x4096x4096, .i1⟩
  | .hbm, ⟨16, _⟩ => ⟨S4x8x4096x4096, .f32⟩
  | .hbm, ⟨17, _⟩ => ⟨S4x8x4096x4096, .f32⟩
  | .hbm, ⟨18, _⟩ => ⟨S_, .f32⟩
  | .hbm, ⟨19, _⟩ => ⟨S4x8x4096, .f32⟩
  | .hbm, ⟨20, _⟩ => ⟨S_, .f32⟩
  | .hbm, ⟨21, _⟩ => ⟨S4x8x4096, .f32⟩
  | .hbm, ⟨22, _⟩ => ⟨S4x8x4096, .f32⟩
  | .hbm, ⟨23, _⟩ => ⟨S4x8x4096x1, .f32⟩
  | .hbm, ⟨24, _⟩ => ⟨S4x8x4096x4096, .f32⟩
  | .hbm, ⟨25, _⟩ => ⟨S4x8x4096x4096, .f32⟩
  | .hbm, ⟨26, _⟩ => ⟨S4x8x4096x4096, .f32⟩
  | .hbm, ⟨27, _⟩ => ⟨S_, .f32⟩
  | .hbm, ⟨28, _⟩ => ⟨S4x8x4096, .f32⟩
  | .hbm, ⟨29, _⟩ => ⟨S4x8x4096x1, .f32⟩
  | .hbm, ⟨30, _⟩ => ⟨S4x8x4096x4096, .f32⟩
  | .hbm, ⟨31, _⟩ => ⟨S4x8x4096x4096, .f32⟩
  | .hbm, ⟨32, _⟩ => ⟨S4x8x4096x64, .f32⟩
  | .hbm, ⟨33, _⟩ => ⟨S4x4096x8x64, .f32⟩
  | .hbm, ⟨34, _⟩ => ⟨S4x4096x512, .f32⟩
  | .hbm, ⟨35, _⟩ => ⟨S4x4096x512, .bf16⟩
  | _, _ => ⟨S4x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel2.lean ====
abbrev S4x4096x512 : Shape := ⟨3, ![4, 4096, 512]⟩
abbrev S4x4096x1024 : Shape := ⟨3, ![4, 4096, 1024]⟩
abbrev S4x6144 : Shape := ⟨2, ![4, 6144]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S16384x512 : Shape := ⟨2, ![16384, 512]⟩
abbrev S16384x1024 : Shape := ⟨2, ![16384, 1024]⟩
abbrev S4x1x6144 : Shape := ⟨3, ![4, 1, 6144]⟩
abbrev S1x1024 : Shape := ⟨2, ![1, 1024]⟩
abbrev S1x5632 : Shape := ⟨2, ![1, 5632]⟩
abbrev S512x512 : Shape := ⟨2, ![512, 512]⟩
abbrev S16x512 : Shape := ⟨2, ![16, 512]⟩
abbrev S512x1024 : Shape := ⟨2, ![512, 1024]⟩
abbrev S16x1024 : Shape := ⟨2, ![16, 1024]⟩
abbrev S1x1x6144 : Shape := ⟨3, ![1, 1, 6144]⟩
abbrev S528x1024 : Shape := ⟨2, ![528, 1024]⟩
abbrev S2x2x528x256 : Shape := ⟨4, ![2, 2, 528, 256]⟩
abbrev S1x6144 : Shape := ⟨2, ![1, 6144]⟩
abbrev S16 : Shape := ⟨1, ![16]⟩
abbrev S16x1 : Shape := ⟨2, ![16, 1]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S528x256 : Shape := ⟨2, ![528, 256]⟩
abbrev S1x1x528x256 : Shape := ⟨4, ![1, 1, 528, 256]⟩
abbrev S3x256 : Shape := ⟨2, ![3, 256]⟩
abbrev S1x256 : Shape := ⟨2, ![1, 256]⟩
abbrev S1x1x512x256 : Shape := ⟨4, ![1, 1, 512, 256]⟩
abbrev S512x256 : Shape := ⟨2, ![512, 256]⟩
abbrev S512 : Shape := ⟨1, ![512]⟩
abbrev S512x1 : Shape := ⟨2, ![512, 1]⟩

abbrev nBuf : Space → Nat
  | .hbm => 26
  | .vmem => 28
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x1024, .f32⟩
  | .hbm, ⟨3, _⟩ => ⟨S4x6144, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S1024x5632, .f32⟩
  | .hbm, ⟨9, _⟩ => ⟨S3x5632, .f32⟩
  | .hbm, ⟨10, _⟩ => ⟨S5632, .f32⟩
  | .hbm, ⟨11, _⟩ => ⟨S2816x1024, .f32⟩
  | .hbm, ⟨12, _⟩ => ⟨S16384x512, .f32⟩
  | .hbm, ⟨13, _⟩ => ⟨S16384x512, .bf16⟩
  | .hbm, ⟨14, _⟩ => ⟨S16384x512, .f32⟩
  | .hbm, ⟨15, _⟩ => ⟨S16384x512, .bf16⟩
  | .hbm, ⟨16, _⟩ => ⟨S16384x1024, .f32⟩
  | .hbm, ⟨17, _⟩ => ⟨S4x1x6144, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1024x1024, .bf16⟩
  | .hbm, ⟨22, _⟩ => ⟨S1024x5632, .bf16⟩
  | .hbm, ⟨23, _⟩ => ⟨S1x5632, .f32⟩
  | .hbm, ⟨24, _⟩ => ⟨S2816x1024, .bf16⟩
  | .hbm, ⟨25, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S16x512, .bf16⟩
  | .local _ .vmem, ⟨5, _⟩ => ⟨S16x512, .bf16⟩
  | .local _ .vmem, ⟨6, _⟩ => ⟨S16x512, .bf16⟩
  | .local _ .vmem, ⟨7, _⟩ => ⟨S16x512, .bf16⟩
  | .local _ .vmem, ⟨8, _⟩ => ⟨S512x1024, .f32⟩
  | .local _ .vmem, ⟨9, _⟩ => ⟨S512x1024, .f32⟩
  | .local _ .vmem, ⟨10, _⟩ => ⟨S16x1024, .f32⟩
  | .local _ .vmem, ⟨11, _⟩ => ⟨S16x1024, .f32⟩
  | .local _ .vmem, ⟨12, _⟩ => ⟨S1x1x6144, .f32⟩
  | .local _ .vmem, ⟨13, _⟩ => ⟨S1x1x6144, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1024x1024, .bf16⟩
  | .local _ .vmem, ⟨18, _⟩ => ⟨S1024x5632, .bf16⟩
  | .local _ .vmem, ⟨19, _⟩ => ⟨S3x5632, .f32⟩
  | .local _ .vmem, ⟨20, _⟩ => ⟨S1x5632, .f32⟩
  | .local _ .vmem, ⟨21, _⟩ => ⟨S2816x1024, .bf16⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S528x1024, .bf16⟩
  | .local _ .vmem, ⟨26, _⟩ => ⟨S2x2x528x256, .f32⟩
  | .local _ .vmem, ⟨27, _⟩ => ⟨S512x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x5632 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x5632 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x5632 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2816x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S4x4096x512 : Shape := ⟨3, ![4, 4096, 512]⟩
abbrev S4x4096x1024 : Shape := ⟨3, ![4, 4096, 1024]⟩
abbrev S4x6144 : Shape := ⟨2, ![4, 6144]⟩
abbrev S1024 : Shape := ⟨1, ![1024]⟩
abbrev S1024x1024 : Shape := ⟨2, ![1024, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x5632 : Shape := ⟨3, ![4, 4096, 5632]⟩
abbrev S4x4098x5632 : Shape := ⟨3, ![4, 4098, 5632]⟩
abbrev S1x5632 : Shape := ⟨2, ![1, 5632]⟩
abbrev S1x1x5632 : Shape := ⟨3, ![1, 1, 5632]⟩
abbrev S4x4096x2816 : Shape := ⟨3, ![4, 4096, 2816]⟩
abbrev S16384x1024 : Shape := ⟨2, ![16384, 1024]⟩

abbrev nBuf : Space → Nat
  | .hbm => 139
  | .vmem => 0
  | .smem => 0
  | _ => 0

abbrev hbmTy0_0 (i : Nat) : BufTy := match i % 128 with
  | 0 => ⟨S4x4096x512, .f32⟩
  | 1 => ⟨S4x4096x512, .f32⟩
  | 2 => ⟨S4x4096x1024, .f32⟩
  | 3 => ⟨S4x6144, .f32⟩
  | 4 => ⟨S1024, .f32⟩
  | 5 => ⟨S1024, .f32⟩
  | 6 => ⟨S1024, .f32⟩
  | 7 => ⟨S1024x1024, .f32⟩
  | 8 => ⟨S1024x5632, .f32⟩
  | 9 => ⟨S3x5632, .f32⟩
  | 10 => ⟨S5632, .f32⟩
  | 11 => ⟨S2816x1024, .f32⟩
  | 12 => ⟨S4x1024, .f32⟩
  | 13 => ⟨S4x1024, .f32⟩
  | 14 => ⟨S4x1024, .f32⟩
  | 15 => ⟨S4x1024, .f32⟩
  | 16 => ⟨S4x1024, .f32⟩
  | 17 => ⟨S4x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x1x1024, .f32⟩
  | 24 => ⟨S4x4096x1024, .f32⟩
  | 25 => ⟨S4x4096x1024, .f32⟩
  | 26 => ⟨S4x4096x1024, .f32⟩
  | 27 => ⟨S_, .f32⟩
  | 28 => ⟨S4x4096, .f32⟩
  | 29 => ⟨S4x4096x1, .f32⟩
  | 30 => ⟨S_, .f32⟩
  | 31 => ⟨S4x4096x1, .f32⟩
  | 32 => ⟨S4x4096x1, .f32⟩
  | 33 => ⟨S_, .f32⟩
  | 34 => ⟨S4x4096x1, .f32⟩
  | 35 => ⟨S4x4096x1, .f32⟩
  | 36 => ⟨S4x4096x1, .f32⟩
  | 37 => ⟨S4x4096x1024, .f32⟩
  | 38 => ⟨S4x4096x1024, .f32⟩
  | 39 => ⟨S1x1x1024, .f32⟩
  | 40 => ⟨S4x4096x1024, .f32⟩
  | 41 => ⟨S4x4096x1024, .f32⟩
  | 42 => ⟨S4x4096x1024, .f32⟩
  | 43 => ⟨S4x4096x1024, .f32⟩
  | 44 => ⟨S4x4096x1024, .f32⟩
  | 45 => ⟨S4x4096x1024, .f32⟩
  | 46 => ⟨S_, .f32⟩
  | 47 => ⟨S4x4096, .f32⟩
  | 48 => ⟨S4x4096x1, .f32⟩
  | 49 => ⟨S_, .f32⟩
  | 50 => ⟨S4x4096x1, .f32⟩
  | 51 => ⟨S4x4096x1, .f32⟩
  | 52 => ⟨S_, .f32⟩
  | 53 => ⟨S4x4096x1, .f32⟩
  | 54 => ⟨S4x4096x1, .f32⟩
  | 55 => ⟨S4x4096x1, .f32⟩
  | 56 => ⟨S4x4096x1024, .f32⟩
  | 57 => ⟨S4x4096x1024, .f32⟩
  | 58 => ⟨S1x1x1024, .f32⟩
  | 59 => ⟨S4x4096x1024, .f32⟩
  | 60 => ⟨S4x4096x1024, .f32⟩
  | 61 => ⟨S_, .f32⟩
  | 62 => ⟨S4x1x1024, .f32⟩
  | 63 => ⟨S4x1x1024, .f32⟩
  | 64 => ⟨S4x4096x1024, .f32⟩
  | 65 => ⟨S4x4096x1024, .f32⟩
  | 66 => ⟨S4x4096x1024, .f32⟩
  | 67 => ⟨S4x4096x1024, .f32⟩
  | 68 => ⟨S4x4096x5632, .f32⟩
  | 69 => ⟨S_, .i32⟩
  | 70 => ⟨S_, .f32⟩
  | 71 => ⟨S4x4098x5632, .f32⟩
  | 72 => ⟨S1x5632, .f32⟩
  | 73 => ⟨S5632, .f32⟩
  | 74 => ⟨S4x4096x5632, .f32⟩
  | 75 => ⟨S1x1x5632, .f32⟩
  | 76 => ⟨S4x4096x5632, .f32⟩
  | 77 => ⟨S4x4096x5632, .f32⟩
  | 78 => ⟨S_, .f32⟩
  | 79 => ⟨S4x4096x5632, .f32⟩
  | 80 => ⟨S4x4096x5632, .f32⟩
  | 81 => ⟨S1x5632, .f32⟩
  | 82 => ⟨S5632, .f32⟩
  | 83 => ⟨S4x4096x5632, .f32⟩
  | 84 => ⟨S1x1x5632, .f32⟩
  | 85 => ⟨S4x4096x5632, .f32⟩
  | 86 => ⟨S4x4096x5632, .f32⟩
  | 87 => ⟨S4x4096x5632, .f32⟩
  | 88 => ⟨S1x5632, .f32⟩
  | 89 => ⟨S5632, .f32⟩
  | 90 => ⟨S4x4096x5632, .f32⟩
  | 91 => ⟨S1x1x5632, .f32⟩
  | 92 => ⟨S4x4096x5632, .f32⟩
  | 93 => ⟨S4x4096x5632, .f32⟩
  | 94 => ⟨S4x4096x5632, .f32⟩
  | 95 => ⟨S1x1x5632, .f32⟩
  | 96 => ⟨S4x4096x5632, .f32⟩
  | 97 => ⟨S4x4096x5632, .f32⟩
  | 98 => ⟨S4x4096x2816, .f32⟩
  | 99 => ⟨S4x4096x2816, .f32⟩
  | 100 => ⟨S4x4096x2816, .f32⟩
  | 101 => ⟨S4x4096x2816, .f32⟩
  | 102 => ⟨S_, .f32⟩
  | 103 => ⟨S4x4096x2816, .f32⟩
  | 104 => ⟨S4x4096x2816, .f32⟩
  | 105 => ⟨S4x4096x2816, .f32⟩
  | 106 => ⟨S_, .f32⟩
  | 107 => ⟨S4x4096x2816, .f32⟩
  | 108 => ⟨S4x4096x2816, .f32⟩
  | 109 => ⟨S4x4096x2816, .f32⟩
  | 110 => ⟨S_, .f32⟩
  | 111 => ⟨S4x4096x2816, .f32⟩
  | 112 => ⟨S4x4096x2816, .f32⟩
  | 113 => ⟨S_, .f32⟩
  | 114 => ⟨S4x4096x2816, .f32⟩
  | 115 => ⟨S4x4096x2816, .f32⟩
  | 116 => ⟨S4x4096x2816, .f32⟩
  | 117 => ⟨S4x4096x2816, .f32⟩
  | 118 => ⟨S4x4096x1024, .f32⟩
  | 119 => ⟨S4x4096x1024, .f32⟩
  | 120 => ⟨S_, .f32⟩
  | 121 => ⟨S4x4096, .f32⟩
  | 122 => ⟨S4x4096x1, .f32⟩
  | 123 => ⟨S_, .f32⟩
  | 124 => ⟨S4x4096x1, .f32⟩
  | 125 => ⟨S4x4096x1, .f32⟩
  | 126 => ⟨S_, .f32⟩
  | 127 => ⟨S4x4096x1, .f32⟩
  | _ => ⟨S4x4096x512, .f32⟩

abbrev hbmTy0_1 (i : Nat) : BufTy := match i % 128 with
  | 0 => ⟨S4x4096x1, .f32⟩
  | 1 => ⟨S4x4096x1, .f32⟩
  | 2 => ⟨S4x4096x1024, .f32⟩
  | 3 => ⟨S4x4096x1024, .f32⟩
  | 4 => ⟨S1x1x1024, .f32⟩
  | 5 => ⟨S4x4096x1024, .f32⟩
  | 6 => ⟨S4x4096x1024, .f32⟩
  | 7 => ⟨S4x4096x1024, .f32⟩
  | 8 => ⟨S4x4096x1024, .f32⟩
  | 9 => ⟨S4x4096x1024, .f32⟩
  | 10 => ⟨S16384x1024, .f32⟩
  | _ => ⟨S4x4096x512, .f32⟩

abbrev hbmTy (i : Nat) : BufTy := match i / 128 with
  | 0 => hbmTy0_0 i
  | 1 => hbmTy0_1 i
  | _ => ⟨S4x4096x512, .f32⟩

abbrev bufTy : (tb : Table) → Fin (tcTables nBuf tb) → BufTy
  | .hbm, ⟨i, _⟩ => hbmTy i
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_cst_4 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c : Ref sig .tc := ⟨.hbm, 69, rfl⟩
abbrev main_call0_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_6 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_7 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_8 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_9 : Ref sig .tc := ⟨.hbm, 110, rfl⟩
abbrev main_v86 : Ref sig .tc := ⟨.hbm, 111, rfl⟩
abbrev main_v87 : Ref sig .tc := ⟨.hbm, 112, rfl⟩
abbrev main_cst_10 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_11 : Ref sig .tc := ⟨.hbm, 120, rfl⟩
abbrev main_v94 : Ref sig .tc := ⟨.hbm, 121, rfl⟩
abbrev main_v95 : Ref sig .tc := ⟨.hbm, 122, rfl⟩
abbrev main_cst_12 : Ref sig .tc := ⟨.hbm, 123, rfl⟩
abbrev main_v96 : Ref sig .tc := ⟨.hbm, 124, rfl⟩
abbrev main_v97 : Ref sig .tc := ⟨.hbm, 125, rfl⟩
abbrev main_cst_13 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x6144 : Shape := ⟨2, ![4, 6144]⟩
abbrev S1024 : Shape := ⟨1, ![1024]⟩
abbrev S1024x3072 : Shape := ⟨2, ![1024, 3072]⟩
abbrev S16384x1024 : Shape := ⟨2, ![16384, 1024]⟩
abbrev S4x1x6144 : Shape := ⟨3, ![4, 1, 6144]⟩
abbrev S1x1024 : Shape := ⟨2, ![1, 1024]⟩
abbrev S3072 : Shape := ⟨1, ![3072]⟩
abbrev S_ : Shape := ⟨0, ![]⟩
abbrev S1x3072 : Shape := ⟨2, ![1, 3072]⟩
abbrev S16384x3072 : Shape := ⟨2, ![16384, 3072]⟩
abbrev S32x2x512 : Shape := ⟨3, ![32, 2, 512]⟩
abbrev S4x4x2x128x2048 : Shape := ⟨5, ![4, 4, 2, 128, 2048]⟩
abbrev S4x4x16x128x256 : Shape := ⟨5, ![4, 4, 16, 128, 256]⟩
abbrev S4x16x256x1536 : Shape := ⟨4, ![4, 16, 256, 1536]⟩
abbrev S512x1024 : Shape := ⟨2, ![512, 1024]⟩
abbrev S1x1x6144 : Shape := ⟨3, ![1, 1, 6144]⟩
abbrev S512x3072 : Shape := ⟨2, ![512, 3072]⟩
abbrev S1x2x512 : Shape := ⟨3, ![1, 2, 512]⟩
abbrev S1x4x1x128x512 : Shape := ⟨5, ![1, 4, 1, 128, 512]⟩
abbrev S1x4x2x128x256 : Shape := ⟨5, ![1, 4, 2, 128, 256]⟩
abbrev S1x16x32x1536 : Shape := ⟨4, ![1, 16, 32, 1536]⟩
abbrev S1x6144 : Shape := ⟨2, ![1, 6144]⟩
abbrev S512 : Shape := ⟨1, ![512]⟩
abbrev S512x1 : Shape := ⟨2, ![512, 1]⟩
abbrev S512x512 : Shape := ⟨2, ![512, 512]⟩
abbrev S512x1536 : Shape := ⟨2, ![512, 1536]⟩
abbrev S32x1536 : Shape := ⟨2, ![32, 1536]⟩
abbrev S1x1x32x1536 : Shape := ⟨4, ![1, 1, 32, 1536]⟩
abbrev S2x256x512 : Shape := ⟨3, ![2, 256, 512]⟩
abbrev S2x512 : Shape := ⟨2, ![2, 512]⟩
abbrev S128x512 : Shape := ⟨2, ![128, 512]⟩
abbrev S1x1x1x128x512 : Shape := ⟨5, ![1, 1, 1, 128, 512]⟩
abbrev S128x256 : Shape := ⟨2, ![128, 256]⟩
abbrev S1x1x1x128x256 : Shape := ⟨5, ![1, 1, 1, 128, 256]⟩

abbrev nBuf : Space → Nat
  | .hbm => 34
  | .vmem => 16
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x3072, .f32⟩
  | .hbm, ⟨4, _⟩ => ⟨S16384x1024, .f32⟩
  | .hbm, ⟨5, _⟩ => ⟨S4x1x6144, .f32⟩
  | .hbm, ⟨6, _⟩ => ⟨S1x1024, .f32⟩
  | .hbm, ⟨7, _⟩ => ⟨S3072, .i32⟩
  | .hbm, ⟨8, _⟩ => ⟨S_, .i32⟩
  | .hbm, ⟨9, _⟩ => ⟨S3072, .i32⟩
  | .hbm, ⟨10, _⟩ => ⟨S3072, .i1⟩
  | .hbm, ⟨11, _⟩ => ⟨S_, .i32⟩
  | .hbm, ⟨12, _⟩ => ⟨S3072, .i32⟩
  | .hbm, ⟨13, _⟩ => ⟨S3072, .i1⟩
  | .hbm, ⟨14, _⟩ => ⟨S_, .i32⟩
  | .hbm, ⟨15, _⟩ => ⟨S3072, .i32⟩
  | .hbm, ⟨16, _⟩ => ⟨S3072, .i1⟩
  | .hbm, ⟨17, _⟩ => ⟨S3072, .i1⟩
  | .hbm, ⟨18, _⟩ => ⟨S3072, .i1⟩
  | .hbm, ⟨19, _⟩ => ⟨S_, .f32⟩
  | .hbm, ⟨20, _⟩ => ⟨S_, .f32⟩
  | .hbm, ⟨21, _⟩ => ⟨S3072, .f32⟩
  | .hbm, ⟨22, _⟩ => ⟨S3072, .f32⟩
  | .hbm, ⟨23, _⟩ => ⟨S3072, .f32⟩
  | .hbm, ⟨24, _⟩ => ⟨S3072, .f32⟩
  | .hbm, ⟨25, _⟩ => ⟨S1x3072, .f32⟩
  | .hbm, ⟨26, _⟩ => ⟨S1024x3072, .f32⟩
  | .hbm, ⟨27, _⟩ => ⟨S1024x3072, .f32⟩
  | .hbm, ⟨28, _⟩ => ⟨S1024x3072, .bf16⟩
  | .hbm, ⟨29, _⟩ => ⟨S16384x3072, .bf16⟩
  | .hbm, ⟨30, _⟩ => ⟨S32x2x512, .f32⟩
  | .hbm, ⟨31, _⟩ => ⟨S4x4x2x128x2048, .bf16⟩
  | .hbm, ⟨32, _⟩ => ⟨S4x4x16x128x256, .bf16⟩
  | .hbm, ⟨33, _⟩ => ⟨S4x16x256x1536, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x3072, .bf16⟩
  | .local _ .vmem, ⟨6, _⟩ => ⟨S512x3072, .bf16⟩
  | .local _ .vmem, ⟨7, _⟩ => ⟨S512x3072, .bf16⟩
  | .local _ .vmem, ⟨8, _⟩ => ⟨S1x2x512, .f32⟩
  | .local _ .vmem, ⟨9, _⟩ => ⟨S1x2x512, .f32⟩
  | .local _ .vmem, ⟨10, _⟩ => ⟨S1x4x1x128x512, .bf16⟩
  | .local _ .vmem, ⟨11, _⟩ => ⟨S1x4x1x128x512, .bf16⟩
  | .local _ .vmem, ⟨12, _⟩ => ⟨S1x4x2x128x256, .bf16⟩
  | .local _ .vmem, ⟨13, _⟩ => ⟨S1x4x2x128x256, .bf16⟩
  | .local _ .vmem, ⟨14, _⟩ => ⟨S1x16x32x1536, .bf16⟩
  | .local _ .vmem, ⟨15, _⟩ => ⟨S1x16x32x1536, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c8_i32_16 : BitVec 32 := 8#32
  let c0_i32_17 : BitVec 32 := 0#32
  let v44 : BitVec 1 := Scalar.cmpi .eq c8_i32_16 c0_i32_17
  let c1_i32_18 : BitVec 32 := 1#32
  let v45 : BitVec 32 := Scalar.select v44 c1_i32_18 c8_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c4_i32_22 : BitVec 32 := 4#32
  let c0_i32_23 : BitVec 32 := 0#32
  let v54 : BitVec 1 := Scalar.cmpi .eq c4_i32_22 c0_i32_23
  let c1_i32_24 : BitVec 32 := 1#32
  let v55 : BitVec 32 := Scalar.select v54 c1_i32_24 c4_i32_22
  let v56 : BitVec 32 := Scalar.remsi v53 v55
  let c0_i32_25 : BitVec 32 := 0#32
  let v57 : BitVec 1 := Scalar.cmpi .ne v56 c0_i32_25
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let v61 : BitVec 1 := Scalar.andi v60 v57
  let v62 : BitVec 32 := Scalar.addi v56 v55
  let v63 : BitVec 32 := Scalar.select v61 v62 v56
  let c0_i32_28 : BitVec 32 := 0#32
  let c0_i32_29 : BitVec 32 := 0#32
  let c0_i32_30 : BitVec 32 := 0#32
  ![v16.toNat, c0_i32_28.toNat, v43.toNat, c0_i32_29.toNat, v63.toNat]

def cc0_transform_7 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x2x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x32x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4x4096x1024 : Shape := ⟨3, ![4, 4096, 1024]⟩
abbrev S4x6144 : Shape := ⟨2, ![4, 6144]⟩
abbrev S1024 : Shape := ⟨1, ![1024]⟩
abbrev S1024x3072 : Shape := ⟨2, ![1024, 3072]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3072 : Shape := ⟨3, ![4, 4096, 3072]⟩
abbrev S4x4096x512 : Shape := ⟨3, ![4, 4096, 512]⟩
abbrev S4x16x256x512 : Shape := ⟨4, ![4, 16, 256, 512]⟩
abbrev S4x16x512 : Shape := ⟨3, ![4, 16, 512]⟩
abbrev S4x4096x1536 : Shape := ⟨3, ![4, 4096, 1536]⟩
abbrev S4x256x16x1536 : Shape := ⟨4, ![4, 256, 16, 1536]⟩
abbrev S16384x3072 : Shape := ⟨2, ![16384, 3072]⟩
abbrev S32x2x512 : Shape := ⟨3, ![32, 2, 512]⟩
abbrev S4x2x2048x4x128 : Shape := ⟨5, ![4, 2, 2048, 4, 128]⟩
abbrev S4x4x2x128x2048 : Shape := ⟨5, ![4, 4, 2, 128, 2048]⟩
abbrev S4x16x256x4x128 : Shape := ⟨5, ![4, 16, 256, 4, 128]⟩
abbrev S4x4x16x128x256 : Shape := ⟨5, ![4, 4, 16, 128, 256]⟩
abbrev S4x16x256x1536 : Shape := ⟨4, ![4, 16, 256, 1536]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x3072, .f32⟩
  | .hbm, ⟨4, _⟩ => ⟨S4x1024, .f32⟩
  | .hbm, ⟨5, _⟩ => ⟨S4x1024, .f32⟩
  | .hbm, ⟨6, _⟩ => ⟨S4x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S4x1x1024, .f32⟩
  | .hbm, ⟨11, _⟩ => ⟨S4x1x1024, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x4096x1024, .f32⟩
  | .hbm, ⟨17, _⟩ => ⟨S_, .f32⟩
  | .hbm, ⟨18, _⟩ => ⟨S4x4096, .f32⟩
  | .hbm, ⟨19, _⟩ => ⟨S4x4096x1, .f32⟩
  | .hbm, ⟨20, _⟩ => ⟨S_, .f32⟩
  | .hbm, ⟨21, _⟩ => ⟨S4x4096x1, .f32⟩
  | .hbm, ⟨22, _⟩ => ⟨S4x4096x1, .f32⟩
  | .hbm, ⟨23, _⟩ => ⟨S_, .f32⟩
  | .hbm, ⟨24, _⟩ => ⟨S4x4096x1, .f32⟩
  | .hbm, ⟨25, _⟩ => ⟨S4x4096x1, .f32⟩
  | .hbm, ⟨26, _⟩ => ⟨S4x4096x1, .f32⟩
  | .hbm, ⟨27, _⟩ => ⟨S4x4096x1024, .f32⟩
  | .hbm, ⟨28, _⟩ => ⟨S4x4096x1024, .f32⟩
  | .hbm, ⟨29, _⟩ => ⟨S1x1x1024, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x3072, .f32⟩
  | .hbm, ⟨40, _⟩ => ⟨S4x4096x512, .f32⟩
  | .hbm, ⟨41, _⟩ => ⟨S4x4096x512, .f32⟩
  | .hbm, ⟨42, _⟩ => ⟨S4x4096x512, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S_, .f32⟩
  | .hbm, ⟨50, _⟩ => ⟨S4x4096x512, .f32⟩
  | .hbm, ⟨51, _⟩ => ⟨S4x4096x512, .f32⟩
  | .hbm, ⟨52, _⟩ => ⟨S4x4096x3072, .f32⟩
  | .hbm, ⟨53, _⟩ => ⟨S4x4096x3072, .bf16⟩
  | .hbm, ⟨54, _⟩ => ⟨S4x16x256x512, .f32⟩
  | .hbm, ⟨55, _⟩ => ⟨S_, .f32⟩
  | .hbm, ⟨56, _⟩ => ⟨S4x16x512, .f32⟩
  | .hbm, ⟨57, _⟩ => ⟨S_, .f32⟩
  | .hbm, ⟨58, _⟩ => ⟨S4x16x512, .f32⟩
  | .hbm, ⟨59, _⟩ => ⟨S4x16x512, .f32⟩
  | .hbm, ⟨60, _⟩ => ⟨S4x4096x1536, .bf16⟩
  | .hbm, ⟨61, _⟩ => ⟨S4x256x16x1536, .bf16⟩
  | .hbm, ⟨62, _⟩ => ⟨S16384x3072, .bf16⟩
  | .hbm, ⟨63, _⟩ => ⟨S32x2x512, .f32⟩
  | .hbm, ⟨64, _⟩ => ⟨S4x2x2048x4x128, .f32⟩
  | .hbm, ⟨65, _⟩ => ⟨S4x4x2x128x2048, .f32⟩
  | .hbm, ⟨66, _⟩ => ⟨S4x4x2x128x2048, .bf16⟩
  | .hbm, ⟨67, _⟩ => ⟨S4x16x256x4x128, .f32⟩
  | .hbm, ⟨68, _⟩ => ⟨S4x4x16x128x256, .f32⟩
  | .hbm, ⟨69, _⟩ => ⟨S4x4x16x128x256, .bf16⟩
  | .hbm, ⟨70, _⟩ => ⟨S4x16x256x1536, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x6144 : Shape := ⟨2, ![4, 6144]⟩
abbrev S1024 : Shape := ⟨1, ![1024]⟩
abbrev S1024x2080 : Shape := ⟨2, ![1024, 2080]⟩
abbrev S256 : Shape := ⟨1, ![256]⟩
abbrev S256x768 : Shape := ⟨2, ![256, 768]⟩
abbrev S256x1024 : Shape := ⟨2, ![256, 1024]⟩
abbrev S1024x32 : Shape := ⟨2, ![1024, 32]⟩
abbrev S1024x512 : Shape := ⟨2, ![1024, 512]⟩
abbrev S_ : Shape := ⟨0, ![]⟩
abbrev S1024x128 : Shape := ⟨2, ![1024, 128]⟩
abbrev S1024x16 : Shape := ⟨2, ![1024, 16]⟩
abbrev S1024x1024 : Shape := ⟨2, ![1024, 1024]⟩
abbrev S1024x2304 : Shape := ⟨2, ![1024, 2304]⟩
abbrev S256x8x96 : Shape := ⟨3, ![256, 8, 96]⟩
abbrev S256x8x128 : Shape := ⟨3, ![256, 8, 128]⟩
abbrev S256x8x32 : Shape := ⟨3, ![256, 8, 32]⟩
abbrev S256x8x16 : Shape := ⟨3, ![256, 8, 16]⟩
abbrev S256x2048 : Shape := ⟨2, ![256, 2048]⟩
abbrev S256x8x64 : Shape := ⟨3, ![256, 8, 64]⟩
abbrev S256x512 : Shape := ⟨2, ![256, 512]⟩
abbrev S256x1536 : Shape := ⟨2, ![256, 1536]⟩
abbrev S16384x1024 : Shape := ⟨2, ![16384, 1024]⟩
abbrev S4x1x6144 : Shape := ⟨3, ![4, 1, 6144]⟩
abbrev S1x1024 : Shape := ⟨2, ![1, 1024]⟩
abbrev S1x256 : Shape := ⟨2, ![1, 256]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x128 : Shape := ⟨2, ![4096, 128]⟩
abbrev S4096x64 : Shape := ⟨2, ![4096, 64]⟩
abbrev S4x4x2x128x2048 : Shape := ⟨5, ![4, 4, 2, 128, 2048]⟩
abbrev S512x1024 : Shape := ⟨2, ![512, 1024]⟩
abbrev S1x1x6144 : Shape := ⟨3, ![1, 1, 6144]⟩
abbrev S512x128 : Shape := ⟨2, ![512, 128]⟩
abbrev S1x4x1x128x512 : Shape := ⟨5, ![1, 4, 1, 128, 512]⟩
abbrev S1x6144 : Shape := ⟨2, ![1, 6144]⟩
abbrev S512 : Shape := ⟨1, ![512]⟩
abbrev S512x1 : Shape := ⟨2, ![512, 1]⟩
abbrev S512x2304 : Shape := ⟨2, ![512, 2304]⟩
abbrev S512x256 : Shape := ⟨2, ![512, 256]⟩
abbrev S512x512 : Shape := ⟨2, ![512, 512]⟩
abbrev S128x512 : Shape := ⟨2, ![128, 512]⟩
abbrev S1x1x1x128x512 : Shape := ⟨5, ![1, 1, 1, 128, 512]⟩
abbrev S512x2048 : Shape := ⟨2, ![512, 2048]⟩
abbrev S512x1536 : Shape := ⟨2, ![512, 1536]⟩

abbrev nBuf : Space → Nat
  | .hbm => 107
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x2080, .f32⟩
  | .hbm, ⟨4, _⟩ => ⟨S256, .f32⟩
  | .hbm, ⟨5, _⟩ => ⟨S256, .f32⟩
  | .hbm, ⟨6, _⟩ => ⟨S256x768, .f32⟩
  | .hbm, ⟨7, _⟩ => ⟨S256x1024, .f32⟩
  | .hbm, ⟨8, _⟩ => ⟨S1024x32, .f32⟩
  | .hbm, ⟨9, _⟩ => ⟨S1024x512, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x16, .f32⟩
  | .hbm, ⟨14, _⟩ => ⟨S1024x16, .f32⟩
  | .hbm, ⟨15, _⟩ => ⟨S1024x16, .f32⟩
  | .hbm, ⟨16, _⟩ => ⟨S1024x32, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S1024x1024, .f32⟩
  | .hbm, ⟨25, _⟩ => ⟨S1024x2304, .f32⟩
  | .hbm, ⟨26, _⟩ => ⟨S1024x2304, .bf16⟩
  | .hbm, ⟨27, _⟩ => ⟨S256x8x96, .f32⟩
  | .hbm, ⟨28, _⟩ => ⟨S_, .i32⟩
  | .hbm, ⟨29, _⟩ => ⟨S_, .f32⟩
  | .hbm, ⟨30, _⟩ => ⟨S256x8x128, .f32⟩
  | .hbm, ⟨31, _⟩ => ⟨S256x8x32, .f32⟩
  | .hbm, ⟨32, _⟩ => ⟨S256x8x16, .f32⟩
  | .hbm, ⟨33, _⟩ => ⟨S256x8x16, .f32⟩
  | .hbm, ⟨34, _⟩ => ⟨S256x8x16, .f32⟩
  | .hbm, ⟨35, _⟩ => ⟨S256x8x32, .f32⟩
  | .hbm, ⟨36, _⟩ => ⟨S_, .i32⟩
  | .hbm, ⟨37, _⟩ => ⟨S_, .f32⟩
  | .hbm, ⟨38, _⟩ => ⟨S256x8x128, .f32⟩
  | .hbm, ⟨39, _⟩ => ⟨S256x1024, .f32⟩
  | .hbm, ⟨40, _⟩ => ⟨S256x1024, .f32⟩
  | .hbm, ⟨41, _⟩ => ⟨S256x2048, .f32⟩
  | .hbm, ⟨42, _⟩ => ⟨S256x2048, .bf16⟩
  | .hbm, ⟨43, _⟩ => ⟨S256x8x128, .f32⟩
  | .hbm, ⟨44, _⟩ => ⟨S256x8x64, .f32⟩
  | .hbm, ⟨45, _⟩ => ⟨S_, .i32⟩
  | .hbm, ⟨46, _⟩ => ⟨S_, .f32⟩
  | .hbm, ⟨47, _⟩ => ⟨S256x8x128, .f32⟩
  | .hbm, ⟨48, _⟩ => ⟨S256x8x64, .f32⟩
  | .hbm, ⟨49, _⟩ => ⟨S256x1024, .f32⟩
  | .hbm, ⟨50, _⟩ => ⟨S256x512, .f32⟩
  | .hbm, ⟨51, _⟩ => ⟨S256x1536, .f32⟩
  | .hbm, ⟨52, _⟩ => ⟨S256x1536, .bf16⟩
  | .hbm, ⟨53, _⟩ => ⟨S16384x1024, .f32⟩
  | .hbm, ⟨54, _⟩ => ⟨S4x1x6144, .f32⟩
  | .hbm, ⟨55, _⟩ => ⟨S1x1024, .f32⟩
  | .hbm, ⟨56, _⟩ => ⟨S1x256, .f32⟩
  | .hbm, ⟨57, _⟩ => ⟨S1x256, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S4096, .f32⟩
  | .hbm, ⟨75, _⟩ => ⟨S4096x1, .f32⟩
  | .hbm, ⟨76, _⟩ => ⟨S1x16, .f32⟩
  | .hbm, ⟨77, _⟩ => ⟨S4096x16, .f32⟩
  | .hbm, ⟨78, _⟩ => ⟨S4096x16, .f32⟩
  | .hbm, ⟨79, _⟩ => ⟨S4096x16, .f32⟩
  | .hbm, ⟨80, _⟩ => ⟨S4096x16, .f32⟩
  | .hbm, ⟨81, _⟩ => ⟨S4096x16, .f32⟩
  | .hbm, ⟨82, _⟩ => ⟨S4096x32, .f32⟩
  | .hbm, ⟨83, _⟩ => ⟨S_, .i32⟩
  | .hbm, ⟨84, _⟩ => ⟨S_, .f32⟩
  | .hbm, ⟨85, _⟩ => ⟨S4096x128, .f32⟩
  | .hbm, ⟨86, _⟩ => ⟨S4096x32, .f32⟩
  | .hbm, ⟨87, _⟩ => ⟨S_, .i32⟩
  | .hbm, ⟨88, _⟩ => ⟨S_, .f32⟩
  | .hbm, ⟨89, _⟩ => ⟨S4096x128, .f32⟩
  | .hbm, ⟨90, _⟩ => ⟨S_, .f32⟩
  | .hbm, ⟨91, _⟩ => ⟨S4096x64, .f32⟩
  | .hbm, ⟨92, _⟩ => ⟨S_, .i32⟩
  | .hbm, ⟨93, _⟩ => ⟨S_, .f32⟩
  | .hbm, ⟨94, _⟩ => ⟨S4096x128, .f32⟩
  | .hbm, ⟨95, _⟩ => ⟨S4096x128, .f32⟩
  | .hbm, ⟨96, _⟩ => ⟨S_, .f32⟩
  | .hbm, ⟨97, _⟩ => ⟨S4096x128, .f32⟩
  | .hbm, ⟨98, _⟩ => ⟨S4096x128, .f32⟩
  | .hbm, ⟨99, _⟩ => ⟨S_, .f32⟩
  | .hbm, ⟨100, _⟩ => ⟨S4096x128, .f32⟩
  | .hbm, ⟨101, _⟩ => ⟨S4096x128, .f32⟩
  | .hbm, ⟨102, _⟩ => ⟨S16384x1024, .bf16⟩
  | .hbm, ⟨103, _⟩ => ⟨S16384x1024, .bf16⟩
  | .hbm, ⟨104, _⟩ => ⟨S4x4x2x128x2048, .bf16⟩
  | .hbm, ⟨105, _⟩ => ⟨S16384x1024, .bf16⟩
  | .hbm, ⟨106, _⟩ => ⟨S4x4x2x128x2048, .bf16⟩
  | .local _ .vmem, ⟨0, _⟩ => ⟨S512x1024, .f32⟩
  | .local _ .vmem, ⟨1, _⟩ => ⟨S512x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2304, .bf16⟩
  | .local _ .vmem, ⟨6, _⟩ => ⟨S1x256, .f32⟩
  | .local _ .vmem, ⟨7, _⟩ => ⟨S1x256, .f32⟩
  | .local _ .vmem, ⟨8, _⟩ => ⟨S256x2048, .bf16⟩
  | .local _ .vmem, ⟨9, _⟩ => ⟨S256x1536, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1x4x1x128x512, .bf16⟩
  | .local _ .vmem, ⟨23, _⟩ => ⟨S1x4x1x128x512, .bf16⟩
  | .local _ .vmem, ⟨24, _⟩ => ⟨S512x1024, .bf16⟩
  | .local _ .vmem, ⟨25, _⟩ => ⟨S512x1024, .bf16⟩
  | .local _ .vmem, ⟨26, _⟩ => ⟨S1x4x1x128x512, .bf16⟩
  | .local _ .vmem, ⟨27, _⟩ => ⟨S1x4x1x128x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call2_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_call3_v0 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_3 : Ref sig .tc := ⟨.hbm, 45, rfl⟩
abbrev main_call4_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_cst_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_9 : Ref sig .tc := ⟨.hbm, 83, rfl⟩
abbrev main_call5_v0 : Ref sig .tc := ⟨.hbm, 84, rfl⟩
abbrev main_v59 : Ref sig .tc := ⟨.hbm, 85, rfl⟩
abbrev main_v60 : Ref sig .tc := ⟨.hbm, 86, rfl⟩
abbrev main_c_10 : Ref sig .tc := ⟨.hbm, 87, rfl⟩
abbrev main_call6_v0 : Ref sig .tc := ⟨.hbm, 88, rfl⟩
abbrev main_v61 : Ref sig .tc := ⟨.hbm, 89, rfl⟩
abbrev main_cst_11 : Ref sig .tc := ⟨.hbm, 90, rfl⟩
abbrev main_v62 : Ref sig .tc := ⟨.hbm, 91, rfl⟩
abbrev main_c_12 : Ref sig .tc := ⟨.hbm, 92, rfl⟩
abbrev main_call7_v0 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69_0 : Ref sig .tc := ⟨.hbm, 102, rfl⟩
abbrev main_v69_1 : Ref sig .tc := ⟨.hbm, 103, rfl⟩
abbrev main_v69_2 : Ref sig .tc := ⟨.hbm, 104, rfl⟩
abbrev main_v69_3 : Ref sig .tc := ⟨.hbm, 105, rfl⟩
abbrev main_v69_4 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c8_i32_16 : BitVec 32 := 8#32
  let c0_i32_17 : BitVec 32 := 0#32
  let v44 : BitVec 1 := Scalar.cmpi .eq c8_i32_16 c0_i32_17
  let c1_i32_18 : BitVec 32 := 1#32
  let v45 : BitVec 32 := Scalar.select v44 c1_i32_18 c8_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c4_i32_22 : BitVec 32 := 4#32
  let c0_i32_23 : BitVec 32 := 0#32
  let v54 : BitVec 1 := Scalar.cmpi .eq c4_i32_22 c0_i32_23
  let c1_i32_24 : BitVec 32 := 1#32
  let v55 : BitVec 32 := Scalar.select v54 c1_i32_24 c4_i32_22
  let v56 : BitVec 32 := Scalar.remsi v53 v55
  let c0_i32_25 : BitVec 32 := 0#32
  let v57 : BitVec 1 := Scalar.cmpi .ne v56 c0_i32_25
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let v61 : BitVec 1 := Scalar.andi v60 v57
  let v62 : BitVec 32 := Scalar.addi v56 v55
  let v63 : BitVec 32 := Scalar.select v61 v62 v56
  let c0_i32_28 : BitVec 32 := 0#32
  let c0_i32_29 : BitVec 32 := 0#32
  let c0_i32_30 : BitVec 32 := 0#32
  ![v16.toNat, c0_i32_28.toNat, v43.toNat, c0_i32_29.toNat, v63.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi v26 c4_i32
  let c0_i32_10 : BitVec 32 := 0#32
  let v28 : BitVec 1 := Scalar.cmpi .sgt v26 c0_i32_10
  let v29 : BitVec 32 := Scalar.extui v28
  let c0_i32_11 : BitVec 32 := 0#32
  let v30 : BitVec 1 := Scalar.cmpi .slt v26 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi v26 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c8_i32_16 : BitVec 32 := 8#32
  let c0_i32_17 : BitVec 32 := 0#32
  let v44 : BitVec 1 := Scalar.cmpi .eq c8_i32_16 c0_i32_17
  let c1_i32_18 : BitVec 32 := 1#32
  let v45 : BitVec 32 := Scalar.select v44 c1_i32_18 c8_i32_16
  let v46 : BitVec 32 := Scalar.remsi arg0 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c4_i32_22 : BitVec 32 := 4#32
  let c0_i32_23 : BitVec 32 := 0#32
  let v54 : BitVec 1 := Scalar.cmpi .eq c4_i32_22 c0_i32_23
  let c1_i32_24 : BitVec 32 := 1#32
  let v55 : BitVec 32 := Scalar.select v54 c1_i32_24 c4_i32_22
  let v56 : BitVec 32 := Scalar.remsi v53 v55
  let c0_i32_25 : BitVec 32 := 0#32
  let v57 : BitVec 1 := Scalar.cmpi .ne v56 c0_i32_25
  let c0_i32_26 : BitVec 32 := 0#32
  let v58 : BitVec 1 := Scalar.cmpi .slt v56 c0_i32_26
  let c0_i32_27 : BitVec 32 := 0#32
  let v59 : BitVec 1 := Scalar.cmpi .slt v55 c0_i32_27
  let v60 : BitVec 1 := Scalar.xori v58 v59
  let v61 : BitVec 1 := Scalar.andi v60 v57
  let v62 : BitVec 32 := Scalar.addi v56 v55
  let v63 : BitVec 32 := Scalar.select v61 v62 v56
  let c0_i32_28 : BitVec 32 := 0#32
  let c0_i32_29 : BitVec 32 := 0#32
  let c0_i32_30 : BitVec 32 := 0#32
  ![v16.toNat, c0_i32_28.toNat, v43.toNat, c0_i32_29.toNat, v63.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x4x1x128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S4x4096x1024 : Shape := ⟨3, ![4, 4096, 1024]⟩
abbrev S4x6144 : Shape := ⟨2, ![4, 6144]⟩
abbrev S1024 : Shape := ⟨1, ![1024]⟩
abbrev S1024x2080 : Shape := ⟨2, ![1024, 2080]⟩
abbrev S256 : Shape := ⟨1, ![256]⟩
abbrev S256x768 : Shape := ⟨2, ![256, 768]⟩
abbrev S256x1024 : Shape := ⟨2, ![256, 1024]⟩
abbrev S4x1024 : Shape := ⟨2, ![4, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2080 : Shape := ⟨3, ![4, 4096, 2080]⟩
abbrev S4x4096x256 : Shape := ⟨3, ![4, 4096, 256]⟩
abbrev S4x4096x1536 : Shape := ⟨3, ![4, 4096, 1536]⟩
abbrev S4x4096x512 : Shape := ⟨3, ![4, 4096, 512]⟩
abbrev S1x1x256 : Shape := ⟨3, ![1, 1, 256]⟩
abbrev S4x4096x8x128 : Shape := ⟨4, ![4, 4096, 8, 128]⟩
abbrev S4x4096x8x64 : Shape := ⟨4, ![4, 4096, 8, 64]⟩
abbrev S4x2x2048x4x128 : Shape := ⟨5, ![4, 2, 2048, 4, 128]⟩
abbrev S4x4x2x128x2048 : Shape := ⟨5, ![4, 4, 2, 128, 2048]⟩
abbrev S16384x1024 : Shape := ⟨2, ![16384, 1024]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1024, .f32⟩
  | .hbm, ⟨3, _⟩ => ⟨S1024x2080, .f32⟩
  | .hbm, ⟨4, _⟩ => ⟨S256, .f32⟩
  | .hbm, ⟨5, _⟩ => ⟨S256, .f32⟩
  | .hbm, ⟨6, _⟩ => ⟨S256x768, .f32⟩
  | .hbm, ⟨7, _⟩ => ⟨S256x1024, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S_, .f32⟩
  | .hbm, ⟨37, _⟩ => ⟨S4x1x1024, .f32⟩
  | .hbm, ⟨38, _⟩ => ⟨S4x1x1024, .f32⟩
  | .hbm, ⟨39, _⟩ => ⟨S4x4096x1024, .f32⟩
  | .hbm, ⟨40, _⟩ => ⟨S4x4096x1024, .f32⟩
  | .hbm, ⟨41, _⟩ => ⟨S4x4096x1024, .f32⟩
  | .hbm, ⟨42, _⟩ => ⟨S4x4096x1024, .f32⟩
  | .hbm, ⟨43, _⟩ => ⟨S4x4096x2080, .f32⟩
  | .hbm, ⟨44, _⟩ => ⟨S4x4096x256, .f32⟩
  | .hbm, ⟨45, _⟩ => ⟨S4x4096x1536, .f32⟩
  | .hbm, ⟨46, _⟩ => ⟨S4x4096x512, .f32⟩
  | .hbm, ⟨47, _⟩ => ⟨S4x4096x512, .f32⟩
  | .hbm, ⟨48, _⟩ => ⟨S4x4096x512, .f32⟩
  | .hbm, ⟨49, _⟩ => ⟨S4x4096x256, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x256, .f32⟩
  | .hbm, ⟨61, _⟩ => ⟨S4x4096x256, .f32⟩
  | .hbm, ⟨62, _⟩ => ⟨S1x1x256, .f32⟩
  | .hbm, ⟨63, _⟩ => ⟨S4x4096x256, .f32⟩
  | .hbm, ⟨64, _⟩ => ⟨S4x4096x256, .f32⟩
  | .hbm, ⟨65, _⟩ => ⟨S4x4096x1024, .f32⟩
  | .hbm, ⟨66, _⟩ => ⟨S4x4096x8x128, .f32⟩
  | .hbm, ⟨67, _⟩ => ⟨S4x4096x8x64, .f32⟩
  | .hbm, ⟨68, _⟩ => ⟨S_, .f32⟩
  | .hbm, ⟨69, _⟩ => ⟨S4x4096x512, .f32⟩
  | .hbm, ⟨70, _⟩ => ⟨S4x4096x512, .f32⟩
  | .hbm, ⟨71, _⟩ => ⟨S4x4096x1024, .f32⟩
  | .hbm, ⟨72, _⟩ => ⟨S4x4096x1024, .bf16⟩
  | .hbm, ⟨73, _⟩ => ⟨S4x2x2048x4x128, .f32⟩
  | .hbm, ⟨74, _⟩ => ⟨S4x4x2x128x2048, .f32⟩
  | .hbm, ⟨75, _⟩ => ⟨S4x4x2x128x2048, .bf16⟩
  | .hbm, ⟨76, _⟩ => ⟨S16384x1024, .bf16⟩
  | .hbm, ⟨77, _⟩ => ⟨S4x2x2048x4x128, .f32⟩
  | .hbm, ⟨78, _⟩ => ⟨S4x4x2x128x2048, .f32⟩
  | .hbm, ⟨79, _⟩ => ⟨S4x4x2x128x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]
-- ==== Proof.Finite.lean ====
/-
  The precondition read: every entry of the queries and of the keys is a real number. And the constants of the two programs.
-/
module

public import proofs.«01_k».proof.Defs
public import Idealize.ShloMosaic.Lib.ReduceAll
public import Idealize.ShloMosaic.Lib.Pointwise

@[expose] public section

noncomputable section

namespace Cert.Proof

open Idealize.ShloMosaic

instance factsPre : Cert.Pre_finite_qk.Facts where
  bcast_S_S4x8x4096x96 := by decide
  reducesTo_S4x8x4096x96_S_d0_1_2_3 := by decide
  h_S_ := by decide

theorem posInf : Ideal.ofBits .f32 0x7F800000#32 = (⊤ : EReal) := by
  unfold Ideal.ofBits
  rfl

/-- An extended real below infinity in absolute value is real. -/
theorem real_of_abs_lt (x : EReal) (h : Ideal.cmp .olt (max x (-x)) ⊤ = 1#1) : ∃ r : ℝ, x = (r : EReal) := by
  induction x with
  | bot => simp [Ideal.cmp] at h
  | top => simp [Ideal.cmp] at h
  | coe r => exact ⟨r, rfl⟩

theorem pre_real (q k : FVec Ideal Cert.Pre_finite_qk.S4x8x4096x96 .f32) (v : FVec Ideal Cert.Pre_finite_qk.S4x8x4096x64 .f32)
    (h : Cert.Pre_finite_qk.fn q k v = fun _ => 1#1) :
    (∀ i, ∃ r : ℝ, q i = (r : EReal)) ∧ ∀ i, ∃ r : ℝ, k i = (r : EReal) := by
  have h0 := congrFun h ix0
  obtain ⟨h1, h2⟩ := IntOp.andi_eq_one.1 h0
  have : Subsingleton Cert.Pre_finite_qk.S_.Idx := ⟨fun a b => funext fun x => x.elim0⟩
  constructor
  · intro i
    have e := Host.reduce_andi_all _ _ _ _ _ h1 i
    refine real_of_abs_lt _ ?_
    rw [← posInf]; exact e
  · intro i
    have e := Host.reduce_andi_all _ _ _ _ _ h2 i
    refine real_of_abs_lt _ ?_
    rw [← posInf]; exact e

/-! ## Constants -/

theorem two_eq : Ideal.ofBits .f32 0x40000000#32 = ((2 : ℝ) : EReal) := by
  have hn : BitVec.extractLsb' 31 1 1073741824#32 = 0#1 := by decide
  have he : 1073741824 >>> 23 % 256 = 128 := by decide
  unfold Ideal.ofBits Ideal.ieee
  norm_num [hn, he]

/-- The scale of the scores is real. -/
theorem scale_real : ∃ r : ℝ, Ideal.ofBits .f32 0x3DD105EC#32 = (r : EReal) := by
  have he : (BitVec.extractLsb' 23 8 0x3DD105EC#32).toNat = 123 := by decide
  unfold Ideal.ofBits Ideal.ieee
  simp only [he]
  norm_num

theorem log_two : Ideal.log (Ideal.ofBits .f32 0x40000000#32) = ((Real.log 2 : ℝ) : EReal) := by
  rw [two_eq]
  show (if (2 : ℝ) ≤ 0 then (⊥ : EReal) else (Real.log 2 : EReal)) = _
  rw [if_neg (by norm_num)]

end Cert.Proof

end
-- ==== Proof.Softmax.lean ====
/-
  The mathematics of an online softmax in base two over extended reals, its scores finite or masked: the state after any
  finite set of keys, one more set, and the quotient at the end, which is the softmax in base e.
-/
module

public import Idealize.ShloMosaic.PureOps.Ideal
public import Mathlib.Analysis.SpecialFunctions.Pow.Real
public import Mathlib.Data.EReal.Inv

@[expose] public section

noncomputable section

namespace Cert.Proof.Attn

open Idealize.ShloMosaic

/-! ## Scores and weights -/

/-- Key `κ`'s unnormalised weight for the query at position `t`: nothing after the query. -/
def num (x : ℕ → ℝ) (t κ : ℕ) : ℝ := if κ ≤ t then Real.exp (x κ) else 0

/-- Its score in base two, masked after the query. -/
def sc2 (x : ℕ → ℝ) (t κ : ℕ) : EReal := if κ ≤ t then ((x κ / Real.log 2 : ℝ) : EReal) else ⊥

/-- Its score in base e, masked after the query. -/
def sce (x : ℕ → ℝ) (t κ : ℕ) : EReal := if κ ≤ t then (x κ : EReal) else ⊥

/-- The factor that a shift `M` in base two puts before every weight. -/
def shift (M : ℝ) : ℝ := Real.exp (-(M * Real.log 2))

theorem log_two_pos : 0 < Real.log 2 := Real.log_pos one_lt_two

theorem num_nonneg (x : ℕ → ℝ) (t κ : ℕ) : 0 ≤ num x t κ := by
  unfold num; split
  · exact (Real.exp_pos _).le
  · exact le_rfl

theorem exp2_coe (r : ℝ) : Ideal.exp2 (r : EReal) = ((Real.exp (r * Real.log 2) : ℝ) : EReal) := by
  show ((Real.rpow 2 r : ℝ) : EReal) = _
  congr 1
  show (2 : ℝ) ^ r = _
  rw [Real.rpow_def_of_pos two_pos, mul_comm]

theorem bot_sub_coe (M : ℝ) : (⊥ : EReal) - (M : EReal) = ⊥ := by
  rw [sub_eq_add_neg, EReal.bot_add]

theorem exp2_sc2 (x : ℕ → ℝ) (t κ : ℕ) (M : ℝ) :
    Ideal.exp2 (sc2 x t κ - (M : EReal)) = ((shift M * num x t κ : ℝ) : EReal) := by
  unfold sc2 num shift
  split
  · rw [← EReal.coe_sub, exp2_coe, ← Real.exp_add]
    congr 2
    field_simp [log_two_pos.ne']
    ring
  · rw [bot_sub_coe, mul_zero]; rfl

theorem exp2_shift (M M' : ℝ) : ∃ a : ℝ, 0 ≤ a ∧ Ideal.exp2 ((M : EReal) - (M' : EReal)) = (a : EReal) ∧ a * shift M = shift M' := by
  refine ⟨_, (Real.exp_pos _).le, by rw [← EReal.coe_sub, exp2_coe], ?_⟩
  unfold shift
  rw [← Real.exp_add]
  congr 1
  ring

theorem exp_sce (x : ℕ → ℝ) (t κ : ℕ) (M : ℝ) :
    Ideal.exp (sce x t κ - (M : EReal)) = ((Real.exp (-M) * num x t κ : ℝ) : EReal) := by
  unfold sce num
  split
  · rw [← EReal.coe_sub]
    show ((Real.exp _ : ℝ) : EReal) = _
    rw [← Real.exp_add]
    congr 2
    ring
  · rw [bot_sub_coe, mul_zero]; rfl

/-! ## Sums of extended reals -/

theorem coe_sum {ι : Type} (T : Finset ι) (f : ι → ℝ) : ((∑ k ∈ T, f k : ℝ) : EReal) = ∑ k ∈ T, (f k : EReal) := by
  classical
  induction T using Finset.induction_on with
  | empty => simp
  | insert a T ha ih => rw [Finset.sum_insert ha, Finset.sum_insert ha, EReal.coe_add, ih]

theorem coe_mul_sum {ι : Type} (T : Finset ι) (a : ℝ) (ha : 0 ≤ a) (f : ι → EReal) :
    (a : EReal) * ∑ k ∈ T, f k = ∑ k ∈ T, (a : EReal) * f k := by
  classical
  induction T using Finset.induction_on with
  | empty => simp
  | insert b T hb ih =>
    rw [Finset.sum_insert hb, Finset.sum_insert hb,
      EReal.left_distrib_of_nonneg_of_ne_top (EReal.coe_nonneg.mpr ha) (EReal.coe_ne_top a), ih]

/-! ## The greatest score of a set with a key that is not masked -/

theorem sup_real (f : ℕ → EReal) (T : Finset ℕ) (hf : ∀ κ ∈ T, f κ ≠ ⊤) (hT : ∃ κ ∈ T, f κ ≠ ⊥) :
    ∃ M : ℝ, T.sup f = (M : EReal) := by
  obtain ⟨κ, hκ, h⟩ := hT
  have h1 : T.sup f ≠ ⊥ := fun e => h (le_bot_iff.mp (e ▸ Finset.le_sup hκ))
  have h2 : T.sup f ≠ ⊤ := ((Finset.sup_lt_iff bot_lt_top).mpr fun b hb => lt_top_iff_ne_top.mpr (hf b hb)).ne
  exact ⟨(T.sup f).toReal, (EReal.coe_toReal h2 h1).symm⟩

theorem sc2_ne_top (x : ℕ → ℝ) (t κ : ℕ) : sc2 x t κ ≠ ⊤ := by
  unfold sc2; split
  · exact EReal.coe_ne_top _
  · exact bot_ne_top

theorem sc2_ne_bot (x : ℕ → ℝ) (t κ : ℕ) (h : κ ≤ t) : sc2 x t κ ≠ ⊥ := by
  unfold sc2; rw [if_pos h]; exact EReal.coe_ne_bot _

theorem sce_ne_top (x : ℕ → ℝ) (t κ : ℕ) : sce x t κ ≠ ⊤ := by
  unfold sce; split
  · exact EReal.coe_ne_top _
  · exact bot_ne_top

theorem sce_ne_bot (x : ℕ → ℝ) (t κ : ℕ) (h : κ ≤ t) : sce x t κ ≠ ⊥ := by
  unfold sce; rw [if_pos h]; exact EReal.coe_ne_bot _

/-! ## The state after a set of keys -/

/-- Running maximum `m`, sum `l` and weighted values `acc` of the keys in `T`: of the maximum only that it is real is used,
    as the softmax does not depend on it. -/
def Online (x : ℕ → ℝ) (t : ℕ) {D : Type} (v : D → ℕ → EReal) (T : Finset ℕ) (m l : EReal) (acc : D → EReal) : Prop :=
  ∃ M : ℝ, m = (M : EReal) ∧ l = ((shift M * ∑ κ ∈ T, num x t κ : ℝ) : EReal)
    ∧ ∀ d, acc d = ∑ κ ∈ T, v d κ * ((shift M * num x t κ : ℝ) : EReal)

theorem online_first (x : ℕ → ℝ) (t : ℕ) {D : Type} (v : D → ℕ → EReal) (T : Finset ℕ) (hT : ∃ κ ∈ T, κ ≤ t)
    (m l : EReal) (acc : D → EReal) (hm : m = T.sup (sc2 x t)) (hl : l = ∑ κ ∈ T, Ideal.exp2 (sc2 x t κ - m))
    (ha : ∀ d, acc d = ∑ κ ∈ T, v d κ * Ideal.exp2 (sc2 x t κ - m)) : Online x t v T m l acc := by
  obtain ⟨κ, hκ, hκt⟩ := hT
  obtain ⟨M, hM⟩ := sup_real (sc2 x t) T (fun _ _ => sc2_ne_top x t _) ⟨κ, hκ, sc2_ne_bot x t κ hκt⟩
  rw [hM] at hm
  refine ⟨M, hm, ?_, fun d => ?_⟩
  · rw [hl, hm, Finset.mul_sum, coe_sum]
    exact Finset.sum_congr rfl fun k _ => exp2_sc2 x t k M
  · rw [ha, hm]
    exact Finset.sum_congr rfl fun k _ => by rw [exp2_sc2]

theorem online_next (x : ℕ → ℝ) (t : ℕ) {D : Type} (v : D → ℕ → EReal) (T T' : Finset ℕ) (hd : Disjoint T' T)
    (m l : EReal) (acc : D → EReal) (h : Online x t v T m l acc) (m' l' : EReal) (acc' : D → EReal)
    (hm : m' = max (T'.sup (sc2 x t)) m)
    (hl : l' = Ideal.exp2 (m - m') * l + ∑ κ ∈ T', Ideal.exp2 (sc2 x t κ - m'))
    (ha : ∀ d, acc' d = Ideal.exp2 (m - m') * acc d + ∑ κ ∈ T', v d κ * Ideal.exp2 (sc2 x t κ - m')) :
    Online x t v (T' ∪ T) m' l' acc' := by
  obtain ⟨M, hM, hL, hA⟩ := h
  have hm' : ∃ M' : ℝ, m' = (M' : EReal) := by
    have h2 : T'.sup (sc2 x t) ≠ ⊤ :=
      ((Finset.sup_lt_iff bot_lt_top).mpr fun b _ => lt_top_iff_ne_top.mpr (sc2_ne_top x t b)).ne
    have h3 : m' ≠ ⊤ := by
      rw [hm, hM]; exact (max_lt (lt_top_iff_ne_top.mpr h2) (EReal.coe_lt_top M)).ne
    have h4 : m' ≠ ⊥ := by
      rw [hm, hM]; exact (lt_of_lt_of_le (EReal.bot_lt_coe M) (le_max_right _ _)).ne'
    exact ⟨m'.toReal, (EReal.coe_toReal h3 h4).symm⟩
  obtain ⟨M', hM'⟩ := hm'
  obtain ⟨a, ha0, hae, has⟩ := exp2_shift M M'
  refine ⟨M', hM', ?_, fun d => ?_⟩
  · rw [hl, hM', hM, hae, hL, ← EReal.coe_mul, ← mul_assoc, has, Finset.sum_union hd, mul_add, add_comm, EReal.coe_add]
    refine congrArg (· + _) ?_
    rw [Finset.mul_sum, coe_sum]
    exact Finset.sum_congr rfl fun k _ => exp2_sc2 x t k M'
  · rw [ha, hM', hM, hae, hA, coe_mul_sum T a ha0, Finset.sum_union hd, add_comm]
    congr 1
    · exact Finset.sum_congr rfl fun k _ => by rw [exp2_sc2]
    · refine Finset.sum_congr rfl fun k _ => ?_
      rw [mul_left_comm, ← EReal.coe_mul, ← mul_assoc, has]

/-! ## The softmax average -/

/-- The average of the values `v` with the softmax weights of the query at `t`, over the first `N` keys. -/
def avg (x : ℕ → ℝ) (t N : ℕ) (v : ℕ → EReal) : EReal :=
  ∑ κ ∈ Finset.range N, v κ * ((num x t κ / ∑ k ∈ Finset.range N, num x t k : ℝ) : EReal)

theorem sum_num_pos (x : ℕ → ℝ) (t : ℕ) (T : Finset ℕ) (hT : ∃ κ ∈ T, κ ≤ t) : 0 < ∑ κ ∈ T, num x t κ := by
  obtain ⟨κ, hκ, h⟩ := hT
  refine lt_of_lt_of_le ?_ (Finset.single_le_sum (fun k _ => num_nonneg x t k) hκ)
  unfold num; rw [if_pos h]; exact Real.exp_pos _

theorem div_coe (y : EReal) (r : ℝ) (hr : 0 < r) : Ideal.div y (r : EReal) = y * ((r⁻¹ : ℝ) : EReal) := by
  unfold Ideal.div
  rw [if_neg (by exact_mod_cast hr.ne'), EReal.coe_inv]

/-- Keys after the query weigh nothing. -/
theorem sum_num_range (x : ℕ → ℝ) (t N N' : ℕ) (h : N ≤ N') (ht : t < N) :
    ∑ κ ∈ Finset.range N', num x t κ = ∑ κ ∈ Finset.range N, num x t κ := by
  refine (Finset.sum_subset (Finset.range_subset_range.mpr h) fun k _ hk => ?_).symm
  unfold num; rw [if_neg (by rw [Finset.mem_range] at hk; omega)]

theorem avg_range (x : ℕ → ℝ) (t N N' : ℕ) (v : ℕ → EReal) (h : N ≤ N') (ht : t < N) : avg x t N' v = avg x t N v := by
  unfold avg
  rw [sum_num_range x t N N' h ht]
  refine (Finset.sum_subset (Finset.range_subset_range.mpr h) fun k _ hk => ?_).symm
  unfold num; rw [if_neg (by rw [Finset.mem_range] at hk; omega), zero_div]
  simp

/-- The quotient of the online state is the softmax average. -/
theorem online_div (x : ℕ → ℝ) (t : ℕ) {D : Type} (v : D → ℕ → EReal) (N : ℕ) (ht : t < N) (m l : EReal) (acc : D → EReal)
    (h : Online x t v (Finset.range N) m l acc) (d : D) : Ideal.div (acc d) l = avg x t N (v d) := by
  obtain ⟨M, -, hL, hA⟩ := h
  have hp := sum_num_pos x t (Finset.range N) ⟨t, Finset.mem_range.mpr ht, le_rfl⟩
  have hs : 0 < shift M := Real.exp_pos _
  rw [hL, div_coe _ _ (mul_pos hs hp), hA, mul_comm, coe_mul_sum _ _ (inv_nonneg.mpr (mul_pos hs hp).le)]
  unfold avg
  refine Finset.sum_congr rfl fun k _ => ?_
  rw [mul_left_comm, ← EReal.coe_mul]
  congr 2
  field_simp

/-- The textbook softmax, shifted by any real `M`, averages likewise. -/
theorem softmax_avg (x : ℕ → ℝ) (t N : ℕ) (ht : t < N) (v : ℕ → EReal) (M : ℝ) :
    ∑ κ ∈ Finset.range N, Ideal.div (Ideal.exp (sce x t κ - (M : EReal)))
        (∑ k ∈ Finset.range N, Ideal.exp (sce x t k - (M : EReal))) * v κ = avg x t N v := by
  have hp := sum_num_pos x t (Finset.range N) ⟨t, Finset.mem_range.mpr ht, le_rfl⟩
  have he : 0 < Real.exp (-M) := Real.exp_pos _
  have hs : ∑ k ∈ Finset.range N, Ideal.exp (sce x t k - (M : EReal))
      = ((Real.exp (-M) * ∑ k ∈ Finset.range N, num x t k : ℝ) : EReal) := by
    rw [Finset.mul_sum, coe_sum]; exact Finset.sum_congr rfl fun k _ => exp_sce x t k M
  rw [hs]
  unfold avg
  refine Finset.sum_congr rfl fun k _ => ?_
  rw [exp_sce, div_coe _ _ (mul_pos he hp), ← EReal.coe_mul, mul_comm]
  congr 2
  field_simp

end Cert.Proof.Attn

end
-- ==== Proof.Attn.lean ====
/-
  What both programs compute: causal attention over finite scores, as one array of the queries, keys and values.
-/
module

public import proofs.«01_k».proof.Proof.Finite
public import proofs.«01_k».proof.Proof.Softmax

@[expose] public section

noncomputable section

namespace Cert.Proof

open Idealize.ShloMosaic Cert.KernelIdeal Cert.Proof.Attn

/-- Every entry is a real number. -/
def AllReal (q : Vec Ideal S4x8x4096x96 .f32) : Prop := ∀ i, ∃ r : ℝ, q i = (r : EReal)

/-- The scale of the scores. -/
def scale : ℝ := (Ideal.ofBits .f32 0x3DD105EC#32).toReal

theorem scale_eq : Ideal.ofBits .f32 0x3DD105EC#32 = (scale : EReal) := by
  obtain ⟨r, hr⟩ := scale_real
  rw [scale, hr, EReal.toReal_coe]

/-- The product of a query row and a key row. -/
def dotOf (q k : Vec Ideal S4x8x4096x96 .f32) (b : Fin 4) (H : Fin 8) (t κ : Fin 4096) : ℝ :=
  ∑ d : Fin 96, (q (ix4 b H t d)).toReal * (k (ix4 b H κ d)).toReal

/-- The score of key `κ` for query `t`, before the mask. -/
def logit (q k : Vec Ideal S4x8x4096x96 .f32) (b : Fin 4) (H : Fin 8) (t : Fin 4096) (κ : ℕ) : ℝ :=
  if hκ : κ < 4096 then dotOf q k b H t ⟨κ, hκ⟩ * scale else 0

/-- The values of one lane of a head, by key. -/
def val (v : Vec Ideal S4x8x4096x64 .f32) (b : Fin 4) (H : Fin 8) (d : Fin 64) (κ : ℕ) : EReal :=
  if hκ : κ < 4096 then v (ix4 b H ⟨κ, hκ⟩ d) else 0

/-- The attention's result. -/
def attn (q k : Vec Ideal S4x8x4096x96 .f32) (v : Vec Ideal S4x8x4096x64 .f32) : Vec Ideal S4x4096x512 .bf16 := fun i =>
  have h2 : (i 2).val < 512 := (i 2).isLt
  avg (logit q k (i 0) ⟨(i 2).val / 64, by omega⟩ (i 1)) (i 1).val 4096
    (val v (i 0) ⟨(i 2).val / 64, by omega⟩ ⟨(i 2).val % 64, by omega⟩)

theorem attn_at (q k : Vec Ideal S4x8x4096x96 .f32) (v : Vec Ideal S4x8x4096x64 .f32) (b : Fin 4) (t : Fin 4096)
    (H : Fin 8) (d : Fin 64) (e : Fin 512) (he : e.val = 64 * H.val + d.val) :
    attn q k v (ix3 b t e) = avg (logit q k b H t) t.val 4096 (val v b H d) := by
  have hH : (⟨e.val / 64, by omega⟩ : Fin 8) = H := Fin.ext (by show e.val / 64 = H.val; omega)
  have hd : (⟨e.val % 64, by omega⟩ : Fin 64) = d := Fin.ext (by show e.val % 64 = d.val; omega)
  show avg (logit q k b ⟨e.val / 64, _⟩ t) t.val 4096 (val v b ⟨e.val / 64, _⟩ ⟨e.val % 64, _⟩) = _
  rw [hH, hd]

theorem AllReal.coe_toReal {q : Vec Ideal S4x8x4096x96 .f32} (hq : AllReal q) (i : S4x8x4096x96.Idx) :
    ((q i).toReal : EReal) = q i := by
  obtain ⟨r, hr⟩ := hq i
  rw [hr, EReal.toReal_coe]

/-- Over real operands the product of two rows is the real one. -/
theorem dot_eq {q k : Vec Ideal S4x8x4096x96 .f32} (hq : AllReal q) (hk : AllReal k) (b : Fin 4) (H : Fin 8) (t κ : Fin 4096) :
    ∑ d : Fin 96, q (ix4 b H t d) * k (ix4 b H κ d) = (dotOf q k b H t κ : EReal) := by
  unfold dotOf
  rw [coe_sum]
  refine Finset.sum_congr rfl fun d _ => ?_
  rw [EReal.coe_mul, hq.coe_toReal, hk.coe_toReal]

end Cert.Proof

end
-- ==== Proof.Model.lean ====
/-
  One step of the attention kernel as functions on vectors, in any float instance: the score tiles of a head, the running
  maximum and running sum of the online softmax over a list of tiles, the product with the values, the state after the
  first group of keys (`n + 1` tiles, the last one masked), the state after a further full group, and what a step stores.
  The eight branches of the kernel's switch are one function at `n = 0, …, 7`.
-/
module

public import proofs.«01_k».proof.Proof.Gen.KernelIdeal.Skeleton

@[expose] public section
set_option maxRecDepth 16384

noncomputable section

namespace Cert.KernelIdeal.Mla

open Idealize.ShloMosaic Idealize.ShloMosaic.TcCoe
open Cert.KernelIdeal.Gen

variable {F : FTy → Type} [FloatOps F]

/-! ## Shapes of a group of `n + 1` tiles of keys -/

abbrev SK (n : ℕ) : Shape := ⟨3, ![1, 256 * (n + 1), 512]⟩
abbrev SK2 (n : ℕ) : Shape := ⟨2, ![256 * (n + 1), 512]⟩
abbrev SKh (n : ℕ) : Shape := ⟨2, ![256 * (n + 1), 128]⟩
abbrev SV (n : ℕ) : Shape := ⟨5, ![1, 1, 1, 64, 256 * (n + 1)]⟩
abbrev SV2 (n : ℕ) : Shape := ⟨2, ![64, 256 * (n + 1)]⟩
abbrev SP (n : ℕ) : Shape := ⟨2, ![256 * (n + 1), 256]⟩

theorem sk_cast (n : ℕ) : (SK n).ShapeCasts (SK2 n) := by
  simp [Shape.ShapeCasts, Shape.numel, Fin.prod_univ_succ]

theorem sv_cast (n : ℕ) : (SV n).ShapeCasts (SV2 n) := by
  simp [Shape.ShapeCasts, Shape.numel, Fin.prod_univ_succ]

theorem skh_slices (n : ℕ) (h : Fin 4) : (SK2 n).Slices ![0, 128 * h.val] (SKh n) := by
  refine ⟨rfl, fun a => ?_⟩
  fin_cases a <;> simp <;> omega

theorem tile_slices (n c : ℕ) (hc : c ≤ n) : (SKh n).Slices ![256 * c, 0] S256x128 := by
  refine ⟨rfl, fun a => ?_⟩
  fin_cases a <;> simp <;> omega

theorem q_slices (h : Fin 4) : S256x512.Slices ![0, 128 * h.val] S256x128 := by
  refine ⟨rfl, fun a => ?_⟩
  fin_cases a <;> simp <;> omega

/-! ## Scores -/

/-- Head `h`'s queries of a step. -/
def qHead (Q : Vec F S1x256x512 .bf16) (h : Fin 4) : FVec F S256x128 .bf16 :=
  extractStridedSlice S256x128 ![0, 128 * h.val] (shapeCast S256x512 Q shapeCasts_S1x256x512_S256x512) (q_slices h)

/-- Tile `c` of a head's keys; the only tile of a group of one is the group. -/
def tile : (n : ℕ) → FVec F (SKh n) .bf16 → (c : ℕ) → c ≤ n → FVec F S256x128 .bf16
  | 0, k, _, _ => k
  | n + 1, k, c, hc => extractStridedSlice S256x128 ![256 * c, 0] k (tile_slices (n + 1) c hc)

/-- Head `h`'s scores (keys by queries) of the group's tile `c`. -/
def raw (n : ℕ) (K : Vec F (SK n) .bf16) (Q : Vec F S1x256x512 .bf16) (h : Fin 4) (c : ℕ) (hc : c ≤ n) :
    FVec F S256x256 .f32 :=
  matmul (DotDims.transposedRhs 256 128 256) none
    (tile n (extractStridedSlice (SKh n) ![0, 128 * h.val] (shapeCast (SK2 n) K (sk_cast n)) (skh_slices n h)) c hc)
    (qHead Q h) (constant S256x256 .f32 0x00000000#32)

/-- A tile on the diagonal: keys after the query get the least value. -/
def masked (s : FVec F S256x256 .f32) : FVec F S256x256 .f32 :=
  select (cmpi .sle (iota .tc S256x256 32 [0] iota_S256x256_d0_w32) (iota .tc S256x256 32 [1] iota_S256x256_d1_w32)) s
    (broadcast S256x256 (Scalar.ofBits .f32 0xFF800000#32))

/-- The tiles of a first group: all but the last as they are, the last masked. -/
def tilesFirst (n : ℕ) (K : Vec F (SK n) .bf16) (Q : Vec F S1x256x512 .bf16) (h : Fin 4) : List (FVec F S256x256 .f32) :=
  List.ofFn (fun c : Fin n => raw n K Q h c.val (Nat.le_of_lt c.isLt)) ++ [masked (raw n K Q h n le_rfl)]

/-- The tiles of a further group. -/
def tilesNext (n : ℕ) (K : Vec F (SK n) .bf16) (Q : Vec F S1x256x512 .bf16) (h : Fin 4) : List (FVec F S256x256 .f32) :=
  List.ofFn (fun c : Fin (n + 1) => raw n K Q h c.val (Nat.le_of_lt_succ c.isLt))

/-! ## Maximum, weights and their sum over a list of tiles -/

/-- A tile's maximum over its keys. -/
def colMax (s : FVec F S256x256 .f32) : FVec F S1x256 .f32 :=
  shapeCast S1x256 (multiReduction .maximumf [0] S256 s 0xFF800000#32 reduces_S256x256_S256 (.inl rfl) rfl)
    shapeCasts_S256_S1x256

/-- A tile's sum over its keys. -/
def colSum (s : FVec F S256x256 .f32) : FVec F S1x256 .f32 :=
  shapeCast S1x256 (multiReduction .add [0] S256 s 0x00000000#32 reduces_S256x256_S256 (.inl rfl) rfl)
    shapeCasts_S256_S1x256

/-- A tile's weights against the maximum `m`. -/
def wt (m : FVec F S1x256 .f32) (s : FVec F S256x256 .f32) : FVec F S256x256 .f32 :=
  exp2 (subf s (broadcastTo S256x256 m broadcasts_S1x256_S256x256))

/-- The maximum over a list of tiles, left to right. -/
def listMax : List (FVec F S256x256 .f32) → FVec F S1x256 .f32
  | [] => constant S1x256 .f32 0x00000000#32
  | s :: l => l.foldl (fun a t => maximumf a (colMax t)) (colMax s)

/-- The sum of the weights over a list of tiles, left to right. -/
def listSum (m : FVec F S1x256 .f32) : List (FVec F S256x256 .f32) → FVec F S1x256 .f32
  | [] => constant S1x256 .f32 0x00000000#32
  | s :: l => l.foldl (fun a t => addf a (colSum (wt m t))) (colSum (wt m s))

theorem cat_ok (m : ℕ) (l : List (FVec F S256x256 .bf16)) (hl : l.length = m + 2) :
    Shape.Concatenates ((l.map fun s => (⟨S256x256, s⟩ : (s : Shape) × FVec F s .bf16)).map Sigma.fst) (SP (m + 1)) 0 := by
  have hm : (l.map fun s => (⟨S256x256, s⟩ : (s : Shape) × FVec F s .bf16)).map Sigma.fst = List.replicate (m + 2) S256x256 := by
    rw [List.map_map]
    exact List.eq_replicate_iff.mpr ⟨by simp [hl], by simp⟩
  rw [hm]
  refine ⟨by simp, ?_, ?_⟩
  · intro s hs
    rw [List.eq_of_mem_replicate hs]
    refine ⟨rfl, fun b hb => ?_⟩
    fin_cases b
    · exact absurd rfl hb
    · rfl
  · simp [Nat.mul_comm]

/-- The group's `n + 1` weight tiles stacked along the keys; a single tile is itself. -/
def cat : (n : ℕ) → (l : List (FVec F S256x256 .bf16)) → l.length = n + 1 → FVec F (SP n) .bf16
  | 0, [p], _ => p
  | m + 1, l, hl => concatenate (SP (m + 1)) 0 (l.map fun s => (⟨S256x256, s⟩ : (s : Shape) × FVec F s .bf16)) (cat_ok m l hl)

/-- Values times weights of a group. -/
def pvOf (n : ℕ) (V : Vec F (SV n) .bf16) (m : FVec F S1x256 .f32) (l : List (FVec F S256x256 .f32))
    (hl : l.length = n + 1) : FVec F S64x256 .f32 :=
  matmul (DotDims.plain 64 (256 * (n + 1)) 256) none (shapeCast (SV2 n) V (sv_cast n))
    (cat n (l.map fun s => truncf .bf16 (wt m s) bitsLt_bf16_f32) (by rw [List.length_map]; exact hl))
    (constant S64x256 .f32 0x00000000#32)

theorem tilesFirst_length (n : ℕ) (K : Vec F (SK n) .bf16) (Q : Vec F S1x256x512 .bf16) (h : Fin 4) :
    (tilesFirst n K Q h).length = n + 1 := by simp [tilesFirst]

theorem tilesNext_length (n : ℕ) (K : Vec F (SK n) .bf16) (Q : Vec F S1x256x512 .bf16) (h : Fin 4) :
    (tilesNext n K Q h).length = n + 1 := by simp [tilesNext]

/-! ## The state after a first group -/

def maxFirst (n : ℕ) (K : Vec F (SK n) .bf16) (Q : Vec F S1x256x512 .bf16) (h : Fin 4) : FVec F S1x256 .f32 :=
  listMax (tilesFirst n K Q h)

def sumFirst (n : ℕ) (K : Vec F (SK n) .bf16) (Q : Vec F S1x256x512 .bf16) (h : Fin 4) : FVec F S1x256 .f32 :=
  listSum (maxFirst n K Q h) (tilesFirst n K Q h)

def accFirst (n : ℕ) (K : Vec F (SK n) .bf16) (V : Vec F (SV n) .bf16) (Q : Vec F S1x256x512 .bf16) (h : Fin 4) :
    FVec F S1x64x256 .f32 :=
  shapeCast S1x64x256 (pvOf n V (maxFirst n K Q h) (tilesFirst n K Q h) (tilesFirst_length n K Q h))
    shapeCasts_S64x256_S1x64x256

/-! A first group of one tile: the list has that tile only. -/

theorem maxFirst_zero (K : Vec F (SK 0) .bf16) (Q : Vec F S1x256x512 .bf16) (h : Fin 4) :
    maxFirst 0 K Q h = colMax (masked (raw 0 K Q h 0 le_rfl)) := by
  unfold maxFirst tilesFirst
  rw [List.ofFn_zero, List.nil_append]; simp only [listMax, List.foldl_nil]

theorem sumFirst_zero (K : Vec F (SK 0) .bf16) (Q : Vec F S1x256x512 .bf16) (h : Fin 4) :
    sumFirst 0 K Q h = colSum (wt (colMax (masked (raw 0 K Q h 0 le_rfl))) (masked (raw 0 K Q h 0 le_rfl))) := by
  unfold sumFirst; rw [maxFirst_zero]; unfold tilesFirst
  rw [List.ofFn_zero, List.nil_append]; simp only [listSum, List.foldl_nil]

theorem cat_zero (l : List (FVec F S256x256 .bf16)) (hl : l.length = 0 + 1) (p : FVec F S256x256 .bf16) (h : l = [p]) :
    cat 0 l hl = p := by subst h; rfl

theorem accFirst_zero (K : Vec F (SK 0) .bf16) (V : Vec F (SV 0) .bf16) (Q : Vec F S1x256x512 .bf16) (h : Fin 4) :
    accFirst 0 K V Q h = shapeCast S1x64x256 (matmul (DotDims.plain 64 256 256) none (shapeCast (SV2 0) V (sv_cast 0))
      (truncf .bf16 (wt (colMax (masked (raw 0 K Q h 0 le_rfl))) (masked (raw 0 K Q h 0 le_rfl))) bitsLt_bf16_f32)
      (constant S64x256 .f32 0x00000000#32)) shapeCasts_S64x256_S1x64x256 := by
  unfold accFirst pvOf
  rw [cat_zero _ _ (truncf .bf16 (wt (colMax (masked (raw 0 K Q h 0 le_rfl))) (masked (raw 0 K Q h 0 le_rfl))) bitsLt_bf16_f32)
    (by rw [maxFirst_zero]; unfold tilesFirst; rw [List.ofFn_zero, List.nil_append, List.map_cons, List.map_nil])]

/-! ## The state after a further group -/

def maxNext (n : ℕ) (K : Vec F (SK n) .bf16) (Q : Vec F S1x256x512 .bf16) (h : Fin 4) (m : FVec F S1x256 .f32) :
    FVec F S1x256 .f32 :=
  maximumf (listMax (tilesNext n K Q h)) m

def scaleNext (n : ℕ) (K : Vec F (SK n) .bf16) (Q : Vec F S1x256x512 .bf16) (h : Fin 4) (m : FVec F S1x256 .f32) :
    FVec F S1x256 .f32 :=
  exp2 (subf m (maxNext n K Q h m))

def sumNext (n : ℕ) (K : Vec F (SK n) .bf16) (Q : Vec F S1x256x512 .bf16) (h : Fin 4) (m l : FVec F S1x256 .f32) :
    FVec F S1x256 .f32 :=
  addf (mulf (scaleNext n K Q h m) l) (listSum (maxNext n K Q h m) (tilesNext n K Q h))

def accNext (n : ℕ) (K : Vec F (SK n) .bf16) (V : Vec F (SV n) .bf16) (Q : Vec F S1x256x512 .bf16) (h : Fin 4)
    (m : FVec F S1x256 .f32) (A : Vec F S1x64x256 .f32) : FVec F S1x64x256 .f32 :=
  shapeCast S1x64x256
    (addf (mulf (broadcastTo S64x256 (scaleNext n K Q h m) broadcasts_S1x256_S64x256)
        (shapeCast S64x256 A shapeCasts_S1x64x256_S64x256))
      (pvOf n V (maxNext n K Q h m) (tilesNext n K Q h) (tilesNext_length n K Q h)))
    shapeCasts_S64x256_S1x64x256

/-! ## The state of four heads -/

/-- The running maxima and sums of the four heads, in the order the loop carries them. -/
abbrev St (F : FTy → Type) [FloatOps F] : Type :=
  FVec F S1x256 .f32 × FVec F S1x256 .f32 × FVec F S1x256 .f32 × FVec F S1x256 .f32 × FVec F S1x256 .f32 ×
    FVec F S1x256 .f32 × FVec F S1x256 .f32 × FVec F S1x256 .f32

def stFirst (n : ℕ) (K : Vec F (SK n) .bf16) (Q : Vec F S1x256x512 .bf16) : St F :=
  (maxFirst n K Q 0, sumFirst n K Q 0, maxFirst n K Q 1, sumFirst n K Q 1, maxFirst n K Q 2, sumFirst n K Q 2,
    maxFirst n K Q 3, sumFirst n K Q 3)

def stNext (n : ℕ) (K : Vec F (SK n) .bf16) (Q : Vec F S1x256x512 .bf16) (s : St F) : St F :=
  (maxNext n K Q 0 s.1, sumNext n K Q 0 s.1 s.2.1,
    maxNext n K Q 1 s.2.2.1, sumNext n K Q 1 s.2.2.1 s.2.2.2.1,
    maxNext n K Q 2 s.2.2.2.2.1, sumNext n K Q 2 s.2.2.2.2.1 s.2.2.2.2.2.1,
    maxNext n K Q 3 s.2.2.2.2.2.2.1, sumNext n K Q 3 s.2.2.2.2.2.2.1 s.2.2.2.2.2.2.2)

/-- The four slabs of the scratch buffer as pieces, the last stored first. -/
def pieces (A0 A1 A2 A3 : FVec F S1x64x256 .f32) : List (View.Piece (Elt F) S4x64x256 .f32) :=
  [⟨Rect.unit (s := S4x64x256) ![3, 0, 0] S1x64x256.size inb_S4x64x256_S1x64x256_3_0_0, A3⟩,
   ⟨Rect.unit (s := S4x64x256) ![2, 0, 0] S1x64x256.size inb_S4x64x256_S1x64x256_2_0_0, A2⟩,
   ⟨Rect.unit (s := S4x64x256) ![1, 0, 0] S1x64x256.size inb_S4x64x256_S1x64x256_1_0_0, A1⟩,
   ⟨Rect.unit (s := S4x64x256) ![0, 0, 0] S1x64x256.size inb_S4x64x256_S1x64x256_0_0_0, A0⟩]

end Cert.KernelIdeal.Mla
-- ==== Proof.Read.lean ====
/-
  Where a step of the attention kernel reads and writes: the group of keys and values a step or a trip takes, as a window of
  the staged keys and of the transposed staged values; the closed forms of the printed offsets; which branch of the switch a
  step takes; and the four slabs of the scratch buffer read back after they were stored.
-/
module

public import proofs.«01_k».proof.Proof.Model
public import Idealize.ShloMosaic.Lib.Pipeline.ReadBack

@[expose] public section
set_option maxRecDepth 16384
set_option maxHeartbeats 4000000

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The groups of keys and values -/

theorem inbK (n g : ℕ) (hn : n < 8) (hg : g < 2) (a : Fin 3) :
    (![0, 2048 * g, 0] : Fin 3 → ℕ) a + (SK n).size a ≤ S1x4096x512.size a := by
  fin_cases a <;> simp <;> omega

theorem inbV (n g h : ℕ) (hn : n < 8) (hg : g < 2) (hh : h < 4) (a : Fin 5) :
    (![0, h / 2, g, 64 * (h % 2), 0] : Fin 5 → ℕ) a + (SV n).size a ≤ S1x2x2x128x2048.size a := by
  fin_cases a <;> simp <;> omega

/-- The first `n + 1` tiles of group `g` of the keys. -/
def rdK (x : Vec F S1x4096x512 .bf16) (n g : ℕ) (hn : n < 8) (hg : g < 2) : Vec F (SK n) .bf16 :=
  View.ld x (Rect.unit (s := S1x4096x512) ![0, 2048 * g, 0] (SK n).size (inbK n g hn hg))

/-- Head `h`'s values over the first `n + 1` tiles of group `g`. -/
def rdV (x : Vec F S1x2x2x128x2048 .bf16) (n g : ℕ) (hn : n < 8) (hg : g < 2) (h : Fin 4) : Vec F (SV n) .bf16 :=
  View.ld x (Rect.unit (s := S1x2x2x128x2048) ![0, h.val / 2, g, 64 * (h.val % 2), 0] (SV n).size (inbV n g h.val hn hg h.isLt))

theorem rdK_eq (x : Vec F S1x4096x512 .bf16) (n g : ℕ) (hn : n < 8) (hg : g < 2) (off : Fin 3 → ℕ)
    (hi : ∀ a, off a + (SK n).size a ≤ S1x4096x512.size a) (ho : off = ![0, 2048 * g, 0]) :
    rdK x n g hn hg = View.ld x (Rect.unit (s := S1x4096x512) off (SK n).size hi) := by
  subst ho; rfl

theorem rdV_eq (x : Vec F S1x2x2x128x2048 .bf16) (n g : ℕ) (hn : n < 8) (hg : g < 2) (h : Fin 4) (off : Fin 5 → ℕ)
    (hi : ∀ a, off a + (SV n).size a ≤ S1x2x2x128x2048.size a) (ho : off = ![0, h.val / 2, g, 64 * (h.val % 2), 0]) :
    rdV x n g hn hg h = View.ld x (Rect.unit (s := S1x2x2x128x2048) off (SV n).size hi) := by
  subst ho; rfl

theorem step_lt (i : grid0.Coords) : (i 2).val / 8 < 2 := by
  have h : (i 2).val < 16 := (i 2).isLt
  omega

theorem trips_eq : ∀ i : grid0.Coords, (k0_t1_loop i).trips = (i 2).val / 8 := by decide +kernel

theorem trips2_eq : ∀ i : grid0.Coords, (k0_t2_loop i).trips = 0 := by decide +kernel

/-- The group a trip of the loop takes: from the one before the step's own downwards. -/
theorem trip_lt (i : grid0.Coords) (k : ℕ) : (i 2).val / 8 - 1 - k < 2 := by
  have := step_lt i; omega

/-! ## The printed offsets -/

theorem off36_eq : ∀ i : grid0.Coords, k0_off36 i = ![0, 2048 * ((i 2).val / 8), 0] := by decide +kernel
theorem off37_eq : ∀ i : grid0.Coords, k0_off37 i = ![0, 0, (i 2).val / 8, 0, 0] := by decide +kernel
theorem off38_eq : ∀ i : grid0.Coords, k0_off38 i = ![0, 0, (i 2).val / 8, 64, 0] := by decide +kernel
theorem off39_eq : ∀ i : grid0.Coords, k0_off39 i = ![0, 1, (i 2).val / 8, 0, 0] := by decide +kernel
theorem off40_eq : ∀ i : grid0.Coords, k0_off40 i = ![0, 1, (i 2).val / 8, 64, 0] := by decide +kernel
theorem off31_eq : ∀ i : grid0.Coords, k0_off31 i = ![0, 2048 * ((i 2).val / 8), 0] := by decide +kernel
theorem off32_eq : ∀ i : grid0.Coords, k0_off32 i = ![0, 0, (i 2).val / 8, 0, 0] := by decide +kernel
theorem off33_eq : ∀ i : grid0.Coords, k0_off33 i = ![0, 0, (i 2).val / 8, 64, 0] := by decide +kernel
theorem off34_eq : ∀ i : grid0.Coords, k0_off34 i = ![0, 1, (i 2).val / 8, 0, 0] := by decide +kernel
theorem off35_eq : ∀ i : grid0.Coords, k0_off35 i = ![0, 1, (i 2).val / 8, 64, 0] := by decide +kernel
theorem off26_eq : ∀ i : grid0.Coords, k0_off26 i = ![0, 2048 * ((i 2).val / 8), 0] := by decide +kernel
theorem off27_eq : ∀ i : grid0.Coords, k0_off27 i = ![0, 0, (i 2).val / 8, 0, 0] := by decide +kernel
theorem off28_eq : ∀ i : grid0.Coords, k0_off28 i = ![0, 0, (i 2).val / 8, 64, 0] := by decide +kernel
theorem off29_eq : ∀ i : grid0.Coords, k0_off29 i = ![0, 1, (i 2).val / 8, 0, 0] := by decide +kernel
theorem off30_eq : ∀ i : grid0.Coords, k0_off30 i = ![0, 1, (i 2).val / 8, 64, 0] := by decide +kernel
theorem off21_eq : ∀ i : grid0.Coords, k0_off21 i = ![0, 2048 * ((i 2).val / 8), 0] := by decide +kernel
theorem off22_eq : ∀ i : grid0.Coords, k0_off22 i = ![0, 0, (i 2).val / 8, 0, 0] := by decide +kernel
theorem off23_eq : ∀ i : grid0.Coords, k0_off23 i = ![0, 0, (i 2).val / 8, 64, 0] := by decide +kernel
theorem off24_eq : ∀ i : grid0.Coords, k0_off24 i = ![0, 1, (i 2).val / 8, 0, 0] := by decide +kernel
theorem off25_eq : ∀ i : grid0.Coords, k0_off25 i = ![0, 1, (i 2).val / 8, 64, 0] := by decide +kernel
theorem off16_eq : ∀ i : grid0.Coords, k0_off16 i = ![0, 2048 * ((i 2).val / 8), 0] := by decide +kernel
theorem off17_eq : ∀ i : grid0.Coords, k0_off17 i = ![0, 0, (i 2).val / 8, 0, 0] := by decide +kernel
theorem off18_eq : ∀ i : grid0.Coords, k0_off18 i = ![0, 0, (i 2).val / 8, 64, 0] := by decide +kernel
theorem off19_eq : ∀ i : grid0.Coords, k0_off19 i = ![0, 1, (i 2).val / 8, 0, 0] := by decide +kernel
theorem off20_eq : ∀ i : grid0.Coords, k0_off20 i = ![0, 1, (i 2).val / 8, 64, 0] := by decide +kernel
theorem off11_eq : ∀ i : grid0.Coords, k0_off11 i = ![0, 2048 * ((i 2).val / 8), 0] := by decide +kernel
theorem off12_eq : ∀ i : grid0.Coords, k0_off12 i = ![0, 0, (i 2).val / 8, 0, 0] := by decide +kernel
theorem off13_eq : ∀ i : grid0.Coords, k0_off13 i = ![0, 0, (i 2).val / 8, 64, 0] := by decide +kernel
theorem off14_eq : ∀ i : grid0.Coords, k0_off14 i = ![0, 1, (i 2).val / 8, 0, 0] := by decide +kernel
theorem off15_eq : ∀ i : grid0.Coords, k0_off15 i = ![0, 1, (i 2).val / 8, 64, 0] := by decide +kernel
theorem off6_eq : ∀ i : grid0.Coords, k0_off6 i = ![0, 2048 * ((i 2).val / 8), 0] := by decide +kernel
theorem off7_eq : ∀ i : grid0.Coords, k0_off7 i = ![0, 0, (i 2).val / 8, 0, 0] := by decide +kernel
theorem off8_eq : ∀ i : grid0.Coords, k0_off8 i = ![0, 0, (i 2).val / 8, 64, 0] := by decide +kernel
theorem off9_eq : ∀ i : grid0.Coords, k0_off9 i = ![0, 1, (i 2).val / 8, 0, 0] := by decide +kernel
theorem off10_eq : ∀ i : grid0.Coords, k0_off10 i = ![0, 1, (i 2).val / 8, 64, 0] := by decide +kernel
theorem off1_eq : ∀ i : grid0.Coords, k0_off1 i = ![0, 2048 * ((i 2).val / 8), 0] := by decide +kernel
theorem off2_eq : ∀ i : grid0.Coords, k0_off2 i = ![0, 0, (i 2).val / 8, 0, 0] := by decide +kernel
theorem off3_eq : ∀ i : grid0.Coords, k0_off3 i = ![0, 0, (i 2).val / 8, 64, 0] := by decide +kernel
theorem off4_eq : ∀ i : grid0.Coords, k0_off4 i = ![0, 1, (i 2).val / 8, 0, 0] := by decide +kernel
theorem off5_eq : ∀ i : grid0.Coords, k0_off5 i = ![0, 1, (i 2).val / 8, 64, 0] := by decide +kernel

theorem off41_eq : ∀ (i : grid0.Coords) (k : Fin (k0_t1_loop i).trips), k0_off41 i k = ![0, 2048 * ((i 2).val / 8 - 1 - k.val), 0] := by decide +kernel
theorem off42_eq : ∀ (i : grid0.Coords) (k : Fin (k0_t1_loop i).trips), k0_off42 i k = ![0, 0, (i 2).val / 8 - 1 - k.val, 0, 0] := by decide +kernel
theorem off43_eq : ∀ (i : grid0.Coords) (k : Fin (k0_t1_loop i).trips), k0_off43 i k = ![0, 0, (i 2).val / 8 - 1 - k.val, 64, 0] := by decide +kernel
theorem off44_eq : ∀ (i : grid0.Coords) (k : Fin (k0_t1_loop i).trips), k0_off44 i k = ![0, 1, (i 2).val / 8 - 1 - k.val, 0, 0] := by decide +kernel
theorem off45_eq : ∀ (i : grid0.Coords) (k : Fin (k0_t1_loop i).trips), k0_off45 i k = ![0, 1, (i 2).val / 8 - 1 - k.val, 64, 0] := by decide +kernel

/-! ## The switch -/

theorem cond1_iff : ∀ i : grid0.Coords, k0_cond1 i = 1#1 ↔ (i 2).val % 8 ≠ 0 := by decide +kernel
theorem cond2_iff : ∀ i : grid0.Coords, k0_cond2 i = 1#1 ↔ (i 2).val % 8 ≠ 1 := by decide +kernel
theorem cond3_iff : ∀ i : grid0.Coords, k0_cond3 i = 1#1 ↔ (i 2).val % 8 ≠ 2 := by decide +kernel
theorem cond4_iff : ∀ i : grid0.Coords, k0_cond4 i = 1#1 ↔ (i 2).val % 8 ≠ 3 := by decide +kernel
theorem cond5_iff : ∀ i : grid0.Coords, k0_cond5 i = 1#1 ↔ (i 2).val % 8 ≠ 4 := by decide +kernel
theorem cond6_iff : ∀ i : grid0.Coords, k0_cond6 i = 1#1 ↔ (i 2).val % 8 ≠ 5 := by decide +kernel
theorem cond7_iff : ∀ i : grid0.Coords, k0_cond7 i = 1#1 ↔ (i 2).val % 8 ≠ 6 := by decide +kernel

/-! ## The slabs of the scratch buffer -/

/-- Slab `h` of the scratch buffer's contents. -/
abbrev slab (x : Vec F S4x64x256 .f32) : Fin 4 → Vec F S1x64x256 .f32
  | 0 => View.ld x (Rect.unit (s := S4x64x256) ![0, 0, 0] S1x64x256.size inb_S4x64x256_S1x64x256_0_0_0)
  | 1 => View.ld x (Rect.unit (s := S4x64x256) ![1, 0, 0] S1x64x256.size inb_S4x64x256_S1x64x256_1_0_0)
  | 2 => View.ld x (Rect.unit (s := S4x64x256) ![2, 0, 0] S1x64x256.size inb_S4x64x256_S1x64x256_2_0_0)
  | 3 => View.ld x (Rect.unit (s := S4x64x256) ![3, 0, 0] S1x64x256.size inb_S4x64x256_S1x64x256_3_0_0)

theorem slab_pieces (M : Memref sig .tc .vmem S4x64x256 .f32) (f : BufTy.Contents (Elt F) M.view.ty) (A0 A1 A2 A3 : FVec F S1x64x256 .f32)
    (h : Fin 4) :
    slab (M.view.read (Elt F) (M.view.writes (Elt F) f (pieces A0 A1 A2 A3))) h = (![A0, A1, A2, A3] : Fin 4 → FVec F S1x64x256 .f32) h := by
  have key : ∀ (p : View.Piece (Elt F) S4x64x256 .f32) (hp : p ∈ pieces A0 A1 A2 A3) (hw : LoadRect.within p.1 p.1.toLoadRect = true),
      View.ld (M.view.read (Elt F) (M.view.writes (Elt F) f (pieces A0 A1 A2 A3))) p.1
        = M.view.readCov (pieces A0 A1 A2 A3) p.1.toLoadRect := fun p hp hw =>
    View.readAt_writes_of_cover M.view f _ _ fun j => ⟨p, hp, LoadRect.idx_mem_of_within hw j⟩
  fin_cases h
  · refine (key ⟨_, A0⟩ (.tail _ (.tail _ (.tail _ (.head _)))) (by rfl)).trans ?_
    unfold pieces
    rw [View.readCov_skip _ _ _ _ _ (by rfl), View.readCov_skip _ _ _ _ _ (by rfl), View.readCov_skip _ _ _ _ _ (by rfl)]
    exact View.readCov_cons_toLoadRect _ _ _ _
  · refine (key ⟨_, A1⟩ (.tail _ (.tail _ (.head _))) (by rfl)).trans ?_
    unfold pieces
    rw [View.readCov_skip _ _ _ _ _ (by rfl), View.readCov_skip _ _ _ _ _ (by rfl)]
    exact View.readCov_cons_toLoadRect _ _ _ _
  · refine (key ⟨_, A2⟩ (.tail _ (.head _)) (by rfl)).trans ?_
    unfold pieces
    rw [View.readCov_skip _ _ _ _ _ (by rfl)]
    exact View.readCov_cons_toLoadRect _ _ _ _
  · refine (key ⟨_, A3⟩ (.head _) (by rfl)).trans ?_
    exact View.readCov_cons_toLoadRect _ _ _ _

end Cert.KernelIdeal.Mla

end
-- ==== Proof.State.lean ====
/-
  What a branch of the switch is given and returns: the buffers it holds, and its result as a function of the blocks read.
-/
module

public import proofs.«01_k».proof.Proof.Read
public import Idealize.ShloMosaic.Lib.Tactic
public import Idealize.ShloMosaic.Lib.Exec

@[expose] public section
set_option maxRecDepth 16384
set_option maxHeartbeats 4000000

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The three staged operands and the scratch buffer held whole. -/
abbrev Res (c : Dev nD) (arg3 : Memref sig .tc .vmem S1x256x512 .bf16) (arg4 : Memref sig .tc .vmem S1x4096x512 .bf16)
    (arg5 : Memref sig .tc .vmem S1x2x2x128x2048 .bf16) (arg7 : Memref sig .tc .vmem S4x64x256 .f32)
    (X3 : BufTy.Contents (Elt F) arg3.view.ty) (X4 : BufTy.Contents (Elt F) arg4.view.ty) (X5 : BufTy.Contents (Elt F) arg5.view.ty)
    (f7 : BufTy.Contents (Elt F) arg7.view.ty) : sProp 𝕄 :=
  iprop((arg3.view.loc (c : Thread nD τ) ↦[arg3.view.set]{fullShare} X3) ∗ (arg4.view.loc (c : Thread nD τ) ↦[arg4.view.set]{fullShare} X4)
    ∗ (arg5.view.loc (c : Thread nD τ) ↦[arg5.view.set]{fullShare} X5) ∗ (arg7.view.loc (c : Thread nD τ) ↦[arg7.view.set]{fullShare} f7))

/-- What a first group's branch returns: the heads' queries, a word, the eight carried vectors and a zero. -/
abbrev Ret (F : FTy → Type) [FloatOps F] : Type :=
  Σ' (v2 : FVec F S256x128 .bf16) (v3 : FVec F S256x128 .bf16) (v4 : FVec F S256x128 .bf16) (v5 : FVec F S256x128 .bf16) (v22 : BitVec 32) (v36_0 : FVec F S1x256 .f32) (v36_1 : FVec F S1x256 .f32) (v36_2 : FVec F S1x256 .f32) (v36_3 : FVec F S1x256 .f32) (v36_4 : FVec F S1x256 .f32) (v36_5 : FVec F S1x256 .f32) (v36_6 : FVec F S1x256 .f32) (v36_7 : FVec F S1x256 .f32), BitVec 32

/-- The heads' queries and the state `s` as the branch returns them. -/
def ret (Q : Vec F S1x256x512 .bf16) (w : BitVec 32) (s : St F) : Ret F :=
  ⟨qHead Q 0, qHead Q 1, qHead Q 2, qHead Q 3, w, s.1, s.2.1, s.2.2.1, s.2.2.2.1, s.2.2.2.2.1, s.2.2.2.2.2.1, s.2.2.2.2.2.2.1,
    s.2.2.2.2.2.2.2, 0#32⟩

/-- The step's queries, read off the staged block. -/
abbrev rdQ (x : Vec F S1x256x512 .bf16) : Vec F S1x256x512 .bf16 :=
  View.ld x (Rect.unit (s := S1x256x512) ![0, 0, 0] S1x256x512.size inb_S1x256x512_S1x256x512_0_0_0)

/-- After the first group's branch: the state after `n + 1` tiles of which the last is masked, and the four slabs stored. -/
def Post1 (c : Dev nD) (arg3 : Memref sig .tc .vmem S1x256x512 .bf16) (arg4 : Memref sig .tc .vmem S1x4096x512 .bf16)
    (arg5 : Memref sig .tc .vmem S1x2x2x128x2048 .bf16) (arg7 : Memref sig .tc .vmem S4x64x256 .f32)
    (X3 : BufTy.Contents (Elt F) arg3.view.ty) (X4 : BufTy.Contents (Elt F) arg4.view.ty) (X5 : BufTy.Contents (Elt F) arg5.view.ty)
    (f7 : BufTy.Contents (Elt F) arg7.view.ty) (n : ℕ) (Q : Vec F S1x256x512 .bf16) (K : Vec F (SK n) .bf16) (V0 V1 V2 V3 : Vec F (SV n) .bf16) (y : Ret F) : sProp 𝕄 :=
  iprop(∃ w, ⌜y = ret Q w (stFirst n K Q)⌝ ∗ Res c arg3 arg4 arg5 arg7 X3 X4 X5
    (arg7.view.writes (Elt F) f7 (pieces (accFirst n K V0 Q 0) (accFirst n K V1 Q 1) (accFirst n K V2 Q 2) (accFirst n K V3 Q 3))))

end Cert.KernelIdeal.Mla

end
-- ==== Proof.Branch.lean ====
/-
  Branches of the kernel's switch, run: each leaves what `stFirst` and `accFirst` say at its number of tiles.
-/
module

public import proofs.«01_k».proof.Proof.State

@[expose] public section
set_option maxRecDepth 16384
set_option maxHeartbeats 4000000

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

set_option backward.isDefEq.respectTransparency false in
/-- The switch's branch for a step whose first group has 1 tile. -/
theorem branch0 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : ¬ k0_cond1 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 0 (rdQ (View.read (Elt F) arg3.view X3))
            (View.ld (View.read (Elt F) arg4.view X4) (Rect.unit (s := S1x4096x512) (k0_off36 i) S1x256x512.size (k0_off36_inb i h1)))
            (View.ld (View.read (Elt F) arg5.view X5) (Rect.unit (s := S1x2x2x128x2048) (k0_off37 i) S1x1x1x64x256.size (k0_off37_inb i h1)))
            (View.ld (View.read (Elt F) arg5.view X5) (Rect.unit (s := S1x2x2x128x2048) (k0_off38 i) S1x1x1x64x256.size (k0_off38_inb i h1)))
            (View.ld (View.read (Elt F) arg5.view X5) (Rect.unit (s := S1x2x2x128x2048) (k0_off39 i) S1x1x1x64x256.size (k0_off39_inb i h1)))
            (View.ld (View.read (Elt F) arg5.view X5) (Rect.unit (s := S1x2x2x128x2048) (k0_off40 i) S1x1x1x64x256.size (k0_off40_inb i h1)))) := by
  rw [k0_part65_eq_skeleton]; unfold k0_part65_skel
  iintro ⟨H3, H4, H5, H7⟩
  sl_exec (disch := first | sl_exact h1)
  sl_step
  unfold Post1; simp only [stFirst, accFirst_zero, maxFirst_zero, sumFirst_zero]
  iexists _
  isplitr
  · ipureintro; unfold ret; dsimp only; rfl
  isplitl [H3]; · iexact H3
  isplitl [H4]; · iexact H4
  isplitl [H5]; · iexact H5
  iexact H7

set_option backward.isDefEq.respectTransparency false in
/-- The switch's branch for a step whose first group has 2 tiles. -/
theorem branch1 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : k0_cond1 i = 1#1) (h2 : ¬ k0_cond2 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 1 (rdQ (View.read (Elt F) arg3.view X3))
            (View.ld (View.read (Elt F) arg4.view X4) (Rect.unit (s := S1x4096x512) (k0_off31 i) S1x512x512.size (k0_off31_inb i h1 h2)))
            (View.ld (View.read (Elt F) arg5.view X5) (Rect.unit (s := S1x2x2x128x2048) (k0_off32 i) S1x1x1x64x512.size (k0_off32_inb i h1 h2)))
            (View.ld (View.read (Elt F) arg5.view X5) (Rect.unit (s := S1x2x2x128x2048) (k0_off33 i) S1x1x1x64x512.size (k0_off33_inb i h1 h2)))
            (View.ld (View.read (Elt F) arg5.view X5) (Rect.unit (s := S1x2x2x128x2048) (k0_off34 i) S1x1x1x64x512.size (k0_off34_inb i h1 h2)))
            (View.ld (View.read (Elt F) arg5.view X5) (Rect.unit (s := S1x2x2x128x2048) (k0_off35 i) S1x1x1x64x512.size (k0_off35_inb i h1 h2)))) := by
  rw [k0_part65_eq_skeleton]; unfold k0_part65_skel
  iintro ⟨H3, H4, H5, H7⟩
  sl_exec (disch := first | sl_exact h1 | sl_exact h2)
  sl_step
  unfold Post1
  iexists _
  isplitr
  · ipureintro; rfl
  isplitl [H3]; · iexact H3
  isplitl [H4]; · iexact H4
  isplitl [H5]; · iexact H5
  iexact H7

set_option backward.isDefEq.respectTransparency false in
/-- The switch's branch for a step whose first group has 3 tiles. -/
theorem branch2 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : k0_cond1 i = 1#1) (h2 : k0_cond2 i = 1#1) (h3 : ¬ k0_cond3 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 2 (rdQ (View.read (Elt F) arg3.view X3))
            (View.ld (View.read (Elt F) arg4.view X4) (Rect.unit (s := S1x4096x512) (k0_off26 i) S1x768x512.size (k0_off26_inb i h1 h2 h3)))
            (View.ld (View.read (Elt F) arg5.view X5) (Rect.unit (s := S1x2x2x128x2048) (k0_off27 i) S1x1x1x64x768.size (k0_off27_inb i h1 h2 h3)))
            (View.ld (View.read (Elt F) arg5.view X5) (Rect.unit (s := S1x2x2x128x2048) (k0_off28 i) S1x1x1x64x768.size (k0_off28_inb i h1 h2 h3)))
            (View.ld (View.read (Elt F) arg5.view X5) (Rect.unit (s := S1x2x2x128x2048) (k0_off29 i) S1x1x1x64x768.size (k0_off29_inb i h1 h2 h3)))
            (View.ld (View.read (Elt F) arg5.view X5) (Rect.unit (s := S1x2x2x128x2048) (k0_off30 i) S1x1x1x64x768.size (k0_off30_inb i h1 h2 h3)))) := by
  rw [k0_part65_eq_skeleton]; unfold k0_part65_skel
  iintro ⟨H3, H4, H5, H7⟩
  sl_exec (disch := first | sl_exact h1 | sl_exact h2 | sl_exact h3)
  sl_step
  unfold Post1
  iexists _
  isplitr
  · ipureintro; rfl
  isplitl [H3]; · iexact H3
  isplitl [H4]; · iexact H4
  isplitl [H5]; · iexact H5
  iexact H7

set_option backward.isDefEq.respectTransparency false in
/-- The switch's branch for a step whose first group has 4 tiles. -/
theorem branch3 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : k0_cond1 i = 1#1) (h2 : k0_cond2 i = 1#1) (h3 : k0_cond3 i = 1#1) (h4 : ¬ k0_cond4 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 3 (rdQ (View.read (Elt F) arg3.view X3))
            (View.ld (View.read (Elt F) arg4.view X4) (Rect.unit (s := S1x4096x512) (k0_off21 i) S1x1024x512.size (k0_off21_inb i h1 h2 h3 h4)))
            (View.ld (View.read (Elt F) arg5.view X5) (Rect.unit (s := S1x2x2x128x2048) (k0_off22 i) S1x1x1x64x1024.size (k0_off22_inb i h1 h2 h3 h4)))
            (View.ld (View.read (Elt F) arg5.view X5) (Rect.unit (s := S1x2x2x128x2048) (k0_off23 i) S1x1x1x64x1024.size (k0_off23_inb i h1 h2 h3 h4)))
            (View.ld (View.read (Elt F) arg5.view X5) (Rect.unit (s := S1x2x2x128x2048) (k0_off24 i) S1x1x1x64x1024.size (k0_off24_inb i h1 h2 h3 h4)))
            (View.ld (View.read (Elt F) arg5.view X5) (Rect.unit (s := S1x2x2x128x2048) (k0_off25 i) S1x1x1x64x1024.size (k0_off25_inb i h1 h2 h3 h4)))) := by
  rw [k0_part65_eq_skeleton]; unfold k0_part65_skel
  iintro ⟨H3, H4, H5, H7⟩
  sl_exec (disch := first | sl_exact h1 | sl_exact h2 | sl_exact h3 | sl_exact h4)
  sl_step
  unfold Post1
  iexists _
  isplitr
  · ipureintro; rfl
  isplitl [H3]; · iexact H3
  isplitl [H4]; · iexact H4
  isplitl [H5]; · iexact H5
  iexact H7

set_option backward.isDefEq.respectTransparency false in
/-- The switch's branch for a step whose first group has 5 tiles. -/
theorem branch4 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : k0_cond1 i = 1#1) (h2 : k0_cond2 i = 1#1) (h3 : k0_cond3 i = 1#1) (h4 : k0_cond4 i = 1#1) (h5 : ¬ k0_cond5 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 4 (rdQ (View.read (Elt F) arg3.view X3))
            (View.ld (View.read (Elt F) arg4.view X4) (Rect.unit (s := S1x4096x512) (k0_off16 i) S1x1280x512.size (k0_off16_inb i h1 h2 h3 h4 h5)))
            (View.ld (View.read (Elt F) arg5.view X5) (Rect.unit (s := S1x2x2x128x2048) (k0_off17 i) S1x1x1x64x1280.size (k0_off17_inb i h1 h2 h3 h4 h5)))
            (View.ld (View.read (Elt F) arg5.view X5) (Rect.unit (s := S1x2x2x128x2048) (k0_off18 i) S1x1x1x64x1280.size (k0_off18_inb i h1 h2 h3 h4 h5)))
            (View.ld (View.read (Elt F) arg5.view X5) (Rect.unit (s := S1x2x2x128x2048) (k0_off19 i) S1x1x1x64x1280.size (k0_off19_inb i h1 h2 h3 h4 h5)))
            (View.ld (View.read (Elt F) arg5.view X5) (Rect.unit (s := S1x2x2x128x2048) (k0_off20 i) S1x1x1x64x1280.size (k0_off20_inb i h1 h2 h3 h4 h5)))) := by
  rw [k0_part65_eq_skeleton]; unfold k0_part65_skel
  iintro ⟨H3, H4, H5, H7⟩
  sl_exec (disch := first | sl_exact h1 | sl_exact h2 | sl_exact h3 | sl_exact h4 | sl_exact h5)
  sl_step
  unfold Post1
  iexists _
  isplitr
  · ipureintro; rfl
  isplitl [H3]; · iexact H3
  isplitl [H4]; · iexact H4
  isplitl [H5]; · iexact H5
  iexact H7

set_option backward.isDefEq.respectTransparency false in
/-- The switch's branch for a step whose first group has 6 tiles. -/
theorem branch5 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : k0_cond1 i = 1#1) (h2 : k0_cond2 i = 1#1) (h3 : k0_cond3 i = 1#1) (h4 : k0_cond4 i = 1#1) (h5 : k0_cond5 i = 1#1) (h6 : ¬ k0_cond6 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 5 (rdQ (View.read (Elt F) arg3.view X3))
            (View.ld (View.read (Elt F) arg4.view X4) (Rect.unit (s := S1x4096x512) (k0_off11 i) S1x1536x512.size (k0_off11_inb i h1 h2 h3 h4 h5 h6)))
            (View.ld (View.read (Elt F) arg5.view X5) (Rect.unit (s := S1x2x2x128x2048) (k0_off12 i) S1x1x1x64x1536.size (k0_off12_inb i h1 h2 h3 h4 h5 h6)))
            (View.ld (View.read (Elt F) arg5.view X5) (Rect.unit (s := S1x2x2x128x2048) (k0_off13 i) S1x1x1x64x1536.size (k0_off13_inb i h1 h2 h3 h4 h5 h6)))
            (View.ld (View.read (Elt F) arg5.view X5) (Rect.unit (s := S1x2x2x128x2048) (k0_off14 i) S1x1x1x64x1536.size (k0_off14_inb i h1 h2 h3 h4 h5 h6)))
            (View.ld (View.read (Elt F) arg5.view X5) (Rect.unit (s := S1x2x2x128x2048) (k0_off15 i) S1x1x1x64x1536.size (k0_off15_inb i h1 h2 h3 h4 h5 h6)))) := by
  rw [k0_part65_eq_skeleton]; unfold k0_part65_skel
  iintro ⟨H3, H4, H5, H7⟩
  sl_exec (disch := first | sl_exact h1 | sl_exact h2 | sl_exact h3 | sl_exact h4 | sl_exact h5 | sl_exact h6)
  sl_step
  unfold Post1
  iexists _
  isplitr
  · ipureintro; rfl
  isplitl [H3]; · iexact H3
  isplitl [H4]; · iexact H4
  isplitl [H5]; · iexact H5
  iexact H7

set_option backward.isDefEq.respectTransparency false in
/-- The switch's branch for a step whose first group has 7 tiles. -/
theorem branch6 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : k0_cond1 i = 1#1) (h2 : k0_cond2 i = 1#1) (h3 : k0_cond3 i = 1#1) (h4 : k0_cond4 i = 1#1) (h5 : k0_cond5 i = 1#1) (h6 : k0_cond6 i = 1#1) (h7 : ¬ k0_cond7 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 6 (rdQ (View.read (Elt F) arg3.view X3))
            (View.ld (View.read (Elt F) arg4.view X4) (Rect.unit (s := S1x4096x512) (k0_off6 i) S1x1792x512.size (k0_off6_inb i h1 h2 h3 h4 h5 h6 h7)))
            (View.ld (View.read (Elt F) arg5.view X5) (Rect.unit (s := S1x2x2x128x2048) (k0_off7 i) S1x1x1x64x1792.size (k0_off7_inb i h1 h2 h3 h4 h5 h6 h7)))
            (View.ld (View.read (Elt F) arg5.view X5) (Rect.unit (s := S1x2x2x128x2048) (k0_off8 i) S1x1x1x64x1792.size (k0_off8_inb i h1 h2 h3 h4 h5 h6 h7)))
            (View.ld (View.read (Elt F) arg5.view X5) (Rect.unit (s := S1x2x2x128x2048) (k0_off9 i) S1x1x1x64x1792.size (k0_off9_inb i h1 h2 h3 h4 h5 h6 h7)))
            (View.ld (View.read (Elt F) arg5.view X5) (Rect.unit (s := S1x2x2x128x2048) (k0_off10 i) S1x1x1x64x1792.size (k0_off10_inb i h1 h2 h3 h4 h5 h6 h7)))) := by
  rw [k0_part65_eq_skeleton]; unfold k0_part65_skel
  iintro ⟨H3, H4, H5, H7⟩
  sl_exec (disch := first | sl_exact h1 | sl_exact h2 | sl_exact h3 | sl_exact h4 | sl_exact h5 | sl_exact h6 | sl_exact h7)
  sl_step
  unfold Post1
  iexists _
  isplitr
  · ipureintro; rfl
  isplitl [H3]; · iexact H3
  isplitl [H4]; · iexact H4
  isplitl [H5]; · iexact H5
  iexact H7

set_option backward.isDefEq.respectTransparency false in
/-- The switch's branch for a step whose first group has 8 tiles. -/
theorem branch7 (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) (h1 : k0_cond1 i = 1#1) (h2 : k0_cond2 i = 1#1) (h3 : k0_cond3 i = 1#1) (h4 : k0_cond4 i = 1#1) (h5 : k0_cond5 i = 1#1) (h6 : k0_cond6 i = 1#1) (h7 : k0_cond7 i = 1#1) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 7 (rdQ (View.read (Elt F) arg3.view X3))
            (View.ld (View.read (Elt F) arg4.view X4) (Rect.unit (s := S1x4096x512) (k0_off1 i) S1x2048x512.size (k0_off1_inb i h1 h2 h3 h4 h5 h6 h7)))
            (View.ld (View.read (Elt F) arg5.view X5) (Rect.unit (s := S1x2x2x128x2048) (k0_off2 i) S1x1x1x64x2048.size (k0_off2_inb i h1 h2 h3 h4 h5 h6 h7)))
            (View.ld (View.read (Elt F) arg5.view X5) (Rect.unit (s := S1x2x2x128x2048) (k0_off3 i) S1x1x1x64x2048.size (k0_off3_inb i h1 h2 h3 h4 h5 h6 h7)))
            (View.ld (View.read (Elt F) arg5.view X5) (Rect.unit (s := S1x2x2x128x2048) (k0_off4 i) S1x1x1x64x2048.size (k0_off4_inb i h1 h2 h3 h4 h5 h6 h7)))
            (View.ld (View.read (Elt F) arg5.view X5) (Rect.unit (s := S1x2x2x128x2048) (k0_off5 i) S1x1x1x64x2048.size (k0_off5_inb i h1 h2 h3 h4 h5 h6 h7)))) := by
  rw [k0_part65_eq_skeleton]; unfold k0_part65_skel
  iintro ⟨H3, H4, H5, H7⟩
  sl_exec (disch := first | sl_exact h1 | sl_exact h2 | sl_exact h3 | sl_exact h4 | sl_exact h5 | sl_exact h6 | sl_exact h7)
  sl_step
  unfold Post1
  iexists _
  isplitr
  · ipureintro; rfl
  isplitl [H3]; · iexact H3
  isplitl [H4]; · iexact H4
  isplitl [H5]; · iexact H5
  iexact H7

end Cert.KernelIdeal.Mla

end
-- ==== Proof.First.lean ====
/-
  A step of the attention kernel as a function of its three input blocks (`outBlk`), and the switch: whatever the step, its
  branch leaves the state after the first group (`first_run`).
-/
module

public import proofs.«01_k».proof.Proof.Branch

@[expose] public section
set_option maxRecDepth 16384
set_option maxHeartbeats 4000000

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The step as a function of its blocks -/

/-- The four heads' running maxima and sums, and the four slabs. -/
abbrev Full (F : FTy → Type) [FloatOps F] : Type := St F × (Fin 4 → FVec F S1x64x256 .f32)

/-- Head `h`'s running maximum. -/
def maxOf (s : St F) : Fin 4 → FVec F S1x256 .f32 := ![s.1, s.2.2.1, s.2.2.2.2.1, s.2.2.2.2.2.2.1]

/-- Head `h`'s running sum. -/
def sumOf (s : St F) : Fin 4 → FVec F S1x256 .f32 := ![s.2.1, s.2.2.2.1, s.2.2.2.2.2.1, s.2.2.2.2.2.2.2]

/-- The state after the first group. -/
def fullFirst (n g : ℕ) (hn : n < 8) (hg : g < 2) (Q : Vec F S1x256x512 .bf16) (x4 : Vec F S1x4096x512 .bf16)
    (x5 : Vec F S1x2x2x128x2048 .bf16) : Full F :=
  (stFirst n (rdK x4 n g hn hg) Q, fun h => accFirst n (rdK x4 n g hn hg) (rdV x5 n g hn hg h) Q h)

/-- The state after a further group. -/
def fullNext (g : ℕ) (hg : g < 2) (Q : Vec F S1x256x512 .bf16) (x4 : Vec F S1x4096x512 .bf16)
    (x5 : Vec F S1x2x2x128x2048 .bf16) (s : Full F) : Full F :=
  (stNext 7 (rdK x4 7 g (by decide) hg) Q s.1,
    fun h => accNext 7 (rdK x4 7 g (by decide) hg) (rdV x5 7 g (by decide) hg h) Q h (maxOf s.1 h) (s.2 h))

theorem mod_lt (i : grid0.Coords) : (i 2).val % 8 < 8 := Nat.mod_lt _ (by decide)

/-- The state before trip `k` of the loop over the groups before the step's own. -/
def fullAt (i : grid0.Coords) (Q : Vec F S1x256x512 .bf16) (x4 : Vec F S1x4096x512 .bf16) (x5 : Vec F S1x2x2x128x2048 .bf16) : ℕ → Full F
  | 0 => fullFirst ((i 2).val % 8) ((i 2).val / 8) (mod_lt i) (step_lt i) Q x4 x5
  | k + 1 => fullNext ((i 2).val / 8 - 1 - k) (trip_lt i k) Q x4 x5 (fullAt i Q x4 x5 k)

/-- What the step stores into its output block. -/
def outBlk (i : grid0.Coords) (x3 : Vec F S1x256x512 .bf16) (x4 : Vec F S1x4096x512 .bf16) (x5 : Vec F S1x2x2x128x2048 .bf16) :
    Vec F S1x256x256 .bf16 :=
  let s := fullAt i (rdQ x3) x4 x5 ((i 2).val / 8)
  k0_pay5 (sumOf s.1 0) (sumOf s.1 1) (sumOf s.1 2) (sumOf s.1 3) (s.2 0) (s.2 1) (s.2 2) (s.2 3)

/-! ## The first group -/

/-- The switch: whatever the step, its branch leaves the state after the first group. -/
theorem first_run (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (X3 : BufTy.Contents (Elt F) arg3.view.ty) (X4 : BufTy.Contents (Elt F) arg4.view.ty) (X5 : BufTy.Contents (Elt F) arg5.view.ty)
    (f7 : BufTy.Contents (Elt F) arg7.view.ty) :
    Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (fun y => iprop(∃ w, ⌜y = ret (rdQ (View.read (Elt F) arg3.view X3)) w
              (fullAt i (rdQ (View.read (Elt F) arg3.view X3)) (View.read (Elt F) arg4.view X4) (View.read (Elt F) arg5.view X5) 0).1⌝
            ∗ Res c arg3 arg4 arg5 arg7 X3 X4 X5 (arg7.view.writes (Elt F) f7 (pieces
              ((fullAt i (rdQ (View.read (Elt F) arg3.view X3)) (View.read (Elt F) arg4.view X4) (View.read (Elt F) arg5.view X5) 0).2 0)
              ((fullAt i (rdQ (View.read (Elt F) arg3.view X3)) (View.read (Elt F) arg4.view X4) (View.read (Elt F) arg5.view X5) 0).2 1)
              ((fullAt i (rdQ (View.read (Elt F) arg3.view X3)) (View.read (Elt F) arg4.view X4) (View.read (Elt F) arg5.view X5) 0).2 2)
              ((fullAt i (rdQ (View.read (Elt F) arg3.view X3)) (View.read (Elt F) arg4.view X4) (View.read (Elt F) arg5.view X5) 0).2 3))))) := by
  have c1 := cond1_iff i; have c2 := cond2_iff i; have c3 := cond3_iff i; have c4 := cond4_iff i
  have c5 := cond5_iff i; have c6 := cond6_iff i; have c7 := cond7_iff i
  unfold fullAt fullFirst
  dsimp only
  have hn := mod_lt i
  have hg := step_lt i
  change Res c arg3 arg4 arg5 arg7 X3 X4 X5 f7
      ⊢ wp frame (wpE (defs₀ (F := F)) 𝒱 (c : Thread nD τ) bd) E (k0_part65 (F := F) i arg3 harg3 arg4 harg4 arg5 harg5 arg6 harg6 arg7 harg7)
          (Post1 c arg3 arg4 arg5 arg7 X3 X4 X5 f7 ((i 2).val % 8) (rdQ (View.read (Elt F) arg3.view X3))
            (rdK (View.read (Elt F) arg4.view X4) ((i 2).val % 8) ((i 2).val / 8) hn hg)
            (rdV (View.read (Elt F) arg5.view X5) ((i 2).val % 8) ((i 2).val / 8) hn hg 0)
            (rdV (View.read (Elt F) arg5.view X5) ((i 2).val % 8) ((i 2).val / 8) hn hg 1)
            (rdV (View.read (Elt F) arg5.view X5) ((i 2).val % 8) ((i 2).val / 8) hn hg 2)
            (rdV (View.read (Elt F) arg5.view X5) ((i 2).val % 8) ((i 2).val / 8) hn hg 3))
  generalize hm : (i 2).val % 8 = n at hn c1 c2 c3 c4 c5 c6 c7 ⊢
  match n, hn with
  | 0, hn =>
    rw [rdK_eq _ 0 _ hn hg (k0_off36 i) (k0_off36_inb i (fun h => c1.1 h rfl)) (off36_eq i),
      rdV_eq _ 0 _ hn hg 0 (k0_off37 i) (k0_off37_inb i (fun h => c1.1 h rfl)) (off37_eq i),
      rdV_eq _ 0 _ hn hg 1 (k0_off38 i) (k0_off38_inb i (fun h => c1.1 h rfl)) (off38_eq i),
      rdV_eq _ 0 _ hn hg 2 (k0_off39 i) (k0_off39_inb i (fun h => c1.1 h rfl)) (off39_eq i),
      rdV_eq _ 0 _ hn hg 3 (k0_off40 i) (k0_off40_inb i (fun h => c1.1 h rfl)) (off40_eq i)]
    exact branch0 𝒱 c bd E i arg3 harg3 arg4 harg4 arg5 harg5 arg6 harg6 arg7 harg7 X3 X4 X5 f7 (fun h => c1.1 h rfl)
  | 1, hn =>
    rw [rdK_eq _ 1 _ hn hg (k0_off31 i) (k0_off31_inb i (c1.2 (by decide)) (fun h => c2.1 h rfl)) (off31_eq i),
      rdV_eq _ 1 _ hn hg 0 (k0_off32 i) (k0_off32_inb i (c1.2 (by decide)) (fun h => c2.1 h rfl)) (off32_eq i),
      rdV_eq _ 1 _ hn hg 1 (k0_off33 i) (k0_off33_inb i (c1.2 (by decide)) (fun h => c2.1 h rfl)) (off33_eq i),
      rdV_eq _ 1 _ hn hg 2 (k0_off34 i) (k0_off34_inb i (c1.2 (by decide)) (fun h => c2.1 h rfl)) (off34_eq i),
      rdV_eq _ 1 _ hn hg 3 (k0_off35 i) (k0_off35_inb i (c1.2 (by decide)) (fun h => c2.1 h rfl)) (off35_eq i)]
    exact branch1 𝒱 c bd E i arg3 harg3 arg4 harg4 arg5 harg5 arg6 harg6 arg7 harg7 X3 X4 X5 f7 (c1.2 (by decide)) (fun h => c2.1 h rfl)
  | 2, hn =>
    rw [rdK_eq _ 2 _ hn hg (k0_off26 i) (k0_off26_inb i (c1.2 (by decide)) (c2.2 (by decide)) (fun h => c3.1 h rfl)) (off26_eq i),
      rdV_eq _ 2 _ hn hg 0 (k0_off27 i) (k0_off27_inb i (c1.2 (by decide)) (c2.2 (by decide)) (fun h => c3.1 h rfl)) (off27_eq i),
      rdV_eq _ 2 _ hn hg 1 (k0_off28 i) (k0_off28_inb i (c1.2 (by decide)) (c2.2 (by decide)) (fun h => c3.1 h rfl)) (off28_eq i),
      rdV_eq _ 2 _ hn hg 2 (k0_off29 i) (k0_off29_inb i (c1.2 (by decide)) (c2.2 (by decide)) (fun h => c3.1 h rfl)) (off29_eq i),
      rdV_eq _ 2 _ hn hg 3 (k0_off30 i) (k0_off30_inb i (c1.2 (by decide)) (c2.2 (by decide)) (fun h => c3.1 h rfl)) (off30_eq i)]
    exact branch2 𝒱 c bd E i arg3 harg3 arg4 harg4 arg5 harg5 arg6 harg6 arg7 harg7 X3 X4 X5 f7 (c1.2 (by decide)) (c2.2 (by decide)) (fun h => c3.1 h rfl)
  | 3, hn =>
    rw [rdK_eq _ 3 _ hn hg (k0_off21 i) (k0_off21_inb i (c1.2 (by decide)) (c2.2 (by decide)) (c3.2 (by decide)) (fun h => c4.1 h rfl)) (off21_eq i),
      rdV_eq _ 3 _ hn hg 0 (k0_off22 i) (k0_off22_inb i (c1.2 (by decide)) (c2.2 (by decide)) (c3.2 (by decide)) (fun h => c4.1 h rfl)) (off22_eq i),
      rdV_eq _ 3 _ hn hg 1 (k0_off23 i) (k0_off23_inb i (c1.2 (by decide)) (c2.2 (by decide)) (c3.2 (by decide)) (fun h => c4.1 h rfl)) (off23_eq i),
      rdV_eq _ 3 _ hn hg 2 (k0_off24 i) (k0_off24_inb i (c1.2 (by decide)) (c2.2 (by decide)) (c3.2 (by decide)) (fun h => c4.1 h rfl)) (off24_eq i),
      rdV_eq _ 3 _ hn hg 3 (k0_off25 i) (k0_off25_inb i (c1.2 (by decide)) (c2.2 (by decide)) (c3.2 (by decide)) (fun h => c4.1 h rfl)) (off25_eq i)]
    exact branch3 𝒱 c bd E i arg3 harg3 arg4 harg4 arg5 harg5 arg6 harg6 arg7 harg7 X3 X4 X5 f7 (c1.2 (by decide)) (c2.2 (by decide)) (c3.2 (by decide)) (fun h => c4.1 h rfl)
  | 4, hn =>
    rw [rdK_eq _ 4 _ hn hg (k0_off16 i) (k0_off16_inb i (c1.2 (by decide)) (c2.2 (by decide)) (c3.2 (by decide)) (c4.2 (by decide)) (fun h => c5.1 h rfl)) (off16_eq i),
      rdV_eq _ 4 _ hn hg 0 (k0_off17 i) (k0_off17_inb i (c1.2 (by decide)) (c2.2 (by decide)) (c3.2 (by decide)) (c4.2 (by decide)) (fun h => c5.1 h rfl)) (off17_eq i),
      rdV_eq _ 4 _ hn hg 1 (k0_off18 i) (k0_off18_inb i (c1.2 (by decide)) (c2.2 (by decide)) (c3.2 (by decide)) (c4.2 (by decide)) (fun h => c5.1 h rfl)) (off18_eq i),
      rdV_eq _ 4 _ hn hg 2 (k0_off19 i) (k0_off19_inb i (c1.2 (by decide)) (c2.2 (by decide)) (c3.2 (by decide)) (c4.2 (by decide)) (fun h => c5.1 h rfl)) (off19_eq i),
      rdV_eq _ 4 _ hn hg 3 (k0_off20 i) (k0_off20_inb i (c1.2 (by decide)) (c2.2 (by decide)) (c3.2 (by decide)) (c4.2 (by decide)) (fun h => c5.1 h rfl)) (off20_eq i)]
    exact branch4 𝒱 c bd E i arg3 harg3 arg4 harg4 arg5 harg5 arg6 harg6 arg7 harg7 X3 X4 X5 f7 (c1.2 (by decide)) (c2.2 (by decide)) (c3.2 (by decide)) (c4.2 (by decide)) (fun h => c5.1 h rfl)
  | 5, hn =>
    rw [rdK_eq _ 5 _ hn hg (k0_off11 i) (k0_off11_inb i (c1.2 (by decide)) (c2.2 (by decide)) (c3.2 (by decide)) (c4.2 (by decide)) (c5.2 (by decide)) (fun h => c6.1 h rfl)) (off11_eq i),
      rdV_eq _ 5 _ hn hg 0 (k0_off12 i) (k0_off12_inb i (c1.2 (by decide)) (c2.2 (by decide)) (c3.2 (by decide)) (c4.2 (by decide)) (c5.2 (by decide)) (fun h => c6.1 h rfl)) (off12_eq i),
      rdV_eq _ 5 _ hn hg 1 (k0_off13 i) (k0_off13_inb i (c1.2 (by decide)) (c2.2 (by decide)) (c3.2 (by decide)) (c4.2 (by decide)) (c5.2 (by decide)) (fun h => c6.1 h rfl)) (off13_eq i),
      rdV_eq _ 5 _ hn hg 2 (k0_off14 i) (k0_off14_inb i (c1.2 (by decide)) (c2.2 (by decide)) (c3.2 (by decide)) (c4.2 (by decide)) (c5.2 (by decide)) (fun h => c6.1 h rfl)) (off14_eq i),
      rdV_eq _ 5 _ hn hg 3 (k0_off15 i) (k0_off15_inb i (c1.2 (by decide)) (c2.2 (by decide)) (c3.2 (by decide)) (c4.2 (by decide)) (c5.2 (by decide)) (fun h => c6.1 h rfl)) (off15_eq i)]
    exact branch5 𝒱 c bd E i arg3 harg3 arg4 harg4 arg5 harg5 arg6 harg6 arg7 harg7 X3 X4 X5 f7 (c1.2 (by decide)) (c2.2 (by decide)) (c3.2 (by decide)) (c4.2 (by decide)) (c5.2 (by decide)) (fun h => c6.1 h rfl)
  | 6, hn =>
    rw [rdK_eq _ 6 _ hn hg (k0_off6 i) (k0_off6_inb i (c1.2 (by decide)) (c2.2 (by decide)) (c3.2 (by decide)) (c4.2 (by decide)) (c5.2 (by decide)) (c6.2 (by decide)) (fun h => c7.1 h rfl)) (off6_eq i),
      rdV_eq _ 6 _ hn hg 0 (k0_off7 i) (k0_off7_inb i (c1.2 (by decide)) (c2.2 (by decide)) (c3.2 (by decide)) (c4.2 (by decide)) (c5.2 (by decide)) (c6.2 (by decide)) (fun h => c7.1 h rfl)) (off7_eq i),
      rdV_eq _ 6 _ hn hg 1 (k0_off8 i) (k0_off8_inb i (c1.2 (by decide)) (c2.2 (by decide)) (c3.2 (by decide)) (c4.2 (by decide)) (c5.2 (by decide)) (c6.2 (by decide)) (fun h => c7.1 h rfl)) (off8_eq i),
      rdV_eq _ 6 _ hn hg 2 (k0_off9 i) (k0_off9_inb i (c1.2 (by decide)) (c2.2 (by decide)) (c3.2 (by decide)) (c4.2 (by decide)) (c5.2 (by decide)) (c6.2 (by decide)) (fun h => c7.1 h rfl)) (off9_eq i),
      rdV_eq _ 6 _ hn hg 3 (k0_off10 i) (k0_off10_inb i (c1.2 (by decide)) (c2.2 (by decide)) (c3.2 (by decide)) (c4.2 (by decide)) (c5.2 (by decide)) (c6.2 (by decide)) (fun h => c7.1 h rfl)) (off10_eq i)]
    exact branch6 𝒱 c bd E i arg3 harg3 arg4 harg4 arg5 harg5 arg6 harg6 arg7 harg7 X3 X4 X5 f7 (c1.2 (by decide)) (c2.2 (by decide)) (c3.2 (by decide)) (c4.2 (by decide)) (c5.2 (by decide)) (c6.2 (by decide)) (fun h => c7.1 h rfl)
  | 7, hn =>
    rw [rdK_eq _ 7 _ hn hg (k0_off1 i) (k0_off1_inb i (c1.2 (by decide)) (c2.2 (by decide)) (c3.2 (by decide)) (c4.2 (by decide)) (c5.2 (by decide)) (c6.2 (by decide)) (c7.2 (by decide))) (off1_eq i),
      rdV_eq _ 7 _ hn hg 0 (k0_off2 i) (k0_off2_inb i (c1.2 (by decide)) (c2.2 (by decide)) (c3.2 (by decide)) (c4.2 (by decide)) (c5.2 (by decide)) (c6.2 (by decide)) (c7.2 (by decide))) (off2_eq i),
      rdV_eq _ 7 _ hn hg 1 (k0_off3 i) (k0_off3_inb i (c1.2 (by decide)) (c2.2 (by decide)) (c3.2 (by decide)) (c4.2 (by decide)) (c5.2 (by decide)) (c6.2 (by decide)) (c7.2 (by decide))) (off3_eq i),
      rdV_eq _ 7 _ hn hg 2 (k0_off4 i) (k0_off4_inb i (c1.2 (by decide)) (c2.2 (by decide)) (c3.2 (by decide)) (c4.2 (by decide)) (c5.2 (by decide)) (c6.2 (by decide)) (c7.2 (by decide))) (off4_eq i),
      rdV_eq _ 7 _ hn hg 3 (k0_off5 i) (k0_off5_inb i (c1.2 (by decide)) (c2.2 (by decide)) (c3.2 (by decide)) (c4.2 (by decide)) (c5.2 (by decide)) (c6.2 (by decide)) (c7.2 (by decide))) (off5_eq i)]
    exact branch7 𝒱 c bd E i arg3 harg3 arg4 harg4 arg5 harg5 arg6 harg6 arg7 harg7 X3 X4 X5 f7 (c1.2 (by decide)) (c2.2 (by decide)) (c3.2 (by decide)) (c4.2 (by decide)) (c5.2 (by decide)) (c6.2 (by decide)) (c7.2 (by decide))
  | n + 8, hn => exact absurd hn (by omega)

end Cert.KernelIdeal.Mla

end
-- ==== Proof.Score.lean ====
/-
  A step of the attention kernel read at an index, in extended reals: scores as inner products, the mask, a tile's maximum,
  sum and weights, and, over the list of a group's tiles, the maximum, the sum of the weights and the weighted values as a
  supremum and sums over the positions of the group's keys.
-/
module

public import proofs.«01_k».proof.Proof.First
public import Idealize.ShloMosaic.Lib.Pointwise
public import Idealize.ShloMosaic.Lib.Pointwise.IndexVar
public import Idealize.ShloMosaic.Lib.MatmulPlain
public import Idealize.ShloMosaic.Lib.WordCmp
public import Idealize.ShloMosaic.Lib.Pipeline.Value

@[expose] public section

noncomputable section

namespace Cert.KernelIdeal.Mla

open Idealize.ShloMosaic Idealize.ShloMosaic.TcCoe
open Cert.KernelIdeal.Gen

/-! ## One tile -/

theorem negInf : Ideal.ofBits .f32 0xFF800000#32 = (⊥ : EReal) := by
  unfold Ideal.ofBits
  rfl

theorem select_sle (r j : Fin 256) (a b : EReal) :
    Scalar.select (IntOp.cmpi .sle (BitVec.ofNat 32 r.val) (BitVec.ofNat 32 j.val)) a b = if r ≤ j then a else b := by
  have hr : (BitVec.ofNat 32 r.val).toNat = r.val := by
    rw [BitVec.toNat_ofNat]; exact Nat.mod_eq_of_lt (by omega)
  have hj : (BitVec.ofNat 32 j.val).toNat = j.val := by
    rw [BitVec.toNat_ofNat]; exact Nat.mod_eq_of_lt (by omega)
  rw [WordCmp.cmpi_sle_of_lt (by rw [hr]; norm_num; omega) (by rw [hj]; norm_num; omega), hr, hj]
  by_cases h : r ≤ j
  · rw [if_pos h]; simp [Scalar.select, Fin.le_def.mp h]
  · rw [if_neg h]
    have : ¬ r.val ≤ j.val := fun e => h (Fin.le_def.mpr e)
    simp [Scalar.select, this]

theorem masked_at (s : FVec Ideal S256x256 .f32) (r j : Fin 256) :
    masked s (ix2 r j) = if r ≤ j then s (ix2 r j) else ⊥ := by
  pointwise [masked]
  rw [select_sle, negInf]

theorem colMax_at (s : FVec Ideal S256x256 .f32) (j : Fin 256) :
    colMax s (ix2 0 j) = Finset.univ.sup fun r : Fin 256 => s (ix2 r j) := by
  pointwise [colMax]
  rw [negInf]
  rfl

theorem colSum_at (s : FVec Ideal S256x256 .f32) (j : Fin 256) : colSum s (ix2 0 j) = ∑ r : Fin 256, s (ix2 r j) := by
  pointwise [colSum]

theorem wt_at (m : FVec Ideal S1x256 .f32) (s : FVec Ideal S256x256 .f32) (r j : Fin 256) :
    wt m s (ix2 r j) = Ideal.exp2 (s (ix2 r j) - m (ix2 0 j)) := by
  pointwise [wt]
  rfl

/-! ## Scores -/

theorem qHead_at (Q : Vec Ideal S1x256x512 .bf16) (h : Fin 4) (j : Fin 256) (d : Fin 128) :
    qHead Q h (ix2 j d) = Q (ix3 0 j ⟨128 * h.val + d.val, by omega⟩) := by
  pointwise [qHead]

theorem tile_at (n : ℕ) (k : FVec Ideal (SKh n) .bf16) (c : ℕ) (hc : c ≤ n) (r : Fin 256) (d : Fin 128) :
    tile n k c hc (ix2 r d) = k (ix2 ⟨256 * c + r.val, by omega⟩ d) := by
  cases n with
  | zero =>
    obtain rfl : c = 0 := by omega
    show k _ = k _
    congr 2
    exact Fin.ext (by simp)
  | succ n => pointwise [tile]

theorem kHead_at (n : ℕ) (K : Vec Ideal (SK n) .bf16) (h : Fin 4) (k : Fin (256 * (n + 1))) (d : Fin 128) :
    extractStridedSlice (SKh n) ![0, 128 * h.val] (shapeCast (SK2 n) K (sk_cast n)) (skh_slices n h) (ix2 k d)
      = K (ix3 0 k ⟨128 * h.val + d.val, by omega⟩) := by
  rw [extractStridedSlice_apply _ _ _ _ (ix2 k ⟨128 * h.val + d.val, by omega⟩)
    (by intro a; fin_cases a <;> simp [ix2])]
  refine shapeCast_apply _ _ _ _ ?_
  rw [Shape.rowMajor_val_two, Shape.rowMajor_val_three]
  show (0 * (256 * (n + 1)) + k.val) * 512 + (128 * h.val + d.val) = k.val * 512 + (128 * h.val + d.val)
  rw [zero_mul, zero_add]

theorem raw_at (n : ℕ) (K : Vec Ideal (SK n) .bf16) (Q : Vec Ideal S1x256x512 .bf16) (h : Fin 4) (c : ℕ) (hc : c ≤ n)
    (r j : Fin 256) :
    raw n K Q h c hc (ix2 r j) = ∑ d : Fin 128, K (ix3 0 ⟨256 * c + r.val, by omega⟩ ⟨128 * h.val + d.val, by omega⟩)
      * Q (ix3 0 j ⟨128 * h.val + d.val, by omega⟩) := by
  unfold raw
  rw [ix2_eq_valueIdx]
  refine (Ideal.matmul_transposedRhs_apply _ _ _ _ _ _).trans ?_
  rw [← ix2_eq_valueIdx]
  have h0 : (constant S256x256 .f32 0x00000000#32 : FVec Ideal S256x256 .f32) (ix2 r j) = 0 := Ideal.ofBits_zero_f32
  rw [h0, zero_add]
  refine Finset.sum_congr rfl fun d _ => ?_
  rw [← ix2_eq_valueIdx, ← ix2_eq_valueIdx, tile_at, kHead_at, qHead_at]

/-! ## A list of tiles as one run of keys -/

/-- Column `j` of the tiles of `l`, one after another, is `f` from position `base` on. -/
def TilesAre (f : ℕ → EReal) (base : ℕ) (j : Fin 256) (l : List (FVec Ideal S256x256 .f32)) : Prop :=
  ∀ (c : ℕ) (hc : c < l.length) (r : Fin 256), l[c] (ix2 r j) = f (base + 256 * c + r.val)

theorem TilesAre.tail {f : ℕ → EReal} {base : ℕ} {j : Fin 256} {s : FVec Ideal S256x256 .f32}
    {l : List (FVec Ideal S256x256 .f32)} (h : TilesAre f base j (s :: l)) : TilesAre f (base + 256) j l := fun c hc r => by
  have := h (c + 1) (by simp [hc]) r
  rw [List.getElem_cons_succ] at this
  rw [this]; congr 1; ring

theorem TilesAre.head {f : ℕ → EReal} {base : ℕ} {j : Fin 256} {s : FVec Ideal S256x256 .f32}
    {l : List (FVec Ideal S256x256 .f32)} (h : TilesAre f base j (s :: l)) (r : Fin 256) : s (ix2 r j) = f (base + r.val) := by
  have := h 0 (by simp) r
  simpa using this

theorem Ico_image (base N : ℕ) : Finset.Ico base (base + N) = (Finset.univ : Finset (Fin N)).image fun r => base + r.val := by
  ext κ
  simp only [Finset.mem_Ico, Finset.mem_image, Finset.mem_univ, true_and]
  constructor
  · rintro ⟨h1, h2⟩
    exact ⟨⟨κ - base, by omega⟩, by simp; omega⟩
  · rintro ⟨r, rfl⟩
    omega

theorem sup_Ico (f : ℕ → EReal) (base N : ℕ) :
    (Finset.univ.sup fun r : Fin N => f (base + r.val)) = (Finset.Ico base (base + N)).sup f := by
  rw [Ico_image, Finset.sup_image]; rfl

theorem sum_Ico (f : ℕ → EReal) (base N : ℕ) :
    ∑ r : Fin N, f (base + r.val) = ∑ κ ∈ Finset.Ico base (base + N), f κ := by
  rw [Ico_image, Finset.sum_image]
  intro a _ b _ h
  exact Fin.ext (by simpa using h)

theorem colMax_run (f : ℕ → EReal) (base : ℕ) (j : Fin 256) (s : FVec Ideal S256x256 .f32)
    (h : ∀ r : Fin 256, s (ix2 r j) = f (base + r.val)) : colMax s (ix2 0 j) = (Finset.Ico base (base + 256)).sup f := by
  rw [colMax_at, ← sup_Ico]
  exact Finset.sup_congr rfl fun r _ => h r

theorem colSum_run (f : ℕ → EReal) (base : ℕ) (j : Fin 256) (m : FVec Ideal S1x256 .f32) (s : FVec Ideal S256x256 .f32)
    (h : ∀ r : Fin 256, s (ix2 r j) = f (base + r.val)) :
    colSum (wt m s) (ix2 0 j) = ∑ κ ∈ Finset.Ico base (base + 256), Ideal.exp2 (f κ - m (ix2 0 j)) := by
  rw [colSum_at, ← sum_Ico (fun κ => Ideal.exp2 (f κ - m (ix2 0 j)))]
  exact Finset.sum_congr rfl fun r _ => by rw [wt_at, h]

theorem Ico_union (a b c : ℕ) (h1 : a ≤ b) (h2 : b ≤ c) : Finset.Ico a c = Finset.Ico a b ∪ Finset.Ico b c :=
  (Finset.Ico_union_Ico_eq_Ico h1 h2).symm

theorem foldMax_run (f : ℕ → EReal) (j : Fin 256) (l : List (FVec Ideal S256x256 .f32)) (b0 base : ℕ) (hb : b0 ≤ base)
    (a : FVec Ideal S1x256 .f32) (ha : a (ix2 0 j) = (Finset.Ico b0 base).sup f) (h : TilesAre f base j l) :
    l.foldl (fun a t => maximumf a (colMax t)) a (ix2 0 j) = (Finset.Ico b0 (base + 256 * l.length)).sup f := by
  induction l generalizing base a with
  | nil => simpa using ha
  | cons s l ih =>
    rw [List.foldl_cons, ih (base + 256) (by omega) (maximumf a (colMax s)) ?_ h.tail]
    · rw [List.length_cons]; congr 2; ring
    · rw [Ico_union b0 base (base + 256) hb (by omega), Finset.sup_union]
      show max (a (ix2 0 j)) (colMax s (ix2 0 j)) = _
      rw [ha, colMax_run f base j s h.head]

theorem listMax_run (f : ℕ → EReal) (j : Fin 256) (l : List (FVec Ideal S256x256 .f32)) (base : ℕ) (hl : l ≠ [])
    (h : TilesAre f base j l) : listMax l (ix2 0 j) = (Finset.Ico base (base + 256 * l.length)).sup f := by
  cases l with
  | nil => exact absurd rfl hl
  | cons s l =>
    refine (foldMax_run f j l base (base + 256) (by omega) _ (colMax_run f base j s h.head) h.tail).trans ?_
    rw [List.length_cons]; congr 2; ring

theorem foldSum_run (f : ℕ → EReal) (j : Fin 256) (m : FVec Ideal S1x256 .f32) (l : List (FVec Ideal S256x256 .f32))
    (b0 base : ℕ) (hb : b0 ≤ base) (a : FVec Ideal S1x256 .f32)
    (ha : a (ix2 0 j) = ∑ κ ∈ Finset.Ico b0 base, Ideal.exp2 (f κ - m (ix2 0 j))) (h : TilesAre f base j l) :
    l.foldl (fun a t => addf a (colSum (wt m t))) a (ix2 0 j)
      = ∑ κ ∈ Finset.Ico b0 (base + 256 * l.length), Ideal.exp2 (f κ - m (ix2 0 j)) := by
  induction l generalizing base a with
  | nil => simpa using ha
  | cons s l ih =>
    rw [List.foldl_cons, ih (base + 256) (by omega) (addf a (colSum (wt m s))) ?_ h.tail]
    · rw [List.length_cons]; congr 2; ring
    · rw [Ico_union b0 base (base + 256) hb (by omega), Finset.sum_union (Finset.Ico_disjoint_Ico_consecutive _ _ _)]
      show a (ix2 0 j) + colSum (wt m s) (ix2 0 j) = _
      rw [ha, colSum_run f base j m s h.head]

theorem listSum_run (f : ℕ → EReal) (j : Fin 256) (m : FVec Ideal S1x256 .f32) (l : List (FVec Ideal S256x256 .f32))
    (base : ℕ) (hl : l ≠ []) (h : TilesAre f base j l) :
    listSum m l (ix2 0 j) = ∑ κ ∈ Finset.Ico base (base + 256 * l.length), Ideal.exp2 (f κ - m (ix2 0 j)) := by
  cases l with
  | nil => exact absurd rfl hl
  | cons s l =>
    refine (foldSum_run f j m l base (base + 256) (by omega) _ (colSum_run f base j m s h.head) h.tail).trans ?_
    rw [List.length_cons]; congr 2; ring

/-! ## Values times weights -/

theorem cat_at (n : ℕ) (l : List (FVec Ideal S256x256 .bf16)) (hl : l.length = n + 1) (c : ℕ) (hc : c < l.length)
    (r j : Fin 256) : cat n l hl (ix2 ⟨256 * c + r.val, by omega⟩ j) = l[c] (ix2 r j) := by
  cases n with
  | zero =>
    match l, hl with
    | [p], _ =>
      obtain rfl : c = 0 := by simpa using hc
      show p _ = p _
      congr 2
      exact Fin.ext (by simp)
  | succ m =>
    show concatenate (SP (m + 1)) 0 (l.map fun s => (⟨S256x256, s⟩ : (s : Shape) × FVec Ideal s .bf16)) (cat_ok m l hl) _ = _
    refine concatenate_apply_piece (t := SP (m + 1)) 0 (l.map fun s => (⟨S256x256, s⟩ : (s : Shape) × FVec Ideal s .bf16)) _ _ c
      (by rw [List.length_map]; exact hc) S256x256 l[c] (by simp) rfl (256 * c) ?_ (ix2 r j) ?_ ?_
    · have e : ((l.map fun s => (⟨S256x256, s⟩ : (s : Shape) × FVec Ideal s .bf16)).take c).map (·.1)
          = List.replicate c S256x256 := by
        rw [← List.map_take, List.map_map]
        refine List.eq_replicate_iff.mpr ⟨by simp; omega, fun b hb => ?_⟩
        obtain ⟨x, -, rfl⟩ := List.mem_map.mp hb
        rfl
      rw [e, List.map_replicate, List.sum_replicate]
      simp [Nat.mul_comm]
    · intro b hb
      fin_cases b
      · exact absurd rfl hb
      · rfl
    · rfl

theorem vals_at (n : ℕ) (V : Vec Ideal (SV n) .bf16) (d : Fin 64) (k : Fin (256 * (n + 1))) :
    shapeCast (SV2 n) V (sv_cast n) (ix2 d k) = V (ix5 0 0 0 d k) := by
  refine shapeCast_apply _ _ _ _ ?_
  rw [Shape.rowMajor_val_two, Shape.rowMajor_val_five]
  show (((0 * 1 + 0) * 1 + 0) * 64 + d.val) * (256 * (n + 1)) + k.val = d.val * (256 * (n + 1)) + k.val
  simp only [zero_mul, zero_add]

theorem pvOf_run (n : ℕ) (V : Vec Ideal (SV n) .bf16) (m : FVec Ideal S1x256 .f32) (l : List (FVec Ideal S256x256 .f32))
    (hl : l.length = n + 1) (f : ℕ → EReal) (base : ℕ) (d : Fin 64) (j : Fin 256) (h : TilesAre f base j l) (v : ℕ → EReal)
    (hv : ∀ k : Fin (256 * (n + 1)), V (ix5 0 0 0 d k) = v (base + k.val)) :
    pvOf n V m l hl (ix2 d j)
      = ∑ κ ∈ Finset.Ico base (base + 256 * (n + 1)), v κ * Ideal.exp2 (f κ - m (ix2 0 j)) := by
  unfold pvOf
  rw [ix2_eq_valueIdx]
  refine (Ideal.matmul_plain_apply _ _ _ _ _ _).trans ?_
  rw [← ix2_eq_valueIdx]
  have h0 : (constant S64x256 .f32 0x00000000#32 : FVec Ideal S64x256 .f32) (ix2 d j) = 0 := Ideal.ofBits_zero_f32
  rw [h0, zero_add, ← sum_Ico (fun κ => v κ * Ideal.exp2 (f κ - m (ix2 0 j)))]
  refine Finset.sum_congr rfl fun k _ => ?_
  rw [← ix2_eq_valueIdx, ← ix2_eq_valueIdx, vals_at, hv]
  congr 1
  have hk : k = ⟨256 * (k.val / 256) + (⟨k.val % 256, Nat.mod_lt _ (by decide)⟩ : Fin 256).val, by simp only; omega⟩ :=
    Fin.ext (by simp only; omega)
  have hlt : k.val / 256 < l.length := by omega
  rw [hk, cat_at n _ _ (k.val / 256) (by simpa using hlt), List.getElem_map]
  show wt m _ _ = _
  rw [wt_at, h (k.val / 256) hlt]
  congr 3
  simp only
  omega

end Cert.KernelIdeal.Mla

end
-- ==== Proof.Step.lean ====
/-
  What a step of the attention kernel stores, in extended reals: the online softmax of a head's column after the first group
  and after each further group, and the stored block as softmax averages of the values.
-/
module

public import proofs.«01_k».proof.Proof.Score
public import proofs.«01_k».proof.Proof.Softmax

@[expose] public section

noncomputable section

namespace Cert.KernelIdeal.Mla

open Idealize.ShloMosaic Idealize.ShloMosaic.TcCoe
open Cert.KernelIdeal.Gen Cert.Proof.Attn

/-! ## Reads -/

theorem rdQ_at (x : Vec Ideal S1x256x512 .bf16) (j : Fin 256) (d : Fin 512) : rdQ x (ix3 0 j d) = x (ix3 0 j d) := by
  pointwise [rdQ]

theorem rdK_at (x : Vec Ideal S1x4096x512 .bf16) (n g : ℕ) (hn : n < 8) (hg : g < 2) (k : Fin (256 * (n + 1))) (d : Fin 512) :
    rdK x n g hn hg (ix3 0 k d) = x (ix3 0 ⟨2048 * g + k.val, by omega⟩ d) := by
  pointwise [rdK]

theorem rdV_at (x : Vec Ideal S1x2x2x128x2048 .bf16) (n g : ℕ) (hn : n < 8) (hg : g < 2) (h : Fin 4) (d : Fin 64)
    (k : Fin (256 * (n + 1))) :
    rdV x n g hn hg h (ix5 0 0 0 d k)
      = x (ix5 0 ⟨h.val / 2, by omega⟩ ⟨g, hg⟩ ⟨64 * (h.val % 2) + d.val, by omega⟩ ⟨k.val, by omega⟩) := by
  pointwise [rdV]

/-! ## A head's column -/

/-- Column `j` of head `h`'s scores against the staged keys, before the mask, is `x` in base two. -/
def Scores (x : ℕ → ℝ) (Q : Vec Ideal S1x256x512 .bf16) (x4 : Vec Ideal S1x4096x512 .bf16) (h : Fin 4) (j : Fin 256) : Prop :=
  ∀ (κ : ℕ) (hκ : κ < 4096), ∑ d : Fin 128, x4 (ix3 0 ⟨κ, hκ⟩ ⟨128 * h.val + d.val, by omega⟩)
    * Q (ix3 0 j ⟨128 * h.val + d.val, by omega⟩) = ((x κ / Real.log 2 : ℝ) : EReal)

/-- Head `h`'s staged values are `v`. -/
def Vals (v : Fin 64 → ℕ → EReal) (x5 : Vec Ideal S1x2x2x128x2048 .bf16) (h : Fin 4) : Prop :=
  ∀ (d : Fin 64) (g : Fin 2) (k : Fin 2048),
    x5 (ix5 0 ⟨h.val / 2, by omega⟩ g ⟨64 * (h.val % 2) + d.val, by omega⟩ k) = v d (2048 * g.val + k.val)

theorem tilesFirst_lt (n : ℕ) (K : Vec Ideal (SK n) .bf16) (Q : Vec Ideal S1x256x512 .bf16) (h : Fin 4) (c : ℕ)
    (hc : c < (tilesFirst n K Q h).length) (h1 : c < n) : (tilesFirst n K Q h)[c] = raw n K Q h c (Nat.le_of_lt h1) :=
  (List.getElem_append_left (by rw [List.length_ofFn]; exact h1)).trans (List.getElem_ofFn _)

theorem tilesFirst_last (n : ℕ) (K : Vec Ideal (SK n) .bf16) (Q : Vec Ideal S1x256x512 .bf16) (h : Fin 4)
    (hc : n < (tilesFirst n K Q h).length) : (tilesFirst n K Q h)[n] = masked (raw n K Q h n le_rfl) :=
  (List.getElem_append_right (by rw [List.length_ofFn])).trans (by simp only [List.length_ofFn, Nat.sub_self, List.getElem_cons_zero])

theorem tilesNext_get (n : ℕ) (K : Vec Ideal (SK n) .bf16) (Q : Vec Ideal S1x256x512 .bf16) (h : Fin 4) (c : ℕ)
    (hc : c < (tilesNext n K Q h).length) :
    (tilesNext n K Q h)[c] = raw n K Q h c (by rw [tilesNext_length] at hc; omega) :=
  List.getElem_ofFn _

section
variable (x : ℕ → ℝ) (v : Fin 64 → ℕ → EReal) (Q : Vec Ideal S1x256x512 .bf16) (x4 : Vec Ideal S1x4096x512 .bf16)
  (x5 : Vec Ideal S1x2x2x128x2048 .bf16) (h : Fin 4) (j : Fin 256)

theorem raw_score (hx : Scores x Q x4 h j) (n g : ℕ) (hn : n < 8) (hg : g < 2) (c : ℕ) (hc : c ≤ n) (r : Fin 256) :
    raw n (rdK x4 n g hn hg) Q h c hc (ix2 r j) = ((x (2048 * g + 256 * c + r.val) / Real.log 2 : ℝ) : EReal) := by
  rw [raw_at, ← hx (2048 * g + 256 * c + r.val) (by omega)]
  refine Finset.sum_congr rfl fun d _ => ?_
  rw [rdK_at]
  congr 3
  exact Fin.ext (by simp only; omega)

theorem tilesFirst_are (hx : Scores x Q x4 h j) (n g : ℕ) (hn : n < 8) (hg : g < 2) (t : ℕ) (ht : t = 2048 * g + 256 * n + j.val) :
    TilesAre (sc2 x t) (2048 * g) j (tilesFirst n (rdK x4 n g hn hg) Q h) := by
  intro c hc r
  have hl : c < n + 1 := by rw [tilesFirst_length] at hc; exact hc
  unfold sc2
  rcases Nat.lt_or_ge c n with h1 | h1
  · rw [tilesFirst_lt n _ Q h c hc h1, raw_score x Q x4 h j hx, if_pos (by omega)]
  · obtain rfl : c = n := by omega
    rw [tilesFirst_last c _ Q h hc, masked_at, raw_score x Q x4 h j hx]
    by_cases hr : r ≤ j
    · rw [if_pos hr, if_pos (by have := Fin.le_def.mp hr; omega)]
    · rw [if_neg hr, if_neg (by have : ¬ r.val ≤ j.val := fun e => hr (Fin.le_def.mpr e); omega)]

theorem tilesNext_are (hx : Scores x Q x4 h j) (g : ℕ) (hg : g < 2) (t : ℕ) (ht : 2048 * g + 2048 ≤ t) :
    TilesAre (sc2 x t) (2048 * g) j (tilesNext 7 (rdK x4 7 g (by decide) hg) Q h) := by
  intro c hc r
  have hl : c < 8 := by rw [tilesNext_length] at hc; exact hc
  unfold sc2
  rw [tilesNext_get 7 _ Q h c hc, raw_score x Q x4 h j hx, if_pos (by omega)]

theorem vals_group (hv : Vals v x5 h) (n g : ℕ) (hn : n < 8) (hg : g < 2) (d : Fin 64) (k : Fin (256 * (n + 1))) :
    rdV x5 n g hn hg h (ix5 0 0 0 d k) = v d (2048 * g + k.val) := by
  rw [rdV_at]; exact hv d ⟨g, hg⟩ ⟨k.val, by omega⟩

theorem maxOf_first (n : ℕ) (K : Vec Ideal (SK n) .bf16) : maxOf (stFirst n K Q) h = maxFirst n K Q h := by
  fin_cases h <;> rfl

theorem sumOf_first (n : ℕ) (K : Vec Ideal (SK n) .bf16) : sumOf (stFirst n K Q) h = sumFirst n K Q h := by
  fin_cases h <;> rfl

theorem maxOf_next (n : ℕ) (K : Vec Ideal (SK n) .bf16) (s : St Ideal) :
    maxOf (stNext n K Q s) h = maxNext n K Q h (maxOf s h) := by
  fin_cases h <;> rfl

theorem sumOf_next (n : ℕ) (K : Vec Ideal (SK n) .bf16) (s : St Ideal) :
    sumOf (stNext n K Q s) h = sumNext n K Q h (maxOf s h) (sumOf s h) := by
  fin_cases h <;> rfl

theorem slab_at (A : FVec Ideal S64x256 .f32) (d : Fin 64) :
    shapeCast S1x64x256 A shapeCasts_S64x256_S1x64x256 (ix3 0 d j) = A (ix2 d j) := by
  pointwise

theorem accNext_at (n : ℕ) (K : Vec Ideal (SK n) .bf16) (V : Vec Ideal (SV n) .bf16) (m : FVec Ideal S1x256 .f32)
    (A : Vec Ideal S1x64x256 .f32) (d : Fin 64) :
    accNext n K V Q h m A (ix3 0 d j) = scaleNext n K Q h m (ix2 0 j) * A (ix3 0 d j)
      + pvOf n V (maxNext n K Q h m) (tilesNext n K Q h) (tilesNext_length n K Q h) (ix2 d j) := by
  unfold accNext
  generalize scaleNext n K Q h m = a
  generalize pvOf n V (maxNext n K Q h m) (tilesNext n K Q h) (tilesNext_length n K Q h) = p
  pointwise

/-- A head's column of the state is the online softmax over the keys in `T`. -/
def ColumnOk (t : ℕ) (T : Finset ℕ) (s : Full Ideal) : Prop :=
  Online x t v T (maxOf s.1 h (ix2 0 j)) (sumOf s.1 h (ix2 0 j)) fun d => s.2 h (ix3 0 d j)

theorem first_ok (hx : Scores x Q x4 h j) (hv : Vals v x5 h) (n g : ℕ) (hn : n < 8) (hg : g < 2) (t : ℕ)
    (ht : t = 2048 * g + 256 * n + j.val) :
    ColumnOk x v h j t (Finset.Ico (2048 * g) (2048 * g + 256 * (n + 1))) (fullFirst n g hn hg Q x4 x5) := by
  have hT := tilesFirst_are x Q x4 h j hx n g hn hg t ht
  have hne : tilesFirst n (rdK x4 n g hn hg) Q h ≠ [] := by
    intro e; have := tilesFirst_length n (rdK x4 n g hn hg) Q h; rw [e] at this; simp at this
  unfold ColumnOk fullFirst
  dsimp only
  rw [maxOf_first, sumOf_first]
  refine online_first x t v _ ⟨2048 * g, by simp, by omega⟩ _ _ _ ?_ ?_ fun d => ?_
  · unfold maxFirst
    rw [listMax_run _ j _ _ hne hT, tilesFirst_length]
  · unfold sumFirst
    rw [listSum_run _ j _ _ _ hne hT, tilesFirst_length]
  · unfold accFirst
    rw [slab_at]
    exact pvOf_run n _ _ _ _ (sc2 x t) (2048 * g) d j hT (v d) fun k => vals_group v x5 h hv n g hn hg d k

theorem next_ok (hx : Scores x Q x4 h j) (hv : Vals v x5 h) (g : ℕ) (hg : g < 2) (t b : ℕ) (s : Full Ideal)
    (hb : 2048 * g + 2048 ≤ b) (ht : 2048 * g + 2048 ≤ t)
    (hs : ColumnOk x v h j t (Finset.Ico (2048 * g + 2048) b) s) :
    ColumnOk x v h j t (Finset.Ico (2048 * g) b) (fullNext g hg Q x4 x5 s) := by
  have hT := tilesNext_are x Q x4 h j hx g hg t ht
  have hne : tilesNext 7 (rdK x4 7 g (by decide) hg) Q h ≠ [] := by
    intro e; have := tilesNext_length 7 (rdK x4 7 g (by decide) hg) Q h; rw [e] at this; simp at this
  rw [Ico_union (2048 * g) (2048 * g + 2048) b (by omega) hb]
  unfold ColumnOk fullNext
  dsimp only
  rw [maxOf_next, sumOf_next]
  refine online_next x t v _ _ (Finset.Ico_disjoint_Ico_consecutive _ _ _) _ _ _ hs _ _ _ ?_ ?_ fun d => ?_
  · show max (listMax (F := Ideal) _ (ix2 0 j)) _ = _
    rw [listMax_run _ j _ _ hne hT, tilesNext_length]
  · show Ideal.exp2 _ * _ + listSum (F := Ideal) _ _ (ix2 0 j) = _
    rw [listSum_run _ j _ _ _ hne hT, tilesNext_length]
    rfl
  · rw [accNext_at, pvOf_run 7 _ _ _ _ (sc2 x t) (2048 * g) d j hT (v d) fun k => vals_group v x5 h hv 7 g (by decide) hg d k]
    rfl

theorem at_ok (hx : Scores x Q x4 h j) (hv : Vals v x5 h) (i : grid0.Coords) (k : ℕ) (hk : k ≤ (i 2).val / 8) :
    ColumnOk x v h j (256 * (i 2).val + j.val) (Finset.Ico (2048 * ((i 2).val / 8 - k)) (256 * ((i 2).val + 1)))
      (fullAt i Q x4 x5 k) := by
  have hj := j.isLt
  induction k with
  | zero =>
    have h1 := first_ok x v Q x4 x5 h j hx hv ((i 2).val % 8) ((i 2).val / 8) (mod_lt i) (step_lt i) (256 * (i 2).val + j.val)
      (by omega)
    have e : 2048 * ((i 2).val / 8) + 256 * ((i 2).val % 8 + 1) = 256 * ((i 2).val + 1) := by omega
    rw [e] at h1
    exact h1
  | succ k ih =>
    have h1 := ih (by omega)
    have e : 2048 * ((i 2).val / 8 - k) = 2048 * ((i 2).val / 8 - 1 - k) + 2048 := by omega
    have e2 : (i 2).val / 8 - (k + 1) = (i 2).val / 8 - 1 - k := by omega
    rw [e] at h1
    rw [e2]
    exact next_ok x v Q x4 x5 h j hx hv _ (trip_lt i k) _ _ _ (by omega) (by omega) h1

end

/-! ## The stored block -/

theorem pay5_at (l : Fin 4 → FVec Ideal S1x256 .f32) (A : Fin 4 → FVec Ideal S1x64x256 .f32) (h : Fin 4) (j : Fin 256) (d : Fin 64) :
    k0_pay5 (l 0) (l 1) (l 2) (l 3) (A 0) (A 1) (A 2) (A 3) (ix3 0 j ⟨64 * h.val + d.val, by omega⟩)
      = Ideal.div (A h (ix3 0 d j)) (l h (ix2 0 j)) := by
  fin_cases h
  · pointwise [k0_pay5]
  · pointwise [k0_pay5]
  · pointwise [k0_pay5]
    rw [dif_neg (by omega), dif_neg (by omega), dif_pos (by omega)]
    simp only [show 128 + d.val - 64 - 64 = d.val by omega]
  · pointwise [k0_pay5]
    rw [dif_neg (by omega), dif_neg (by omega), dif_neg (by omega)]
    simp only [show 192 + d.val - 64 - 64 - 64 = d.val by omega]

theorem outBlk_at (i : grid0.Coords) (x3 : Vec Ideal S1x256x512 .bf16) (x4 : Vec Ideal S1x4096x512 .bf16)
    (x5 : Vec Ideal S1x2x2x128x2048 .bf16) (x : ℕ → ℝ) (v : Fin 64 → ℕ → EReal) (h : Fin 4) (j : Fin 256) (d : Fin 64)
    (hx : Scores x x3 x4 h j) (hv : Vals v x5 h) :
    outBlk i x3 x4 x5 (ix3 0 j ⟨64 * h.val + d.val, by omega⟩) = avg x (256 * (i 2).val + j.val) 4096 (v d) := by
  have hi : (i 2).val < 16 := (i 2).isLt
  have hj := j.isLt
  have hx' : Scores x (rdQ x3) x4 h j := fun κ hκ => by
    rw [← hx κ hκ]
    exact Finset.sum_congr rfl fun d _ => by rw [rdQ_at]
  have h1 := at_ok x v (rdQ x3) x4 x5 h j hx' hv i ((i 2).val / 8) le_rfl
  rw [Nat.sub_self, Nat.mul_zero, ← Finset.range_eq_Ico] at h1
  unfold outBlk
  refine (pay5_at (sumOf (fullAt i (rdQ x3) x4 x5 ((i 2).val / 8)).1) (fullAt i (rdQ x3) x4 x5 ((i 2).val / 8)).2 h j d).trans ?_
  rw [avg_range x _ (256 * ((i 2).val + 1)) 4096 _ (by omega) (by omega)]
  exact online_div x _ v _ (by omega) _ _ _ h1 d

end Cert.KernelIdeal.Mla

end
-- ==== Proof.Body.lean ====
/-
  The body of the attention kernel on whole staging buffers: one trip of its loop (`trip_run`), the loop by its invariant
  and the division and store (`sound_kernel`). What the step leaves in its output block is `outBlk` of the three input
  blocks; the scratch buffer may hold anything before, as it is stored before it is read.
-/
module

public import proofs.«01_k».proof.Proof.First
public import Idealize.ShloMosaic.Lib.LoopRemainder
public import Idealize.ShloMosaic.Lib.Pipeline.FrameBody
public import Idealize.ShloMosaic.Lib.Pipeline.Value
public import Idealize.ShloMosaic.Lib.Tactic

@[expose] public section
set_option maxRecDepth 16384
set_option maxHeartbeats 4000000

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The keys, the values and the scratch buffer held whole. -/
abbrev Held (c : Dev nD) (arg4 : Memref sig .tc .vmem S1x4096x512 .bf16)
    (arg5 : Memref sig .tc .vmem S1x2x2x128x2048 .bf16) (arg7 : Memref sig .tc .vmem S4x64x256 .f32)
    (X4 : BufTy.Contents (Elt F) arg4.view.ty) (X5 : BufTy.Contents (Elt F) arg5.view.ty)
    (f7 : BufTy.Contents (Elt F) arg7.view.ty) : sProp 𝕄 :=
  iprop((arg4.view.loc (c : Thread nD τ) ↦[arg4.view.set]{fullShare} X4)
    ∗ (arg5.view.loc (c : Thread nD τ) ↦[arg5.view.set]{fullShare} X5) ∗ (arg7.view.loc (c : Thread nD τ) ↦[arg7.view.set]{fullShare} f7))

set_option backward.isDefEq.respectTransparency false in
/-- One trip, at the printed offsets: from the state `s.1` and slabs `s.2` held by the scratch buffer. -/
theorem trip_raw (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole) (Q : Vec F S1x256x512 .bf16) (w z : BitVec 32)
    (X4 : BufTy.Contents (Elt F) arg4.view.ty) (X5 : BufTy.Contents (Elt F) arg5.view.ty) (f7 : BufTy.Contents (Elt F) arg7.view.ty)
    (k : Fin (k0_t1_loop i).trips) (acc : St F) :
    Held c arg4 arg5 arg7 X4 X5 f7
      ⊢ wp frame (wpE (defs₀ (F := F)) 𝒱 (c : Thread nD τ) bd) E (k0_t1_body (F := F) i arg3 harg3 arg4 harg4 arg5 harg5 arg6 harg6 arg7 harg7 (qHead Q 0) (qHead Q 1) (qHead Q 2) (qHead Q 3) w z k acc)
          (fun yld => iprop(⌜yld = stNext 7 (View.ld (View.read (Elt F) arg4.view X4) (Rect.unit (s := S1x4096x512) (k0_off41 i k) S1x2048x512.size (k0_off41_inb i k))) Q acc⌝ ∗
            Held c arg4 arg5 arg7 X4 X5 (arg7.view.writes (Elt F) f7 (pieces
              (accNext 7 (View.ld (View.read (Elt F) arg4.view X4) (Rect.unit (s := S1x4096x512) (k0_off41 i k) S1x2048x512.size (k0_off41_inb i k)))
                (View.ld (View.read (Elt F) arg5.view X5) (Rect.unit (s := S1x2x2x128x2048) (k0_off42 i k) S1x1x1x64x2048.size (k0_off42_inb i k))) Q 0 acc.1 (slab (View.read (Elt F) arg7.view f7) 0))
              (accNext 7 (View.ld (View.read (Elt F) arg4.view X4) (Rect.unit (s := S1x4096x512) (k0_off41 i k) S1x2048x512.size (k0_off41_inb i k)))
                (View.ld (View.read (Elt F) arg5.view X5) (Rect.unit (s := S1x2x2x128x2048) (k0_off43 i k) S1x1x1x64x2048.size (k0_off43_inb i k))) Q 1 acc.2.2.1 (slab (View.read (Elt F) arg7.view f7) 1))
              (accNext 7 (View.ld (View.read (Elt F) arg4.view X4) (Rect.unit (s := S1x4096x512) (k0_off41 i k) S1x2048x512.size (k0_off41_inb i k)))
                (View.ld (View.read (Elt F) arg5.view X5) (Rect.unit (s := S1x2x2x128x2048) (k0_off44 i k) S1x1x1x64x2048.size (k0_off44_inb i k))) Q 2 acc.2.2.2.2.1 (slab (View.read (Elt F) arg7.view f7) 2))
              (accNext 7 (View.ld (View.read (Elt F) arg4.view X4) (Rect.unit (s := S1x4096x512) (k0_off41 i k) S1x2048x512.size (k0_off41_inb i k)))
                (View.ld (View.read (Elt F) arg5.view X5) (Rect.unit (s := S1x2x2x128x2048) (k0_off45 i k) S1x1x1x64x2048.size (k0_off45_inb i k))) Q 3 acc.2.2.2.2.2.2.1 (slab (View.read (Elt F) arg7.view f7) 3))
            )))) := by
  unfold k0_t1_body
  iintro ⟨H4, H5, H7⟩
  sl_exec
  sl_step
  isplitr
  · ipureintro; rfl
  isplitl [H4]; · iexact H4
  isplitl [H5]; · iexact H5
  iexact H7

/-- One trip: it leaves the state and the slabs after the group it takes. -/
theorem trip_run (𝒱 : Variants) (c : Dev nD) (bd : Option 𝒱.V) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole) (Q : Vec F S1x256x512 .bf16) (w z : BitVec 32)
    (X4 : BufTy.Contents (Elt F) arg4.view.ty) (X5 : BufTy.Contents (Elt F) arg5.view.ty) (f7 : BufTy.Contents (Elt F) arg7.view.ty)
    (k : Fin (k0_t1_loop i).trips) (s : Full F) (hs : ∀ h, slab (View.read (Elt F) arg7.view f7) h = s.2 h) :
    Held c arg4 arg5 arg7 X4 X5 f7
      ⊢ wp frame (wpE (defs₀ (F := F)) 𝒱 (c : Thread nD τ) bd) E (k0_t1_body (F := F) i arg3 harg3 arg4 harg4 arg5 harg5 arg6 harg6 arg7 harg7 (qHead Q 0) (qHead Q 1) (qHead Q 2) (qHead Q 3) w z k s.1)
          (fun yld => iprop(⌜yld = (fullNext ((i 2).val / 8 - 1 - k.val) (trip_lt i k) Q (View.read (Elt F) arg4.view X4) (View.read (Elt F) arg5.view X5) s).1⌝ ∗
            Held c arg4 arg5 arg7 X4 X5 (arg7.view.writes (Elt F) f7 (pieces
              ((fullNext ((i 2).val / 8 - 1 - k.val) (trip_lt i k) Q (View.read (Elt F) arg4.view X4) (View.read (Elt F) arg5.view X5) s).2 0)
              ((fullNext ((i 2).val / 8 - 1 - k.val) (trip_lt i k) Q (View.read (Elt F) arg4.view X4) (View.read (Elt F) arg5.view X5) s).2 1)
              ((fullNext ((i 2).val / 8 - 1 - k.val) (trip_lt i k) Q (View.read (Elt F) arg4.view X4) (View.read (Elt F) arg5.view X5) s).2 2)
              ((fullNext ((i 2).val / 8 - 1 - k.val) (trip_lt i k) Q (View.read (Elt F) arg4.view X4) (View.read (Elt F) arg5.view X5) s).2 3)
            )))) := by
  unfold fullNext
  dsimp only
  rw [rdK_eq _ 7 _ (by decide) (trip_lt i k) (k0_off41 i k) (k0_off41_inb i k) (off41_eq i k),
    rdV_eq _ 7 _ (by decide) (trip_lt i k) 0 (k0_off42 i k) (k0_off42_inb i k) (off42_eq i k),
    rdV_eq _ 7 _ (by decide) (trip_lt i k) 1 (k0_off43 i k) (k0_off43_inb i k) (off43_eq i k),
    rdV_eq _ 7 _ (by decide) (trip_lt i k) 2 (k0_off44 i k) (k0_off44_inb i k) (off44_eq i k),
    rdV_eq _ 7 _ (by decide) (trip_lt i k) 3 (k0_off45 i k) (k0_off45_inb i k) (off45_eq i k),
    ← hs 0, ← hs 1, ← hs 2, ← hs 3]
  exact trip_raw 𝒱 c bd E i arg3 harg3 arg4 harg4 arg5 harg5 arg6 harg6 arg7 harg7 Q w z X4 X5 f7 k s.1

/-- Before trip `k`: the carried values and the slabs are the state's before it. -/
def inv (c : Dev nD) (i : grid0.Coords) (arg4 : Memref sig .tc .vmem S1x4096x512 .bf16)
    (arg5 : Memref sig .tc .vmem S1x2x2x128x2048 .bf16) (arg7 : Memref sig .tc .vmem S4x64x256 .f32)
    (X4 : BufTy.Contents (Elt F) arg4.view.ty) (X5 : BufTy.Contents (Elt F) arg5.view.ty) (Q : Vec F S1x256x512 .bf16)
    (k : ℕ) (acc : St F) : sProp 𝕄 :=
  iprop(∃ f7, Held c arg4 arg5 arg7 X4 X5 f7 ∗ ⌜acc = (fullAt i Q (View.read (Elt F) arg4.view X4) (View.read (Elt F) arg5.view X5) k).1
    ∧ ∀ h, slab (View.read (Elt F) arg7.view f7) h = (fullAt i Q (View.read (Elt F) arg4.view X4) (View.read (Elt F) arg5.view X5) k).2 h⌝)

abbrev r6 : Rect S1x256x256 := Rect.unit (s := S1x256x256) ![0, 0, 0] S1x256x256.size inb_S1x256x256_S1x256x256_0_0_0

/-- The body: the inputs stay, the output's block is `outBlk` of theirs. -/
theorem sound_kernel (c : Dev nD) (E : Set ℕ) (i : grid0.Coords) (arg3 : Memref sig .tc .vmem S1x256x512 .bf16) (harg3 : arg3.IsWhole) (arg4 : Memref sig .tc .vmem S1x4096x512 .bf16) (harg4 : arg4.IsWhole)
    (arg5 : Memref sig .tc .vmem S1x2x2x128x2048 .bf16) (harg5 : arg5.IsWhole) (arg6 : Memref sig .tc .vmem S1x256x256 .bf16) (harg6 : arg6.IsWhole)
    (arg7 : Memref sig .tc .vmem S4x64x256 .f32) (harg7 : arg7.IsWhole)
    (x3 : Vec F S1x256x512 .bf16) (x4 : Vec F S1x4096x512 .bf16) (x5 : Vec F S1x2x2x128x2048 .bf16) (K : PUnit → sProp 𝕄) :
    iprop(owns (c : Thread nD τ) arg3 fullShare x3 ∗ owns (c : Thread nD τ) arg4 fullShare x4 ∗ owns (c : Thread nD τ) arg5 fullShare x5
        ∗ (∃ d, owns (c : Thread nD τ) arg6 fullShare d) ∗ (∃ d, owns (c : Thread nD τ) arg7 fullShare d)
        ∗ (iprop(owns (c : Thread nD τ) arg3 fullShare x3 ∗ owns (c : Thread nD τ) arg4 fullShare x4 ∗ owns (c : Thread nD τ) arg5 fullShare x5
            ∗ owns (c : Thread nD τ) arg6 fullShare (outBlk i x3 x4 x5) ∗ (∃ d, owns (c : Thread nD τ) arg7 fullShare d)) -∗ K ⟨⟩))
      ⊢ wp frame (wpE (defs₀ (F := F)) Variants.none c none) E (cc0_mla_attn i arg3 harg3 arg4 harg4 arg5 harg5 arg6 harg6 arg7 harg7) K := by
  rw [cc0_mla_attn_eq_skeleton]; unfold cc0_mla_attn_skel
  unfold owns
  iintro ⟨⟨%f3, %h3, H3⟩, ⟨%f4, %h4, H4⟩, ⟨%f5, %h5, H5⟩, ⟨%d6, %f6, -, H6⟩, ⟨%d7, %f7, -, H7⟩, Hk⟩
  subst h3 h4 h5
  rw [wp_bind]
  iapply (wp_wand_r frame (wpE (defs₀ (F := F)) Variants.none c none) E)
  isplitl [H3 H4 H5 H7]
  · iapply (first_run Variants.none c none E i arg3 harg3 arg4 harg4 arg5 harg5 arg6 harg6 arg7 harg7 f3 f4 f5 f7)
    isplitl [H3]; · iexact H3
    isplitl [H4]; · iexact H4
    isplitl [H5]; · iexact H5
    iexact H7
  iintro %y ⟨%w, %hy, H3, H4, H5, H7⟩
  subst hy
  unfold ret
  dsimp only
  sl_for (inv c i arg4 arg5 arg7 f4 f5 (rdQ (View.read (Elt F) arg3.view f3))) $$ [H4 H5 H7]
  case region =>
    intro k acc
    unfold inv
    iintro ⟨%g7, HH, %hh⟩
    obtain ⟨rfl, hs⟩ := hh
    iapply (wp_wand_r frame (wpE (defs₀ (F := F)) Variants.none c none) E)
    isplitl [HH]
    · iapply (trip_run Variants.none c none E i arg3 harg3 arg4 harg4 arg5 harg5 arg6 harg6 arg7 harg7 _ w 0#32 f4 f5 g7 k _ hs); iexact HH
    iintro %y ⟨%hy, HH⟩
    subst hy
    iexists _
    isplitl [HH]; · iexact HH
    ipureintro
    refine ⟨rfl, fun h => ?_⟩
    rw [slab_pieces]
    fin_cases h <;> rfl
  · unfold inv
    iexists _
    isplitl [H4 H5 H7]
    · isplitl [H4]; · iexact H4
      isplitl [H5]; · iexact H5
      iexact H7
    ipureintro
    refine ⟨rfl, fun h => ?_⟩
    rw [slab_pieces]
    fin_cases h <;> rfl
  iintro %acc HI
  unfold inv
  icases HI with ⟨%g7, ⟨H4, H5, H7⟩, %hh⟩
  sl_exec
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (View.read_writes_eq_canon _ _ _ (View.cover_of_tiled [⟨r6, _⟩] S1x256x256.size (by rfl))).trans ?_
    refine (View.canon_cons_unit_zero (by funext a; fin_cases a <;> rfl) _ _ _).trans ?_
    obtain ⟨ha, hs⟩ := hh
    rw [show Scf.trips (k0_t1_loop i).lb (k0_t1_loop i).ub (k0_t1_loop i).st = (i 2).val / 8 from trips_eq i] at ha hs
    subst ha
    unfold outBlk
    dsimp only
    rw [← hs 0, ← hs 1, ← hs 2, ← hs 3]
    rfl
  · iexists _, _; isplitr
    swap; · iexact H7
    ipureintro; rfl

end Cert.KernelIdeal.Mla

end
-- ==== Proof.Frame.lean ====
/-
  The launch of the attention kernel: the pipeline's proof data, the body obligation from `sound_kernel`, the run and the
  frame, after the pattern of a kernel whose scratch buffer is the invariant's.
-/
module

public import proofs.«01_k».proof.Proof.Body
public import proofs.«01_k».proof.Proof.Gen.KernelIdeal.Frame
public import Idealize.ShloMosaic.Lib.Claim

@[expose] public section
set_option maxRecDepth 16384
set_option maxHeartbeats 4000000

noncomputable section

namespace Cert.KernelIdeal.Mla

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: every input block stays, the output block is the step's `outBlk`; the invariant is the scoped rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (grid0.coords t) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The scoped rest is the scratch buffer, at some contents, and the generator's register. -/
theorem PhiA_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- The body at a point: the blocks and the scratch buffer through `sound_kernel`. -/
theorem sound_body (c : Dev nD) (t : Fin cfg0.N) :
    bodyPre m c t ⊢ wp Idealize.ShloMosaic.frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq,
    after0_0, after0_1, after0_2, after0_3]
  iintro ⟨⟨HS, HR⟩, Ho, ⟨%d0, H0⟩, ⟨%d1, H1⟩, ⟨%d2, H2⟩, ⟨%d3, H3⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [HS HR]
  · isplitl [HS]; · iexact HS
    iexact HR
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline at what the proof data say, the other buffers as the region found them, every
    counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Mla

end
-- ==== Proof.Operands.lean ====
/-
  The attention kernel's three operands as functions of the queries, keys and values: each of the first two has its heads'
  rows side by side, every head padded from 96 to 128 lanes, the queries scaled; the third has the values of a pair of heads
  transposed, one under the other.
-/
module

public import proofs.«01_k».proof.Proof.Step
public import proofs.«01_k».proof.Proof.Frame
public import Idealize.ShloMosaic.Lib.StableHlo.Run

@[expose] public section

noncomputable section

namespace Cert.KernelIdeal.Mla

open Idealize.ShloMosaic Idealize.ShloMosaic.TcCoe Idealize.ShloMosaic.StableHlo
open Cert.KernelIdeal.Gen

section
variable {F : FTy → Type} [FloatOps F]

/-- The heads' rows side by side, every head padded to 128 lanes. -/
def rowsOf (x : FVec F S4x8x4096x96 .f32) : FVec F S4x4096x1024 .bf16 :=
  truncf .bf16 (shapeCast S4x4096x1024 (transpose S4x4096x8x128 [0, 2, 1, 3]
    (pad S4x8x4096x128 ![0, 0, 0, 0] ![0, 0, 0, 32] ![0, 0, 0, 0] x (sitofp .f32 (constantI S_ 32 0#32) : FVec F S_ .f32)
      pads_S4x8x4096x96_S4x8x4096x128_000_000_000_0320 h_S_)
    transposes_S4x8x4096x128_S4x4096x8x128_0_2_1_3) shapeCasts_S4x4096x8x128_S4x4096x1024) bitsLt_bf16_f32

/-- The queries scaled for a softmax in base two. -/
def scaled (q : FVec F S4x8x4096x96 .f32) : FVec F S4x8x4096x96 .f32 :=
  mulf (broadcastInDim S4x8x4096x96 ![] bcast_S_S4x8x4096x96
    (Host.divf (constant S_ .f32 0x3DD105EC#32) (Host.log (constant S_ .f32 0x40000000#32 : FVec F S_ .f32)))) q

/-- The values of each pair of heads, transposed. -/
def valsOf (v : FVec F S4x8x4096x64 .f32) : FVec F S4x4x2x128x2048 .bf16 :=
  truncf .bf16 (shapeCast S4x4x2x128x2048 (transpose S4x4x2x2x64x2048 [0, 1, 3, 2, 5, 4]
    (shapeCast S4x4x2x2x2048x64 v shapeCasts_S4x8x4096x64_S4x4x2x2x2048x64)
    transposes_S4x4x2x2x2048x64_S4x4x2x2x64x2048_0_1_3_2_5_4) shapeCasts_S4x4x2x2x64x2048_S4x4x2x128x2048) bitsLt_bf16_f32

variable (m : (ℓ : Loc nD τ sig) → Buf (Elt F) ℓ)

theorem V_q (c : Dev nD) : V m c main_v8 = rowsOf (scaled (m ((c : Thread nD τ).loc main_arg0))) := by
  unfold V
  simp only [hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp <;> rfl

theorem V_k (c : Dev nD) : V m c main_v12 = rowsOf (m ((c : Thread nD τ).loc main_arg1)) := by
  unfold V
  simp only [hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp <;> rfl

theorem V_v (c : Dev nD) : V m c main_v16 = valsOf (m ((c : Thread nD τ).loc main_arg2)) := by
  unfold V
  simp only [hostOps0, hostOps0_1, hostOps0_2, hostOps0_3, hostOps0_4, List.flatten_cons, List.flatten_nil, List.append_nil,
    List.cons_append, List.nil_append, TRef.binary, TRef.unary, TRef.toBuf, TRef.ofBuf, cast_eq]
  after_results_simp <;> rfl

end

/-! ## Read at an index -/

theorem rowsOf_at (x : FVec Ideal S4x8x4096x96 .f32) (b : Fin 4) (H : Fin 8) (t : Fin 4096) (d : Fin 128) :
    rowsOf x (ix3 b t ⟨128 * H.val + d.val, by omega⟩) = if hd : d.val < 96 then x (ix4 b H t ⟨d.val, hd⟩) else 0 := by
  pointwise [rowsOf]
  have e : (FloatOps.sitofp (F := Ideal) FTy.f32 0#32 : EReal) = 0 := by
    show ((((0#32 : BitVec 32).toInt : ℤ) : ℝ) : EReal) = 0
    simp
  rw [e]

theorem scaled_at (q : FVec Ideal S4x8x4096x96 .f32) (i : S4x8x4096x96.Idx) :
    scaled q i = Ideal.div (Ideal.ofBits .f32 0x3DD105EC#32) (Ideal.log (Ideal.ofBits .f32 0x40000000#32)) * q i := by
  pointwise [scaled]

theorem valsOf_at (v : FVec Ideal S4x8x4096x64 .f32) (b : Fin 4) (p : Fin 4) (s : Fin 2) (g : Fin 2) (d : Fin 64) (k : Fin 2048) :
    valsOf v (ix5 b p g ⟨64 * s.val + d.val, by omega⟩ k)
      = v (ix4 b ⟨2 * p.val + s.val, by omega⟩ ⟨2048 * g.val + k.val, by omega⟩ d) := by
  pointwise [valsOf]
  simp only [Nat.mul_comm]

end Cert.KernelIdeal.Mla

end
-- ==== Proof.Blocks.lean ====
/-
  The attention kernel's blocks: where each grid point's block of an operand or of the result lies, and what it reads there.
-/
module

public import proofs.«01_k».proof.Proof.Attn
public import proofs.«01_k».proof.Proof.Operands

@[expose] public section

noncomputable section

namespace Cert.KernelIdeal.Mla

open Idealize.ShloMosaic Idealize.ShloMosaic.TcCoe
open Cert.KernelIdeal.Gen Cert.Proof Cert.Proof.Attn

/-! ## Blocks -/

/-- Which block each window takes, by the grid point's batch, head group and query block. -/
theorem idx0 : ∀ t : Fin cfg0.N, win0_0.index t (0 : Fin 3) = (grid0.coords t 0).val
    ∧ win0_0.index t (1 : Fin 3) = (grid0.coords t 2).val ∧ win0_0.index t (2 : Fin 3) = (grid0.coords t 1).val :=
  (by decide +kernel : ∀ t : Fin grid0.N, _)
theorem idx1 : ∀ t : Fin cfg0.N, win0_1.index t (0 : Fin 3) = (grid0.coords t 0).val
    ∧ win0_1.index t (1 : Fin 3) = 0 ∧ win0_1.index t (2 : Fin 3) = (grid0.coords t 1).val :=
  (by decide +kernel : ∀ t : Fin grid0.N, _)
theorem idx2 : ∀ t : Fin cfg0.N, win0_2.index t (0 : Fin 5) = (grid0.coords t 0).val
    ∧ win0_2.index t (1 : Fin 5) = (grid0.coords t 1).val ∧ win0_2.index t (2 : Fin 5) = 0
    ∧ win0_2.index t (3 : Fin 5) = 0 ∧ win0_2.index t (4 : Fin 5) = 0 :=
  (by decide +kernel : ∀ t : Fin grid0.N, _)
theorem idx3 : ∀ t : Fin cfg0.N, win0_3.index t (0 : Fin 3) = (grid0.coords t 0).val
    ∧ win0_3.index t (1 : Fin 3) = (grid0.coords t 2).val ∧ win0_3.index t (2 : Fin 3) = (grid0.coords t 1).val :=
  (by decide +kernel : ∀ t : Fin grid0.N, _)

/-- A grid point's batch. -/
def bat (t : Fin cfg0.N) : Fin 4 := grid0.coords t 0
/-- Its group of four heads. -/
def grp (t : Fin cfg0.N) : Fin 2 := grid0.coords t 1
/-- Its block of 256 queries. -/
def qb (t : Fin cfg0.N) : Fin 16 := grid0.coords t 2

/-- Query `j` of the point's block. -/
def row (t : Fin cfg0.N) (j : Fin 256) : Fin 4096 := ⟨256 * (qb t).val + j.val, by omega⟩
/-- Head `h` of the point's group. -/
def head (t : Fin cfg0.N) (h : Fin 4) : Fin 8 := ⟨4 * (grp t).val + h.val, by omega⟩

theorem emb0 (t : Fin cfg0.N) (j : Fin 256) (d : Fin 512) :
    ((cfg0.win 0).blk t).view.emb (ix3 0 j d) = ix3 (bat t) (row t j) ⟨512 * (grp t).val + d.val, by omega⟩ := by
  obtain ⟨e0, e1, e2⟩ := idx0 t
  funext a; apply Fin.ext
  match a with
  | ⟨0, _⟩ => show win0_0.index t (0 : Fin 3) * 1 + 1 * 0 = (grid0.coords t 0).val; omega
  | ⟨1, _⟩ => show win0_0.index t (1 : Fin 3) * 256 + 1 * j.val = 256 * (grid0.coords t 2).val + j.val; omega
  | ⟨2, _⟩ => show win0_0.index t (2 : Fin 3) * 512 + 1 * d.val = 512 * (grid0.coords t 1).val + d.val; omega

theorem emb1 (t : Fin cfg0.N) (κ : Fin 4096) (d : Fin 512) :
    ((cfg0.win 1).blk t).view.emb (ix3 0 κ d) = ix3 (bat t) κ ⟨512 * (grp t).val + d.val, by omega⟩ := by
  obtain ⟨e0, e1, e2⟩ := idx1 t
  funext a; apply Fin.ext
  match a with
  | ⟨0, _⟩ => show win0_1.index t (0 : Fin 3) * 1 + 1 * 0 = (grid0.coords t 0).val; omega
  | ⟨1, _⟩ => show win0_1.index t (1 : Fin 3) * 4096 + 1 * κ.val = κ.val; omega
  | ⟨2, _⟩ => show win0_1.index t (2 : Fin 3) * 512 + 1 * d.val = 512 * (grid0.coords t 1).val + d.val; omega

theorem emb2 (t : Fin cfg0.N) (p : Fin 2) (g : Fin 2) (d : Fin 128) (k : Fin 2048) :
    ((cfg0.win 2).blk t).view.emb (ix5 0 p g d k) = ix5 (bat t) ⟨2 * (grp t).val + p.val, by omega⟩ g d k := by
  obtain ⟨e0, e1, e2, e3, e4⟩ := idx2 t
  funext a; apply Fin.ext
  match a with
  | ⟨0, _⟩ => show win0_2.index t (0 : Fin 5) * 1 + 1 * 0 = (grid0.coords t 0).val; omega
  | ⟨1, _⟩ => show win0_2.index t (1 : Fin 5) * 2 + 1 * p.val = 2 * (grid0.coords t 1).val + p.val; omega
  | ⟨2, _⟩ => show win0_2.index t (2 : Fin 5) * 2 + 1 * g.val = g.val; omega
  | ⟨3, _⟩ => show win0_2.index t (3 : Fin 5) * 128 + 1 * d.val = d.val; omega
  | ⟨4, _⟩ => show win0_2.index t (4 : Fin 5) * 2048 + 1 * k.val = k.val; omega

theorem emb3 (t : Fin cfg0.N) (j : Fin 256) (d : Fin 256) :
    ((cfg0.win 3).blk t).view.emb (ix3 0 j d) = ix3 (bat t) (row t j) ⟨256 * (grp t).val + d.val, by omega⟩ := by
  obtain ⟨e0, e1, e2⟩ := idx3 t
  funext a; apply Fin.ext
  match a with
  | ⟨0, _⟩ => show win0_3.index t (0 : Fin 3) * 1 + 1 * 0 = (grid0.coords t 0).val; omega
  | ⟨1, _⟩ => show win0_3.index t (1 : Fin 3) * 256 + 1 * j.val = 256 * (grid0.coords t 2).val + j.val; omega
  | ⟨2, _⟩ => show win0_3.index t (2 : Fin 3) * 256 + 1 * d.val = 256 * (grid0.coords t 1).val + d.val; omega

/-! ## What a grid point reads -/

variable (m : (ℓ : Loc nD τ sig) → Buf (Elt Ideal) ℓ) (ρ : Dev nD → PrngReg) (c : Dev nD)

abbrev argQ : Vec Ideal S4x8x4096x96 .f32 := m ((c : Thread nD τ).loc main_arg0)
abbrev argK : Vec Ideal S4x8x4096x96 .f32 := m ((c : Thread nD τ).loc main_arg1)
abbrev argV : Vec Ideal S4x8x4096x64 .f32 := m ((c : Thread nD τ).loc main_arg2)

/-- The three blocks a grid point reads. -/
abbrev blkQ (t : Fin cfg0.N) : Vec Ideal S1x256x512 .bf16 := iblk m c 0 t
abbrev blkK (t : Fin cfg0.N) : Vec Ideal S1x4096x512 .bf16 := iblk m c 1 t
abbrev blkV (t : Fin cfg0.N) : Vec Ideal S1x2x2x128x2048 .bf16 := iblk m c 2 t

theorem blkQ_eq (t : Fin cfg0.N) :
    blkQ m c t = ((cfg0.win 0).blk t).view.read (Elt Ideal) (rowsOf (F := Ideal) (scaled (F := Ideal) (argQ m c))) :=
  congrArg (((cfg0.win 0).blk t).view.read (Elt Ideal)) (V_q m c)
theorem blkK_eq (t : Fin cfg0.N) :
    blkK m c t = ((cfg0.win 1).blk t).view.read (Elt Ideal) (rowsOf (F := Ideal) (argK m c)) :=
  congrArg (((cfg0.win 1).blk t).view.read (Elt Ideal)) (V_k m c)
theorem blkV_eq (t : Fin cfg0.N) :
    blkV m c t = ((cfg0.win 2).blk t).view.read (Elt Ideal) (valsOf (F := Ideal) (argV m c)) :=
  congrArg (((cfg0.win 2).blk t).view.read (Elt Ideal)) (V_v m c)

theorem read0 (X : Vec Ideal S4x4096x1024 .bf16) (t : Fin cfg0.N) (j : Fin 256) (e : Fin 512) :
    ((cfg0.win 0).blk t).view.read (Elt Ideal) X (ix3 0 j e) = X (ix3 (bat t) (row t j) ⟨512 * (grp t).val + e.val, by omega⟩) :=
  congrArg X (emb0 t j e)
theorem read1 (X : Vec Ideal S4x4096x1024 .bf16) (t : Fin cfg0.N) (κ : Fin 4096) (e : Fin 512) :
    ((cfg0.win 1).blk t).view.read (Elt Ideal) X (ix3 0 κ e) = X (ix3 (bat t) κ ⟨512 * (grp t).val + e.val, by omega⟩) :=
  congrArg X (emb1 t κ e)
theorem read2 (X : Vec Ideal S4x4x2x128x2048 .bf16) (t : Fin cfg0.N) (p : Fin 2) (g : Fin 2) (d : Fin 128) (k : Fin 2048) :
    ((cfg0.win 2).blk t).view.read (Elt Ideal) X (ix5 0 p g d k) = X (ix5 (bat t) ⟨2 * (grp t).val + p.val, by omega⟩ g d k) :=
  congrArg X (emb2 t p g d k)
theorem read3 (X : Vec Ideal S4x4096x512 .bf16) (t : Fin cfg0.N) (j : Fin 256) (e : Fin 256) :
    ((cfg0.win 3).blk t).view.read (Elt Ideal) X (ix3 0 j e) = X (ix3 (bat t) (row t j) ⟨256 * (grp t).val + e.val, by omega⟩) :=
  congrArg X (emb3 t j e)

/-- Lane `128 h + d` of the point's block of queries is lane `d` of its head `h`. -/
theorem blkQ_at (t : Fin cfg0.N) (j : Fin 256) (h : Fin 4) (d : Fin 128) : blkQ m c t (ix3 0 j ⟨128 * h.val + d.val, by omega⟩)
    = rowsOf (F := Ideal) (scaled (F := Ideal) (argQ m c)) (ix3 (bat t) (row t j) ⟨128 * (head t h).val + d.val, by omega⟩) := by
  have e : (⟨512 * (grp t).val + (128 * h.val + d.val), by omega⟩ : Fin 1024) = ⟨128 * (head t h).val + d.val, by omega⟩ :=
    Fin.ext (by show _ = 128 * (4 * (grp t).val + h.val) + d.val; dsimp only; omega)
  exact (congrFun (blkQ_eq m c t) _).trans ((read0 _ t j _).trans (congrArg (fun e => rowsOf (F := Ideal) _ (ix3 (bat t) (row t j) e)) e))

theorem blkK_at (t : Fin cfg0.N) (κ : Fin 4096) (h : Fin 4) (d : Fin 128) : blkK m c t (ix3 0 κ ⟨128 * h.val + d.val, by omega⟩)
    = rowsOf (F := Ideal) (argK m c) (ix3 (bat t) κ ⟨128 * (head t h).val + d.val, by omega⟩) := by
  have e : (⟨512 * (grp t).val + (128 * h.val + d.val), by omega⟩ : Fin 1024) = ⟨128 * (head t h).val + d.val, by omega⟩ :=
    Fin.ext (by show _ = 128 * (4 * (grp t).val + h.val) + d.val; dsimp only; omega)
  exact (congrFun (blkK_eq m c t) _).trans ((read1 _ t κ _).trans (congrArg (fun e => rowsOf (F := Ideal) _ (ix3 (bat t) κ e)) e))

theorem blkV_at (t : Fin cfg0.N) (p : Fin 2) (g : Fin 2) (d : Fin 128) (k : Fin 2048) : blkV m c t (ix5 0 p g d k)
    = valsOf (F := Ideal) (argV m c) (ix5 (bat t) ⟨2 * (grp t).val + p.val, by omega⟩ g d k) :=
  (congrFun (blkV_eq m c t) _).trans (read2 _ t p g d k)

end Cert.KernelIdeal.Mla

end
-- ==== Proof.Result.lean ====
/-
  The attention kernel's result array: each grid point reads its block of the three operands and writes back its block of
  the attention, and the blocks cover the array.
-/
module

public import proofs.«01_k».proof.Proof.Attn
public import proofs.«01_k».proof.Proof.Blocks

@[expose] public section

noncomputable section

namespace Cert.KernelIdeal.Mla

open Idealize.ShloMosaic Idealize.ShloMosaic.TcCoe
open Cert.KernelIdeal.Gen Cert.Proof Cert.Proof.Attn

/-- A sum of 128 lanes of which the last 32 are zero. -/
theorem sum_pad (f : Fin 128 → EReal) (g : Fin 96 → EReal) (h : ∀ d : Fin 96, f ⟨d.val, by omega⟩ = g d)
    (hz : ∀ d : Fin 128, 96 ≤ d.val → f d = 0) : ∑ d, f d = ∑ d, g d := by
  rw [show ∑ d, f d = ∑ d : Fin (96 + 32), f d from rfl, Fin.sum_univ_add]
  rw [Finset.sum_eq_zero (s := Finset.univ) (f := fun i : Fin 32 => f (Fin.natAdd 96 i))
    (fun i _ => hz _ (by show 96 ≤ 96 + i.val; omega)), add_zero]
  exact Finset.sum_congr rfl fun d _ => h d

variable (m : (ℓ : Loc nD τ sig) → Buf (Elt Ideal) ℓ) (c : Dev nD)

/-- The factor of the queries is real. -/
theorem factor : Ideal.div (Ideal.ofBits .f32 0x3DD105EC#32) (Ideal.log (Ideal.ofBits .f32 0x40000000#32))
    = ((scale / Real.log 2 : ℝ) : EReal) := by
  rw [scale_eq, log_two, div_coe _ _ (Real.log_pos one_lt_two), ← EReal.coe_mul, div_eq_mul_inv]

theorem sum_logit {q k : Vec Ideal S4x8x4096x96 .f32} (hq : AllReal q) (hk : AllReal k) (b : Fin 4) (H : Fin 8) (t κ : Fin 4096) :
    ∑ d : Fin 96, q (ix4 b H t d) * k (ix4 b H κ d) * ((scale / Real.log 2 : ℝ) : EReal)
      = ((logit q k b H t κ.val / Real.log 2 : ℝ) : EReal) := by
  have e : ∀ d : Fin 96, q (ix4 b H t d) * k (ix4 b H κ d) * ((scale / Real.log 2 : ℝ) : EReal)
      = (((q (ix4 b H t d)).toReal * (k (ix4 b H κ d)).toReal * (scale / Real.log 2) : ℝ) : EReal) := fun d => by
    rw [EReal.coe_mul, EReal.coe_mul, hq.coe_toReal, hk.coe_toReal]
  rw [Finset.sum_congr rfl fun d _ => e d, ← coe_sum, ← Finset.sum_mul, logit, dif_pos κ.isLt, dotOf, mul_div_assoc]

/-- The products of the block's rows are the scores, over `log 2`. -/
theorem scores (hq : AllReal (argQ m c)) (hk : AllReal (argK m c)) (t : Fin cfg0.N) (h : Fin 4) (j : Fin 256) :
    Scores (logit (argQ m c) (argK m c) (bat t) (head t h) (row t j)) (blkQ m c t) (blkK m c t) h j := by
  intro κ hκ
  have e : ∀ d : Fin 128, blkK m c t (ix3 0 ⟨κ, hκ⟩ ⟨128 * h.val + d.val, by omega⟩)
        * blkQ m c t (ix3 0 j ⟨128 * h.val + d.val, by omega⟩)
      = rowsOf (F := Ideal) (argK m c) (ix3 (bat t) ⟨κ, hκ⟩ ⟨128 * (head t h).val + d.val, by omega⟩)
        * rowsOf (F := Ideal) (scaled (F := Ideal) (argQ m c)) (ix3 (bat t) (row t j) ⟨128 * (head t h).val + d.val, by omega⟩) := fun d => by
    rw [blkQ_at, blkK_at]
  refine (Finset.sum_congr rfl fun d _ => e d).trans ?_
  rw [sum_pad _ (fun d => argQ m c (ix4 (bat t) (head t h) (row t j) d) * argK m c (ix4 (bat t) (head t h) ⟨κ, hκ⟩ d)
    * ((scale / Real.log 2 : ℝ) : EReal))]
  · exact sum_logit hq hk (bat t) (head t h) (row t j) ⟨κ, hκ⟩
  · intro d
    rw [rowsOf_at, rowsOf_at, dif_pos d.isLt, dif_pos d.isLt, scaled_at, factor]
    exact (mul_comm _ _).trans ((congrArg (· * argK m c _) (mul_comm _ _)).trans (mul_right_comm _ _ _))
  · intro d hd
    rw [rowsOf_at, rowsOf_at, dif_neg (by omega), dif_neg (by omega), zero_mul]

/-- The block's values are the argument's. -/
theorem vals (t : Fin cfg0.N) (h : Fin 4) : Vals (val (argV m c) (bat t) (head t h)) (blkV m c t) h := by
  intro d g k
  refine (blkV_at m c t _ g _ k).trans ?_
  refine (valsOf_at _ _ _ ⟨h.val % 2, by omega⟩ _ _ _).trans ?_
  rw [val, dif_pos (by omega)]
  have e : (⟨2 * (2 * (grp t).val + h.val / 2) + h.val % 2, by omega⟩ : Fin 8) = head t h :=
    Fin.ext (by show _ = 4 * (grp t).val + h.val; dsimp only; omega)
  exact congrArg (fun H => argV m c (ix4 (bat t) H _ d)) e

/-! ## The result array -/

abbrev RES : Vec Ideal S4x4096x512 .bf16 := attn (argQ m c) (argK m c) (argV m c)

/-- What a point leaves in the result's buffer, entry by entry. -/
theorem after_at (hq : AllReal (argQ m c)) (hk : AllReal (argK m c)) (t : Fin cfg0.N) (j e : Fin 256) :
    outBlk (F := Ideal) (grid0.coords t) (blkQ m c t) (blkK m c t) (blkV m c t) (ix3 0 j e)
      = ((cfg0.win 3).blk t).view.read (Elt Ideal) (RES m c) (ix3 0 j e) := by
  rw [read3]
  obtain ⟨h, d, rfl⟩ : ∃ (h : Fin 4) (d : Fin 64), e = ⟨64 * h.val + d.val, by omega⟩ :=
    ⟨⟨e.val / 64, by omega⟩, ⟨e.val % 64, by omega⟩, Fin.ext (by dsimp only; omega)⟩
  rw [outBlk_at (grid0.coords t) (blkQ m c t) (blkK m c t) (blkV m c t) _ _ h j d (scores m c hq hk t h j) (vals m c t h)]
  exact (attn_at _ _ _ (bat t) (row t j) (head t h) d _
    (by show 256 * (grp t).val + (64 * h.val + d.val) = 64 * (4 * (grp t).val + h.val) + d.val; omega)).symm

/-- What a point writes back is its block of the attention. -/
theorem flushed3_eq (hq : AllReal (argQ m c)) (hk : AllReal (argK m c)) (t : Fin cfg0.N) :
    (dats m 0 c).flushed 3 t = ((cfg0.win 3).blk t).view.read (Elt Ideal) (RES m c) := by
  have e : (dats m 0 c).flushed 3 t = (cfg0.win 3).cut (grid0.coords t) ((dats m 0 c).after 3 t) := rfl
  rw [e, after0_3]
  funext i
  idx_vars i
  obtain rfl : i0 = 0 := Subsingleton.elim _ _
  exact after_at m c hq hk t i1 i2

/-- Every index of the result array is in some point's block. -/
theorem point : ∀ (b : Fin 4) (g : Fin 2) (n : Fin 16), ∃ t : Fin grid0.N,
    (grid0.coords t 0).val = b.val ∧ (grid0.coords t 1).val = g.val ∧ (grid0.coords t 2).val = n.val := by decide +kernel

theorem covered3 (i : S4x4096x512.Idx) :
    ∃ t : Fin cfg0.N, (cfg0.win 3).flush t = true ∧ i ∈ ((cfg0.win 3).blk t).view.set := by
  idx_vars i
  obtain ⟨t, h0, h1, h2⟩ := point i0 ⟨i2.val / 256, by omega⟩ ⟨i1.val / 256, by omega⟩
  refine ⟨t, flush0_3 t, ?_⟩
  have h := ((cfg0.win 3).blk t).view.emb_mem_set (ix3 0 (⟨i1.val % 256, by omega⟩ : Fin 256) (⟨i2.val % 256, by omega⟩ : Fin 256))
  rw [emb3] at h
  have e0 : bat t = i0 := Fin.ext h0
  have e1 : row t ⟨i1.val % 256, by omega⟩ = i1 := Fin.ext (by
    show 256 * (grid0.coords t 2).val + i1.val % 256 = i1.val
    rw [h2]; dsimp only; omega)
  have e2 : (⟨256 * (grp t).val + i2.val % 256, by omega⟩ : Fin 512) = i2 := Fin.ext (by
    show 256 * (grid0.coords t 1).val + i2.val % 256 = i2.val
    rw [h1]; dsimp only; omega)
  rw [e0, e1, e2] at h
  exact h

theorem final3 (hq : AllReal (argQ m c)) (hk : AllReal (argK m c)) : (dats m 0 c).arrAt 3 cfg0.N = RES m c :=
  (dats m 0 c).arrAt_eq_of_cover 3 (RES m c) (fun t _ => flushed3_eq m c hq hk t) covered3

end Cert.KernelIdeal.Mla

end
-- ==== Proof.RefVal.lean ====
/-
  The reference's result, index by index: the softmax average over the keys not after the query.
-/
module

public import proofs.«01_k».proof.Proof.Attn
public import proofs.«01_k».proof.Proof.Score
public import proofs.«01_k».proof.Proof.Gen.ReferenceIdeal.Run

@[expose] public section

noncomputable section

namespace Cert.ReferenceIdeal.Mla

open Idealize.ShloMosaic Idealize.ShloMosaic.TcCoe Cert.ReferenceIdeal Cert.ReferenceIdeal.Gen Cert.Proof Cert.Proof.Attn

/-! ## The reference's stages -/

/-- The scores, masked. -/
def refScores (q k : FVec Ideal S4x8x4096x96 .f32) : FVec Ideal S4x8x4096x4096 .f32 :=
  select (broadcastInDim S4x8x4096x4096 ![2, 3] bcast_S4096x4096_S4x8x4096x4096_2_3
      (cmpi .sle (broadcastInDim S4096x4096 ![0, 1] bcast_S1x4096_S4096x4096_0_1
          (broadcastInDim S1x4096 ![1] bcast_S4096_S1x4096_1 (iotaInDim S4096 32 0)))
        (broadcastInDim S4096x4096 ![0, 1] bcast_S4096x1_S4096x4096_0_1
          (broadcastInDim S4096x1 ![0] bcast_S4096_S4096x1_0 (iotaInDim S4096 32 0)))))
    (mulf (Host.dotGeneral dot_S4x8x4096x96_S4x8x4096x96_S4x8x4096x4096_3_3_2_2_01_01 none q k)
      (broadcastInDim S4x8x4096x4096 ![] bcast_S_S4x8x4096x4096 (constant S_ .f32 0x3DD105EC#32)))
    (broadcastInDim S4x8x4096x4096 ![] bcast_S_S4x8x4096x4096 (id (constant S_ .f32 0xFF800000#32)))

/-- A value per query, at every key. -/
def alongKeys (x : FVec Ideal S4x8x4096 .f32) : FVec Ideal S4x8x4096x4096 .f32 :=
  broadcastInDim S4x8x4096x4096 ![0, 1, 2, 3] bcast_S4x8x4096x1_S4x8x4096x4096_0_1_2_3
    (broadcastInDim S4x8x4096x1 ![0, 1, 2] bcast_S4x8x4096_S4x8x4096x1_0_1_2 x)

/-- The greatest score of every query. -/
def refMax (s : FVec Ideal S4x8x4096x4096 .f32) : FVec Ideal S4x8x4096 .f32 :=
  maximumf (broadcastInDim S4x8x4096 ![] bcast_S_S4x8x4096 (constant S_ .f32 0xFF800000#32))
    (Host.reduce FloatOps.maximumf s (constant S_ .f32 0xFF800000#32) reducesTo_S4x8x4096x4096_S4x8x4096_d3 h_S_)

/-- The exponentials of the shifted scores. -/
def refExp (s : FVec Ideal S4x8x4096x4096 .f32) : FVec Ideal S4x8x4096x4096 .f32 :=
  Host.exp (subf s (alongKeys (refMax s)))

/-- The weights. -/
def refWeights (e : FVec Ideal S4x8x4096x4096 .f32) : FVec Ideal S4x8x4096x4096 .f32 :=
  Host.divf e (alongKeys (Host.reduceAdd e (constant S_ .f32 0x00000000#32) reducesTo_S4x8x4096x4096_S4x8x4096_d3 h_S_))

/-- The weighted values. -/
def refOut (w : FVec Ideal S4x8x4096x4096 .f32) (v : FVec Ideal S4x8x4096x64 .f32) : FVec Ideal S4x4096x512 .bf16 :=
  truncf .bf16 (shapeCast S4x4096x512 (transpose S4x4096x8x64 [0, 2, 1, 3]
    (Host.dotGeneral dot_S4x8x4096x4096_S4x8x4096x64_S4x8x4096x64_3_2_2_3_01_01 none w v)
    transposes_S4x8x4096x64_S4x4096x8x64_0_2_1_3) shapeCasts_S4x4096x8x64_S4x4096x512) bitsLt_bf16_f32

variable (m : (ℓ : Loc nD τ sig) → Buf (Elt Ideal) ℓ) (c : Dev nD)

abbrev argQ : FVec Ideal S4x8x4096x96 .f32 := m ((c.tc : Thread nD τ).loc main_arg0)
abbrev argK : FVec Ideal S4x8x4096x96 .f32 := m ((c.tc : Thread nD τ).loc main_arg1)
abbrev argV : FVec Ideal S4x8x4096x64 .f32 := m ((c.tc : Thread nD τ).loc main_arg2)

theorem stages : Cert.ReferenceIdeal.Value.res_main_v24 m c
    = refOut (refWeights (refExp (refScores (argQ m c) (argK m c)))) (argV m c) := by
  unfold Cert.ReferenceIdeal.Value.res_main_v24
  rfl

/-! ## Each stage at an index -/

theorem select_le (a b : Fin 4096) (x y : EReal) :
    Scalar.select (IntOp.cmpi .sle (BitVec.ofNat 32 a.val) (BitVec.ofNat 32 b.val)) x y = if a.val ≤ b.val then x else y := by
  have ha : (BitVec.ofNat 32 a.val).toNat = a.val := by
    rw [BitVec.toNat_ofNat]; exact Nat.mod_eq_of_lt (by omega)
  have hb : (BitVec.ofNat 32 b.val).toNat = b.val := by
    rw [BitVec.toNat_ofNat]; exact Nat.mod_eq_of_lt (by omega)
  rw [WordCmp.cmpi_sle_of_lt (by rw [ha]; norm_num; omega) (by rw [hb]; norm_num; omega), ha, hb]
  by_cases h : a.val ≤ b.val
  · rw [if_pos h]; simp [Scalar.select, h]
  · rw [if_neg h]; simp [Scalar.select, h]

theorem refScores_at (q k : FVec Ideal S4x8x4096x96 .f32) (hq : AllReal q) (hk : AllReal k) (b : Fin 4) (H : Fin 8) (t κ : Fin 4096) :
    refScores q k (ix4 b H t κ) = sce (logit q k b H t) t.val κ.val := by
  pointwise [refScores]
  rw [select_le]
  unfold sce
  by_cases h : κ.val ≤ t.val
  · rw [if_pos h, if_pos h, dot_eq hq hk, scale_eq, logit, dif_pos κ.isLt, EReal.coe_mul]
  · rw [if_neg h, if_neg h]
    exact Cert.KernelIdeal.Mla.negInf

theorem alongKeys_at (x : FVec Ideal S4x8x4096 .f32) (b : Fin 4) (H : Fin 8) (t κ : Fin 4096) :
    alongKeys x (ix4 b H t κ) = x (ix3 b H t) := by
  pointwise [alongKeys]

theorem keysReduce : S4x8x4096x4096.Reduces [3] S4x8x4096 := by decide

theorem keysLift (b : Fin 4) (H : Fin 8) (t κ : Fin 4096) : keysReduce.lift (ix3 b H t) κ = ix4 b H t κ := by
  funext a
  apply Fin.ext
  match a with
  | ⟨0, _⟩ => rfl
  | ⟨1, _⟩ => rfl
  | ⟨2, _⟩ => rfl
  | ⟨3, _⟩ => rfl

theorem hostMax_at (s : FVec Ideal S4x8x4096x4096 .f32) (init : FVec Ideal S_ .f32) (j : S4x8x4096.Idx) :
    Host.reduce FloatOps.maximumf s init reducesTo_S4x8x4096x4096_S4x8x4096_d3 h_S_ j
      = (Finset.univ : Finset (Fin 4096)).fold FloatOps.maximumf (init (Shape.Idx.first h_S_)) (s ∘ keysReduce.lift j) :=
  Host.reduce_eq_fold_single FloatOps.maximumf s init reducesTo_S4x8x4096x4096_S4x8x4096_d3 keysReduce h_S_ j

theorem maximumf_at (x y : FVec Ideal S4x8x4096 .f32) (j : S4x8x4096.Idx) : maximumf x y j = max (x j) (y j) := rfl

theorem negInf_at (j : S4x8x4096.Idx) :
    (broadcastInDim S4x8x4096 ![] bcast_S_S4x8x4096 (constant (F := Ideal) S_ .f32 0xFF800000#32) : FVec Ideal S4x8x4096 .f32) j
      = (⊥ : EReal) := Cert.KernelIdeal.Mla.negInf

theorem fold_max (f : Fin 4096 → EReal) :
    (Finset.univ : Finset (Fin 4096)).fold (FloatOps.maximumf (F := Ideal) (φ := .f32))
      ((constant (F := Ideal) S_ .f32 0xFF800000#32 : FVec Ideal S_ .f32) (Shape.Idx.first h_S_)) f = Finset.univ.sup f := by
  show (Finset.univ : Finset (Fin 4096)).fold max (Ideal.ofBits .f32 0xFF800000#32) f = _
  rw [Cert.KernelIdeal.Mla.negInf]
  rfl

theorem refMax_at (s : FVec Ideal S4x8x4096x4096 .f32) (b : Fin 4) (H : Fin 8) (t : Fin 4096) :
    refMax s (ix3 b H t) = Finset.univ.sup fun κ : Fin 4096 => s (ix4 b H t κ) := by
  unfold refMax
  rw [maximumf_at, negInf_at, hostMax_at]
  refine (congrArg (max (⊥ : EReal)) (fold_max (s ∘ keysReduce.lift (ix3 b H t)))).trans ((bot_sup_eq _).trans ?_)
  exact Finset.sup_congr rfl fun κ _ => congrArg s (keysLift b H t κ)

theorem refExp_at (s : FVec Ideal S4x8x4096x4096 .f32) (b : Fin 4) (H : Fin 8) (t κ : Fin 4096) :
    refExp s (ix4 b H t κ) = Ideal.exp (s (ix4 b H t κ) - refMax s (ix3 b H t)) := by
  show Ideal.exp (s (ix4 b H t κ) - alongKeys (refMax s) (ix4 b H t κ)) = _
  rw [alongKeys_at]

theorem refWeights_at (e : FVec Ideal S4x8x4096x4096 .f32) (b : Fin 4) (H : Fin 8) (t κ : Fin 4096) :
    refWeights e (ix4 b H t κ) = Ideal.div (e (ix4 b H t κ)) (∑ k : Fin 4096, e (ix4 b H t k)) := by
  show Ideal.div (e (ix4 b H t κ)) (alongKeys _ (ix4 b H t κ)) = _
  rw [alongKeys_at]
  pointwise

theorem refOut_at (w : FVec Ideal S4x8x4096x4096 .f32) (v : FVec Ideal S4x8x4096x64 .f32) (b : Fin 4) (t : Fin 4096)
    (H : Fin 8) (d : Fin 64) : refOut w v (ix3 b t ⟨64 * H.val + d.val, by omega⟩)
      = ∑ κ : Fin 4096, w (ix4 b H t κ) * v (ix4 b H κ d) := by
  pointwise [refOut]

/-! ## The result -/

/-- The greatest score of a query is real: its own key's is not masked. -/
theorem max_real (x : ℕ → ℝ) (t : Fin 4096) : ∃ M : ℝ, (Finset.univ.sup fun κ : Fin 4096 => sce x t.val κ.val) = (M : EReal) := by
  obtain ⟨M, hM⟩ := sup_real (sce x t.val) (Finset.range 4096) (fun κ _ => sce_ne_top x t.val κ)
    ⟨t.val, Finset.mem_range.2 t.isLt, sce_ne_bot x t.val t.val le_rfl⟩
  refine ⟨M, hM ▸ le_antisymm (Finset.sup_le fun κ _ => ?_) (Finset.sup_le fun κ hκ => ?_)⟩
  · exact Finset.le_sup (f := sce x t.val) (Finset.mem_range.2 κ.isLt)
  · exact Finset.le_sup (f := fun κ : Fin 4096 => sce x t.val κ.val) (Finset.mem_univ (⟨κ, Finset.mem_range.1 hκ⟩ : Fin 4096))

theorem ref_at (hq : AllReal (argQ m c)) (hk : AllReal (argK m c)) (b : Fin 4) (t : Fin 4096) (H : Fin 8) (d : Fin 64) :
    refOut (refWeights (refExp (refScores (argQ m c) (argK m c)))) (argV m c) (ix3 b t ⟨64 * H.val + d.val, by omega⟩)
      = avg (logit (argQ m c) (argK m c) b H t) t.val 4096 (val (argV m c) b H d) := by
  obtain ⟨M, hM⟩ := max_real (logit (argQ m c) (argK m c) b H t) t
  have hmax : refMax (refScores (argQ m c) (argK m c)) (ix3 b H t) = (M : EReal) := by
    rw [refMax_at, ← hM]
    exact Finset.sup_congr rfl fun κ _ => refScores_at _ _ hq hk b H t κ
  have hexp : ∀ κ : Fin 4096, refExp (refScores (argQ m c) (argK m c)) (ix4 b H t κ)
      = Ideal.exp (sce (logit (argQ m c) (argK m c) b H t) t.val κ.val - (M : EReal)) := fun κ => by
    rw [refExp_at, hmax, refScores_at _ _ hq hk]
  rw [refOut_at, ← softmax_avg _ t.val 4096 t.isLt _ M, Finset.sum_range, Finset.sum_range]
  refine Finset.sum_congr rfl fun κ _ => ?_
  rw [refWeights_at, hexp, Finset.sum_congr rfl fun k _ => hexp k, val, dif_pos κ.isLt]

/-- The reference computes the attention. -/
theorem ref_eq (hq : AllReal (argQ m c)) (hk : AllReal (argK m c)) :
    (Cert.ReferenceIdeal.Value.res_main_v24 m c : FVec Ideal S4x4096x512 .bf16) = attn (argQ m c) (argK m c) (argV m c) := by
  rw [stages]
  funext i
  idx_vars i
  obtain ⟨H, d, rfl⟩ : ∃ (H : Fin 8) (d : Fin 64), i2 = ⟨64 * H.val + d.val, by omega⟩ :=
    ⟨⟨i2.val / 64, by omega⟩, ⟨i2.val % 64, by omega⟩, Fin.ext (by dsimp only; omega)⟩
  exact (ref_at m c hq hk i0 i1 H d).trans (attn_at _ _ _ i0 i1 H d _ rfl).symm

end Cert.ReferenceIdeal.Mla

end
-- ==== Proof.Frames.lean ====
/-
  The frames: the kernel's at both readings from the one run over any float values (the two programs have the same text),
  the reference's from its list of host operations.
-/
module

public import proofs.«01_k».proof.Defs
public import proofs.«01_k».proof.Proof.Frame
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic

instance factsKernel : Cert.Kernel.Facts := Cert.Kernel.Gen.facts
instance factsKernelIdeal : Cert.KernelIdeal.Facts := Cert.KernelIdeal.Gen.facts
instance factsReferenceIdeal : Cert.ReferenceIdeal.Facts := Cert.ReferenceIdeal.Gen.facts

/-- The two programs have one body table: it has one row, -/
theorem rows_eq {F : FTy → Type} [FloatOps F] : Cert.Kernel.defs₀ (F := F) = Cert.KernelIdeal.defs₀ (F := F) := by
  unfold Cert.Kernel.defs₀ Cert.KernelIdeal.defs₀
  refine congrArg (Defs.onTc (Λ := Cert.Kernel.Λ₀)) ?_
  funext l x
  match l, x with
  | ⟨0, _⟩, (t, s) => rfl

/-- and so have their pipelines' tables. -/
theorem table_eq {F : FTy → Type} [FloatOps F] : Cert.Kernel.defs (F := F) = Cert.KernelIdeal.defs (F := F) := by
  unfold Cert.Kernel.defs Cert.KernelIdeal.defs
  exact congrArg (Pipeline.defs Cert.Kernel.pcfgs) rows_eq

theorem frame_kernelIdeal : Cert.quiescent_KernelIdeal := fun m ρ _ => Cert.KernelIdeal.Mla.frame m ρ

theorem frame_kernel : Cert.quiescent_Kernel := fun m ρ _ => by
  rw [table_eq]
  exact Cert.KernelIdeal.Mla.frame (F := Bits) m ρ

/-- The reference has no counter at all. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

end Cert.Proof

end
-- ==== Proof.Algebraic.lean ====
/-
  The kernel and the reference end with the same array: the attention of the queries, keys and values.
-/
module

public import proofs.«01_k».proof.Proof.Result
public import proofs.«01_k».proof.Proof.RefVal
public import proofs.«01_k».proof.Proof.Frames

@[expose] public section

noncomputable section

namespace Cert.Proof

open Idealize.ShloMosaic Idealize.SL.Sem

/-- The kernel's run, its result named. -/
theorem kernel_run (m : (ℓ : Loc Cert.KernelIdeal.nD Cert.KernelIdeal.τ Cert.KernelIdeal.sig) → Buf (Elt Ideal) ℓ)
    (ρ : Dev Cert.KernelIdeal.nD → PrngReg)
    (h : ∀ c, AllReal (Cert.KernelIdeal.Mla.argQ m c) ∧ AllReal (Cert.KernelIdeal.Mla.argK m c)) :
    θ_run (Cert.KernelIdeal.defs (F := Ideal)) (onTc (τ := Cert.KernelIdeal.τ) (Cert.KernelIdeal.main (F := Ideal)))
      ⟨m, fun _ => 0, ρ⟩ fun r => ∀ c : Dev Cert.KernelIdeal.nD,
        r.2.mem ((c.tc : Thread Cert.KernelIdeal.nD Cert.KernelIdeal.τ).loc Cert.KernelIdeal.main_v17) = Cert.KernelIdeal.Mla.RES m c :=
  (θ_run Cert.KernelIdeal.defs _ _).mono
    (fun _ e c => ((e c).1 3).trans (Cert.KernelIdeal.Mla.final3 m c (h c).1 (h c).2)) (Cert.KernelIdeal.Mla.run_main m ρ)

theorem algebraic : Cert.algebraic_KernelIdeal_ReferenceIdeal_pre_finite_qk := by
  intro m g m' g' hpre hargs
  have hreal : ∀ c, AllReal (Cert.KernelIdeal.Mla.argQ m c) ∧ AllReal (Cert.KernelIdeal.Mla.argK m c) :=
    fun c => pre_real _ _ _ (hpre c)
  refine ⟨fun c => Cert.KernelIdeal.Mla.RES m c, ?_, ?_⟩
  · exact (θ_run Cert.KernelIdeal.defs _ _).mono (fun _ e c => ⟨e.1 c, e.2.1 c⟩)
      (θ_run_and (kernel_run m g hreal) (Cert.KernelIdeal.Mla.frame m g))
  · refine (θ_run Cert.ReferenceIdeal.defs _ _).mono (fun _ e c => ⟨(e c).1.trans ?_, (e c).2⟩)
      (Cert.ReferenceIdeal.Value.run m' g')
    obtain ⟨h0, h1, h2⟩ := hargs c
    have hq : Cert.ReferenceIdeal.Mla.argQ m' c = Cert.KernelIdeal.Mla.argQ m c := h0
    have hk : Cert.ReferenceIdeal.Mla.argK m' c = Cert.KernelIdeal.Mla.argK m c := h1
    have hv : Cert.ReferenceIdeal.Mla.argV m' c = Cert.KernelIdeal.Mla.argV m c := h2
    refine (Cert.ReferenceIdeal.Mla.ref_eq m' c (hq ▸ (hreal c).1) (hk ▸ (hreal c).2)).trans ?_
    rw [hq, hk, hv]

end Cert.Proof

end
-- ==== Proof.PostRow.lean ====
/-
  The rest of the layer, one row at a time, over extended reals: the root-mean-square norm, the gated residual around the
  output projection, the normed and modulated row, a short causal convolution's tap sum, and the gated unit.
-/
module

public import Idealize.ShloMosaic.PureOps.Ideal

@[expose] public section

noncomputable section

namespace Cert.Proof.Post

open Idealize.ShloMosaic

/-- A literal of either program. -/
abbrev lit (w : BitVec 32) : EReal := Ideal.ofBits FTy.f32 w

/-- One over the root mean square of a row of 1024, `1e-6` under the root. -/
def rms (y : Fin 1024 → EReal) : EReal :=
  Ideal.rsqrt (Ideal.div (∑ k : Fin 1024, y k * y k) (lit 0x44800000#32) + lit 0x358637BD#32)

/-- The row normed, with its gain. -/
def normed (y g : Fin 1024 → EReal) (n : Fin 1024) : EReal := y n * rms y * g n

/-- A row of the residual stream after a branch `y`, normed and gated. -/
def resid (x gate y g : Fin 1024 → EReal) (n : Fin 1024) : EReal := x n + gate n * normed y g n

/-- The row normed and modulated. -/
def modded (x g sc sh : Fin 1024 → EReal) (n : Fin 1024) : EReal := normed x g n * (lit 0x3F800000#32 + sc n) + sh n

/-- The convolution's three taps over a row and the two before it, with the bias. -/
def taps (w0 w1 w2 b u0 u1 u2 : EReal) : EReal := w0 * u0 + w1 * u1 + w2 * u2 + b

/-- The tanh form of the Gaussian error linear unit. -/
def gelu (g : EReal) : EReal :=
  g * (lit 0x3F000000#32 * (lit 0x3F800000#32
    + Ideal.tanh (lit 0x3F4C422A#32 * (g + lit 0x3D372713#32 * (g * (g * g))))))

/-! ## The whole: one row of one sequence -/

/-- The operands: both attentions, the residual stream, the modulation, the three gains, the output projection, the up
    projection, the taps and their bias, and the down projection. -/
structure Args where
  oa : Fin 4 → Fin 4096 → Fin 512 → EReal
  ob : Fin 4 → Fin 4096 → Fin 512 → EReal
  x : Fin 4 → Fin 4096 → Fin 1024 → EReal
  mod : Fin 4 → Fin 6144 → EReal
  gm : Fin 1024 → EReal
  gp : Fin 1024 → EReal
  gq : Fin 1024 → EReal
  wo : Fin 1024 → Fin 1024 → EReal
  wu : Fin 1024 → Fin 5632 → EReal
  cw : Fin 3 → Fin 5632 → EReal
  cb : Fin 5632 → EReal
  wd : Fin 2816 → Fin 1024 → EReal

variable (A : Args) (b : Fin 4) (s : Fin 4096)

/-- Part `p` of a sequence's modulation. -/
def modp (p : Fin 6) (n : Fin 1024) : EReal := A.mod b ⟨1024 * p.val + n.val, by omega⟩

/-- The output projection of both attentions' rows side by side. -/
def yA (k : Fin 1024) : EReal :=
  (∑ j : Fin 512, A.oa b s j * A.wo ⟨j.val, by omega⟩ k) + ∑ j : Fin 512, A.ob b s j * A.wo ⟨512 + j.val, by omega⟩ k

/-- The residual stream after the mixing branch. -/
def x1A (n : Fin 1024) : EReal := resid (A.x b s) (modp A b 2) (yA A b s) A.gm n

/-- The feed-forward branch's input. -/
def hA (n : Fin 1024) : EReal := modded (x1A A b s) A.gp (modp A b 4) (modp A b 3) n

/-- The up projection. -/
def uA (e : Fin 5632) : EReal := ∑ k : Fin 1024, hA A b s k * A.wu k e

/-- The up projection `d` rows back, nothing before the sequence's start. -/
def back (d : ℕ) (e : Fin 5632) : EReal := if d ≤ s.val then uA A b ⟨s.val - d, by omega⟩ e else 0

/-- Its convolution. -/
def cA (e : Fin 5632) : EReal := taps (A.cw 0 e) (A.cw 1 e) (A.cw 2 e) (A.cb e) (back A b s 2 e) (back A b s 1 e) (back A b s 0 e)

/-- The gated unit. -/
def aA (f : Fin 2816) : EReal := gelu (cA A b s ⟨f.val, by omega⟩) * cA A b s ⟨2816 + f.val, by omega⟩

/-- The down projection. -/
def dA (n : Fin 1024) : EReal := ∑ f : Fin 2816, aA A b s f * A.wd f n

/-- The layer's row. -/
def outA (n : Fin 1024) : EReal := resid (x1A A b s) (modp A b 5) (dA A b s) A.gq n

end Cert.Proof.Post
-- ==== Proof.PostCalc.lean ====
/-
  What one grid point of the rest-of-layer kernel computes, entry by entry: each payload of the printed body read at an index.
-/
module

public import proofs.«01_k».proof.Proof.PostRow
public import proofs.«01_k».proof.Proof.Gen.Kernel2Ideal.Frame
public import Idealize.ShloMosaic.Lib.Pointwise

@[expose] public section
set_option maxRecDepth 16384
set_option maxHeartbeats 4000000

noncomputable section

namespace Cert.Kernel2Ideal.Post

open Idealize.ShloMosaic Idealize.ShloMosaic.TcCoe
open Cert.Kernel2Ideal.Gen Cert.Proof.Post

/-- Part `p` of the modulation row. -/
def part (v0 : Vec Ideal S1x1x6144 .f32) (p : Fin 6) (n : Fin 1024) : EReal := v0 (ix3 0 0 ⟨1024 * p.val + n.val, by omega⟩)

/-- A row of the output projection, its inputs in two halves. -/
def proj {R : ℕ} (a b : Fin R → Fin 512 → EReal) (w v : Vec Ideal S512x1024 .bf16) (r : Fin R) (k : Fin 1024) : EReal :=
  (∑ j : Fin 512, a r j * w (ix2 j k)) + ∑ j : Fin 512, b r j * v (ix2 j k)

theorem pay9_at (v0 : Vec Ideal S1x1x6144 .f32) (v8 v10 : Vec Ideal S16x512 .bf16) (v14 v17 : Vec Ideal S512x1024 .bf16)
    (v21 : Vec Ideal S1x1024 .f32) (r : Fin 16) (n : Fin 1024) :
    k0_pay9 v0 v8 v10 v14 v17 v21 (ix2 r n) = part v0 2 n
      * normed (proj (fun r j => v8 (ix2 r j)) (fun r j => v10 (ix2 r j)) v14 v17 r) (fun k => v21 (ix2 0 k)) n := by
  unfold part normed rms proj
  pointwise [k0_pay9, k0_pay3, k0_pay2]

/-- The printed test of a point's being the first of its sequence. -/
def firstOf (arg0 : BitVec 32) : BitVec 1 :=
  let v56 : BitVec 1 := Scalar.cmpi .eq 8#32 0#32
  let v57 : BitVec 32 := Scalar.select v56 1#32 8#32
  let v58 : BitVec 32 := Scalar.remsi arg0 v57
  let v59 : BitVec 1 := Scalar.cmpi .ne v58 0#32
  let v60 : BitVec 1 := Scalar.cmpi .slt v58 0#32
  let v61 : BitVec 1 := Scalar.cmpi .slt v57 0#32
  let v62 : BitVec 1 := Scalar.xori v60 v61
  let v63 : BitVec 1 := Scalar.andi v62 v59
  let v64 : BitVec 32 := Scalar.addi v58 v57
  let v65 : BitVec 32 := Scalar.select v63 v64 v58
  Scalar.cmpi .eq v65 0#32

/-- The halo rows' normed and modulated values, where the point is not the first of its sequence; -/
theorem pay10_at (i : grid0.Coords) (v0 : Vec Ideal S1x1x6144 .f32) (v6 : Vec Ideal S1x1024 .f32) (v12 : Vec Ideal S16x1024 .f32)
    (v36 : FVec Ideal S16x1024 .f32) (hi : (i 0).val % 8 ≠ 0) (r : Fin 16) (n : Fin 1024) :
    k0_pay10 (BitVec.ofNat 32 (i 0).val) (k0_pay4 v0) (k0_pay5 v0) (k0_pay7 v6) (k0_pay8 v12) v36 (ix2 r n)
      = modded (fun k => v12 (ix2 r k) + v36 (ix2 r k)) (fun k => v6 (ix2 0 k)) (part v0 4) (part v0 3) n := by
  have h : ∀ i : Fin 32, i.val % 8 ≠ 0 → firstOf (BitVec.ofNat 32 i.val) = 0#1 := by decide +kernel
  have h0 := h (i 0) hi
  unfold firstOf at h0
  unfold part modded normed rms
  simp only [k0_pay10, h0]
  pointwise [k0_pay4, k0_pay5, k0_pay7, k0_pay8, k0_pay2]

/-- and nothing where it is. -/
theorem pay10_zero (i : grid0.Coords) (v3 v4 v7 : FVec Ideal S1x1024 .f32) (v13 v36 : FVec Ideal S16x1024 .f32)
    (hi : (i 0).val % 8 = 0) (r : Fin 16) (n : Fin 1024) :
    k0_pay10 (BitVec.ofNat 32 (i 0).val) v3 v4 v7 v13 v36 (ix2 r n) = 0 := by
  have h : ∀ i : Fin 32, i.val % 8 = 0 → firstOf (BitVec.ofNat 32 i.val) = 1#1 := by decide +kernel
  have h0 := h (i 0) hi
  unfold firstOf at h0
  simp only [k0_pay10, h0]
  pointwise

theorem pay13_at (v0 : Vec Ideal S1x1x6144 .f32) (v73 v75 : Vec Ideal S256x512 .bf16) (v77 : Vec Ideal S256x1024 .f32)
    (v79 v82 : Vec Ideal S512x1024 .bf16) (v86 : Vec Ideal S1x1024 .f32) (r : Fin 256) (n : Fin 1024) :
    k0_pay13 (k0_pay3 v0) (k0_pay11 v73) (k0_pay12 v75) v77 v79 v82 v86 (ix2 r n)
      = resid (fun k => v77 (ix2 r k)) (part v0 2)
          (proj (fun r j => v73 (ix2 r j)) (fun r j => v75 (ix2 r j)) v79 v82 r) (fun k => v86 (ix2 0 k)) n := by
  unfold part resid normed rms proj
  pointwise [k0_pay13, k0_pay11, k0_pay12, k0_pay3, k0_pay2]

theorem pay18_at (v0 : Vec Ideal S1x1x6144 .f32) (v73 v75 : Vec Ideal S256x512 .bf16) (v77 : Vec Ideal S256x1024 .f32)
    (v79 v82 : Vec Ideal S512x1024 .bf16) (v86 : Vec Ideal S1x1024 .f32) (r : Fin 256) (n : Fin 1024) :
    k0_pay18 (k0_pay3 v0) (k0_pay16 v77) (k0_pay17 v73 v75 v79 v82 v86) (ix2 r n)
      = resid (fun k => v77 (ix2 r k)) (part v0 2)
          (proj (fun r j => v73 (ix2 r j)) (fun r j => v75 (ix2 r j)) v79 v82 r) (fun k => v86 (ix2 0 k)) n := by
  unfold part resid normed rms proj
  pointwise [k0_pay18, k0_pay16, k0_pay17, k0_pay3, k0_pay2]

theorem pay15_at (v0 : Vec Ideal S1x1x6144 .f32) (v6 : Vec Ideal S1x1024 .f32) (v106 : Vec Ideal S256x1024 .f32)
    (r : Fin 256) (n : Fin 1024) : k0_pay15 (k0_pay4 v0) (k0_pay5 v0) (k0_pay7 v6) (k0_pay14 v106) (ix2 r n)
      = modded (fun k => v106 (ix2 r k)) (fun k => v6 (ix2 0 k)) (part v0 4) (part v0 3) n := by
  unfold part modded normed rms
  pointwise [k0_pay15, k0_pay14, k0_pay4, k0_pay5, k0_pay7, k0_pay2]

theorem pay19_at (v0 : Vec Ideal S1x1x6144 .f32) (v6 : Vec Ideal S1x1024 .f32) (v162 : Vec Ideal S256x1024 .f32)
    (r : Fin 256) (n : Fin 1024) : k0_pay19 (k0_pay4 v0) (k0_pay5 v0) (k0_pay7 v6) v162 (ix2 r n)
      = modded (fun k => v162 (ix2 r k)) (fun k => v6 (ix2 0 k)) (part v0 4) (part v0 3) n := by
  unfold part modded normed rms
  pointwise [k0_pay19, k0_pay4, k0_pay5, k0_pay7, k0_pay2]

/-- A chunk of the up projection, one half of it. -/
theorem pay20_at (h : Vec Ideal S528x1024 .bf16) (w : Vec Ideal S1024x256 .bf16) (r : Fin 528) (q : Fin 256) :
    k0_pay20 h w (ix4 0 0 r q) = ∑ k : Fin 1024, h (ix2 r k) * w (ix2 k q) := by
  pointwise [k0_pay20]

/-- A chunk of the gated unit, from the two halves' taps. -/
def unit {F : FTy → Type} [FloatOps F] (w b : Vec F S3x256 .f32) (c d : Vec F S1x256 .f32) (u0 u1 u2 v0 v1 v2 : Vec F S1x1x512x256 .f32) :
    FVec F S512x256 .bf16 :=
  k0_pay29 (k0_pay26 w (k0_pay24 u0) (k0_pay25 w) u1 u2 c) b (k0_pay27 b v0) (k0_pay28 b) v1 v2 d

theorem unit_at (w b : Vec Ideal S3x256 .f32) (c d : Vec Ideal S1x256 .f32) (u0 u1 u2 v0 v1 v2 : Vec Ideal S1x1x512x256 .f32)
    (r : Fin 512) (q : Fin 256) : unit w b c d u0 u1 u2 v0 v1 v2 (ix2 r q)
      = gelu (taps (w (ix2 0 q)) (w (ix2 1 q)) (w (ix2 2 q)) (c (ix2 0 q)) (u0 (ix4 0 0 r q)) (u1 (ix4 0 0 r q)) (u2 (ix4 0 0 r q)))
        * taps (b (ix2 0 q)) (b (ix2 1 q)) (b (ix2 2 q)) (d (ix2 0 q)) (v0 (ix4 0 0 r q)) (v1 (ix4 0 0 r q)) (v2 (ix4 0 0 r q)) := by
  unfold gelu taps
  pointwise [unit, k0_pay24, k0_pay25, k0_pay26, k0_pay27, k0_pay28, k0_pay29]

/-- The first chunk of the down projection, and any later one onto what was there. -/
theorem pay32_at (a : FVec Ideal S512x256 .bf16) (w : Vec Ideal S256x1024 .bf16) (r : Fin 512) (n : Fin 1024) :
    k0_pay32 a w (ix2 r n) = ∑ q : Fin 256, a (ix2 r q) * w (ix2 q n) := by
  pointwise [k0_pay32]
theorem pay40_at (a : FVec Ideal S512x256 .bf16) (w : Vec Ideal S256x1024 .bf16) (acc : Vec Ideal S512x1024 .f32)
    (r : Fin 512) (n : Fin 1024) : k0_pay40 a w acc (ix2 r n) = acc (ix2 r n) + ∑ q : Fin 256, a (ix2 r q) * w (ix2 q n) := by
  pointwise [k0_pay40]

theorem pay1_at (v0 : Vec Ideal S1x1x6144 .f32) (x1 acc : Vec Ideal S512x1024 .f32) (g : Vec Ideal S1x1024 .f32)
    (r : Fin 512) (n : Fin 1024) : k0_pay1 (k0_pay6 v0) x1 acc (k0_pay104 g) (k0_pay105 acc) (ix2 r n)
      = resid (fun k => x1 (ix2 r k)) (part v0 5) (fun k => acc (ix2 r k)) (fun k => g (ix2 0 k)) n := by
  unfold part resid normed rms
  pointwise [k0_pay1, k0_pay6, k0_pay104, k0_pay105, k0_pay2]

end Cert.Kernel2Ideal.Post
-- ==== Proof.PostBody.lean ====
/-
  What one grid point of the rest-of-layer kernel leaves in its block of the result, as a function of the blocks it stages:
  the gated residual of its 512 rows in two halves, the normed rows behind 16 halo rows, the up projection a chunk at a time
  in two slots taken by turns, the convolution's taps read back from a slot, and the down projection's running sum.
-/
module

public import proofs.«01_k».proof.Proof.PostCalc

@[expose] public section
set_option maxRecDepth 16384
set_option maxHeartbeats 4000000

noncomputable section

namespace Cert.Kernel2Ideal.Post

open Idealize.ShloMosaic Idealize.ShloMosaic.TcCoe
open Cert.Kernel2Ideal.Gen

/-- The blocks a point stages: both attentions' rows, their halo rows, the residual rows and theirs, the modulation, the three
    gains, the output projection, the up projection, the taps, their bias and the down projection. -/
structure Blks (F : FTy → Type) where
  oa : Vec F S512x512 .bf16
  ob : Vec F S512x512 .bf16
  ha : Vec F S16x512 .bf16
  hb : Vec F S16x512 .bf16
  x : Vec F S512x1024 .f32
  hx : Vec F S16x1024 .f32
  mod : Vec F S1x1x6144 .f32
  gm : Vec F S1x1024 .f32
  gp : Vec F S1x1024 .f32
  gq : Vec F S1x1024 .f32
  wo : Vec F S1024x1024 .bf16
  wu : Vec F S1024x5632 .bf16
  cw : Vec F S3x5632 .f32
  cb : Vec F S1x5632 .f32
  wd : Vec F S2816x1024 .bf16

variable {F : FTy → Type} [FloatOps F] (B : Blks F) (i : grid0.Coords)

/-! ## The residual rows and the normed rows -/

def wo0 : Vec F S512x1024 .bf16 := View.ld B.wo (Rect.unit (s := S1024x1024) ![0, 0] S512x1024.size inb_S1024x1024_S512x1024_0_0)
def wo1 : Vec F S512x1024 .bf16 := View.ld B.wo (Rect.unit (s := S1024x1024) ![512, 0] S512x1024.size inb_S1024x1024_S512x1024_512_0)

/-- The first and the second 256 rows of the residual stream after the mixing branch. -/
def x1lo : Vec F S256x1024 .f32 :=
  k0_pay13 (k0_pay3 B.mod)
    (k0_pay11 (View.ld B.oa (Rect.unit (s := S512x512) ![0, 0] S256x512.size inb_S512x512_S256x512_0_0)))
    (k0_pay12 (View.ld B.ob (Rect.unit (s := S512x512) ![0, 0] S256x512.size inb_S512x512_S256x512_0_0)))
    (View.ld B.x (Rect.unit (s := S512x1024) ![0, 0] S256x1024.size inb_S512x1024_S256x1024_0_0)) (wo0 B) (wo1 B) B.gm
def x1hi : Vec F S256x1024 .f32 :=
  k0_pay18 (k0_pay3 B.mod)
    (k0_pay16 (View.ld B.x (Rect.unit (s := S512x1024) ![256, 0] S256x1024.size inb_S512x1024_S256x1024_256_0)))
    (k0_pay17 (View.ld B.oa (Rect.unit (s := S512x512) ![256, 0] S256x512.size inb_S512x512_S256x512_256_0))
      (View.ld B.ob (Rect.unit (s := S512x512) ![256, 0] S256x512.size inb_S512x512_S256x512_256_0)) (wo0 B) (wo1 B) B.gm)

/-- The 512 rows, as stored. -/
def x1 : Vec F S512x1024 .f32 :=
  View.canon [⟨Rect.unit (s := S512x1024) ![256, 0] S256x1024.size inb_S512x1024_S256x1024_256_0, x1hi B⟩,
    ⟨Rect.unit (s := S512x1024) ![0, 0] S256x1024.size inb_S512x1024_S256x1024_0_0, x1lo B⟩]

/-- The halo's normed rows. -/
def hHalo : FVec F S16x1024 .bf16 :=
  k0_pay10 (BitVec.ofNat 32 (i 0).val) (k0_pay4 B.mod) (k0_pay5 B.mod) (k0_pay7 B.gp) (k0_pay8 B.hx)
    (k0_pay9 B.mod B.ha B.hb (wo0 B) (wo1 B) B.gm)

/-- The normed rows, behind the halo's. -/
def h : Vec F S528x1024 .bf16 :=
  View.canon [⟨Rect.unit (s := S528x1024) ![272, 0] S256x1024.size inb_S528x1024_S256x1024_272_0,
      k0_pay19 (k0_pay4 B.mod) (k0_pay5 B.mod) (k0_pay7 B.gp) (x1hi B)⟩,
    ⟨Rect.unit (s := S528x1024) ![16, 0] S256x1024.size inb_S528x1024_S256x1024_16_0,
      k0_pay15 (k0_pay4 B.mod) (k0_pay5 B.mod) (k0_pay7 B.gp) (k0_pay14 (x1lo B))⟩,
    ⟨Rect.unit (s := S528x1024) ![0, 0] S16x1024.size inb_S528x1024_S16x1024_0_0, hHalo B i⟩]

/-! ## The feed-forward chunks -/

theorem inbW (ch : ℕ) (s : Fin 2) (a : Fin 2) :
    (![0, 2816 * s.val + 256 * (ch % 11)] : Fin 2 → ℕ) a + S1024x256.size a ≤ S1024x5632.size a := by
  fin_cases a <;> simp <;> omega
theorem inbC (ch : ℕ) (s : Fin 2) (a : Fin 2) :
    (![0, 2816 * s.val + 256 * (ch % 11)] : Fin 2 → ℕ) a + S3x256.size a ≤ S3x5632.size a := by
  fin_cases a <;> simp <;> omega
theorem inbB (ch : ℕ) (s : Fin 2) (a : Fin 2) :
    (![0, 2816 * s.val + 256 * (ch % 11)] : Fin 2 → ℕ) a + S1x256.size a ≤ S1x5632.size a := by
  fin_cases a <;> simp <;> omega
theorem inbD (ch : ℕ) (a : Fin 2) :
    (![256 * (ch % 11), 0] : Fin 2 → ℕ) a + S256x1024.size a ≤ S2816x1024.size a := by
  fin_cases a <;> simp <;> omega
theorem inbS (ch : ℕ) (s : Fin 2) (a : Fin 4) :
    (![ch % 2, s.val, 0, 0] : Fin 4 → ℕ) a + S1x1x528x256.size a ≤ S2x2x528x256.size a := by
  fin_cases a <;> simp <;> omega
theorem inbR (ch : ℕ) (s : Fin 2) (k : Fin 3) (a : Fin 4) :
    (![ch % 2, s.val, 14 + k.val, 0] : Fin 4 → ℕ) a + S1x1x512x256.size a ≤ S2x2x528x256.size a := by
  fin_cases a <;> simp <;> omega

/-- Chunk `ch` of half `s` of the up projection, of the taps and of their bias, and of the down projection. -/
def wuAt (ch : ℕ) (s : Fin 2) : Vec F S1024x256 .bf16 := View.ld B.wu (Rect.unit (s := S1024x5632) _ S1024x256.size (inbW ch s))
def cwAt (ch : ℕ) (s : Fin 2) : Vec F S3x256 .f32 := View.ld B.cw (Rect.unit (s := S3x5632) _ S3x256.size (inbC ch s))
def cbAt (ch : ℕ) (s : Fin 2) : Vec F S1x256 .f32 := View.ld B.cb (Rect.unit (s := S1x5632) _ S1x256.size (inbB ch s))
def wdAt (ch : ℕ) : Vec F S256x1024 .bf16 := View.ld B.wd (Rect.unit (s := S2816x1024) _ S256x1024.size (inbD ch))

/-- Where half `s` of chunk `ch` is kept: in the chunk's slot. -/
def slotAt (ch : ℕ) (s : Fin 2) : Rect S2x2x528x256 := Rect.unit (s := S2x2x528x256) _ S1x1x528x256.size (inbS ch s)

/-- What the first `n` chunks left in the slots, last first. -/
def ups (hh : Vec F S528x1024 .bf16) : ℕ → List (View.Piece (Elt F) S2x2x528x256 .f32)
  | 0 => []
  | n + 1 => ⟨slotAt n 1, k0_pay20 hh (wuAt B n 1)⟩ :: ⟨slotAt n 0, k0_pay20 hh (wuAt B n 0)⟩ :: ups hh n

/-- A chunk's rows under tap `k`, read back when the next chunk is stored too. -/
def tapAt (hh : Vec F S528x1024 .bf16) (ch : ℕ) (s : Fin 2) (k : Fin 3) : Vec F S1x1x512x256 .f32 := fun j =>
  View.canon (ups B hh (min (ch + 2) 11)) ((Rect.unit (s := S2x2x528x256) _ S1x1x512x256.size (inbR ch s k)).idx j)

/-- Chunk `ch` of the gated unit. -/
def act (hh : Vec F S528x1024 .bf16) (ch : ℕ) : FVec F S512x256 .bf16 :=
  unit (cwAt B ch 0) (cwAt B ch 1) (cbAt B ch 0) (cbAt B ch 1) (tapAt B hh ch 0 0) (tapAt B hh ch 0 1) (tapAt B hh ch 0 2)
    (tapAt B hh ch 1 0) (tapAt B hh ch 1 1) (tapAt B hh ch 1 2)

/-- The down projection's sum through chunk `n`. -/
def acc (hh : Vec F S528x1024 .bf16) : ℕ → Vec F S512x1024 .f32
  | 0 => k0_pay32 (act B hh 0) (wdAt B 0)
  | n + 1 => k0_pay40 (act B hh (n + 1)) (wdAt B (n + 1)) (acc hh n)

/-- The block of the result. -/
def outB : FVec F S512x1024 .f32 :=
  k0_pay1 (k0_pay6 B.mod) (x1 B) (acc B (h B i) 10) (k0_pay104 B.gq) (k0_pay105 (acc B (h B i) 10))

end Cert.Kernel2Ideal.Post
-- ==== Proof.PostRun.lean ====
/-
  The run of the rest-of-layer kernel's body against its description: what each scratch buffer holds where it is read back,
  and so what the point leaves in its block of the result.
-/
module

public import proofs.«01_k».proof.Proof.PostBody
public import Idealize.ShloMosaic.Lib.Pipeline.ValueKit.Basic

@[expose] public section
set_option maxRecDepth 16384
set_option maxHeartbeats 4000000

noncomputable section

namespace Cert.Kernel2Ideal.Post

open Idealize.ShloMosaic Idealize.ShloMosaic.TcCoe
open Cert.Kernel2Ideal.Gen

variable {F : FTy → Type} [FloatOps F] (c : Dev nD) (i : grid0.Coords) (B : Blks F)
  (arg1 : Memref sig .tc .vmem S512x512 .bf16) (harg1 : arg1.IsWhole)
  (arg2 : Memref sig .tc .vmem S512x512 .bf16) (harg2 : arg2.IsWhole)
  (arg3 : Memref sig .tc .vmem S16x512 .bf16) (harg3 : arg3.IsWhole)
  (arg4 : Memref sig .tc .vmem S16x512 .bf16) (harg4 : arg4.IsWhole)
  (arg5 : Memref sig .tc .vmem S512x1024 .f32) (harg5 : arg5.IsWhole)
  (arg6 : Memref sig .tc .vmem S16x1024 .f32) (harg6 : arg6.IsWhole)
  (arg7 : Memref sig .tc .vmem S1x1x6144 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1024x1024 .bf16) (harg11 : arg11.IsWhole)
  (arg12 : Memref sig .tc .vmem S1024x5632 .bf16) (harg12 : arg12.IsWhole)
  (arg13 : Memref sig .tc .vmem S3x5632 .f32) (harg13 : arg13.IsWhole)
  (arg14 : Memref sig .tc .vmem S1x5632 .f32) (harg14 : arg14.IsWhole)
  (arg15 : Memref sig .tc .vmem S2816x1024 .bf16) (harg15 : arg15.IsWhole)
  (arg16 : Memref sig .tc .vmem S512x1024 .f32) (harg16 : arg16.IsWhole)
  (arg17 : Memref sig .tc .vmem S512x1024 .f32) (harg17 : arg17.IsWhole)
  (arg18 : Memref sig .tc .vmem S528x1024 .bf16) (harg18 : arg18.IsWhole)
  (arg19 : Memref sig .tc .vmem S2x2x528x256 .f32) (harg19 : arg19.IsWhole)
  (arg20 : Memref sig .tc .vmem S512x1024 .f32) (harg20 : arg20.IsWhole)

/-- A load from a staged block reads the block. -/
theorem rd {sp : Space} {s : Shape} {e : EltTy} {a : Memref sig .tc sp s e} (ha : a.IsWhole) (X : s.Idx → Elt F e) (r : Rect s) :
    View.readAt (Elt F) a.view r.toLoadRect (ha.unread X) = View.ld X r := by
  rw [View.readAt_eq_ld, ha.read_unread]

/-- A load of a whole block is the block. -/
theorem ldMod (X : Vec F S1x1x6144 .f32) :
    View.ld X (Rect.unit (s := S1x1x6144) ![0, 0, 0] ![1, 1, 6144] inb_S1x1x6144_S1x1x6144_0_0_0) = X :=
  View.ld_unit_lit (S := S1x1x6144) _ X (by decide)
theorem ldRow (X : Vec F S1x1024 .f32) :
    View.ld X (Rect.unit (s := S1x1024) ![0, 0] ![1, 1024] inb_S1x1024_S1x1024_0_0) = X :=
  View.ld_unit_lit (S := S1x1024) _ X (by decide)
theorem ldHalo (X : Vec F S16x512 .bf16) :
    View.ld X (Rect.unit (s := S16x512) ![0, 0] ![16, 512] inb_S16x512_S16x512_0_0) = X :=
  View.ld_unit_lit (S := S16x512) _ X (by decide)
theorem ldHalo2 (X : Vec F S16x1024 .f32) :
    View.ld X (Rect.unit (s := S16x1024) ![0, 0] ![16, 1024] inb_S16x1024_S16x1024_0_0) = X :=
  View.ld_unit_lit (S := S16x1024) _ X (by decide)

/-- A load of a scratch buffer's whole from what was stored there. -/
theorem rdAll {sp : Space} {s : Shape} {e : EltTy} (v : View sig .tc sp s e) (L : List (View.Piece (Elt F) s e))
    {off : Fin s.rank → ℕ} (inb : ∀ a, off a + s.size a ≤ s.size a) (ho : ∀ a, off a = 0) :
    v.readCov L (Rect.unit off s.size inb).toLoadRect = View.canon L :=
  (View.readCov_eq_canon' v L _).trans (View.ld_unit_lit inb (View.canon L) ho)

/-- The residual rows, where the normed rows are made of them; -/
theorem lo_eq :
    kernelRun0_A.sl.v106 c arg1 harg1 arg2 harg2 arg5 harg5 arg7 harg7 arg8 harg8 arg11 harg11 arg17 B.oa B.ob B.x B.mod B.gm
      B.wo
      = x1lo B := by
  unfold kernelRun0_A.sl.v106 kernelRun0_A.sl.HS0_1
  rw [View.readCov_cons_toLoadRect]
  simp only [kernelRun0_A.sl.r, kernelRun0_A.sl.r_7, kernelRun0_A.sl.r_8, rd, ldMod, ldRow, ldHalo, ldHalo2]
  rfl

theorem hi_eq :
    kernelRun0_A.sl.v162 c arg1 harg1 arg2 harg2 arg5 harg5 arg7 harg7 arg8 harg8 arg11 harg11 arg17 B.oa B.ob B.x B.mod B.gm
      B.wo
      = x1hi B := by
  unfold kernelRun0_A.sl.v162 kernelRun0_A.sl.HS0_2
  rw [View.readCov_cons_toLoadRect]
  simp only [kernelRun0_A.sl.r, kernelRun0_A.sl.r_10, kernelRun0_A.sl.r_11, rd, ldMod, ldRow, ldHalo, ldHalo2]
  rfl

/-- and where the last step adds to them. -/
theorem x1_eq :
    kernelRun0_A.sl.v1074 c arg1 harg1 arg2 harg2 arg5 harg5 arg7 harg7 arg8 harg8 arg11 harg11 arg17 B.oa B.ob B.x B.mod B.gm
      B.wo
      = x1 B := by
  unfold kernelRun0_A.sl.v1074
  rw [rdAll _ _ _ (by decide)]
  simp only [kernelRun0_A.sl.HS0_2, kernelRun0_A.sl.r, kernelRun0_A.sl.r_10, kernelRun0_A.sl.r_11, kernelRun0_A.sl.HS0_1, kernelRun0_A.sl.r_7, kernelRun0_A.sl.r_8, rd, ldMod, ldRow, ldHalo, ldHalo2]
  rfl

/-- The normed rows. -/
theorem h_eq :
    kernelRun0_A.sl.v185 c i arg1 harg1 arg2 harg2 arg3 harg3 arg4 harg4 arg5 harg5 arg6 harg6 arg7 harg7 arg8 harg8 arg9
      harg9 arg11 harg11 arg17 arg18 B.oa B.ob B.ha B.hb B.x B.hx B.mod B.gm B.gp B.wo
      = h B i := by
  unfold kernelRun0_A.sl.v185 kernelRun0_A.sl.HS1_3
  rw [rdAll _ _ _ (by decide), hi_eq]
  simp only [kernelRun0_A.sl.r_9, lo_eq, kernelRun0_A.sl.r_1, kernelRun0_A.sl.r_2, kernelRun0_A.sl.r_4, kernelRun0_A.sl.r_5, kernelRun0_A.sl.r_6, rd, ldMod, ldRow, ldHalo, ldHalo2]
  rfl

/-- What the slots hold, two halves of a chunk more each time. -/
theorem ups2_eq :
    kernelRun0_A.sl.HS2_4 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 2 := by
  unfold kernelRun0_A.sl.HS2_4
  simp only [h_eq, rd]
  rfl

theorem ups3_eq :
    kernelRun0_A.sl.HS2_6 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 3 := by
  unfold kernelRun0_A.sl.HS2_6
  simp only [h_eq, ups2_eq, rd]
  rfl

theorem ups4_eq :
    kernelRun0_A.sl.HS2_8 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 4 := by
  unfold kernelRun0_A.sl.HS2_8
  simp only [kernelRun0_A.sl.r_23, h_eq, ups3_eq, rd]
  rfl

theorem ups5_eq :
    kernelRun0_A.sl.HS2_10 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 5 := by
  unfold kernelRun0_A.sl.HS2_10
  simp only [h_eq, ups4_eq, rd]
  rfl

theorem ups6_eq :
    kernelRun0_A.sl.HS2_12 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 6 := by
  unfold kernelRun0_A.sl.HS2_12
  simp only [kernelRun0_A.sl.r_34, kernelRun0_A.sl.cst_335, h_eq, ups5_eq, rd]
  rfl

theorem ups7_eq :
    kernelRun0_A.sl.HS2_14 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 7 := by
  unfold kernelRun0_A.sl.HS2_14
  simp only [h_eq, ups6_eq, rd]
  rfl

theorem ups8_eq :
    kernelRun0_A.sl.HS2_16 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 8 := by
  unfold kernelRun0_A.sl.HS2_16
  simp only [h_eq, ups7_eq, rd]
  rfl

theorem ups9_eq :
    kernelRun0_A.sl.HS2_18 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 9 := by
  unfold kernelRun0_A.sl.HS2_18
  simp only [kernelRun0_A.sl.r_49, h_eq, ups8_eq, rd]
  rfl

theorem ups10_eq :
    kernelRun0_A.sl.HS2_20 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 10 := by
  unfold kernelRun0_A.sl.HS2_20
  simp only [h_eq, ups9_eq, rd]
  rfl

theorem ups11_eq :
    kernelRun0_A.sl.HS2_22 c i arg1 harg1 arg2 harg2 arg3 harg3 arg4 harg4 arg5 harg5 arg6 harg6 arg7 harg7 arg8 harg8 arg9
      harg9 arg11 harg11 arg12 harg12 arg17 arg18 B.oa B.ob B.ha B.hb B.x B.hx B.mod B.gm B.gp B.wo B.wu
      = ups B (h B i) 11 := by
  unfold kernelRun0_A.sl.HS2_22
  simp only [h_eq, ups10_eq, rd]
  rfl

/-- The down projection, a chunk more each time. -/
theorem acc0_eq :
    kernelRun0_A.sl.v368 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 0 := by
  unfold kernelRun0_A.sl.v368 kernelRun0_A.sl.HS3_1
  rw [View.readCov_cons_toLoadRect]
  simp only [kernelRun0_A.sl.r_19, kernelRun0_A.sl.r_15, kernelRun0_A.sl.r_16, kernelRun0_A.sl.r_17, kernelRun0_A.sl.r_18, kernelRun0_A.sl.v255, kernelRun0_A.sl.v261, kernelRun0_A.sl.v250, kernelRun0_A.sl.r_12, kernelRun0_A.sl.r_13, kernelRun0_A.sl.r_14, kernelRun0_A.sl.v220, kernelRun0_A.sl.v226, kernelRun0_A.sl.v215, ups2_eq, rd, View.readCov_eq_canon']
  rfl

theorem acc1_eq :
    kernelRun0_A.sl.v449 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 1 := by
  unfold kernelRun0_A.sl.v449 kernelRun0_A.sl.HS3_2
  rw [View.readCov_cons_toLoadRect]
  simp only [kernelRun0_A.sl.r_22, kernelRun0_A.sl.r_20, kernelRun0_A.sl.r_21, kernelRun0_A.sl.v329, kernelRun0_A.sl.v334, kernelRun0_A.sl.v340, kernelRun0_A.sl.v294, kernelRun0_A.sl.v299, kernelRun0_A.sl.v305, acc0_eq, ups3_eq, rd, View.readCov_eq_canon']
  rfl

theorem acc2_eq :
    kernelRun0_A.sl.v530 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 2 := by
  unfold kernelRun0_A.sl.v530 kernelRun0_A.sl.HS3_3
  rw [View.readCov_cons_toLoadRect]
  simp only [kernelRun0_A.sl.r_26, kernelRun0_A.sl.r_27, kernelRun0_A.sl.r_28, kernelRun0_A.sl.r_29, kernelRun0_A.sl.v421, kernelRun0_A.sl.v410, kernelRun0_A.sl.v415, kernelRun0_A.sl.r_24, kernelRun0_A.sl.r_25, kernelRun0_A.sl.v386, kernelRun0_A.sl.v375, kernelRun0_A.sl.v380, acc1_eq, ups4_eq, rd, View.readCov_eq_canon']
  rfl

theorem acc3_eq :
    kernelRun0_A.sl.v611 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 3 := by
  unfold kernelRun0_A.sl.v611 kernelRun0_A.sl.HS3_4
  rw [View.readCov_cons_toLoadRect]
  simp only [kernelRun0_A.sl.r_33, kernelRun0_A.sl.r_30, kernelRun0_A.sl.r_31, kernelRun0_A.sl.r_32, kernelRun0_A.sl.v491, kernelRun0_A.sl.v496, kernelRun0_A.sl.v502, kernelRun0_A.sl.v456, kernelRun0_A.sl.v461, kernelRun0_A.sl.v467, acc2_eq, ups5_eq, rd, View.readCov_eq_canon']
  rfl

theorem acc4_eq :
    kernelRun0_A.sl.v692 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 4 := by
  unfold kernelRun0_A.sl.v692 kernelRun0_A.sl.HS3_5
  rw [View.readCov_cons_toLoadRect]
  simp only [kernelRun0_A.sl.r_37, kernelRun0_A.sl.r_35, kernelRun0_A.sl.r_36, kernelRun0_A.sl.v572, kernelRun0_A.sl.v577, kernelRun0_A.sl.v583, kernelRun0_A.sl.v537, kernelRun0_A.sl.v542, kernelRun0_A.sl.v548, acc3_eq, ups6_eq, rd, View.readCov_eq_canon']
  rfl

theorem acc5_eq :
    kernelRun0_A.sl.v773 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 5 := by
  unfold kernelRun0_A.sl.v773 kernelRun0_A.sl.HS3_6
  rw [View.readCov_cons_toLoadRect]
  simp only [kernelRun0_A.sl.r_45, kernelRun0_A.sl.r_41, kernelRun0_A.sl.r_42, kernelRun0_A.sl.r_43, kernelRun0_A.sl.r_44, kernelRun0_A.sl.v658, kernelRun0_A.sl.v664, kernelRun0_A.sl.v653, kernelRun0_A.sl.r_38, kernelRun0_A.sl.r_39, kernelRun0_A.sl.r_40, kernelRun0_A.sl.v623, kernelRun0_A.sl.v629, kernelRun0_A.sl.v618, acc4_eq, ups7_eq, rd, View.readCov_eq_canon']
  rfl

theorem acc6_eq :
    kernelRun0_A.sl.v854 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 6 := by
  unfold kernelRun0_A.sl.v854 kernelRun0_A.sl.HS3_7
  rw [View.readCov_cons_toLoadRect]
  simp only [kernelRun0_A.sl.r_48, kernelRun0_A.sl.r_46, kernelRun0_A.sl.r_47, kernelRun0_A.sl.cst_482, kernelRun0_A.sl.v734, kernelRun0_A.sl.v739, kernelRun0_A.sl.v745, kernelRun0_A.sl.v699, kernelRun0_A.sl.v704, kernelRun0_A.sl.v710, acc5_eq, ups8_eq, rd, View.readCov_eq_canon']
  rfl

theorem acc7_eq :
    kernelRun0_A.sl.v935 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 7 := by
  unfold kernelRun0_A.sl.v935 kernelRun0_A.sl.HS3_8
  rw [View.readCov_cons_toLoadRect]
  simp only [kernelRun0_A.sl.r_57, kernelRun0_A.sl.r_54, kernelRun0_A.sl.r_55, kernelRun0_A.sl.r_56, kernelRun0_A.sl.v826, kernelRun0_A.sl.v815, kernelRun0_A.sl.v820, kernelRun0_A.sl.r_50, kernelRun0_A.sl.r_51, kernelRun0_A.sl.r_52, kernelRun0_A.sl.r_53, kernelRun0_A.sl.v791, kernelRun0_A.sl.v785, kernelRun0_A.sl.v780, acc6_eq, ups9_eq, rd, View.readCov_eq_canon']
  rfl

theorem acc8_eq :
    kernelRun0_A.sl.v1002 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 8 := by
  unfold kernelRun0_A.sl.v1002 kernelRun0_A.sl.HS3_9
  rw [View.readCov_cons_toLoadRect]
  simp only [kernelRun0_A.sl.r_59, kernelRun0_A.sl.r_58, kernelRun0_A.sl.v896, kernelRun0_A.sl.v901, kernelRun0_A.sl.v907, kernelRun0_A.sl.v861, kernelRun0_A.sl.v866, kernelRun0_A.sl.v872, acc7_eq, ups10_eq, rd, View.readCov_eq_canon']
  rfl

theorem acc9_eq :
    kernelRun0_A.sl.v1069 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 9 := by
  unfold kernelRun0_A.sl.v1069 kernelRun0_A.sl.HS3_10
  rw [View.readCov_cons_toLoadRect]
  simp only [kernelRun0_A.sl.r_63, kernelRun0_A.sl.r_64, kernelRun0_A.sl.r_65, kernelRun0_A.sl.v977, kernelRun0_A.sl.v982, kernelRun0_A.sl.v988, kernelRun0_A.sl.r_60, kernelRun0_A.sl.r_61, kernelRun0_A.sl.r_62, kernelRun0_A.sl.v953, kernelRun0_A.sl.v942, kernelRun0_A.sl.v947, acc8_eq, ups11_eq, rd, View.readCov_eq_canon']
  rfl

theorem acc10_eq :
    kernelRun0_A.sl.v1075 c i arg1 harg1 arg2 harg2 arg3 harg3 arg4 harg4 arg5 harg5 arg6 harg6 arg7 harg7 arg8 harg8 arg9
      harg9 arg11 harg11 arg12 harg12 arg13 harg13 arg14 harg14 arg15 harg15 arg17 arg18 arg19 arg20 B.oa B.ob B.ha B.hb B.x
      B.hx B.mod B.gm B.gp B.wo B.wu B.cw B.cb B.wd
      = acc B (h B i) 10 := by
  unfold kernelRun0_A.sl.v1075 kernelRun0_A.sl.HS3_11
  rw [View.readCov_cons_toLoadRect]
  simp only [kernelRun0_A.sl.r_68, kernelRun0_A.sl.r_69, kernelRun0_A.sl.r_66, kernelRun0_A.sl.r_67, kernelRun0_A.sl.v1044, kernelRun0_A.sl.v1049, kernelRun0_A.sl.v1055, kernelRun0_A.sl.v1009, kernelRun0_A.sl.v1014, kernelRun0_A.sl.v1020, acc9_eq, ups11_eq, rd, View.readCov_eq_canon']
  rfl

/-- The point's block of the result. -/
theorem out_eq :
    out0_A_15 c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19
      harg19 arg20 harg20 B.oa B.ob B.ha B.hb B.x B.hx B.mod B.gm B.gp B.gq B.wo B.wu B.cw B.cb B.wd
      = outB B i := by
  unfold out0_A_15
  rw [View.read_writes_junk_eq_canon]
  unfold kernelRun0_A
  rw [View.canon_cons_unit_lit (S := S512x1024) _ _ _ (by decide)]
  simp only [kernelRun0_A.sl.r_71, x1_eq, acc10_eq, kernelRun0_A.sl.r_3, kernelRun0_A.sl.r_70, rd, ldMod, ldRow, ldHalo, ldHalo2]
  rfl

end Cert.Kernel2Ideal.Post
-- ==== Proof.PostAt.lean ====
/-
  The block a grid point of the rest-of-layer kernel leaves, entry by entry: the down projection of the gated unit of the
  convolved up projection of the normed rows, the halo's rows before the block's own.
-/
module

public import proofs.«01_k».proof.Proof.PostBody
public import Idealize.ShloMosaic.Lib.Pipeline.ValueKit.Tiles

@[expose] public section
set_option maxRecDepth 16384
set_option maxHeartbeats 4000000

noncomputable section

namespace Cert.Kernel2Ideal.Post

open Idealize.ShloMosaic Idealize.ShloMosaic.TcCoe
open Cert.Kernel2Ideal.Gen Cert.Proof.Post

/-! ## Stored pieces read back -/

theorem hit {s : Shape} {e : EltTy} (off size : Fin s.rank → ℕ) (inb : ∀ a, off a + size a ≤ s.size a)
    (w : (Rect.unit off size inb).shape.Idx → Elt Ideal e) (L : List (View.Piece (Elt Ideal) s e)) (y : s.Idx)
    (x : (Rect.unit off size inb).shape.Idx) (hy : ∀ a, (y a : ℕ) = off a + (x a : ℕ)) :
    View.canon (⟨Rect.unit off size inb, w⟩ :: L) y = w x := by
  have h : (Rect.unit off size inb).emb x = y := by
    funext a; apply Fin.ext; rw [Rect.emb_apply, hy a]; show off a + 1 * (x a : ℕ) = _; omega
  subst h
  exact View.canon_cons_emb _ w L x

theorem miss {s : Shape} {e : EltTy} (off size : Fin s.rank → ℕ) (inb : ∀ a, off a + size a ≤ s.size a)
    (w : (Rect.unit off size inb).shape.Idx → Elt Ideal e) (L : List (View.Piece (Elt Ideal) s e)) (y : s.Idx)
    (a : Fin s.rank) (hy : (y a : ℕ) < off a ∨ off a + size a ≤ (y a : ℕ)) :
    View.canon (⟨Rect.unit off size inb, w⟩ :: L) y = View.canon L y := by
  refine View.canon_cons_of_not_mem _ L fun hm => ?_
  have := (Rect.mem_set_unit (off := off) (size := size) (inb := inb)).mp hm a
  omega

theorem ldAt {s : Shape} {e : EltTy} (X : s.Idx → Elt Ideal e) (off size : Fin s.rank → ℕ) (inb : ∀ a, off a + size a ≤ s.size a)
    (x : (Rect.unit off size inb).shape.Idx) (y : s.Idx) (hy : ∀ a, (y a : ℕ) = off a + (x a : ℕ)) :
    View.ld X (Rect.unit off size inb) x = X y := View.ld_unit_apply_of X off size inb x y hy

/-! ## The rows -/

variable (B : Blks Ideal) (i : grid0.Coords)

/-- A row of the output projection. -/
def yRow {R : ℕ} (a b : Fin R → Fin 512 → EReal) (r : Fin R) (k : Fin 1024) : EReal :=
  (∑ j : Fin 512, a r j * B.wo (ix2 ⟨j.val, by omega⟩ k)) + ∑ j : Fin 512, b r j * B.wo (ix2 ⟨512 + j.val, by omega⟩ k)

/-- A row of the residual stream after the mixing branch. -/
def x1Row (r : Fin 512) (n : Fin 1024) : EReal :=
  resid (fun k => B.x (ix2 r k)) (part B.mod 2) (yRow B (fun r j => B.oa (ix2 r j)) (fun r j => B.ob (ix2 r j)) r)
    (fun k => B.gm (ix2 0 k)) n

/-- A halo row of it. -/
def haloRow (r : Fin 16) (n : Fin 1024) : EReal :=
  resid (fun k => B.hx (ix2 r k)) (part B.mod 2) (yRow B (fun r j => B.ha (ix2 r j)) (fun r j => B.hb (ix2 r j)) r)
    (fun k => B.gm (ix2 0 k)) n

/-- A normed row, the halo's first; nothing before a sequence's start. -/
def hRow (ρ : Fin 528) (n : Fin 1024) : EReal :=
  if hρ : ρ.val < 16 then
    if (i 0).val % 8 = 0 then 0
    else modded (haloRow B ⟨ρ.val, hρ⟩) (fun k => B.gp (ix2 0 k)) (part B.mod 4) (part B.mod 3) n
  else modded (x1Row B ⟨ρ.val - 16, by omega⟩) (fun k => B.gp (ix2 0 k)) (part B.mod 4) (part B.mod 3) n

/-- The up projection of a row. -/
def uRow (hh : Fin 528 → Fin 1024 → EReal) (ρ : Fin 528) (e : Fin 5632) : EReal := ∑ k : Fin 1024, hh ρ k * B.wu (ix2 k e)

/-- Its convolution, for row `r` of the block. -/
def cRow (hh : Fin 528 → Fin 1024 → EReal) (r : Fin 512) (e : Fin 5632) : EReal :=
  taps (B.cw (ix2 0 e)) (B.cw (ix2 1 e)) (B.cw (ix2 2 e)) (B.cb (ix2 0 e)) (uRow B hh ⟨14 + r.val, by omega⟩ e)
    (uRow B hh ⟨15 + r.val, by omega⟩ e) (uRow B hh ⟨16 + r.val, by omega⟩ e)

/-- The gated unit. -/
def aRow (hh : Fin 528 → Fin 1024 → EReal) (r : Fin 512) (f : Fin 2816) : EReal :=
  gelu (cRow B hh r ⟨f.val, by omega⟩) * cRow B hh r ⟨2816 + f.val, by omega⟩

/-- The down projection. -/
def dRow (hh : Fin 528 → Fin 1024 → EReal) (r : Fin 512) (n : Fin 1024) : EReal :=
  ∑ f : Fin 2816, aRow B hh r f * B.wd (ix2 f n)

/-! ## The residual rows -/

theorem wo0_at (j : Fin 512) (k : Fin 1024) : wo0 B (ix2 j k) = B.wo (ix2 ⟨j.val, by omega⟩ k) :=
  ldAt _ _ _ _ _ _ fun a => by fin_cases a <;> simp
theorem wo1_at (j : Fin 512) (k : Fin 1024) : wo1 B (ix2 j k) = B.wo (ix2 ⟨512 + j.val, by omega⟩ k) :=
  ldAt _ _ _ _ _ _ fun a => by fin_cases a <;> simp

theorem proj_eq {R : ℕ} (a b : Fin R → Fin 512 → EReal) (r : Fin R) : proj a b (wo0 B) (wo1 B) r = yRow B a b r := by
  funext k
  unfold proj yRow
  simp only [wo0_at, wo1_at]

theorem x1lo_at (r : Fin 256) (n : Fin 1024) : x1lo B (ix2 r n) = x1Row B ⟨r.val, by omega⟩ n := by
  unfold x1lo x1Row
  rw [pay13_at, proj_eq]
  have ex : ∀ k : Fin 1024, View.ld B.x (Rect.unit (s := S512x1024) ![0, 0] S256x1024.size inb_S512x1024_S256x1024_0_0) (ix2 r k)
      = B.x (ix2 ⟨r.val, by omega⟩ k) := fun k => ldAt _ _ _ _ _ _ fun a => by fin_cases a <;> simp
  have eoa : ∀ j : Fin 512, View.ld B.oa (Rect.unit (s := S512x512) ![0, 0] S256x512.size inb_S512x512_S256x512_0_0) (ix2 r j)
      = B.oa (ix2 ⟨r.val, by omega⟩ j) := fun j => ldAt _ _ _ _ _ _ fun a => by fin_cases a <;> simp
  have eob : ∀ j : Fin 512, View.ld B.ob (Rect.unit (s := S512x512) ![0, 0] S256x512.size inb_S512x512_S256x512_0_0) (ix2 r j)
      = B.ob (ix2 ⟨r.val, by omega⟩ j) := fun j => ldAt _ _ _ _ _ _ fun a => by fin_cases a <;> simp
  unfold yRow
  simp only [ex, eoa, eob]

theorem x1hi_at (r : Fin 256) (n : Fin 1024) : x1hi B (ix2 r n) = x1Row B ⟨256 + r.val, by omega⟩ n := by
  unfold x1hi x1Row
  rw [pay18_at, proj_eq]
  have ex : ∀ k : Fin 1024, View.ld B.x (Rect.unit (s := S512x1024) ![256, 0] S256x1024.size inb_S512x1024_S256x1024_256_0) (ix2 r k)
      = B.x (ix2 ⟨256 + r.val, by omega⟩ k) := fun k => ldAt _ _ _ _ _ _ fun a => by fin_cases a <;> simp
  have eoa : ∀ j : Fin 512, View.ld B.oa (Rect.unit (s := S512x512) ![256, 0] S256x512.size inb_S512x512_S256x512_256_0) (ix2 r j)
      = B.oa (ix2 ⟨256 + r.val, by omega⟩ j) := fun j => ldAt _ _ _ _ _ _ fun a => by fin_cases a <;> simp
  have eob : ∀ j : Fin 512, View.ld B.ob (Rect.unit (s := S512x512) ![256, 0] S256x512.size inb_S512x512_S256x512_256_0) (ix2 r j)
      = B.ob (ix2 ⟨256 + r.val, by omega⟩ j) := fun j => ldAt _ _ _ _ _ _ fun a => by fin_cases a <;> simp
  unfold yRow
  simp only [ex, eoa, eob]

theorem x1_at (r : Fin 512) (n : Fin 1024) : x1 B (ix2 r n) = x1Row B r n := by
  unfold x1
  by_cases hr : r.val < 256
  · rw [miss _ _ _ _ _ _ (0 : Fin 2) (Or.inl hr),
      hit _ _ _ _ _ _ (ix2 (⟨r.val, hr⟩ : Fin 256) n) (fun a => by fin_cases a <;> simp), x1lo_at]
  · rw [hit _ _ _ _ _ _ (ix2 (⟨r.val - 256, by omega⟩ : Fin 256) n) (fun a => by fin_cases a <;> simp <;> omega), x1hi_at]
    exact congrArg (fun r => x1Row B r n) (Fin.ext (by show 256 + (r.val - 256) = r.val; omega))

/-! ## The normed rows -/

theorem h_at (ρ : Fin 528) (n : Fin 1024) : h B i (ix2 ρ n) = hRow B i ρ n := by
  unfold h hRow
  by_cases h0 : ρ.val < 16
  · rw [dif_pos h0, miss _ _ _ _ _ _ (0 : Fin 2) (Or.inl (show ρ.val < 272 by omega)),
      miss _ _ _ _ _ _ (0 : Fin 2) (Or.inl h0),
      hit _ _ _ _ _ _ (ix2 (⟨ρ.val, h0⟩ : Fin 16) n) (fun a => by fin_cases a <;> simp)]
    unfold hHalo
    by_cases hi : (i 0).val % 8 = 0
    · rw [if_pos hi, pay10_zero _ _ _ _ _ _ hi]
    · rw [if_neg hi, pay10_at _ _ _ _ _ hi]
      simp only [pay9_at, proj_eq]
      rfl
  · rw [dif_neg h0]
    by_cases h1 : ρ.val < 272
    · rw [miss _ _ _ _ _ _ (0 : Fin 2) (Or.inl h1),
        hit _ _ _ _ _ _ (ix2 (⟨ρ.val - 16, by omega⟩ : Fin 256) n) (fun a => by fin_cases a <;> simp <;> omega), pay15_at]
      simp only [x1lo_at]
    · rw [hit _ _ _ _ _ _ (ix2 (⟨ρ.val - 272, by omega⟩ : Fin 256) n) (fun a => by fin_cases a <;> simp <;> omega), pay19_at]
      simp only [x1hi_at]
      have e : (⟨256 + (ρ.val - 272), by omega⟩ : Fin 512) = ⟨ρ.val - 16, by omega⟩ := Fin.ext (by dsimp only; omega)
      rw [e]

/-! ## The feed-forward chunks -/

/-- Entry `q` of chunk `ch`. -/
def at256 (ch : ℕ) (q : Fin 256) : Fin 2816 := ⟨256 * (ch % 11) + q.val, by omega⟩
/-- The same of half `s` of the up projection. -/
def at256s (ch : ℕ) (s : Fin 2) (q : Fin 256) : Fin 5632 := ⟨2816 * s.val + 256 * (ch % 11) + q.val, by omega⟩

variable (hh : Vec Ideal S528x1024 .bf16)

theorem wuAt_at (ch : ℕ) (s : Fin 2) (k : Fin 1024) (q : Fin 256) : wuAt B ch s (ix2 k q) = B.wu (ix2 k (at256s ch s q)) :=
  ldAt _ _ _ _ _ _ fun a => by fin_cases a <;> simp [at256s]
theorem cwAt_at (ch : ℕ) (s : Fin 2) (k : Fin 3) (q : Fin 256) : cwAt B ch s (ix2 k q) = B.cw (ix2 k (at256s ch s q)) :=
  ldAt _ _ _ _ _ _ fun a => by fin_cases a <;> simp [at256s]
theorem cbAt_at (ch : ℕ) (s : Fin 2) (q : Fin 256) : cbAt B ch s (ix2 0 q) = B.cb (ix2 0 (at256s ch s q)) :=
  ldAt _ _ _ _ _ _ fun a => by fin_cases a <;> simp [at256s]
theorem wdAt_at (ch : ℕ) (q : Fin 256) (n : Fin 1024) : wdAt B ch (ix2 q n) = B.wd (ix2 (at256 ch q) n) :=
  ldAt _ _ _ _ _ _ fun a => by fin_cases a <;> simp [at256]

/-- A slot holds its chunk when that was the last stored there: -/
theorem ups_self (ch : ℕ) (s : Fin 2) (sl : Fin 2) (hsl : sl.val = ch % 2) (ρ : Fin 528) (q : Fin 256) :
    View.canon (ups B hh (ch + 1)) (ix4 sl s ρ q) = ∑ k : Fin 1024, hh (ix2 ρ k) * B.wu (ix2 k (at256s ch s q)) := by
  have e : View.canon (ups B hh (ch + 1)) (ix4 sl s ρ q) = k0_pay20 hh (wuAt B ch s) (ix4 0 0 ρ q) := by
    unfold ups slotAt
    match s with
    | 0 =>
      rw [miss _ _ _ _ _ _ (1 : Fin 4) (Or.inl (show 0 < 1 by omega)),
        hit _ _ _ _ _ _ (ix4 (0 : Fin 1) (0 : Fin 1) ρ q) (fun a => by fin_cases a <;> simp [hsl])]
    | 1 => rw [hit _ _ _ _ _ _ (ix4 (0 : Fin 1) (0 : Fin 1) ρ q) (fun a => by fin_cases a <;> simp [hsl])]
  rw [e, pay20_at]
  simp only [wuAt_at]

/-- and still when the next chunk went to the other slot. -/
theorem ups_next (ch : ℕ) (s : Fin 2) (sl : Fin 2) (hsl : sl.val = ch % 2) (ρ : Fin 528) (q : Fin 256) :
    View.canon (ups B hh (ch + 2)) (ix4 sl s ρ q) = ∑ k : Fin 1024, hh (ix2 ρ k) * B.wu (ix2 k (at256s ch s q)) := by
  rw [← ups_self B hh ch s sl hsl ρ q]
  have hne : sl.val < (ch + 1) % 2 ∨ (ch + 1) % 2 + 1 ≤ sl.val := by omega
  conv_lhs => unfold ups slotAt
  rw [miss _ _ _ _ _ _ (0 : Fin 4) hne, miss _ _ _ _ _ _ (0 : Fin 4) hne]

theorem ups_at (ch : ℕ) (hch : ch < 11) (s : Fin 2) (sl : Fin 2) (hsl : sl.val = ch % 2) (ρ : Fin 528) (q : Fin 256) :
    View.canon (ups B hh (min (ch + 2) 11)) (ix4 sl s ρ q)
      = ∑ k : Fin 1024, hh (ix2 ρ k) * B.wu (ix2 k (at256s ch s q)) := by
  rcases Nat.lt_or_ge ch 10 with h | h
  · rw [Nat.min_eq_left (by omega : ch + 2 ≤ 11)]; exact ups_next B hh ch s sl hsl ρ q
  · obtain rfl : ch = 10 := by omega
    exact ups_self B hh 10 s sl hsl ρ q

theorem tapAt_at (ch : ℕ) (hch : ch < 11) (s : Fin 2) (k : Fin 3) (r : Fin 512) (q : Fin 256) (ρ : Fin 528)
    (hρ : ρ.val = 14 + k.val + r.val) :
    tapAt B hh ch s k (ix4 0 0 r q) = uRow B (fun ρ k => hh (ix2 ρ k)) ρ (at256s ch s q) := by
  have e : (Rect.unit (s := S2x2x528x256) _ S1x1x512x256.size (inbR ch s k)).idx (ix4 (0 : Fin 1) (0 : Fin 1) r q)
      = ix4 (⟨ch % 2, by omega⟩ : Fin 2) s ρ q := by
    funext a; apply Fin.ext
    refine (Rect.idx_unit_val _ _ _ _ a).trans ?_
    fin_cases a <;> simp [hρ]
  unfold tapAt
  rw [e]
  exact ups_at B hh ch hch s _ rfl ρ q

theorem act_at (ch : ℕ) (hch : ch < 11) (r : Fin 512) (q : Fin 256) :
    act B hh ch (ix2 r q) = aRow B (fun ρ k => hh (ix2 ρ k)) r (at256 ch q) := by
  have e0 : at256s ch 0 q = ⟨(at256 ch q).val, by omega⟩ := Fin.ext (by simp [at256s, at256])
  have e1 : at256s ch 1 q = ⟨2816 + (at256 ch q).val, by omega⟩ := Fin.ext (by simp [at256s, at256]; omega)
  unfold act aRow cRow
  rw [unit_at]
  simp only [cwAt_at, cbAt_at, ← e0, ← e1]
  rw [tapAt_at B hh ch hch 0 0 r q ⟨14 + r.val, by omega⟩ (by simp), tapAt_at B hh ch hch 0 1 r q ⟨15 + r.val, by omega⟩ (by simp),
    tapAt_at B hh ch hch 0 2 r q ⟨16 + r.val, by omega⟩ (by simp), tapAt_at B hh ch hch 1 0 r q ⟨14 + r.val, by omega⟩ (by simp),
    tapAt_at B hh ch hch 1 1 r q ⟨15 + r.val, by omega⟩ (by simp), tapAt_at B hh ch hch 1 2 r q ⟨16 + r.val, by omega⟩ (by simp)]

theorem acc_at (r : Fin 512) (n : Fin 1024) : ∀ N : ℕ, N < 11 → acc B hh N (ix2 r n)
    = ∑ ch : Fin (N + 1), ∑ q : Fin 256, aRow B (fun ρ k => hh (ix2 ρ k)) r (at256 ch.val q) * B.wd (ix2 (at256 ch.val q) n)
  | 0, h => by
    rw [acc, pay32_at, Fin.sum_univ_one]
    simp only [act_at B hh 0 h, wdAt_at]
    rfl
  | N + 1, h => by
    rw [acc, pay40_at, acc_at r n N (by omega), Fin.sum_univ_castSucc (n := N + 1)]
    simp only [act_at B hh (N + 1) h, wdAt_at]
    rfl

/-- Eleven chunks of 256 make 2816. -/
theorem sum_chunks (f : Fin 2816 → EReal) : (∑ ch : Fin 11, ∑ q : Fin 256, f (at256 ch.val q)) = ∑ e : Fin 2816, f e := by
  have h : (∑ e : Fin (11 * 256), f e) = ∑ p : Fin 11 × Fin 256, f (finProdFinEquiv p) := (finProdFinEquiv.sum_comp _).symm
  refine Eq.trans ?_ h.symm
  rw [Fintype.sum_prod_type]
  refine Finset.sum_congr rfl fun ch _ => Finset.sum_congr rfl fun q _ => congrArg f (Fin.ext ?_)
  show 256 * (ch.val % 11) + q.val = q.val + 256 * ch.val
  rw [Nat.mod_eq_of_lt ch.isLt]; omega

theorem acc_eq (r : Fin 512) (n : Fin 1024) : acc B hh 10 (ix2 r n) = dRow B (fun ρ k => hh (ix2 ρ k)) r n :=
  (acc_at B hh r n 10 (by omega)).trans (sum_chunks fun e => aRow B (fun ρ k => hh (ix2 ρ k)) r e * B.wd (ix2 e n))

/-- The block of the result at an entry. -/
theorem outB_at (r : Fin 512) (n : Fin 1024) : outB B i (ix2 r n)
    = resid (x1Row B r) (part B.mod 5) (dRow B (hRow B i) r) (fun k => B.gq (ix2 0 k)) n := by
  have eh : (fun ρ k => h B i (ix2 ρ k)) = hRow B i := funext fun ρ => funext fun k => h_at B i ρ k
  have ex : (fun k => x1 B (ix2 r k)) = x1Row B r := funext fun k => x1_at B r k
  have ea : (fun k => acc B (h B i) 10 (ix2 r k)) = dRow B (hRow B i) r := funext fun k => by rw [acc_eq, eh]
  unfold outB
  rw [pay1_at, ex, ea]

end Cert.Kernel2Ideal.Post
-- ==== Proof.PostBlocks.lean ====
/-
  The rest-of-layer kernel's operands as functions of its arguments, and what each grid point's block reads of them: point `t`
  takes 512 rows of sequence `t / 8`, the halo the 16 rows before them.
-/
module

public import proofs.«01_k».proof.Proof.PostAt
public import proofs.«01_k».proof.Proof.Gen.Kernel2Ideal.Value
public import Idealize.ShloMosaic.Lib.StableHlo.Run

@[expose] public section

noncomputable section

namespace Cert.Kernel2Ideal.Post

open Idealize.ShloMosaic Idealize.ShloMosaic.TcCoe Idealize.ShloMosaic.StableHlo
open Cert.Kernel2Ideal.Gen Cert.Proof.Post

/-! ## The operands -/

section
variable {F : FTy → Type} [FloatOps F]

/-- The sequences' rows one after another. -/
def rows512 (x : FVec F S4x4096x512 .f32) : FVec F S16384x512 .bf16 :=
  truncf .bf16 (shapeCast S16384x512 x shapeCasts_S4x4096x512_S16384x512) bitsLt_bf16_f32

variable (m : (ℓ : Loc nD τ sig) → Buf (Elt F) ℓ) (c : Dev nD)

theorem V_oa : V m c main_v1 = rows512 (m ((c : Thread nD τ).loc main_arg0)) := by
  unfold V
  simp only [hostOps0, List.flatten_cons, List.flatten_nil, List.append_nil, List.cons_append, List.nil_append, TRef.binary,
    TRef.unary, TRef.toBuf, TRef.ofBuf, cast_eq]
  after_results_simp <;> rfl

theorem V_ob : V m c main_v3 = rows512 (m ((c : Thread nD τ).loc main_arg1)) := by
  unfold V
  simp only [hostOps0, List.flatten_cons, List.flatten_nil, List.append_nil, List.cons_append, List.nil_append, TRef.binary,
    TRef.unary, TRef.toBuf, TRef.ofBuf, cast_eq]
  after_results_simp <;> rfl

theorem V_x : V m c main_v4 = shapeCast S16384x1024 (m ((c : Thread nD τ).loc main_arg2) : FVec F S4x4096x1024 .f32) shapeCasts_S4x4096x1024_S16384x1024 := by
  unfold V
  simp only [hostOps0, List.flatten_cons, List.flatten_nil, List.append_nil, List.cons_append, List.nil_append, TRef.binary,
    TRef.unary, TRef.toBuf, TRef.ofBuf, cast_eq]
  after_results_simp <;> rfl

theorem V_mod : V m c main_v5 = shapeCast S4x1x6144 (m ((c : Thread nD τ).loc main_arg3) : FVec F S4x6144 .f32) shapeCasts_S4x6144_S4x1x6144 := by
  unfold V
  simp only [hostOps0, List.flatten_cons, List.flatten_nil, List.append_nil, List.cons_append, List.nil_append, TRef.binary,
    TRef.unary, TRef.toBuf, TRef.ofBuf, cast_eq]
  after_results_simp <;> rfl

theorem V_gm : V m c main_v6 = shapeCast S1x1024 (m ((c : Thread nD τ).loc main_arg4) : FVec F S1024 .f32) shapeCasts_S1024_S1x1024 := by
  unfold V
  simp only [hostOps0, List.flatten_cons, List.flatten_nil, List.append_nil, List.cons_append, List.nil_append, TRef.binary,
    TRef.unary, TRef.toBuf, TRef.ofBuf, cast_eq]
  after_results_simp <;> rfl

theorem V_gp : V m c main_v7 = shapeCast S1x1024 (m ((c : Thread nD τ).loc main_arg5) : FVec F S1024 .f32) shapeCasts_S1024_S1x1024 := by
  unfold V
  simp only [hostOps0, List.flatten_cons, List.flatten_nil, List.append_nil, List.cons_append, List.nil_append, TRef.binary,
    TRef.unary, TRef.toBuf, TRef.ofBuf, cast_eq]
  after_results_simp <;> rfl

theorem V_gq : V m c main_v8 = shapeCast S1x1024 (m ((c : Thread nD τ).loc main_arg6) : FVec F S1024 .f32) shapeCasts_S1024_S1x1024 := by
  unfold V
  simp only [hostOps0, List.flatten_cons, List.flatten_nil, List.append_nil, List.cons_append, List.nil_append, TRef.binary,
    TRef.unary, TRef.toBuf, TRef.ofBuf, cast_eq]
  after_results_simp <;> rfl

theorem V_wo : V m c main_v9 = truncf .bf16 (m ((c : Thread nD τ).loc main_arg7) : FVec F S1024x1024 .f32) bitsLt_bf16_f32 := by
  unfold V
  simp only [hostOps0, List.flatten_cons, List.flatten_nil, List.append_nil, List.cons_append, List.nil_append, TRef.binary,
    TRef.unary, TRef.toBuf, TRef.ofBuf, cast_eq]
  after_results_simp <;> rfl

theorem V_wu : V m c main_v10 = truncf .bf16 (m ((c : Thread nD τ).loc main_arg8) : FVec F S1024x5632 .f32) bitsLt_bf16_f32 := by
  unfold V
  simp only [hostOps0, List.flatten_cons, List.flatten_nil, List.append_nil, List.cons_append, List.nil_append, TRef.binary,
    TRef.unary, TRef.toBuf, TRef.ofBuf, cast_eq]
  after_results_simp <;> rfl

theorem V_cw : V m c main_arg9 = m ((c : Thread nD τ).loc main_arg9) := by
  unfold V
  simp only [hostOps0, List.flatten_cons, List.flatten_nil, List.append_nil, List.cons_append, List.nil_append, TRef.binary,
    TRef.unary, TRef.toBuf, TRef.ofBuf, cast_eq]
  after_results_simp <;> rfl

theorem V_cb : V m c main_v11 = shapeCast S1x5632 (m ((c : Thread nD τ).loc main_arg10) : FVec F S5632 .f32) shapeCasts_S5632_S1x5632 := by
  unfold V
  simp only [hostOps0, List.flatten_cons, List.flatten_nil, List.append_nil, List.cons_append, List.nil_append, TRef.binary,
    TRef.unary, TRef.toBuf, TRef.ofBuf, cast_eq]
  after_results_simp <;> rfl

theorem V_wd : V m c main_v12 = truncf .bf16 (m ((c : Thread nD τ).loc main_arg11) : FVec F S2816x1024 .f32) bitsLt_bf16_f32 := by
  unfold V
  simp only [hostOps0, List.flatten_cons, List.flatten_nil, List.append_nil, List.cons_append, List.nil_append, TRef.binary,
    TRef.unary, TRef.toBuf, TRef.ofBuf, cast_eq]
  after_results_simp <;> rfl

end

/-! ## Their entries -/

theorem rows512_lit (x : FVec Ideal S4x4096x512 .f32) (b : Fin 4) (s : Fin 4096) (j : Fin 512) :
    rows512 x (ix2 ⟨4096 * b.val + s.val, by omega⟩ j) = x (ix3 b s j) := by
  pointwise [rows512]

theorem rows512_at (x : FVec Ideal S4x4096x512 .f32) (b : Fin 4) (s : Fin 4096) (j : Fin 512) (R : Fin 16384)
    (hR : R.val = 4096 * b.val + s.val) : rows512 x (ix2 R j) = x (ix3 b s j) :=
  (congrArg (fun R => rows512 x (ix2 R j)) (Fin.ext hR)).trans (rows512_lit x b s j)

theorem rows1024_lit (x : FVec Ideal S4x4096x1024 .f32) (b : Fin 4) (s : Fin 4096) (j : Fin 1024) :
    shapeCast S16384x1024 x shapeCasts_S4x4096x1024_S16384x1024 (ix2 ⟨4096 * b.val + s.val, by omega⟩ j) = x (ix3 b s j) := by
  pointwise

theorem rows1024_at (x : FVec Ideal S4x4096x1024 .f32) (b : Fin 4) (s : Fin 4096) (j : Fin 1024) (R : Fin 16384)
    (hR : R.val = 4096 * b.val + s.val) :
    shapeCast S16384x1024 x shapeCasts_S4x4096x1024_S16384x1024 (ix2 R j) = x (ix3 b s j) :=
  (congrArg (fun R => shapeCast S16384x1024 x shapeCasts_S4x4096x1024_S16384x1024 (ix2 R j)) (Fin.ext hR)).trans
    (rows1024_lit x b s j)

theorem mods_at (x : FVec Ideal S4x6144 .f32) (b : Fin 4) (j : Fin 6144) :
    shapeCast S4x1x6144 x shapeCasts_S4x6144_S4x1x6144 (ix3 b 0 j) = x (ix2 b j) := by
  pointwise

theorem gain_at (x : FVec Ideal S1024 .f32) (j : Fin 1024) :
    shapeCast S1x1024 x shapeCasts_S1024_S1x1024 (ix2 0 j) = x (ix1 j) := by
  pointwise

theorem bias_at (x : FVec Ideal S5632 .f32) (j : Fin 5632) :
    shapeCast S1x5632 x shapeCasts_S5632_S1x5632 (ix2 0 j) = x (ix1 j) := by
  pointwise

/-! ## The blocks -/

variable (m : (ℓ : Loc nD τ sig) → Buf (Elt Ideal) ℓ) (c : Dev nD)

/-- A grid point's number. -/
def num (t : Fin cfg0.N) : Fin 32 := grid0.coords t 0
/-- Its sequence. -/
def seqOf (t : Fin cfg0.N) : Fin 4 := ⟨(num t).val / 8, by omega⟩
/-- Row `r` of its block. -/
def rowOf (t : Fin cfg0.N) (r : Fin 512) : Fin 4096 := ⟨512 * ((num t).val % 8) + r.val, by omega⟩
/-- The rows' place among all sequences' rows. -/
def at512 (t : Fin cfg0.N) (r : Fin 512) : Fin 16384 := ⟨512 * (num t).val + r.val, by omega⟩
/-- The halo's place, of a point that is not its sequence's first; the array's first rows for point 0. -/
def at16 (t : Fin cfg0.N) (ρ : Fin 16) : Fin 16384 := ⟨16 * (32 * (num t).val - 1) + ρ.val, by omega⟩

theorem idx0 : ∀ t : Fin cfg0.N, win0_0.index t (0 : Fin 2) = (grid0.coords t 0).val ∧ win0_0.index t (1 : Fin 2) = 0 :=
  (by decide +kernel : ∀ t : Fin grid0.N, _)
theorem idx1 : ∀ t : Fin cfg0.N, win0_1.index t (0 : Fin 2) = (grid0.coords t 0).val ∧ win0_1.index t (1 : Fin 2) = 0 :=
  (by decide +kernel : ∀ t : Fin grid0.N, _)
theorem idx2 : ∀ t : Fin cfg0.N, win0_2.index t (0 : Fin 2) = 32 * (grid0.coords t 0).val - 1 ∧ win0_2.index t (1 : Fin 2) = 0 :=
  (by decide +kernel : ∀ t : Fin grid0.N, _)
theorem idx3 : ∀ t : Fin cfg0.N, win0_3.index t (0 : Fin 2) = 32 * (grid0.coords t 0).val - 1 ∧ win0_3.index t (1 : Fin 2) = 0 :=
  (by decide +kernel : ∀ t : Fin grid0.N, _)
theorem idx4 : ∀ t : Fin cfg0.N, win0_4.index t (0 : Fin 2) = (grid0.coords t 0).val ∧ win0_4.index t (1 : Fin 2) = 0 :=
  (by decide +kernel : ∀ t : Fin grid0.N, _)
theorem idx5 : ∀ t : Fin cfg0.N, win0_5.index t (0 : Fin 2) = 32 * (grid0.coords t 0).val - 1 ∧ win0_5.index t (1 : Fin 2) = 0 :=
  (by decide +kernel : ∀ t : Fin grid0.N, _)
theorem idx6 : ∀ t : Fin cfg0.N, win0_6.index t (0 : Fin 3) = (grid0.coords t 0).val / 8 ∧ win0_6.index t (1 : Fin 3) = 0 ∧ win0_6.index t (2 : Fin 3) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = (grid0.coords t 0).val ∧ win0_15.index t (1 : Fin 2) = 0 :=
  (by decide +kernel : ∀ t : Fin grid0.N, _)

theorem emb0 (t : Fin cfg0.N) (r : Fin 512) (j : Fin 512) : ((cfg0.win 0).blk t).view.emb (ix2 r j) = ix2 (at512 t r) j := by
  obtain ⟨e0, e1⟩ := idx0 t
  funext a; apply Fin.ext
  match a with
  | ⟨0, _⟩ => show win0_0.index t (0 : Fin 2) * 512 + 1 * r.val = 512 * (grid0.coords t 0).val + r.val; omega
  | ⟨1, _⟩ => show win0_0.index t (1 : Fin 2) * 512 + 1 * j.val = j.val; omega

theorem emb1 (t : Fin cfg0.N) (r : Fin 512) (j : Fin 512) : ((cfg0.win 1).blk t).view.emb (ix2 r j) = ix2 (at512 t r) j := by
  obtain ⟨e0, e1⟩ := idx1 t
  funext a; apply Fin.ext
  match a with
  | ⟨0, _⟩ => show win0_1.index t (0 : Fin 2) * 512 + 1 * r.val = 512 * (grid0.coords t 0).val + r.val; omega
  | ⟨1, _⟩ => show win0_1.index t (1 : Fin 2) * 512 + 1 * j.val = j.val; omega

theorem emb2 (t : Fin cfg0.N) (r : Fin 16) (j : Fin 512) : ((cfg0.win 2).blk t).view.emb (ix2 r j) = ix2 (at16 t r) j := by
  obtain ⟨e0, e1⟩ := idx2 t
  funext a; apply Fin.ext
  match a with
  | ⟨0, _⟩ => show win0_2.index t (0 : Fin 2) * 16 + 1 * r.val = 16 * (32 * (grid0.coords t 0).val - 1) + r.val; omega
  | ⟨1, _⟩ => show win0_2.index t (1 : Fin 2) * 512 + 1 * j.val = j.val; omega

theorem emb3 (t : Fin cfg0.N) (r : Fin 16) (j : Fin 512) : ((cfg0.win 3).blk t).view.emb (ix2 r j) = ix2 (at16 t r) j := by
  obtain ⟨e0, e1⟩ := idx3 t
  funext a; apply Fin.ext
  match a with
  | ⟨0, _⟩ => show win0_3.index t (0 : Fin 2) * 16 + 1 * r.val = 16 * (32 * (grid0.coords t 0).val - 1) + r.val; omega
  | ⟨1, _⟩ => show win0_3.index t (1 : Fin 2) * 512 + 1 * j.val = j.val; omega

theorem emb4 (t : Fin cfg0.N) (r : Fin 512) (j : Fin 1024) : ((cfg0.win 4).blk t).view.emb (ix2 r j) = ix2 (at512 t r) j := by
  obtain ⟨e0, e1⟩ := idx4 t
  funext a; apply Fin.ext
  match a with
  | ⟨0, _⟩ => show win0_4.index t (0 : Fin 2) * 512 + 1 * r.val = 512 * (grid0.coords t 0).val + r.val; omega
  | ⟨1, _⟩ => show win0_4.index t (1 : Fin 2) * 1024 + 1 * j.val = j.val; omega

theorem emb5 (t : Fin cfg0.N) (r : Fin 16) (j : Fin 1024) : ((cfg0.win 5).blk t).view.emb (ix2 r j) = ix2 (at16 t r) j := by
  obtain ⟨e0, e1⟩ := idx5 t
  funext a; apply Fin.ext
  match a with
  | ⟨0, _⟩ => show win0_5.index t (0 : Fin 2) * 16 + 1 * r.val = 16 * (32 * (grid0.coords t 0).val - 1) + r.val; omega
  | ⟨1, _⟩ => show win0_5.index t (1 : Fin 2) * 1024 + 1 * j.val = j.val; omega

theorem emb6 (t : Fin cfg0.N) (k : Fin 6144) : ((cfg0.win 6).blk t).view.emb (ix3 0 0 k) = ix3 (seqOf t) 0 k := by
  obtain ⟨e0, e1, e2⟩ := idx6 t
  funext a; apply Fin.ext
  match a with
  | ⟨0, _⟩ => show win0_6.index t (0 : Fin 3) * 1 + 1 * 0 = (grid0.coords t 0).val / 8; omega
  | ⟨1, _⟩ => show win0_6.index t (1 : Fin 3) * 1 + 1 * 0 = 0; omega
  | ⟨2, _⟩ => show win0_6.index t (2 : Fin 3) * 6144 + 1 * k.val = k.val; omega

theorem emb7 (t : Fin cfg0.N) (j : Fin 1024) : ((cfg0.win 7).blk t).view.emb (ix2 0 j) = ix2 0 j := by
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 1024 + 1 * j.val = j.val; omega

theorem emb8 (t : Fin cfg0.N) (j : Fin 1024) : ((cfg0.win 8).blk t).view.emb (ix2 0 j) = ix2 0 j := by
  obtain ⟨e0, e1⟩ := idx8 t
  funext a; apply Fin.ext
  match a with
  | ⟨0, _⟩ => show win0_8.index t (0 : Fin 2) * 1 + 1 * 0 = 0; omega
  | ⟨1, _⟩ => show win0_8.index t (1 : Fin 2) * 1024 + 1 * j.val = j.val; omega

theorem emb9 (t : Fin cfg0.N) (j : Fin 1024) : ((cfg0.win 9).blk t).view.emb (ix2 0 j) = ix2 0 j := by
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 1024 + 1 * j.val = j.val; omega

theorem emb10 (t : Fin cfg0.N) (r : Fin 1024) (j : Fin 1024) : ((cfg0.win 10).blk t).view.emb (ix2 r j) = ix2 r j := by
  obtain ⟨e0, e1⟩ := idx10 t
  funext a; apply Fin.ext
  match a with
  | ⟨0, _⟩ => show win0_10.index t (0 : Fin 2) * 1024 + 1 * r.val = r.val; omega
  | ⟨1, _⟩ => show win0_10.index t (1 : Fin 2) * 1024 + 1 * j.val = j.val; omega

theorem emb11 (t : Fin cfg0.N) (r : Fin 1024) (j : Fin 5632) : ((cfg0.win 11).blk t).view.emb (ix2 r j) = ix2 r j := by
  obtain ⟨e0, e1⟩ := idx11 t
  funext a; apply Fin.ext
  match a with
  | ⟨0, _⟩ => show win0_11.index t (0 : Fin 2) * 1024 + 1 * r.val = r.val; omega
  | ⟨1, _⟩ => show win0_11.index t (1 : Fin 2) * 5632 + 1 * j.val = j.val; omega

theorem emb12 (t : Fin cfg0.N) (r : Fin 3) (j : Fin 5632) : ((cfg0.win 12).blk t).view.emb (ix2 r j) = ix2 r j := by
  obtain ⟨e0, e1⟩ := idx12 t
  funext a; apply Fin.ext
  match a with
  | ⟨0, _⟩ => show win0_12.index t (0 : Fin 2) * 3 + 1 * r.val = r.val; omega
  | ⟨1, _⟩ => show win0_12.index t (1 : Fin 2) * 5632 + 1 * j.val = j.val; omega

theorem emb13 (t : Fin cfg0.N) (j : Fin 5632) : ((cfg0.win 13).blk t).view.emb (ix2 0 j) = ix2 0 j := by
  obtain ⟨e0, e1⟩ := idx13 t
  funext a; apply Fin.ext
  match a with
  | ⟨0, _⟩ => show win0_13.index t (0 : Fin 2) * 1 + 1 * 0 = 0; omega
  | ⟨1, _⟩ => show win0_13.index t (1 : Fin 2) * 5632 + 1 * j.val = j.val; omega

theorem emb14 (t : Fin cfg0.N) (r : Fin 2816) (j : Fin 1024) : ((cfg0.win 14).blk t).view.emb (ix2 r j) = ix2 r j := by
  obtain ⟨e0, e1⟩ := idx14 t
  funext a; apply Fin.ext
  match a with
  | ⟨0, _⟩ => show win0_14.index t (0 : Fin 2) * 2816 + 1 * r.val = r.val; omega
  | ⟨1, _⟩ => show win0_14.index t (1 : Fin 2) * 1024 + 1 * j.val = j.val; omega

theorem emb15 (t : Fin cfg0.N) (r : Fin 512) (j : Fin 1024) : ((cfg0.win 15).blk t).view.emb (ix2 r j) = ix2 (at512 t r) j := by
  obtain ⟨e0, e1⟩ := idx15 t
  funext a; apply Fin.ext
  match a with
  | ⟨0, _⟩ => show win0_15.index t (0 : Fin 2) * 512 + 1 * r.val = 512 * (grid0.coords t 0).val + r.val; omega
  | ⟨1, _⟩ => show win0_15.index t (1 : Fin 2) * 1024 + 1 * j.val = j.val; omega

/-- The blocks a grid point reads. -/
def blks (t : Fin cfg0.N) : Blks Ideal :=
  ⟨iblk m c 0 t, iblk m c 1 t, iblk m c 2 t, iblk m c 3 t, iblk m c 4 t, iblk m c 5 t, iblk m c 6 t, iblk m c 7 t, iblk m c 8 t,
    iblk m c 9 t, iblk m c 10 t, iblk m c 11 t, iblk m c 12 t, iblk m c 13 t, iblk m c 14 t⟩

/-- The arguments, by their entries. -/
def args : Args where
  oa b s j := (m ((c : Thread nD τ).loc main_arg0) : Vec Ideal S4x4096x512 .f32) (ix3 b s j)
  ob b s j := (m ((c : Thread nD τ).loc main_arg1) : Vec Ideal S4x4096x512 .f32) (ix3 b s j)
  x b s n := (m ((c : Thread nD τ).loc main_arg2) : Vec Ideal S4x4096x1024 .f32) (ix3 b s n)
  mod b n := (m ((c : Thread nD τ).loc main_arg3) : Vec Ideal S4x6144 .f32) (ix2 b n)
  gm n := (m ((c : Thread nD τ).loc main_arg4) : Vec Ideal S1024 .f32) (ix1 n)
  gp n := (m ((c : Thread nD τ).loc main_arg5) : Vec Ideal S1024 .f32) (ix1 n)
  gq n := (m ((c : Thread nD τ).loc main_arg6) : Vec Ideal S1024 .f32) (ix1 n)
  wo j k := (m ((c : Thread nD τ).loc main_arg7) : Vec Ideal S1024x1024 .f32) (ix2 j k)
  wu k e := (m ((c : Thread nD τ).loc main_arg8) : Vec Ideal S1024x5632 .f32) (ix2 k e)
  cw k e := (m ((c : Thread nD τ).loc main_arg9) : Vec Ideal S3x5632 .f32) (ix2 k e)
  cb e := (m ((c : Thread nD τ).loc main_arg10) : Vec Ideal S5632 .f32) (ix1 e)
  wd f n := (m ((c : Thread nD τ).loc main_arg11) : Vec Ideal S2816x1024 .f32) (ix2 f n)

theorem iblk0_eq (t : Fin cfg0.N) : (blks m c t).oa = ((cfg0.win 0).blk t).view.read (Elt Ideal) (rows512 (F := Ideal) (m ((c : Thread nD τ).loc main_arg0)) : Vec Ideal S16384x512 .bf16) :=
  congrArg (((cfg0.win 0).blk t).view.read (Elt Ideal)) (V_oa m c)
theorem read0 (X : Vec Ideal S16384x512 .bf16) (t : Fin cfg0.N) (r : Fin 512) (j : Fin 512) :
    ((cfg0.win 0).blk t).view.read (Elt Ideal) X (ix2 r j) = X (ix2 (at512 t r) j) := congrArg X (emb0 t r j)
theorem oa_at (t : Fin cfg0.N) (r : Fin 512) (j : Fin 512) : (blks m c t).oa (ix2 r j) = (args m c).oa (seqOf t) (rowOf t r) j :=
  (congrFun (iblk0_eq m c t) _).trans ((read0 _ t r j).trans (rows512_at _ (seqOf t) (rowOf t r) j _ (by
    show 512 * (num t).val + r.val = 4096 * ((num t).val / 8) + (512 * ((num t).val % 8) + r.val); omega)))

theorem iblk1_eq (t : Fin cfg0.N) : (blks m c t).ob = ((cfg0.win 1).blk t).view.read (Elt Ideal) (rows512 (F := Ideal) (m ((c : Thread nD τ).loc main_arg1)) : Vec Ideal S16384x512 .bf16) :=
  congrArg (((cfg0.win 1).blk t).view.read (Elt Ideal)) (V_ob m c)
theorem read1 (X : Vec Ideal S16384x512 .bf16) (t : Fin cfg0.N) (r : Fin 512) (j : Fin 512) :
    ((cfg0.win 1).blk t).view.read (Elt Ideal) X (ix2 r j) = X (ix2 (at512 t r) j) := congrArg X (emb1 t r j)
theorem ob_at (t : Fin cfg0.N) (r : Fin 512) (j : Fin 512) : (blks m c t).ob (ix2 r j) = (args m c).ob (seqOf t) (rowOf t r) j :=
  (congrFun (iblk1_eq m c t) _).trans ((read1 _ t r j).trans (rows512_at _ (seqOf t) (rowOf t r) j _ (by
    show 512 * (num t).val + r.val = 4096 * ((num t).val / 8) + (512 * ((num t).val % 8) + r.val); omega)))

theorem iblk2_eq (t : Fin cfg0.N) : (blks m c t).ha = ((cfg0.win 2).blk t).view.read (Elt Ideal) (rows512 (F := Ideal) (m ((c : Thread nD τ).loc main_arg0)) : Vec Ideal S16384x512 .bf16) :=
  congrArg (((cfg0.win 2).blk t).view.read (Elt Ideal)) (V_oa m c)
theorem read2 (X : Vec Ideal S16384x512 .bf16) (t : Fin cfg0.N) (r : Fin 16) (j : Fin 512) :
    ((cfg0.win 2).blk t).view.read (Elt Ideal) X (ix2 r j) = X (ix2 (at16 t r) j) := congrArg X (emb2 t r j)
theorem ha_at (t : Fin cfg0.N) (r : Fin 16) (j : Fin 512) (s : Fin 4096) (h : (num t).val % 8 ≠ 0)
    (hs : s.val + 16 = 512 * ((num t).val % 8) + r.val) : (blks m c t).ha (ix2 r j) = (args m c).oa (seqOf t) s j :=
  (congrFun (iblk2_eq m c t) _).trans ((read2 _ t r j).trans (rows512_at _ (seqOf t) s j _ (by
    show 16 * (32 * (num t).val - 1) + r.val = 4096 * ((num t).val / 8) + s.val; omega)))

theorem iblk3_eq (t : Fin cfg0.N) : (blks m c t).hb = ((cfg0.win 3).blk t).view.read (Elt Ideal) (rows512 (F := Ideal) (m ((c : Thread nD τ).loc main_arg1)) : Vec Ideal S16384x512 .bf16) :=
  congrArg (((cfg0.win 3).blk t).view.read (Elt Ideal)) (V_ob m c)
theorem read3 (X : Vec Ideal S16384x512 .bf16) (t : Fin cfg0.N) (r : Fin 16) (j : Fin 512) :
    ((cfg0.win 3).blk t).view.read (Elt Ideal) X (ix2 r j) = X (ix2 (at16 t r) j) := congrArg X (emb3 t r j)
theorem hb_at (t : Fin cfg0.N) (r : Fin 16) (j : Fin 512) (s : Fin 4096) (h : (num t).val % 8 ≠ 0)
    (hs : s.val + 16 = 512 * ((num t).val % 8) + r.val) : (blks m c t).hb (ix2 r j) = (args m c).ob (seqOf t) s j :=
  (congrFun (iblk3_eq m c t) _).trans ((read3 _ t r j).trans (rows512_at _ (seqOf t) s j _ (by
    show 16 * (32 * (num t).val - 1) + r.val = 4096 * ((num t).val / 8) + s.val; omega)))

theorem iblk4_eq (t : Fin cfg0.N) : (blks m c t).x = ((cfg0.win 4).blk t).view.read (Elt Ideal) (shapeCast S16384x1024 (m ((c : Thread nD τ).loc main_arg2) : FVec Ideal S4x4096x1024 .f32) shapeCasts_S4x4096x1024_S16384x1024 : Vec Ideal S16384x1024 .f32) :=
  congrArg (((cfg0.win 4).blk t).view.read (Elt Ideal)) (V_x m c)
theorem read4 (X : Vec Ideal S16384x1024 .f32) (t : Fin cfg0.N) (r : Fin 512) (j : Fin 1024) :
    ((cfg0.win 4).blk t).view.read (Elt Ideal) X (ix2 r j) = X (ix2 (at512 t r) j) := congrArg X (emb4 t r j)
theorem x_at (t : Fin cfg0.N) (r : Fin 512) (j : Fin 1024) : (blks m c t).x (ix2 r j) = (args m c).x (seqOf t) (rowOf t r) j :=
  (congrFun (iblk4_eq m c t) _).trans ((read4 _ t r j).trans (rows1024_at _ (seqOf t) (rowOf t r) j _ (by
    show 512 * (num t).val + r.val = 4096 * ((num t).val / 8) + (512 * ((num t).val % 8) + r.val); omega)))

theorem iblk5_eq (t : Fin cfg0.N) : (blks m c t).hx = ((cfg0.win 5).blk t).view.read (Elt Ideal) (shapeCast S16384x1024 (m ((c : Thread nD τ).loc main_arg2) : FVec Ideal S4x4096x1024 .f32) shapeCasts_S4x4096x1024_S16384x1024 : Vec Ideal S16384x1024 .f32) :=
  congrArg (((cfg0.win 5).blk t).view.read (Elt Ideal)) (V_x m c)
theorem read5 (X : Vec Ideal S16384x1024 .f32) (t : Fin cfg0.N) (r : Fin 16) (j : Fin 1024) :
    ((cfg0.win 5).blk t).view.read (Elt Ideal) X (ix2 r j) = X (ix2 (at16 t r) j) := congrArg X (emb5 t r j)
theorem hx_at (t : Fin cfg0.N) (r : Fin 16) (j : Fin 1024) (s : Fin 4096) (h : (num t).val % 8 ≠ 0)
    (hs : s.val + 16 = 512 * ((num t).val % 8) + r.val) : (blks m c t).hx (ix2 r j) = (args m c).x (seqOf t) s j :=
  (congrFun (iblk5_eq m c t) _).trans ((read5 _ t r j).trans (rows1024_at _ (seqOf t) s j _ (by
    show 16 * (32 * (num t).val - 1) + r.val = 4096 * ((num t).val / 8) + s.val; omega)))

theorem iblk6_eq (t : Fin cfg0.N) : (blks m c t).mod = ((cfg0.win 6).blk t).view.read (Elt Ideal) (shapeCast S4x1x6144 (m ((c : Thread nD τ).loc main_arg3) : FVec Ideal S4x6144 .f32) shapeCasts_S4x6144_S4x1x6144 : Vec Ideal S4x1x6144 .f32) :=
  congrArg (((cfg0.win 6).blk t).view.read (Elt Ideal)) (V_mod m c)
theorem read6 (X : Vec Ideal S4x1x6144 .f32) (t : Fin cfg0.N) (k : Fin 6144) :
    ((cfg0.win 6).blk t).view.read (Elt Ideal) X (ix3 0 0 k) = X (ix3 (seqOf t) 0 k) := congrArg X (emb6 t k)
theorem mod_at (t : Fin cfg0.N) (k : Fin 6144) : (blks m c t).mod (ix3 0 0 k) = (args m c).mod (seqOf t) k :=
  (congrFun (iblk6_eq m c t) _).trans ((read6 _ t k).trans (mods_at _ (seqOf t) k))

theorem iblk7_eq (t : Fin cfg0.N) : (blks m c t).gm = ((cfg0.win 7).blk t).view.read (Elt Ideal) (shapeCast S1x1024 (m ((c : Thread nD τ).loc main_arg4) : FVec Ideal S1024 .f32) shapeCasts_S1024_S1x1024 : Vec Ideal S1x1024 .f32) :=
  congrArg (((cfg0.win 7).blk t).view.read (Elt Ideal)) (V_gm m c)
theorem read7 (X : Vec Ideal S1x1024 .f32) (t : Fin cfg0.N) (j : Fin 1024) :
    ((cfg0.win 7).blk t).view.read (Elt Ideal) X (ix2 0 j) = X (ix2 0 j) := congrArg X (emb7 t j)
theorem gm_at (t : Fin cfg0.N) (j : Fin 1024) : (blks m c t).gm (ix2 0 j) = (args m c).gm j :=
  (congrFun (iblk7_eq m c t) _).trans ((read7 _ t j).trans (gain_at _ j))

theorem iblk8_eq (t : Fin cfg0.N) : (blks m c t).gp = ((cfg0.win 8).blk t).view.read (Elt Ideal) (shapeCast S1x1024 (m ((c : Thread nD τ).loc main_arg5) : FVec Ideal S1024 .f32) shapeCasts_S1024_S1x1024 : Vec Ideal S1x1024 .f32) :=
  congrArg (((cfg0.win 8).blk t).view.read (Elt Ideal)) (V_gp m c)
theorem read8 (X : Vec Ideal S1x1024 .f32) (t : Fin cfg0.N) (j : Fin 1024) :
    ((cfg0.win 8).blk t).view.read (Elt Ideal) X (ix2 0 j) = X (ix2 0 j) := congrArg X (emb8 t j)
theorem gp_at (t : Fin cfg0.N) (j : Fin 1024) : (blks m c t).gp (ix2 0 j) = (args m c).gp j :=
  (congrFun (iblk8_eq m c t) _).trans ((read8 _ t j).trans (gain_at _ j))

theorem iblk9_eq (t : Fin cfg0.N) : (blks m c t).gq = ((cfg0.win 9).blk t).view.read (Elt Ideal) (shapeCast S1x1024 (m ((c : Thread nD τ).loc main_arg6) : FVec Ideal S1024 .f32) shapeCasts_S1024_S1x1024 : Vec Ideal S1x1024 .f32) :=
  congrArg (((cfg0.win 9).blk t).view.read (Elt Ideal)) (V_gq m c)
theorem read9 (X : Vec Ideal S1x1024 .f32) (t : Fin cfg0.N) (j : Fin 1024) :
    ((cfg0.win 9).blk t).view.read (Elt Ideal) X (ix2 0 j) = X (ix2 0 j) := congrArg X (emb9 t j)
theorem gq_at (t : Fin cfg0.N) (j : Fin 1024) : (blks m c t).gq (ix2 0 j) = (args m c).gq j :=
  (congrFun (iblk9_eq m c t) _).trans ((read9 _ t j).trans (gain_at _ j))

theorem iblk10_eq (t : Fin cfg0.N) : (blks m c t).wo = ((cfg0.win 10).blk t).view.read (Elt Ideal) (truncf (F := Ideal) .bf16 (m ((c : Thread nD τ).loc main_arg7) : FVec Ideal S1024x1024 .f32) bitsLt_bf16_f32 : Vec Ideal S1024x1024 .bf16) :=
  congrArg (((cfg0.win 10).blk t).view.read (Elt Ideal)) (V_wo m c)
theorem read10 (X : Vec Ideal S1024x1024 .bf16) (t : Fin cfg0.N) (r : Fin 1024) (j : Fin 1024) :
    ((cfg0.win 10).blk t).view.read (Elt Ideal) X (ix2 r j) = X (ix2 r j) := congrArg X (emb10 t r j)
theorem wo_at (t : Fin cfg0.N) (r : Fin 1024) (j : Fin 1024) : (blks m c t).wo (ix2 r j) = (args m c).wo r j :=
  (congrFun (iblk10_eq m c t) _).trans ((read10 _ t r j).trans rfl)

theorem iblk11_eq (t : Fin cfg0.N) : (blks m c t).wu = ((cfg0.win 11).blk t).view.read (Elt Ideal) (truncf (F := Ideal) .bf16 (m ((c : Thread nD τ).loc main_arg8) : FVec Ideal S1024x5632 .f32) bitsLt_bf16_f32 : Vec Ideal S1024x5632 .bf16) :=
  congrArg (((cfg0.win 11).blk t).view.read (Elt Ideal)) (V_wu m c)
theorem read11 (X : Vec Ideal S1024x5632 .bf16) (t : Fin cfg0.N) (r : Fin 1024) (j : Fin 5632) :
    ((cfg0.win 11).blk t).view.read (Elt Ideal) X (ix2 r j) = X (ix2 r j) := congrArg X (emb11 t r j)
theorem wu_at (t : Fin cfg0.N) (r : Fin 1024) (j : Fin 5632) : (blks m c t).wu (ix2 r j) = (args m c).wu r j :=
  (congrFun (iblk11_eq m c t) _).trans ((read11 _ t r j).trans rfl)

theorem iblk12_eq (t : Fin cfg0.N) : (blks m c t).cw = ((cfg0.win 12).blk t).view.read (Elt Ideal) (m ((c : Thread nD τ).loc main_arg9) : Vec Ideal S3x5632 .f32) :=
  congrArg (((cfg0.win 12).blk t).view.read (Elt Ideal)) (V_cw m c)
theorem read12 (X : Vec Ideal S3x5632 .f32) (t : Fin cfg0.N) (r : Fin 3) (j : Fin 5632) :
    ((cfg0.win 12).blk t).view.read (Elt Ideal) X (ix2 r j) = X (ix2 r j) := congrArg X (emb12 t r j)
theorem cw_at (t : Fin cfg0.N) (r : Fin 3) (j : Fin 5632) : (blks m c t).cw (ix2 r j) = (args m c).cw r j :=
  (congrFun (iblk12_eq m c t) _).trans ((read12 _ t r j).trans rfl)

theorem iblk13_eq (t : Fin cfg0.N) : (blks m c t).cb = ((cfg0.win 13).blk t).view.read (Elt Ideal) (shapeCast S1x5632 (m ((c : Thread nD τ).loc main_arg10) : FVec Ideal S5632 .f32) shapeCasts_S5632_S1x5632 : Vec Ideal S1x5632 .f32) :=
  congrArg (((cfg0.win 13).blk t).view.read (Elt Ideal)) (V_cb m c)
theorem read13 (X : Vec Ideal S1x5632 .f32) (t : Fin cfg0.N) (j : Fin 5632) :
    ((cfg0.win 13).blk t).view.read (Elt Ideal) X (ix2 0 j) = X (ix2 0 j) := congrArg X (emb13 t j)
theorem cb_at (t : Fin cfg0.N) (j : Fin 5632) : (blks m c t).cb (ix2 0 j) = (args m c).cb j :=
  (congrFun (iblk13_eq m c t) _).trans ((read13 _ t j).trans (bias_at _ j))

theorem iblk14_eq (t : Fin cfg0.N) : (blks m c t).wd = ((cfg0.win 14).blk t).view.read (Elt Ideal) (truncf (F := Ideal) .bf16 (m ((c : Thread nD τ).loc main_arg11) : FVec Ideal S2816x1024 .f32) bitsLt_bf16_f32 : Vec Ideal S2816x1024 .bf16) :=
  congrArg (((cfg0.win 14).blk t).view.read (Elt Ideal)) (V_wd m c)
theorem read14 (X : Vec Ideal S2816x1024 .bf16) (t : Fin cfg0.N) (r : Fin 2816) (j : Fin 1024) :
    ((cfg0.win 14).blk t).view.read (Elt Ideal) X (ix2 r j) = X (ix2 r j) := congrArg X (emb14 t r j)
theorem wd_at (t : Fin cfg0.N) (r : Fin 2816) (j : Fin 1024) : (blks m c t).wd (ix2 r j) = (args m c).wd r j :=
  (congrFun (iblk14_eq m c t) _).trans ((read14 _ t r j).trans rfl)

theorem read15 (X : Vec Ideal S16384x1024 .f32) (t : Fin cfg0.N) (r : Fin 512) (j : Fin 1024) :
    ((cfg0.win 15).blk t).view.read (Elt Ideal) X (ix2 r j) = X (ix2 (at512 t r) j) := congrArg X (emb15 t r j)

end Cert.Kernel2Ideal.Post
-- ==== Proof.PostResult.lean ====
/-
  The rest-of-layer kernel's result array: each grid point writes back its 512 rows of the layer, and the blocks cover the array.
-/
module

public import proofs.«01_k».proof.Proof.PostRun
public import proofs.«01_k».proof.Proof.PostBlocks

@[expose] public section

noncomputable section

namespace Cert.Kernel2Ideal.Post

open Idealize.ShloMosaic Idealize.ShloMosaic.TcCoe
open Cert.Kernel2Ideal.Gen Cert.Proof.Post

variable (m : (ℓ : Loc nD τ sig) → Buf (Elt Ideal) ℓ) (c : Dev nD) (t : Fin cfg0.N)

/-! ## The block's rows are the sequence's -/

theorem part_eq (p : Fin 6) : part (blks m c t).mod p = modp (args m c) (seqOf t) p :=
  funext fun n => mod_at m c t _

theorem x1Row_eq (r : Fin 512) : x1Row (blks m c t) r = x1A (args m c) (seqOf t) (rowOf t r) := by
  funext n
  have ey : yRow (blks m c t) (fun r j => (blks m c t).oa (ix2 r j)) (fun r j => (blks m c t).ob (ix2 r j)) r
      = yA (args m c) (seqOf t) (rowOf t r) := by
    funext k
    simp only [yRow, oa_at, ob_at, wo_at]
    rfl
  have ex : (fun k => (blks m c t).x (ix2 r k)) = (args m c).x (seqOf t) (rowOf t r) := funext fun k => x_at m c t r k
  have eg : (fun k => (blks m c t).gm (ix2 0 k)) = (args m c).gm := funext fun k => gm_at m c t k
  rw [x1Row, ey, ex, eg, part_eq, x1A]

theorem haloRow_eq (ρ : Fin 16) (s : Fin 4096) (h : (num t).val % 8 ≠ 0) (hs : s.val + 16 = 512 * ((num t).val % 8) + ρ.val) :
    haloRow (blks m c t) ρ = x1A (args m c) (seqOf t) s := by
  funext n
  have ey : yRow (blks m c t) (fun r j => (blks m c t).ha (ix2 r j)) (fun r j => (blks m c t).hb (ix2 r j)) ρ
      = yA (args m c) (seqOf t) s := by
    funext k
    have ea : ∀ j, (blks m c t).ha (ix2 ρ j) = (args m c).oa (seqOf t) s j := fun j => ha_at m c t ρ j s h hs
    have eb : ∀ j, (blks m c t).hb (ix2 ρ j) = (args m c).ob (seqOf t) s j := fun j => hb_at m c t ρ j s h hs
    simp only [yRow, ea, eb, wo_at]
    rfl
  have ex : (fun k => (blks m c t).hx (ix2 ρ k)) = (args m c).x (seqOf t) s := funext fun k => hx_at m c t ρ k s h hs
  have eg : (fun k => (blks m c t).gm (ix2 0 k)) = (args m c).gm := funext fun k => gm_at m c t k
  rw [haloRow, ey, ex, eg, part_eq, x1A]

theorem hRow_eq (ρ : Fin 528) (s : Fin 4096) (hs : s.val + 16 = 512 * ((num t).val % 8) + ρ.val) (n : Fin 1024) :
    hRow (blks m c t) (grid0.coords t) ρ n = hA (args m c) (seqOf t) s n := by
  have eg : (fun k => (blks m c t).gp (ix2 0 k)) = (args m c).gp := funext fun k => gp_at m c t k
  rw [hRow, hA, eg, part_eq, part_eq]
  by_cases hρ : ρ.val < 16
  · have h : (num t).val % 8 ≠ 0 := by omega
    have h' : ¬ (grid0.coords t 0).val % 8 = 0 := h
    rw [dif_pos hρ, if_neg h', haloRow_eq m c t ⟨ρ.val, hρ⟩ s h hs]
  · have e : rowOf t ⟨ρ.val - 16, by omega⟩ = s := Fin.ext (by
      show 512 * ((num t).val % 8) + (ρ.val - 16) = s.val; omega)
    rw [dif_neg hρ, x1Row_eq, e]

theorem hRow_zero (ρ : Fin 528) (hs : 512 * ((num t).val % 8) + ρ.val < 16) (n : Fin 1024) :
    hRow (blks m c t) (grid0.coords t) ρ n = 0 := by
  have hρ : ρ.val < 16 := by omega
  have h' : (grid0.coords t 0).val % 8 = 0 := by
    have : (num t).val % 8 = 0 := by omega
    exact this
  rw [hRow, dif_pos hρ, if_pos h']

/-- The up projection's rows, from the halo or from the block itself. -/
theorem uRow_eq (r : Fin 512) (d : ℕ) (hd : d ≤ 2) (ρ : Fin 528) (hρ : ρ.val + d = 16 + r.val) (e : Fin 5632) :
    uRow (blks m c t) (hRow (blks m c t) (grid0.coords t)) ρ e = back (args m c) (seqOf t) (rowOf t r) d e := by
  have hr : (rowOf t r).val = 512 * ((num t).val % 8) + r.val := rfl
  rw [uRow, back]
  by_cases h : d ≤ (rowOf t r).val
  · rw [if_pos h, uA]
    refine Finset.sum_congr rfl fun k _ => ?_
    rw [hRow_eq m c t ρ ⟨(rowOf t r).val - d, by omega⟩ (by show (rowOf t r).val - d + 16 = _; omega) k, wu_at]
  · rw [if_neg h]
    refine Finset.sum_eq_zero fun k _ => ?_
    rw [hRow_zero m c t ρ (by omega) k, zero_mul]

theorem cRow_eq (r : Fin 512) (e : Fin 5632) : cRow (blks m c t) (hRow (blks m c t) (grid0.coords t)) r e
    = cA (args m c) (seqOf t) (rowOf t r) e := by
  rw [cRow, cA, uRow_eq m c t r 2 (by omega) _ (by show 14 + r.val + 2 = _; omega),
    uRow_eq m c t r 1 (by omega) _ (by show 15 + r.val + 1 = _; omega), uRow_eq m c t r 0 (by omega) _ rfl,
    cw_at, cw_at, cw_at, cb_at]

theorem dRow_eq (r : Fin 512) : dRow (blks m c t) (hRow (blks m c t) (grid0.coords t)) r
    = dA (args m c) (seqOf t) (rowOf t r) := by
  funext n
  rw [dRow, dA]
  refine Finset.sum_congr rfl fun f _ => ?_
  rw [aRow, aA, cRow_eq, cRow_eq, wd_at]

/-- A grid point's block of the result is the layer's rows. -/
theorem out_rows (r : Fin 512) (n : Fin 1024) : outB (blks m c t) (grid0.coords t) (ix2 r n)
    = outA (args m c) (seqOf t) (rowOf t r) n := by
  have eg : (fun k => (blks m c t).gq (ix2 0 k)) = (args m c).gq := funext fun k => gq_at m c t k
  rw [outB_at, x1Row_eq, part_eq, dRow_eq, eg, outA]

/-! ## The result array -/

/-- The layer's rows, the sequences one after another. -/
def RES : Vec Ideal S16384x1024 .f32 := fun i =>
  outA (args m c) ⟨(i (0 : Fin 2)).val / 4096, by have : (i (0 : Fin 2)).val < 16384 := (i (0 : Fin 2)).isLt; omega⟩
    ⟨(i (0 : Fin 2)).val % 4096, by omega⟩ (i (1 : Fin 2))

theorem RES_at (R : Fin 16384) (n : Fin 1024) (b : Fin 4) (s : Fin 4096) (hR : R.val = 4096 * b.val + s.val) :
    RES m c (ix2 R n) = outA (args m c) b s n := by
  have eb : (⟨R.val / 4096, by omega⟩ : Fin 4) = b := Fin.ext (by show R.val / 4096 = b.val; omega)
  have es : (⟨R.val % 4096, by omega⟩ : Fin 4096) = s := Fin.ext (by show R.val % 4096 = s.val; omega)
  show outA (args m c) ⟨R.val / 4096, _⟩ ⟨R.val % 4096, _⟩ n = _
  rw [eb, es]

set_option maxHeartbeats 4000000 in
theorem after_eq : outsAt0 m c t = outB (blks m c t) (grid0.coords t) :=
  out_eq c (grid0.coords t) (blks m c t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t) (hs0_9 t)
    (ms0_10 t) (hs0_10 t) (ms0_11 t) (hs0_11 t) (ms0_12 t) (hs0_12 t) (ms0_13 t) (hs0_13 t) (ms0_14 t) (hs0_14 t) (ms0_15 t)
    (hs0_15 t) scM0_0 (Memref.isWhole_whole _) scM0_1 (Memref.isWhole_whole _) scM0_2 (Memref.isWhole_whole _) scM0_3
    (Memref.isWhole_whole _)

theorem after_at (r : Fin 512) (n : Fin 1024) : outB (blks m c t) (grid0.coords t) (ix2 r n)
    = ((cfg0.win 15).blk t).view.read (Elt Ideal) (RES m c) (ix2 r n) :=
  (out_rows m c t r n).trans ((read15 (RES m c) t r n).trans (RES_at m c _ n (seqOf t) (rowOf t r) (by
    show 512 * (num t).val + r.val = 4096 * ((num t).val / 8) + (512 * ((num t).val % 8) + r.val); omega))).symm

/-- What a point writes back is its block of the layer's rows. -/
theorem flushed15_eq : (dats m 0 c).flushed 15 t = ((cfg0.win 15).blk t).view.read (Elt Ideal) (RES m c) := by
  have e : (dats m 0 c).flushed 15 t = (cfg0.win 15).cut (grid0.coords t) ((dats m 0 c).after 15 t) := rfl
  rw [e, after0_15, after_eq]
  funext i
  idx_vars i
  exact after_at m c t i0 i1

/-- Every index of the result array is in some point's block. -/
theorem point : ∀ b : Fin 32, ∃ t : Fin grid0.N, (grid0.coords t 0).val = b.val := by decide +kernel

theorem covered15 (i : S16384x1024.Idx) :
    ∃ t : Fin cfg0.N, (cfg0.win 15).flush t = true ∧ i ∈ ((cfg0.win 15).blk t).view.set := by
  idx_vars i
  obtain ⟨t, h0⟩ := point ⟨i0.val / 512, by omega⟩
  refine ⟨t, flush0_15 t, ?_⟩
  have h := ((cfg0.win 15).blk t).view.emb_mem_set (ix2 (⟨i0.val % 512, by omega⟩ : Fin 512) i1)
  rw [emb15] at h
  have e0 : at512 t ⟨i0.val % 512, by omega⟩ = i0 := Fin.ext (by
    show 512 * (grid0.coords t 0).val + i0.val % 512 = i0.val
    rw [h0]; dsimp only; omega)
  rw [e0] at h
  exact h

theorem final15 : (dats m 0 c).arrAt 15 cfg0.N = RES m c :=
  (dats m 0 c).arrAt_eq_of_cover 15 (RES m c) (fun t _ => flushed15_eq m c t) covered15

end Cert.Kernel2Ideal.Post
-- ==== Proof.PostRef.lean ====
/-
  The reference's rest of the layer, entry by entry: the output projection of both attentions side by side, the normed mixing
  branch, the convolved and gated feed-forward branch.
-/
module

public import proofs.«01_k».proof.Proof.PostRow
public import proofs.«01_k».proof.Proof.Gen.Reference2Ideal.Run
public import Idealize.ShloMosaic.Lib.Pointwise

@[expose] public section
set_option maxRecDepth 8192

noncomputable section

namespace Cert.Reference2Ideal.Post

open Idealize.ShloMosaic Idealize.ShloMosaic.TcCoe
open Cert.Reference2Ideal.Gen Cert.Reference2Ideal.Value Cert.Proof.Post

/-! ## The stages -/

section
variable {F : FTy → Type} [FloatOps F]

/-- A row's division by its root mean square, and the gain. -/
def norm (y : Vec F S4x4096x1024 .f32) (g : Vec F S1024 .f32) : Vec F S4x4096x1024 .f32 :=
  mulf (mulf y (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf y y) (constant S_ .f32 0x00000000#32)
      reducesTo_S4x4096x1024_S4x4096_d2 h_S_)) (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- Both attentions side by side, projected. -/
def mixed (oa ob : Vec F S4x4096x512 .f32) (wo : Vec F S1024x1024 .f32) : Vec F S4x4096x1024 .f32 :=
  Host.dotGeneral dot_S4x4096x1024_S1024x1024_S4x4096x1024_2_0_01_1_n_n none (concatenate S4x4096x1024 2 [⟨S4x4096x512, oa⟩,
    ⟨S4x4096x512, ob⟩] concatenates_S4x4096x512_S4x4096x512_S4x4096x1024_d2) wo

/-- Part 2 of the modulation. -/
def mod2 (mod : Vec F S4x6144 .f32) : Vec F S4x1x1024 .f32 :=
  broadcastInDim S4x1x1024 ![0, 2] bcast_S4x1024_S4x1x1024_0_2 (extractStridedSlice S4x1024 ![0, 2048] mod slices_S4x6144_S4x1024_0_2048)

/-- Part 3 of the modulation. -/
def mod3 (mod : Vec F S4x6144 .f32) : Vec F S4x1x1024 .f32 :=
  broadcastInDim S4x1x1024 ![0, 2] bcast_S4x1024_S4x1x1024_0_2 (extractStridedSlice S4x1024 ![0, 3072] mod slices_S4x6144_S4x1024_0_3072)

/-- Part 4 of the modulation. -/
def mod4 (mod : Vec F S4x6144 .f32) : Vec F S4x1x1024 .f32 :=
  broadcastInDim S4x1x1024 ![0, 2] bcast_S4x1024_S4x1x1024_0_2 (extractStridedSlice S4x1024 ![0, 4096] mod slices_S4x6144_S4x1024_0_4096)

/-- Part 5 of the modulation. -/
def mod5 (mod : Vec F S4x6144 .f32) : Vec F S4x1x1024 .f32 :=
  broadcastInDim S4x1x1024 ![0, 2] bcast_S4x1024_S4x1x1024_0_2 (extractStridedSlice S4x1024 ![0, 5120] mod slices_S4x6144_S4x1024_0_5120)

/-- A branch's row, normed and gated, added to the residual stream. -/
def added (x y : Vec F S4x4096x1024 .f32) (gate : Vec F S4x1x1024 .f32) (g : Vec F S1024 .f32) : Vec F S4x4096x1024 .f32 :=
  addf x (mulf (broadcastInDim S4x4096x1024 ![0, 1, 2] bcast_S4x1x1024_S4x4096x1024_0_1_2 gate) (norm y g))

/-- The feed-forward branch's input. -/
def shifted (x : Vec F S4x4096x1024 .f32) (g : Vec F S1024 .f32) (sc sh : Vec F S4x1x1024 .f32) : Vec F S4x4096x1024 .f32 :=
  addf (mulf (norm x g) (broadcastInDim S4x4096x1024 ![0, 1, 2] bcast_S4x1x1024_S4x4096x1024_0_1_2 (addf (broadcastInDim S4x1x1024 ![]
    bcast_S_S4x1x1024 (constant S_ .f32 0x3F800000#32)) sc))) (broadcastInDim S4x4096x1024 ![0, 1, 2]
    bcast_S4x1x1024_S4x4096x1024_0_1_2 sh)

/-- The up projection, two zero rows before each sequence. -/
def padded (h : Vec F S4x4096x1024 .f32) (wu : Vec F S1024x5632 .f32) : Vec F S4x4098x5632 .f32 :=
  pad S4x4098x5632 ![0, 2, 0] ![0, 0, 0] ![0, 0, 0] (Host.dotGeneral dot_S4x4096x1024_S1024x5632_S4x4096x5632_2_0_01_1_n_n none h wu)
    (sitofp .f32 (constantI S_ 32 0#32)) pads_S4x4096x5632_S4x4098x5632_000_200_000 h_S_

/-- Tap 0's product. -/
def tap0 (u : Vec F S4x4098x5632 .f32) (cw : Vec F S3x5632 .f32) : Vec F S4x4096x5632 .f32 :=
  mulf (broadcastInDim S4x4096x5632 ![0, 1, 2] bcast_S1x1x5632_S4x4096x5632_0_1_2 (broadcastInDim S1x1x5632 ![2] bcast_S5632_S1x1x5632_2
    (shapeCast _ (extractStridedSlice S1x5632 ![0, 0] cw slices_S3x5632_S1x5632_0_0) shapeCasts_S1x5632_S5632)))
    (extractStridedSlice S4x4096x5632 ![0, 0, 0] u slices_S4x4098x5632_S4x4096x5632_0_0_0)

/-- Tap 1's product. -/
def tap1 (u : Vec F S4x4098x5632 .f32) (cw : Vec F S3x5632 .f32) : Vec F S4x4096x5632 .f32 :=
  mulf (broadcastInDim S4x4096x5632 ![0, 1, 2] bcast_S1x1x5632_S4x4096x5632_0_1_2 (broadcastInDim S1x1x5632 ![2] bcast_S5632_S1x1x5632_2
    (shapeCast _ (extractStridedSlice S1x5632 ![1, 0] cw slices_S3x5632_S1x5632_1_0) shapeCasts_S1x5632_S5632)))
    (extractStridedSlice S4x4096x5632 ![0, 1, 0] u slices_S4x4098x5632_S4x4096x5632_0_1_0)

/-- Tap 2's product. -/
def tap2 (u : Vec F S4x4098x5632 .f32) (cw : Vec F S3x5632 .f32) : Vec F S4x4096x5632 .f32 :=
  mulf (broadcastInDim S4x4096x5632 ![0, 1, 2] bcast_S1x1x5632_S4x4096x5632_0_1_2 (broadcastInDim S1x1x5632 ![2] bcast_S5632_S1x1x5632_2
    (shapeCast _ (extractStridedSlice S1x5632 ![2, 0] cw slices_S3x5632_S1x5632_2_0) shapeCasts_S1x5632_S5632)))
    (extractStridedSlice S4x4096x5632 ![0, 2, 0] u slices_S4x4098x5632_S4x4096x5632_0_2_0)

/-- The convolution. -/
def conv (u : Vec F S4x4098x5632 .f32) (cw : Vec F S3x5632 .f32) (cb : Vec F S5632 .f32) : Vec F S4x4096x5632 .f32 :=
  addf (addf (addf (addf (broadcastInDim S4x4096x5632 ![] bcast_S_S4x4096x5632 (constant S_ .f32 0x00000000#32)) (tap0 u cw))
    (tap1 u cw)) (tap2 u cw)) (broadcastInDim S4x4096x5632 ![0, 1, 2] bcast_S1x1x5632_S4x4096x5632_0_1_2
    (broadcastInDim S1x1x5632 ![2] bcast_S5632_S1x1x5632_2 cb))

/-- The gate's half. -/
def gateHalf (z : Vec F S4x4096x5632 .f32) : Vec F S4x4096x2816 .f32 :=
  extractStridedSlice S4x4096x2816 ![0, 0, 0] z slices_S4x4096x5632_S4x4096x2816_0_0_0

/-- The gated unit of a gate and a value. -/
def gated (g v : Vec F S4x4096x2816 .f32) : Vec F S4x4096x2816 .f32 :=
  mulf (mulf g (mulf (broadcastInDim S4x4096x2816 ![] bcast_S_S4x4096x2816 (constant S_ .f32 0x3F000000#32)) (addf
    (broadcastInDim S4x4096x2816 ![] bcast_S_S4x4096x2816 (constant S_ .f32 0x3F800000#32)) (Host.tanh (mulf
    (broadcastInDim S4x4096x2816 ![] bcast_S_S4x4096x2816 (constant S_ .f32 0x3F4C422A#32)) (addf g (mulf
    (broadcastInDim S4x4096x2816 ![] bcast_S_S4x4096x2816 (constant S_ .f32 0x3D372713#32)) (mulf (mulf g g) g)))))))) v

/-- The down projection. -/
def down (a : Vec F S4x4096x2816 .f32) (wd : Vec F S2816x1024 .f32) : Vec F S4x4096x1024 .f32 :=
  Host.dotGeneral dot_S4x4096x2816_S2816x1024_S4x4096x1024_2_0_01_1_n_n none a wd

variable (V : Valuation τ sig (Elt F))

theorem v13_eq : res_main_v13 V = mixed (V (Proc.devRef .tc main_arg0)) (V (Proc.devRef .tc main_arg1)) (V (Proc.devRef .tc main_arg7)) := by
  unfold res_main_v13; rfl
theorem v29_eq : res_main_v29 V = added (V (Proc.devRef .tc main_arg2)) (res_main_v13 V) (mod2 (V (Proc.devRef .tc main_arg3)))
    (V (Proc.devRef .tc main_arg4)) := by
  unfold res_main_v29; rfl
theorem v50_eq : res_main_v50 V = padded (shifted (res_main_v29 V) (V (Proc.devRef .tc main_arg5)) (mod4 (V (Proc.devRef .tc main_arg3)))
    (mod3 (V (Proc.devRef .tc main_arg3)))) (V (Proc.devRef .tc main_arg8)) := by
  unfold res_main_v50; rfl
theorem v75_eq : res_main_v75 V = conv (res_main_v50 V) (V (Proc.devRef .tc main_arg9)) (V (Proc.devRef .tc main_arg10)) := by
  unfold res_main_v75; rfl
theorem v76_eq : res_main_v76 V = gateHalf (res_main_v75 V) := by
  unfold res_main_v76; rfl
theorem v92_eq : res_main_v92 V = down (gated (res_main_v76 V) (extractStridedSlice S4x4096x2816 ![0, 0, 2816] (res_main_v75 V)
    slices_S4x4096x5632_S4x4096x2816_0_0_2816)) (V (Proc.devRef .tc main_arg11)) := by
  unfold res_main_v92; rfl

end

/-! ## Read at an index -/

variable (b : Fin 4) (s : Fin 4096)

theorem norm_at (y : Vec Ideal S4x4096x1024 .f32) (g : Vec Ideal S1024 .f32) (n : Fin 1024) :
    norm y g (ix3 b s n) = normed (fun k => y (ix3 b s k)) (fun k => g (ix1 k)) n := by
  have z : Ideal.ofBits FTy.f32 0x00000000#32 = 0 := Ideal.ofBits_zero_f32
  pointwise [norm, normed, rms, lit]

theorem mixed_at (oa ob : Vec Ideal S4x4096x512 .f32) (wo : Vec Ideal S1024x1024 .f32) (n : Fin 1024) :
    mixed oa ob wo (ix3 b s n) = (∑ j : Fin 512, oa (ix3 b s j) * wo (ix2 ⟨j.val, by omega⟩ n))
      + ∑ j : Fin 512, ob (ix3 b s j) * wo (ix2 ⟨512 + j.val, by omega⟩ n) := by
  pointwise [mixed]

theorem mod2_at (x : Vec Ideal S4x6144 .f32) (n : Fin 1024) :
    mod2 x (ix3 b 0 n) = x (ix2 b ⟨1024 * (2 : Fin 6).val + n.val, by omega⟩) := by
  pointwise [mod2]

theorem mod3_at (x : Vec Ideal S4x6144 .f32) (n : Fin 1024) :
    mod3 x (ix3 b 0 n) = x (ix2 b ⟨1024 * (3 : Fin 6).val + n.val, by omega⟩) := by
  pointwise [mod3]

theorem mod4_at (x : Vec Ideal S4x6144 .f32) (n : Fin 1024) :
    mod4 x (ix3 b 0 n) = x (ix2 b ⟨1024 * (4 : Fin 6).val + n.val, by omega⟩) := by
  pointwise [mod4]

theorem mod5_at (x : Vec Ideal S4x6144 .f32) (n : Fin 1024) :
    mod5 x (ix3 b 0 n) = x (ix2 b ⟨1024 * (5 : Fin 6).val + n.val, by omega⟩) := by
  pointwise [mod5]

theorem added_at (x y : Vec Ideal S4x4096x1024 .f32) (gate : Vec Ideal S4x1x1024 .f32) (g : Vec Ideal S1024 .f32) (n : Fin 1024) :
    added x y gate g (ix3 b s n) = resid (fun k => x (ix3 b s k)) (fun k => gate (ix3 b 0 k)) (fun k => y (ix3 b s k)) (fun k => g (ix1 k)) n := by
  rw [resid, ← norm_at]
  pointwise [added]

theorem shifted_at (x : Vec Ideal S4x4096x1024 .f32) (g : Vec Ideal S1024 .f32) (sc sh : Vec Ideal S4x1x1024 .f32) (n : Fin 1024) :
    shifted x g sc sh (ix3 b s n) = modded (fun k => x (ix3 b s k)) (fun k => g (ix1 k)) (fun k => sc (ix3 b 0 k)) (fun k => sh (ix3 b 0 k)) n := by
  rw [modded, ← norm_at]
  pointwise [shifted, lit]

theorem padded_at (h : Vec Ideal S4x4096x1024 .f32) (wu : Vec Ideal S1024x5632 .f32) (s : Fin 4098) (e : Fin 5632) :
    padded h wu (ix3 b s e) = if hs : 2 ≤ s.val then ∑ k : Fin 1024, h (ix3 b ⟨s.val - 2, by omega⟩ k) * wu (ix2 k e) else 0 := by
  pointwise [padded]
  have e0 : (FloatOps.sitofp (F := Ideal) FTy.f32 0#32 : EReal) = 0 := by
    show ((((0#32 : BitVec 32).toInt : ℤ) : ℝ) : EReal) = 0
    simp
  rw [e0]
  by_cases hs : 2 ≤ s.val
  · rw [dif_pos ⟨hs, by omega⟩, dif_pos hs]
  · rw [dif_neg (fun h => hs h.1), dif_neg hs]

theorem tap0_at (u : Vec Ideal S4x4098x5632 .f32) (cw : Vec Ideal S3x5632 .f32) (e : Fin 5632) :
    tap0 u cw (ix3 b s e) = cw (ix2 0 e) * u (ix3 b ⟨0 + s.val, by omega⟩ e) := by
  pointwise [tap0]

theorem tap1_at (u : Vec Ideal S4x4098x5632 .f32) (cw : Vec Ideal S3x5632 .f32) (e : Fin 5632) :
    tap1 u cw (ix3 b s e) = cw (ix2 1 e) * u (ix3 b ⟨1 + s.val, by omega⟩ e) := by
  pointwise [tap1]

theorem tap2_at (u : Vec Ideal S4x4098x5632 .f32) (cw : Vec Ideal S3x5632 .f32) (e : Fin 5632) :
    tap2 u cw (ix3 b s e) = cw (ix2 2 e) * u (ix3 b ⟨2 + s.val, by omega⟩ e) := by
  pointwise [tap2]

theorem conv_at (u : Vec Ideal S4x4098x5632 .f32) (cw : Vec Ideal S3x5632 .f32) (cb : Vec Ideal S5632 .f32) (e : Fin 5632) :
    conv u cw cb (ix3 b s e) = taps (cw (ix2 0 e)) (cw (ix2 1 e)) (cw (ix2 2 e)) (cb (ix1 e)) (u (ix3 b ⟨0 + s.val, by omega⟩ e))
      (u (ix3 b ⟨1 + s.val, by omega⟩ e)) (u (ix3 b ⟨2 + s.val, by omega⟩ e)) := by
  rw [taps, ← tap0_at, ← tap1_at, ← tap2_at]
  have z : Ideal.ofBits FTy.f32 0x00000000#32 = 0 := Ideal.ofBits_zero_f32
  pointwise [conv]

theorem gateHalf_at (z : Vec Ideal S4x4096x5632 .f32) (f : Fin 2816) : gateHalf z (ix3 b s f) = z (ix3 b s ⟨f.val, by omega⟩) := by
  pointwise [gateHalf]

theorem gated_at (g v : Vec Ideal S4x4096x2816 .f32) (f : Fin 2816) :
    gated g v (ix3 b s f) = gelu (g (ix3 b s f)) * v (ix3 b s f) := by
  pointwise [gated, gelu, lit]
  rw [mul_assoc (g (ix3 b s f)) (g (ix3 b s f)) (g (ix3 b s f))]

theorem down_at (a : Vec Ideal S4x4096x2816 .f32) (wd : Vec Ideal S2816x1024 .f32) (n : Fin 1024) :
    down a wd (ix3 b s n) = ∑ f : Fin 2816, a (ix3 b s f) * wd (ix2 f n) := by
  pointwise [down]

end Cert.Reference2Ideal.Post
-- ==== Proof.PostRefVal.lean ====
/-
  The reference's result is the layer's rows: its stages, one after another, at a row of a sequence.
-/
module

public import proofs.«01_k».proof.Proof.PostRef

@[expose] public section
set_option maxRecDepth 8192

noncomputable section

namespace Cert.Reference2Ideal.Post

open Idealize.ShloMosaic Idealize.ShloMosaic.TcCoe
open Cert.Reference2Ideal.Gen Cert.Reference2Ideal.Value Cert.Proof.Post

variable (V : Valuation τ sig (Elt Ideal)) (b : Fin 4) (s : Fin 4096)

/-- The arguments, by their entries. -/
def argsOf : Args where
  oa b s j := (V (Proc.devRef .tc main_arg0) : Vec Ideal S4x4096x512 .f32) (ix3 b s j)
  ob b s j := (V (Proc.devRef .tc main_arg1) : Vec Ideal S4x4096x512 .f32) (ix3 b s j)
  x b s n := (V (Proc.devRef .tc main_arg2) : Vec Ideal S4x4096x1024 .f32) (ix3 b s n)
  mod b n := (V (Proc.devRef .tc main_arg3) : Vec Ideal S4x6144 .f32) (ix2 b n)
  gm n := (V (Proc.devRef .tc main_arg4) : Vec Ideal S1024 .f32) (ix1 n)
  gp n := (V (Proc.devRef .tc main_arg5) : Vec Ideal S1024 .f32) (ix1 n)
  gq n := (V (Proc.devRef .tc main_arg6) : Vec Ideal S1024 .f32) (ix1 n)
  wo j k := (V (Proc.devRef .tc main_arg7) : Vec Ideal S1024x1024 .f32) (ix2 j k)
  wu k e := (V (Proc.devRef .tc main_arg8) : Vec Ideal S1024x5632 .f32) (ix2 k e)
  cw k e := (V (Proc.devRef .tc main_arg9) : Vec Ideal S3x5632 .f32) (ix2 k e)
  cb e := (V (Proc.devRef .tc main_arg10) : Vec Ideal S5632 .f32) (ix1 e)
  wd f n := (V (Proc.devRef .tc main_arg11) : Vec Ideal S2816x1024 .f32) (ix2 f n)

abbrev Y : Vec Ideal S4x4096x1024 .f32 := res_main_v13 V
abbrev X : Vec Ideal S4x4096x1024 .f32 := res_main_v29 V
abbrev U : Vec Ideal S4x4098x5632 .f32 := res_main_v50 V
abbrev Z : Vec Ideal S4x4096x5632 .f32 := res_main_v75 V
abbrev G : Vec Ideal S4x4096x2816 .f32 := res_main_v76 V
abbrev D : Vec Ideal S4x4096x1024 .f32 := res_main_v92 V

theorem mod2_eq : (fun k => mod2 (F := Ideal) (V (Proc.devRef .tc main_arg3)) (ix3 b 0 k)) = modp (argsOf V) b 2 :=
  funext fun k => mod2_at b _ k
theorem mod3_eq : (fun k => mod3 (F := Ideal) (V (Proc.devRef .tc main_arg3)) (ix3 b 0 k)) = modp (argsOf V) b 3 :=
  funext fun k => mod3_at b _ k
theorem mod4_eq : (fun k => mod4 (F := Ideal) (V (Proc.devRef .tc main_arg3)) (ix3 b 0 k)) = modp (argsOf V) b 4 :=
  funext fun k => mod4_at b _ k
theorem mod5_eq : (fun k => mod5 (F := Ideal) (V (Proc.devRef .tc main_arg3)) (ix3 b 0 k)) = modp (argsOf V) b 5 :=
  funext fun k => mod5_at b _ k

theorem y_eq : (fun k => Y V (ix3 b s k)) = yA (argsOf V) b s :=
  funext fun k => (congrFun (v13_eq V) _).trans (mixed_at b s _ _ _ k)

theorem x_eq : (fun k => X V (ix3 b s k)) = x1A (argsOf V) b s := by
  funext k
  refine (congrFun (v29_eq V) _).trans ((added_at b s _ _ _ _ k).trans ?_)
  rw [x1A, mod2_eq V b, y_eq V b s]
  rfl

theorem h_eq (k : Fin 1024) : shifted (F := Ideal) (X V) (V (Proc.devRef .tc main_arg5)) (mod4 (V (Proc.devRef .tc main_arg3)))
    (mod3 (V (Proc.devRef .tc main_arg3))) (ix3 b s k) = hA (argsOf V) b s k := by
  refine (shifted_at b s _ _ _ _ k).trans ?_
  rw [hA, x_eq V b s, mod4_eq V b, mod3_eq V b]
  rfl

theorem u_eq (s' : Fin 4098) (d : ℕ) (hd : s'.val + d = s.val + 2) (e : Fin 5632) :
    U V (ix3 b s' e) = back (argsOf V) b s d e := by
  refine (congrFun (v50_eq V) _).trans ((padded_at b _ _ s' e).trans ?_)
  rw [back]
  by_cases h : 2 ≤ s'.val
  · rw [dif_pos h, if_pos (by omega)]
    have es : (⟨s'.val - 2, by omega⟩ : Fin 4096) = ⟨s.val - d, by omega⟩ := Fin.ext (by dsimp only; omega)
    rw [es, uA]
    exact Finset.sum_congr rfl fun k _ => congrArg (· * (V (Proc.devRef .tc main_arg8) : Vec Ideal S1024x5632 .f32) (ix2 k e))
      (h_eq V b ⟨s.val - d, by omega⟩ k)
  · rw [dif_neg h, if_neg (by omega)]

theorem z_eq (e : Fin 5632) : Z V (ix3 b s e) = cA (argsOf V) b s e := by
  refine (congrFun (v75_eq V) _).trans ((conv_at b s _ _ _ e).trans ?_)
  rw [cA]
  exact (congr (congr (congrArg (taps ((argsOf V).cw 0 e) ((argsOf V).cw 1 e) ((argsOf V).cw 2 e) ((argsOf V).cb e))
    (u_eq V b s ⟨0 + s.val, by omega⟩ 2 (by dsimp only; omega) e)) (u_eq V b s ⟨1 + s.val, by omega⟩ 1 (by dsimp only; omega) e))
    (u_eq V b s ⟨2 + s.val, by omega⟩ 0 (by dsimp only; omega) e))

theorem g_eq (f : Fin 2816) : G V (ix3 b s f) = cA (argsOf V) b s ⟨f.val, by omega⟩ :=
  (congrFun (v76_eq V) _).trans ((gateHalf_at b s _ f).trans (z_eq V b s _))

theorem upper_at (z : Vec Ideal S4x4096x5632 .f32) (f : Fin 2816) :
    extractStridedSlice S4x4096x2816 ![0, 0, 2816] z slices_S4x4096x5632_S4x4096x2816_0_0_2816 (ix3 b s f)
      = z (ix3 b s ⟨2816 + f.val, by omega⟩) := by
  pointwise

theorem a_eq (f : Fin 2816) : gated (F := Ideal) (G V) (extractStridedSlice S4x4096x2816 ![0, 0, 2816] (Z V)
    slices_S4x4096x5632_S4x4096x2816_0_0_2816) (ix3 b s f) = aA (argsOf V) b s f := by
  rw [gated_at, g_eq, upper_at, z_eq, aA]

theorem d_eq : (fun n => D V (ix3 b s n)) = dA (argsOf V) b s := by
  funext n
  refine (congrFun (v92_eq V) _).trans ((down_at b s _ _ n).trans ?_)
  exact Finset.sum_congr rfl fun f _ => congrArg (· * (V (Proc.devRef .tc main_arg11) : Vec Ideal S2816x1024 .f32) (ix2 f n))
    (a_eq V b s f)

theorem out_eq (n : Fin 1024) :
    added (F := Ideal) (X V) (D V) (mod5 (V (Proc.devRef .tc main_arg3))) (V (Proc.devRef .tc main_arg6)) (ix3 b s n)
      = outA (argsOf V) b s n := by
  refine (added_at b s _ _ _ _ n).trans ?_
  rw [outA, x_eq V b s, mod5_eq V b, d_eq V b s]
  rfl

theorem flat_at (x : Vec Ideal S4x4096x1024 .f32) (n : Fin 1024) :
    shapeCast S16384x1024 x shapeCasts_S4x4096x1024_S16384x1024 (ix2 ⟨4096 * b.val + s.val, by omega⟩ n) = x (ix3 b s n) := by
  pointwise

theorem result_at (n : Fin 1024) :
    shapeCast S16384x1024 (added (F := Ideal) (X V) (D V) (mod5 (V (Proc.devRef .tc main_arg3))) (V (Proc.devRef .tc main_arg6)))
      shapeCasts_S4x4096x1024_S16384x1024 (ix2 ⟨4096 * b.val + s.val, by omega⟩ n) = outA (argsOf V) b s n :=
  (flat_at b s _ n).trans (out_eq V b s n)

end Cert.Reference2Ideal.Post
-- ==== Proof.PostAlgebraic.lean ====
/-
  The rest-of-layer kernel and its reference: their frames, and that both end with the same array, the layer's rows.
-/
module

public import proofs.«01_k».proof.Defs
public import proofs.«01_k».proof.Proof.PostResult
public import proofs.«01_k».proof.Proof.PostRefVal
public import proofs.«01_k».proof.Proof.Gen.Kernel2.Frame
public import proofs.«01_k».proof.Proof.Gen.Kernel2
public import proofs.«01_k».proof.Proof.Gen.Kernel2Ideal
public import proofs.«01_k».proof.Proof.Gen.Reference2Ideal
public import Idealize.ShloMosaic.Lib.Quiescent

@[expose] public section

noncomputable section

namespace Cert.Proof

open Idealize.ShloMosaic Idealize.ShloMosaic.StableHlo Idealize.SL.Sem

instance factsKernel2 : Cert.Kernel2.Facts := Cert.Kernel2.Gen.facts
instance factsKernel2Ideal : Cert.Kernel2Ideal.Facts := Cert.Kernel2Ideal.Gen.facts
instance factsReference2Ideal : Cert.Reference2Ideal.Facts := Cert.Reference2Ideal.Gen.facts

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

/-- The reference has no counter at all. -/
theorem frame_reference2Ideal : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- Equal arguments have equal entries. -/
theorem args_eq (m : (ℓ : Loc Cert.Kernel2Ideal.nD Cert.Kernel2Ideal.τ Cert.Kernel2Ideal.sig) → Buf (Elt Ideal) ℓ)
    (c : Dev Cert.Kernel2Ideal.nD) (V : Valuation Cert.Reference2Ideal.τ Cert.Reference2Ideal.sig (Elt Ideal))
    (h0 : V (Proc.devRef .tc Cert.Reference2Ideal.main_arg0) = m ((c.tc : Thread Cert.Kernel2Ideal.nD Cert.Kernel2Ideal.τ).loc Cert.Kernel2Ideal.main_arg0))
    (h1 : V (Proc.devRef .tc Cert.Reference2Ideal.main_arg1) = m ((c.tc : Thread Cert.Kernel2Ideal.nD Cert.Kernel2Ideal.τ).loc Cert.Kernel2Ideal.main_arg1))
    (h2 : V (Proc.devRef .tc Cert.Reference2Ideal.main_arg2) = m ((c.tc : Thread Cert.Kernel2Ideal.nD Cert.Kernel2Ideal.τ).loc Cert.Kernel2Ideal.main_arg2))
    (h3 : V (Proc.devRef .tc Cert.Reference2Ideal.main_arg3) = m ((c.tc : Thread Cert.Kernel2Ideal.nD Cert.Kernel2Ideal.τ).loc Cert.Kernel2Ideal.main_arg3))
    (h4 : V (Proc.devRef .tc Cert.Reference2Ideal.main_arg4) = m ((c.tc : Thread Cert.Kernel2Ideal.nD Cert.Kernel2Ideal.τ).loc Cert.Kernel2Ideal.main_arg4))
    (h5 : V (Proc.devRef .tc Cert.Reference2Ideal.main_arg5) = m ((c.tc : Thread Cert.Kernel2Ideal.nD Cert.Kernel2Ideal.τ).loc Cert.Kernel2Ideal.main_arg5))
    (h6 : V (Proc.devRef .tc Cert.Reference2Ideal.main_arg6) = m ((c.tc : Thread Cert.Kernel2Ideal.nD Cert.Kernel2Ideal.τ).loc Cert.Kernel2Ideal.main_arg6))
    (h7 : V (Proc.devRef .tc Cert.Reference2Ideal.main_arg7) = m ((c.tc : Thread Cert.Kernel2Ideal.nD Cert.Kernel2Ideal.τ).loc Cert.Kernel2Ideal.main_arg7))
    (h8 : V (Proc.devRef .tc Cert.Reference2Ideal.main_arg8) = m ((c.tc : Thread Cert.Kernel2Ideal.nD Cert.Kernel2Ideal.τ).loc Cert.Kernel2Ideal.main_arg8))
    (h9 : V (Proc.devRef .tc Cert.Reference2Ideal.main_arg9) = m ((c.tc : Thread Cert.Kernel2Ideal.nD Cert.Kernel2Ideal.τ).loc Cert.Kernel2Ideal.main_arg9))
    (h10 : V (Proc.devRef .tc Cert.Reference2Ideal.main_arg10) = m ((c.tc : Thread Cert.Kernel2Ideal.nD Cert.Kernel2Ideal.τ).loc Cert.Kernel2Ideal.main_arg10))
    (h11 : V (Proc.devRef .tc Cert.Reference2Ideal.main_arg11) = m ((c.tc : Thread Cert.Kernel2Ideal.nD Cert.Kernel2Ideal.τ).loc Cert.Kernel2Ideal.main_arg11)) :
    Cert.Reference2Ideal.Post.argsOf V = Cert.Kernel2Ideal.Post.args m c := by
  unfold Cert.Reference2Ideal.Post.argsOf Cert.Kernel2Ideal.Post.args
  rw [h0, h1, h2, h3, h4, h5, h6, h7, h8, h9, h10, h11]

/-- The kernel's run, its result named. -/
theorem kernel2_run (m : (ℓ : Loc Cert.Kernel2Ideal.nD Cert.Kernel2Ideal.τ Cert.Kernel2Ideal.sig) → Buf (Elt Ideal) ℓ)
    (ρ : Dev Cert.Kernel2Ideal.nD → PrngReg) :
    θ_run (Cert.Kernel2Ideal.defs (F := Ideal)) (onTc (τ := Cert.Kernel2Ideal.τ) (Cert.Kernel2Ideal.main (F := Ideal)))
      ⟨m, fun _ => 0, ρ⟩ fun r => ∀ c : Dev Cert.Kernel2Ideal.nD,
        r.2.mem ((c.tc : Thread Cert.Kernel2Ideal.nD Cert.Kernel2Ideal.τ).loc Cert.Kernel2Ideal.main_v13) = Cert.Kernel2Ideal.Post.RES m c :=
  (θ_run Cert.Kernel2Ideal.defs _ _).mono
    (fun _ e c => ((e c).1).trans (Cert.Kernel2Ideal.Post.final15 m c)) (Cert.Kernel2Ideal.Value.run_blocks m ρ)

theorem algebraic2 : Cert.algebraic_Kernel2Ideal_Reference2Ideal := by
  intro m g m' g' _ hargs
  refine ⟨fun c => Cert.Kernel2Ideal.Post.RES m c, ?_, ?_⟩
  · exact (θ_run Cert.Kernel2Ideal.defs _ _).mono (fun _ e c => ⟨e.1 c, e.2.1 c⟩)
      (θ_run_and (kernel2_run m g) (Cert.Kernel2Ideal.Gen.frame m g))
  · refine (θ_run Cert.Reference2Ideal.defs _ _).mono (fun _ e c => ⟨(e c).1.trans ?_, (e c).2⟩)
      (Cert.Reference2Ideal.Value.run m' g')
    obtain ⟨h0, h1, h2, h3, h4, h5, h6, h7, h8, h9, h10, h11⟩ := hargs c
    have ha := args_eq m c (launchContents m' c) h0 h1 h2 h3 h4 h5 h6 h7 h8 h9 h10 h11
    funext i
    idx_vars i
    have hR : i0 = ⟨4096 * (i0.val / 4096) + i0.val % 4096, by omega⟩ := Fin.ext (by dsimp only; omega)
    rw [hR]
    refine (Cert.Reference2Ideal.Post.result_at (launchContents m' c) ⟨i0.val / 4096, by omega⟩ ⟨i0.val % 4096, by omega⟩ i1).trans ?_
    rw [ha]
    exact (Cert.Kernel2Ideal.Post.RES_at m c _ i1 ⟨i0.val / 4096, by omega⟩ ⟨i0.val % 4096, by omega⟩ rfl).symm

end Cert.Proof

end
-- ==== Proof.EvenRow.lean ====
/-
  An even layer's input projection, one row at a time, over extended reals: the normed and modulated row times the weights, the
  query columns with their factor, the mean of each 256 rows' keys. And that the factor may stand on the weights.
-/
module

public import proofs.«01_k».proof.Proof.PostRow

@[expose] public section

noncomputable section

namespace Cert.Proof.Even

open Idealize.ShloMosaic
open Cert.Proof.Post (lit modded)

/-- The operands: the residual stream, the modulation, the gain and the weights. -/
structure Args where
  x : Fin 4 → Fin 4096 → Fin 1024 → EReal
  mod : Fin 4 → Fin 6144 → EReal
  g : Fin 1024 → EReal
  w : Fin 1024 → Fin 3072 → EReal

/-- The factor of the queries. -/
def scl : EReal := lit 0x3E38AA3B#32

/-- The columns that hold queries: the first 512 of each half. -/
abbrev isQ (e : Fin 3072) : Prop := e.val < 512 ∨ (1536 ≤ e.val ∧ e.val < 2048)

/-- A column's factor. -/
def fac (e : Fin 3072) : EReal := if isQ e then scl else 1

/-- It is a real number, not negative. -/
theorem scl_real : ∃ r : ℝ, 0 ≤ r ∧ scl = (r : EReal) := by
  have hn : BitVec.extractLsb' 31 1 0x3E38AA3B#32 = 0#1 := by decide
  have he : (BitVec.extractLsb' 23 8 0x3E38AA3B#32).toNat = 124 := by decide
  unfold scl lit Ideal.ofBits Ideal.ieee
  simp only [he, hn]
  norm_num

theorem scl_nonneg : 0 ≤ scl := by
  obtain ⟨r, h0, h⟩ := scl_real
  rw [h]; exact EReal.coe_nonneg.mpr h0

theorem scl_ne_top : scl ≠ ⊤ := by
  obtain ⟨r, h0, h⟩ := scl_real
  rw [h]; exact EReal.coe_ne_top r

theorem fac_nonneg (e : Fin 3072) : 0 ≤ fac e := by
  rw [fac]; split
  · exact scl_nonneg
  · exact zero_le_one

theorem fac_ne_top (e : Fin 3072) : fac e ≠ ⊤ := by
  rw [fac]; split
  · exact scl_ne_top
  · exact EReal.coe_ne_top 1

/-- A factor of every product in a sum is a factor of the sum, where it is real and not negative. -/
theorem sum_mul_fac {ι : Type} (S : Finset ι) (f : ι → EReal) (c : EReal) (h0 : 0 ≤ c) (ht : c ≠ ⊤) :
    ∑ i ∈ S, f i * c = (∑ i ∈ S, f i) * c := by
  classical
  induction S using Finset.induction_on with
  | empty => simp
  | insert a S ha ih => rw [Finset.sum_insert ha, Finset.sum_insert ha, ih, EReal.right_distrib_of_nonneg_of_ne_top h0 ht]

variable (A : Args) (b : Fin 4) (s : Fin 4096)

/-- The row normed and modulated. -/
def h (k : Fin 1024) : EReal :=
  modded (A.x b s) A.g (fun n => A.mod b ⟨1024 + n.val, by omega⟩) (fun n => A.mod b ⟨n.val, by omega⟩) k

/-- Its projection. -/
def p (e : Fin 3072) : EReal := ∑ k : Fin 1024, h A b s k * A.w k e

/-- Its projection, the queries with their factor. -/
def col (e : Fin 3072) : EReal := p A b s e * fac e

/-- The mean of the keys of rows `256 j` to `256 j + 255`. -/
def kmean (j : Fin 16) (n : Fin 512) : EReal :=
  Ideal.div (∑ r : Fin 256, p A b ⟨256 * j.val + r.val, by omega⟩ ⟨512 + n.val, by omega⟩) (lit 0x43800000#32)

/-- The factor may stand on the weights. -/
theorem col_eq (e : Fin 3072) : ∑ k : Fin 1024, h A b s k * (A.w k e * fac e) = col A b s e := by
  rw [col, p, ← sum_mul_fac _ _ _ (fac_nonneg e) (fac_ne_top e)]
  exact Finset.sum_congr rfl fun k _ => (mul_assoc _ _ _).symm

/-- A column without one. -/
theorem col_of_not (e : Fin 3072) (he : ¬ isQ e) : col A b s e = p A b s e := by
  rw [col, fac, if_neg he, mul_one]

section
variable (A : Args)

/-! ## The results' entries -/

/-- The projections, the sequences' rows one after another. -/
def rowsE (R : Fin 16384) (e : Fin 3072) : EReal := col A ⟨R.val / 4096, by omega⟩ ⟨R.val % 4096, by omega⟩ e

/-- The means of the keys, two from each 512 rows. -/
def meansE (T : Fin 32) (i : Fin 2) (n : Fin 512) : EReal :=
  kmean A ⟨T.val / 8, by omega⟩ ⟨2 * (T.val % 8) + i.val, by omega⟩ n

/-- The first attention's values, a head's dimensions over its positions. -/
def vaE (b q : Fin 4) (g : Fin 2) (d : Fin 128) (k : Fin 2048) : EReal :=
  p A b ⟨2048 * g.val + k.val, by omega⟩ ⟨1024 + 128 * q.val + d.val, by omega⟩

/-- The second attention's values. -/
def vbE (b q : Fin 4) (g : Fin 16) (d : Fin 128) (k : Fin 256) : EReal :=
  p A b ⟨256 * g.val + k.val, by omega⟩ ⟨2560 + 128 * q.val + d.val, by omega⟩

/-- The second attention's columns, the rows by their class. -/
def classE (b : Fin 4) (q : Fin 16) (j : Fin 256) (e : Fin 1536) : EReal :=
  col A b ⟨16 * j.val + q.val, by omega⟩ ⟨1536 + e.val, by omega⟩

end

end Cert.Proof.Even
-- ==== Proof.EvenCalc.lean ====
/-
  What one grid point of the projection kernel computes, entry by entry: each payload of the printed body read at an index.
-/
module

public import proofs.«01_k».proof.Proof.EvenRow
public import proofs.«01_k».proof.Proof.Gen.Kernel3Ideal.Frame
public import proofs.«01_k».proof.Proof.Gen.Kernel3Ideal.Value
public import Idealize.ShloMosaic.Lib.Pointwise

@[expose] public section
set_option maxRecDepth 16384
set_option maxHeartbeats 4000000

noncomputable section

namespace Cert.Kernel3Ideal.Even

open Idealize.ShloMosaic Idealize.ShloMosaic.TcCoe
open Cert.Kernel3Ideal.Gen Cert.Proof.Even
open Cert.Proof.Post (lit modded normed rms)

/-- A point's rows, normed and modulated, -/
def hRow (v0 : Vec Ideal S1x1x6144 .f32) (v2 : Vec Ideal S512x1024 .f32) (v4 : Vec Ideal S1x1024 .f32) (r : Fin 512) (k : Fin 1024) :
    EReal :=
  modded (fun k => v2 (ix2 r k)) (fun k => v4 (ix2 0 k)) (fun n => v0 (ix3 0 0 ⟨1024 + n.val, by omega⟩))
    (fun n => v0 (ix3 0 0 ⟨n.val, by omega⟩)) k

/-- and their projection. -/
theorem pay6_at (v0 : Vec Ideal S1x1x6144 .f32) (v2 : Vec Ideal S512x1024 .f32) (v4 : Vec Ideal S1x1024 .f32)
    (v27 : Vec Ideal S1024x3072 .bf16) (r : Fin 512) (e : Fin 3072) :
    k0_pay6 v0 v2 v4 v27 (ix2 r e) = ∑ k : Fin 1024, hRow v0 v2 v4 r k * v27 (ix2 k e) := by
  unfold hRow modded normed rms
  pointwise [k0_pay6]

/-- The one-hot matrix's column of a row, as the body computes it. -/
def colOf (r : BitVec 32) : BitVec 32 :=
  let n : BitVec 32 := Scalar.select (Scalar.cmpi .eq 32#32 0#32) 1#32 32#32
  let rem := IntOp.remsi .vector r n
  let down := IntOp.andi (IntOp.xori (IntOp.cmpi .slt rem 0#32) (Scalar.cmpi .slt n 0#32)) (IntOp.cmpi .ne rem 0#32)
  let place := IntOp.muli (Scalar.select down (IntOp.addi rem n) rem) 16#32
  let quot := IntOp.divsi .vector r 32#32
  let sgn := IntOp.subi ((IntOp.cmpi .sgt r 0#32).setWidth 32) ((IntOp.cmpi .slt r 0#32).setWidth 32)
  let one := Scalar.subi (Scalar.extui (Scalar.cmpi .sgt 32#32 0#32)) (Scalar.extui (Scalar.cmpi .slt 32#32 0#32))
  let low := IntOp.andi (IntOp.cmpi .ne sgn one) (IntOp.cmpi .ne (IntOp.remsi .vector r 32#32) 0#32)
  IntOp.addi place (Scalar.select low (IntOp.subi quot 1#32) quot)

theorem colOf_eq : ∀ r : Fin 512, colOf (BitVec.ofNat 32 r.val) = BitVec.ofNat 32 (16 * (r.val % 32) + r.val / 32) := by
  decide +kernel

/-- The one-hot matrix. -/
def hot : FVec Ideal S512x512 .bf16 :=
  truncf .bf16 (select (cmpi .eq (fun i => BitVec.ofNat 32 (i 1).val) (fun i => colOf (BitVec.ofNat 32 (i 0).val)))
    (broadcast S512x512 (Scalar.ofBits .f32 0x3F800000#32)) (broadcast S512x512 (Scalar.ofBits .f32 0x00000000#32)))
    bitsLt_bf16_f32

theorem hot_at (r κ : Fin 512) : hot (ix2 r κ) = if κ.val = 16 * (r.val % 32) + r.val / 32 then 1 else 0 := by
  have h1 : Ideal.ofBits FTy.f32 0x3F800000#32 = 1 := Ideal.ofBits_one_f32
  have h0 : Ideal.ofBits FTy.f32 0x00000000#32 = 0 := Ideal.ofBits_zero_f32
  show Scalar.select (IntOp.cmpi .eq (BitVec.ofNat 32 κ.val) (colOf (BitVec.ofNat 32 r.val))) (Ideal.ofBits FTy.f32 0x3F800000#32)
    (Ideal.ofBits FTy.f32 0x00000000#32) = _
  rw [colOf_eq, h1, h0]
  by_cases h : κ.val = 16 * (r.val % 32) + r.val / 32
  · rw [if_pos h, h]
    have e : IntOp.cmpi .eq (BitVec.ofNat 32 (16 * (r.val % 32) + r.val / 32)) (BitVec.ofNat 32 (16 * (r.val % 32) + r.val / 32)) = 1#1 := by
      simp [IntOp.cmpi]
    rw [e]; rfl
  · rw [if_neg h]
    have e : IntOp.cmpi .eq (BitVec.ofNat 32 κ.val) (BitVec.ofNat 32 (16 * (r.val % 32) + r.val / 32)) = 0#1 := by
      have : BitVec.ofNat 32 κ.val ≠ BitVec.ofNat 32 (16 * (r.val % 32) + r.val / 32) := fun e => h (by
        have := congrArg BitVec.toNat e
        simp only [BitVec.toNat_ofNat] at this
        omega)
      show BitVec.ofBool (BitVec.ofNat 32 κ.val == BitVec.ofNat 32 (16 * (r.val % 32) + r.val / 32)) = 0#1
      rw [beq_eq_false_iff_ne.mpr this]; rfl
    rw [e]; rfl

/-- The rows dealt into 16 classes, as the body has them. -/
abbrev dealt (p : FVec Ideal S512x3072 .bf16) : FVec Ideal S512x1536 .bf16 :=
  k0_pay9 p (iota .tc S512x512 32 [0] iota_S512x512_d0_w32) (iota .tc S512x512 32 [1] iota_S512x512_d1_w32)
    (Scalar.select (Scalar.cmpi .eq 32#32 0#32) 1#32 32#32) k0_pay8 0#32

theorem dealt_eq (p : FVec Ideal S512x3072 .bf16) : dealt p = truncf (F := Ideal) .bf16 (matmul (F := Ideal)
    dot_S512x512_S512x1536_S512x1536_1_0_0_1_n_n none hot
    (extractStridedSlice S512x1536 ![0, 1536] p slices_S512x3072_o0_1536_S512x1536) (constant S512x1536 .f32 0x00000000#32))
    bitsLt_bf16_f32 := by
  have e0 : iota .tc S512x512 32 [0] iota_S512x512_d0_w32 = fun i => BitVec.ofNat 32 (i 0).val :=
    funext fun i => iota_single_apply ..
  have e1 : iota .tc S512x512 32 [1] iota_S512x512_d1_w32 = fun i => BitVec.ofNat 32 (i 1).val :=
    funext fun i => iota_single_apply ..
  unfold dealt k0_pay8
  rw [e0, e1]
  rfl

/-- Row `32 c + j` is row `16 j + c` of the block. -/
theorem dealt_at (p : FVec Ideal S512x3072 .bf16) (r : Fin 512) (e : Fin 1536) :
    dealt p (ix2 r e) = p (ix2 ⟨16 * (r.val % 32) + r.val / 32, by omega⟩ ⟨1536 + e.val, by omega⟩) := by
  have h : dealt p (ix2 r e) = ∑ κ : Fin 512, hot (ix2 r κ) * p (ix2 κ ⟨1536 + e.val, by omega⟩) := by
    rw [dealt_eq]; pointwise
  rw [h, Finset.sum_eq_single (⟨16 * (r.val % 32) + r.val / 32, by omega⟩ : Fin 512), hot_at, if_pos rfl, one_mul]
  · intro κ _ hκ
    rw [hot_at, if_neg fun e => hκ (Fin.ext e), zero_mul]
  · intro hn; exact absurd (Finset.mem_univ _) hn

end Cert.Kernel3Ideal.Even
-- ==== Proof.EvenOut.lean ====
/-
  What one grid point of the projection kernel leaves in its blocks of the five results, entry by entry.
-/
module

public import proofs.«01_k».proof.Proof.EvenCalc
public import Idealize.ShloMosaic.Lib.Pipeline.ValueKit.Basic

@[expose] public section
set_option maxRecDepth 16384
set_option maxHeartbeats 4000000

noncomputable section

namespace Cert.Kernel3Ideal.Even

open Idealize.ShloMosaic Idealize.ShloMosaic.TcCoe
open Cert.Kernel3Ideal.Gen Cert.Proof.Even
open Cert.Proof.Post (lit)

variable (x0 : Vec Ideal S512x1024 .f32) (x1 : Vec Ideal S1x1x6144 .f32) (x2 : Vec Ideal S1x1024 .f32)
  (x3 : Vec Ideal S1024x3072 .bf16)

/-- The projection of a block's row. -/
def pB (r : Fin 512) (e : Fin 3072) : EReal := ∑ k : Fin 1024, hRow x1 x0 x2 r k * x3 (ix2 k e)

theorem ldMod : View.ld x1 r0_0 = x1 := View.ld_unit_lit (S := S1x1x6144) _ x1 (by decide)
theorem ldRows : View.ld x0 r0_1 = x0 := View.ld_unit_lit (S := S512x1024) _ x0 (by decide)
theorem ldGain : View.ld x2 r0_2 = x2 := View.ld_unit_lit (S := S1x1024) _ x2 (by decide)
theorem ldW : View.ld x3 r0_3 = x3 := View.ld_unit_lit (S := S1024x3072) _ x3 (by decide)

theorem pay39_eq : k0_pay39 x0 x1 x2 x3 = k0_pay6 x1 x0 x2 x3 := by
  unfold k0_pay39; rw [ldMod, ldRows, ldGain, ldW]

theorem pay6_eq (r : Fin 512) (e : Fin 3072) : k0_pay6 x1 x0 x2 x3 (ix2 r e) = pB x0 x1 x2 x3 r e := pay6_at ..

/-- The columns. -/
theorem out4_at (r : Fin 512) (e : Fin 3072) : out0_4 x0 x1 x2 x3 (ix2 r e) = pB x0 x1 x2 x3 r e := by
  unfold out0_4
  rw [View.canon_cons_unit_lit (S := S512x3072) _ _ _ (by decide), ldMod, ldRows, ldGain, ldW]
  exact pay6_at ..

theorem pay28_at (v : FVec Ideal S512x3072 .f32) (i : Fin 2) (n : Fin 512) : k0_pay28 v (ix3 0 i n)
    = Ideal.div (∑ r : Fin 256, v (ix2 ⟨i.val * 256 + r.val, by omega⟩ ⟨512 + n.val, by omega⟩)) (lit 0x43800000#32) := by
  unfold lit
  pointwise [k0_pay28]

/-- The keys' means. -/
theorem out5_at (i : Fin 2) (n : Fin 512) : out0_5 x0 x1 x2 x3 (ix3 0 i n)
    = Ideal.div (∑ r : Fin 256, pB x0 x1 x2 x3 ⟨i.val * 256 + r.val, by omega⟩ ⟨512 + n.val, by omega⟩) (lit 0x43800000#32) := by
  unfold out0_5
  rw [View.canon_cons_unit_lit (S := S1x2x512) _ _ _ (by decide), pay39_eq, pay28_at]
  simp only [pay6_eq]

/-- The values of the first half, transposed; -/
theorem out6_at (q : Fin 4) (d : Fin 128) (k : Fin 512) :
    out0_6 x0 x1 x2 x3 (ix5 0 q 0 d k) = pB x0 x1 x2 x3 k ⟨1024 + 128 * q.val + d.val, by omega⟩ := by
  unfold out0_6 k0_pay41
  rw [pay39_eq]
  refine (Value.canon6_eq _ _ _ _ _).trans (Eq.trans (congrArg (k0_pay6 x1 x0 x2 x3) (?_ :
    Value.ix6_0 (ix5 0 q 0 d k) = ix2 k ⟨1024 + 128 * q.val + d.val, by omega⟩)) (pay6_eq ..))
  funext a; apply Fin.ext
  match a with
  | ⟨0, _⟩ => rfl
  | ⟨1, _⟩ => show q.val * 128 + d.val + 1024 = 1024 + 128 * q.val + d.val; omega

/-- of the second half. -/
theorem out7_at (q : Fin 4) (u : Fin 2) (d : Fin 128) (k : Fin 256) : out0_7 x0 x1 x2 x3 (ix5 0 q u d k)
    = pB x0 x1 x2 x3 ⟨256 * u.val + k.val, by omega⟩ ⟨2560 + 128 * q.val + d.val, by omega⟩ := by
  unfold out0_7 k0_pay42
  rw [pay39_eq]
  refine (Value.canon7_eq _ _ _ _ _).trans (Eq.trans (congrArg (k0_pay6 x1 x0 x2 x3) (?_ :
    Value.ix7_0 (ix5 0 q u d k) = ix2 ⟨256 * u.val + k.val, by omega⟩ ⟨2560 + 128 * q.val + d.val, by omega⟩)) (pay6_eq ..))
  funext a; apply Fin.ext
  match a with
  | ⟨0, _⟩ => show u.val * 256 + k.val = 256 * u.val + k.val; omega
  | ⟨1, _⟩ => show q.val * 128 + d.val + 2560 = 2560 + 128 * q.val + d.val; omega

/-- The second half's rows in their classes. -/
def E8 (v : FVec Ideal S512x1536 .bf16) : Vec Ideal S1x16x32x1536 .bf16 := fun y =>
  v (ix2 ⟨32 * (y (1 : Fin 4)).val + (y (2 : Fin 4)).val, by
    have h1 : (y (1 : Fin 4)).val < 16 := (y (1 : Fin 4)).isLt
    have h2 : (y (2 : Fin 4)).val < 32 := (y (2 : Fin 4)).isLt
    omega⟩ (y (3 : Fin 4)))

theorem class0_lit (v : FVec Ideal S512x1536 .bf16) (j : Fin 32) (e : Fin 1536) :
    k0_pay10 v (ix4 0 0 j e) = v (ix2 ⟨32 * 0 + j.val, by omega⟩ e) := by
  pointwise [k0_pay10]
theorem class0 (v : FVec Ideal S512x1536 .bf16) (i : S1x1x32x1536.Idx) : (k0_pay10 v) i = E8 v (r0_5.idx i) := by
  idx_vars i
  obtain rfl : i0 = 0 := Subsingleton.elim _ _
  obtain rfl : i1 = 0 := Subsingleton.elim _ _
  refine (class0_lit v i2 i3).trans (congrArg v ?_)
  funext a; apply Fin.ext
  match a with
  | ⟨0, _⟩ => show 32 * 0 + i2.val = 32 * (0 + 1 * 0) + (0 + 1 * i2.val); omega
  | ⟨1, _⟩ => show i3.val = 0 + 1 * i3.val; omega

theorem class1_lit (v : FVec Ideal S512x1536 .bf16) (j : Fin 32) (e : Fin 1536) :
    k0_pay11 v (ix4 0 0 j e) = v (ix2 ⟨32 * 1 + j.val, by omega⟩ e) := by
  pointwise [k0_pay11]
theorem class1 (v : FVec Ideal S512x1536 .bf16) (i : S1x1x32x1536.Idx) : (k0_pay11 v) i = E8 v (r0_6.idx i) := by
  idx_vars i
  obtain rfl : i0 = 0 := Subsingleton.elim _ _
  obtain rfl : i1 = 0 := Subsingleton.elim _ _
  refine (class1_lit v i2 i3).trans (congrArg v ?_)
  funext a; apply Fin.ext
  match a with
  | ⟨0, _⟩ => show 32 * 1 + i2.val = 32 * (1 + 1 * 0) + (0 + 1 * i2.val); omega
  | ⟨1, _⟩ => show i3.val = 0 + 1 * i3.val; omega

theorem class2_lit (v : FVec Ideal S512x1536 .bf16) (j : Fin 32) (e : Fin 1536) :
    k0_pay12 v (ix4 0 0 j e) = v (ix2 ⟨32 * 2 + j.val, by omega⟩ e) := by
  pointwise [k0_pay12]
theorem class2 (v : FVec Ideal S512x1536 .bf16) (i : S1x1x32x1536.Idx) : (k0_pay12 v) i = E8 v (r0_7.idx i) := by
  idx_vars i
  obtain rfl : i0 = 0 := Subsingleton.elim _ _
  obtain rfl : i1 = 0 := Subsingleton.elim _ _
  refine (class2_lit v i2 i3).trans (congrArg v ?_)
  funext a; apply Fin.ext
  match a with
  | ⟨0, _⟩ => show 32 * 2 + i2.val = 32 * (2 + 1 * 0) + (0 + 1 * i2.val); omega
  | ⟨1, _⟩ => show i3.val = 0 + 1 * i3.val; omega

theorem class3_lit (v : FVec Ideal S512x1536 .bf16) (j : Fin 32) (e : Fin 1536) :
    k0_pay13 v (ix4 0 0 j e) = v (ix2 ⟨32 * 3 + j.val, by omega⟩ e) := by
  pointwise [k0_pay13]
theorem class3 (v : FVec Ideal S512x1536 .bf16) (i : S1x1x32x1536.Idx) : (k0_pay13 v) i = E8 v (r0_8.idx i) := by
  idx_vars i
  obtain rfl : i0 = 0 := Subsingleton.elim _ _
  obtain rfl : i1 = 0 := Subsingleton.elim _ _
  refine (class3_lit v i2 i3).trans (congrArg v ?_)
  funext a; apply Fin.ext
  match a with
  | ⟨0, _⟩ => show 32 * 3 + i2.val = 32 * (3 + 1 * 0) + (0 + 1 * i2.val); omega
  | ⟨1, _⟩ => show i3.val = 0 + 1 * i3.val; omega

theorem class4_lit (v : FVec Ideal S512x1536 .bf16) (j : Fin 32) (e : Fin 1536) :
    k0_pay14 v (ix4 0 0 j e) = v (ix2 ⟨32 * 4 + j.val, by omega⟩ e) := by
  pointwise [k0_pay14]
theorem class4 (v : FVec Ideal S512x1536 .bf16) (i : S1x1x32x1536.Idx) : (k0_pay14 v) i = E8 v (r0_9.idx i) := by
  idx_vars i
  obtain rfl : i0 = 0 := Subsingleton.elim _ _
  obtain rfl : i1 = 0 := Subsingleton.elim _ _
  refine (class4_lit v i2 i3).trans (congrArg v ?_)
  funext a; apply Fin.ext
  match a with
  | ⟨0, _⟩ => show 32 * 4 + i2.val = 32 * (4 + 1 * 0) + (0 + 1 * i2.val); omega
  | ⟨1, _⟩ => show i3.val = 0 + 1 * i3.val; omega

theorem class5_lit (v : FVec Ideal S512x1536 .bf16) (j : Fin 32) (e : Fin 1536) :
    k0_pay15 v (ix4 0 0 j e) = v (ix2 ⟨32 * 5 + j.val, by omega⟩ e) := by
  pointwise [k0_pay15]
theorem class5 (v : FVec Ideal S512x1536 .bf16) (i : S1x1x32x1536.Idx) : (k0_pay15 v) i = E8 v (r0_10.idx i) := by
  idx_vars i
  obtain rfl : i0 = 0 := Subsingleton.elim _ _
  obtain rfl : i1 = 0 := Subsingleton.elim _ _
  refine (class5_lit v i2 i3).trans (congrArg v ?_)
  funext a; apply Fin.ext
  match a with
  | ⟨0, _⟩ => show 32 * 5 + i2.val = 32 * (5 + 1 * 0) + (0 + 1 * i2.val); omega
  | ⟨1, _⟩ => show i3.val = 0 + 1 * i3.val; omega

theorem class6_lit (v : FVec Ideal S512x1536 .bf16) (j : Fin 32) (e : Fin 1536) :
    k0_pay17 (k0_pay16 v) (ix4 0 0 j e) = v (ix2 ⟨32 * 6 + j.val, by omega⟩ e) := by
  pointwise [k0_pay17, k0_pay16]
theorem class6 (v : FVec Ideal S512x1536 .bf16) (i : S1x1x32x1536.Idx) : (k0_pay17 (k0_pay16 v)) i = E8 v (r0_11.idx i) := by
  idx_vars i
  obtain rfl : i0 = 0 := Subsingleton.elim _ _
  obtain rfl : i1 = 0 := Subsingleton.elim _ _
  refine (class6_lit v i2 i3).trans (congrArg v ?_)
  funext a; apply Fin.ext
  match a with
  | ⟨0, _⟩ => show 32 * 6 + i2.val = 32 * (6 + 1 * 0) + (0 + 1 * i2.val); omega
  | ⟨1, _⟩ => show i3.val = 0 + 1 * i3.val; omega

theorem class7_lit (v : FVec Ideal S512x1536 .bf16) (j : Fin 32) (e : Fin 1536) :
    k0_pay18 v (ix4 0 0 j e) = v (ix2 ⟨32 * 7 + j.val, by omega⟩ e) := by
  pointwise [k0_pay18]
theorem class7 (v : FVec Ideal S512x1536 .bf16) (i : S1x1x32x1536.Idx) : (k0_pay18 v) i = E8 v (r0_12.idx i) := by
  idx_vars i
  obtain rfl : i0 = 0 := Subsingleton.elim _ _
  obtain rfl : i1 = 0 := Subsingleton.elim _ _
  refine (class7_lit v i2 i3).trans (congrArg v ?_)
  funext a; apply Fin.ext
  match a with
  | ⟨0, _⟩ => show 32 * 7 + i2.val = 32 * (7 + 1 * 0) + (0 + 1 * i2.val); omega
  | ⟨1, _⟩ => show i3.val = 0 + 1 * i3.val; omega

theorem class8_lit (v : FVec Ideal S512x1536 .bf16) (j : Fin 32) (e : Fin 1536) :
    k0_pay19 v (ix4 0 0 j e) = v (ix2 ⟨32 * 8 + j.val, by omega⟩ e) := by
  pointwise [k0_pay19]
theorem class8 (v : FVec Ideal S512x1536 .bf16) (i : S1x1x32x1536.Idx) : (k0_pay19 v) i = E8 v (r0_13.idx i) := by
  idx_vars i
  obtain rfl : i0 = 0 := Subsingleton.elim _ _
  obtain rfl : i1 = 0 := Subsingleton.elim _ _
  refine (class8_lit v i2 i3).trans (congrArg v ?_)
  funext a; apply Fin.ext
  match a with
  | ⟨0, _⟩ => show 32 * 8 + i2.val = 32 * (8 + 1 * 0) + (0 + 1 * i2.val); omega
  | ⟨1, _⟩ => show i3.val = 0 + 1 * i3.val; omega

theorem class9_lit (v : FVec Ideal S512x1536 .bf16) (j : Fin 32) (e : Fin 1536) :
    k0_pay20 v (ix4 0 0 j e) = v (ix2 ⟨32 * 9 + j.val, by omega⟩ e) := by
  pointwise [k0_pay20]
theorem class9 (v : FVec Ideal S512x1536 .bf16) (i : S1x1x32x1536.Idx) : (k0_pay20 v) i = E8 v (r0_14.idx i) := by
  idx_vars i
  obtain rfl : i0 = 0 := Subsingleton.elim _ _
  obtain rfl : i1 = 0 := Subsingleton.elim _ _
  refine (class9_lit v i2 i3).trans (congrArg v ?_)
  funext a; apply Fin.ext
  match a with
  | ⟨0, _⟩ => show 32 * 9 + i2.val = 32 * (9 + 1 * 0) + (0 + 1 * i2.val); omega
  | ⟨1, _⟩ => show i3.val = 0 + 1 * i3.val; omega

theorem class10_lit (v : FVec Ideal S512x1536 .bf16) (j : Fin 32) (e : Fin 1536) :
    k0_pay21 v (ix4 0 0 j e) = v (ix2 ⟨32 * 10 + j.val, by omega⟩ e) := by
  pointwise [k0_pay21]
theorem class10 (v : FVec Ideal S512x1536 .bf16) (i : S1x1x32x1536.Idx) : (k0_pay21 v) i = E8 v (r0_15.idx i) := by
  idx_vars i
  obtain rfl : i0 = 0 := Subsingleton.elim _ _
  obtain rfl : i1 = 0 := Subsingleton.elim _ _
  refine (class10_lit v i2 i3).trans (congrArg v ?_)
  funext a; apply Fin.ext
  match a with
  | ⟨0, _⟩ => show 32 * 10 + i2.val = 32 * (10 + 1 * 0) + (0 + 1 * i2.val); omega
  | ⟨1, _⟩ => show i3.val = 0 + 1 * i3.val; omega

theorem class11_lit (v : FVec Ideal S512x1536 .bf16) (j : Fin 32) (e : Fin 1536) :
    k0_pay22 v (ix4 0 0 j e) = v (ix2 ⟨32 * 11 + j.val, by omega⟩ e) := by
  pointwise [k0_pay22]
theorem class11 (v : FVec Ideal S512x1536 .bf16) (i : S1x1x32x1536.Idx) : (k0_pay22 v) i = E8 v (r0_16.idx i) := by
  idx_vars i
  obtain rfl : i0 = 0 := Subsingleton.elim _ _
  obtain rfl : i1 = 0 := Subsingleton.elim _ _
  refine (class11_lit v i2 i3).trans (congrArg v ?_)
  funext a; apply Fin.ext
  match a with
  | ⟨0, _⟩ => show 32 * 11 + i2.val = 32 * (11 + 1 * 0) + (0 + 1 * i2.val); omega
  | ⟨1, _⟩ => show i3.val = 0 + 1 * i3.val; omega

theorem class12_lit (v : FVec Ideal S512x1536 .bf16) (j : Fin 32) (e : Fin 1536) :
    k0_pay23 v (ix4 0 0 j e) = v (ix2 ⟨32 * 12 + j.val, by omega⟩ e) := by
  pointwise [k0_pay23]
theorem class12 (v : FVec Ideal S512x1536 .bf16) (i : S1x1x32x1536.Idx) : (k0_pay23 v) i = E8 v (r0_17.idx i) := by
  idx_vars i
  obtain rfl : i0 = 0 := Subsingleton.elim _ _
  obtain rfl : i1 = 0 := Subsingleton.elim _ _
  refine (class12_lit v i2 i3).trans (congrArg v ?_)
  funext a; apply Fin.ext
  match a with
  | ⟨0, _⟩ => show 32 * 12 + i2.val = 32 * (12 + 1 * 0) + (0 + 1 * i2.val); omega
  | ⟨1, _⟩ => show i3.val = 0 + 1 * i3.val; omega

theorem class13_lit (v : FVec Ideal S512x1536 .bf16) (j : Fin 32) (e : Fin 1536) :
    k0_pay25 (k0_pay24 v) (ix4 0 0 j e) = v (ix2 ⟨32 * 13 + j.val, by omega⟩ e) := by
  pointwise [k0_pay25, k0_pay24]
theorem class13 (v : FVec Ideal S512x1536 .bf16) (i : S1x1x32x1536.Idx) : (k0_pay25 (k0_pay24 v)) i = E8 v (r0_18.idx i) := by
  idx_vars i
  obtain rfl : i0 = 0 := Subsingleton.elim _ _
  obtain rfl : i1 = 0 := Subsingleton.elim _ _
  refine (class13_lit v i2 i3).trans (congrArg v ?_)
  funext a; apply Fin.ext
  match a with
  | ⟨0, _⟩ => show 32 * 13 + i2.val = 32 * (13 + 1 * 0) + (0 + 1 * i2.val); omega
  | ⟨1, _⟩ => show i3.val = 0 + 1 * i3.val; omega

theorem class14_lit (v : FVec Ideal S512x1536 .bf16) (j : Fin 32) (e : Fin 1536) :
    k0_pay26 v (ix4 0 0 j e) = v (ix2 ⟨32 * 14 + j.val, by omega⟩ e) := by
  pointwise [k0_pay26]
theorem class14 (v : FVec Ideal S512x1536 .bf16) (i : S1x1x32x1536.Idx) : (k0_pay26 v) i = E8 v (r0_19.idx i) := by
  idx_vars i
  obtain rfl : i0 = 0 := Subsingleton.elim _ _
  obtain rfl : i1 = 0 := Subsingleton.elim _ _
  refine (class14_lit v i2 i3).trans (congrArg v ?_)
  funext a; apply Fin.ext
  match a with
  | ⟨0, _⟩ => show 32 * 14 + i2.val = 32 * (14 + 1 * 0) + (0 + 1 * i2.val); omega
  | ⟨1, _⟩ => show i3.val = 0 + 1 * i3.val; omega

theorem class15_lit (v : FVec Ideal S512x1536 .bf16) (j : Fin 32) (e : Fin 1536) :
    k0_pay27 v (ix4 0 0 j e) = v (ix2 ⟨32 * 15 + j.val, by omega⟩ e) := by
  pointwise [k0_pay27]
theorem class15 (v : FVec Ideal S512x1536 .bf16) (i : S1x1x32x1536.Idx) : (k0_pay27 v) i = E8 v (r0_20.idx i) := by
  idx_vars i
  obtain rfl : i0 = 0 := Subsingleton.elim _ _
  obtain rfl : i1 = 0 := Subsingleton.elim _ _
  refine (class15_lit v i2 i3).trans (congrArg v ?_)
  funext a; apply Fin.ext
  match a with
  | ⟨0, _⟩ => show 32 * 15 + i2.val = 32 * (15 + 1 * 0) + (0 + 1 * i2.val); omega
  | ⟨1, _⟩ => show i3.val = 0 + 1 * i3.val; omega

theorem out8_eq : out0_8 x0 x1 x2 x3 = E8 (k0_pay40 x0 x1 x2 x3) := by
  funext y
  unfold out0_8
  refine View.canon_apply_of_pieces (E8 (k0_pay40 x0 x1 x2 x3)) _ ?_ y (cover0_8 _ _ _ _ _ _ _ _ _ _ _ _ _ _ _ _ y)
  intro pc hpc
  rcases List.mem_cons.mp hpc with rfl | hpc
  · exact class15 (k0_pay40 x0 x1 x2 x3)
  rcases List.mem_cons.mp hpc with rfl | hpc
  · exact class14 (k0_pay40 x0 x1 x2 x3)
  rcases List.mem_cons.mp hpc with rfl | hpc
  · exact class13 (k0_pay40 x0 x1 x2 x3)
  rcases List.mem_cons.mp hpc with rfl | hpc
  · exact class12 (k0_pay40 x0 x1 x2 x3)
  rcases List.mem_cons.mp hpc with rfl | hpc
  · exact class11 (k0_pay40 x0 x1 x2 x3)
  rcases List.mem_cons.mp hpc with rfl | hpc
  · exact class10 (k0_pay40 x0 x1 x2 x3)
  rcases List.mem_cons.mp hpc with rfl | hpc
  · exact class9 (k0_pay40 x0 x1 x2 x3)
  rcases List.mem_cons.mp hpc with rfl | hpc
  · exact class8 (k0_pay40 x0 x1 x2 x3)
  rcases List.mem_cons.mp hpc with rfl | hpc
  · exact class7 (k0_pay40 x0 x1 x2 x3)
  rcases List.mem_cons.mp hpc with rfl | hpc
  · exact class6 (k0_pay40 x0 x1 x2 x3)
  rcases List.mem_cons.mp hpc with rfl | hpc
  · exact class5 (k0_pay40 x0 x1 x2 x3)
  rcases List.mem_cons.mp hpc with rfl | hpc
  · exact class4 (k0_pay40 x0 x1 x2 x3)
  rcases List.mem_cons.mp hpc with rfl | hpc
  · exact class3 (k0_pay40 x0 x1 x2 x3)
  rcases List.mem_cons.mp hpc with rfl | hpc
  · exact class2 (k0_pay40 x0 x1 x2 x3)
  rcases List.mem_cons.mp hpc with rfl | hpc
  · exact class1 (k0_pay40 x0 x1 x2 x3)
  rcases List.mem_cons.mp hpc with rfl | hpc
  · exact class0 (k0_pay40 x0 x1 x2 x3)
  nomatch hpc

theorem pay40_at (r : Fin 512) (e : Fin 1536) : k0_pay40 x0 x1 x2 x3 (ix2 r e)
    = pB x0 x1 x2 x3 ⟨16 * (r.val % 32) + r.val / 32, by omega⟩ ⟨1536 + e.val, by omega⟩ := by
  unfold k0_pay40
  rw [ldMod, ldRows, ldGain, ldW]
  exact (dealt_at _ r e).trans (pay6_at ..)

/-- The classes' rows. -/
theorem out8_at (c : Fin 16) (j : Fin 32) (e : Fin 1536) : out0_8 x0 x1 x2 x3 (ix4 0 c j e)
    = pB x0 x1 x2 x3 ⟨16 * j.val + c.val, by omega⟩ ⟨1536 + e.val, by omega⟩ := by
  rw [out8_eq]
  refine (pay40_at x0 x1 x2 x3 ⟨32 * c.val + j.val, by omega⟩ e).trans ?_
  have er : (⟨16 * ((32 * c.val + j.val) % 32) + (32 * c.val + j.val) / 32, by omega⟩ : Fin 512)
      = ⟨16 * j.val + c.val, by omega⟩ := Fin.ext (by dsimp only; omega)
  exact congrArg (fun r => pB x0 x1 x2 x3 r ⟨1536 + e.val, by omega⟩) er

end Cert.Kernel3Ideal.Even
-- ==== Proof.EvenBlocks.lean ====
/-
  The projection kernel's operands as functions of its arguments, and where each grid point's blocks lie: point `t` takes 512 rows
  of sequence `t / 8`.
-/
module

public import proofs.«01_k».proof.Proof.EvenOut
public import Idealize.ShloMosaic.Lib.StableHlo.Run

@[expose] public section

noncomputable section

namespace Cert.Kernel3Ideal.Even

open Idealize.ShloMosaic Idealize.ShloMosaic.TcCoe Idealize.ShloMosaic.StableHlo
open Cert.Kernel3Ideal.Gen Cert.Proof.Even

/-! ## The operands -/

section
variable {F : FTy → Type} [FloatOps F]

/-- The columns' test of holding queries. -/
def queries : IVec S3072 1 :=
  ori (cmpi .slt (iotaInDim S3072 32 0) (broadcastInDim S3072 ![] bcast_S_S3072 (constantI S_ 32 512#32)))
    (andi (cmpi .sge (iotaInDim S3072 32 0) (broadcastInDim S3072 ![] bcast_S_S3072 (constantI S_ 32 1536#32)))
      (cmpi .slt (iotaInDim S3072 32 0) (broadcastInDim S3072 ![] bcast_S_S3072 (constantI S_ 32 2048#32))))

/-- The weights with the queries' factor. -/
def weights (w : FVec F S1024x3072 .f32) : FVec F S1024x3072 .bf16 :=
  truncf .bf16 (mulf w (broadcastInDim S1024x3072 ![0, 1] bcast_S1x3072_S1024x3072_0_1 (broadcastInDim S1x3072 ![1]
    bcast_S3072_S1x3072_1 (select queries (broadcastInDim S3072 ![] bcast_S_S3072 (constant S_ .f32 0x3E38AA3B#32))
      (broadcastInDim S3072 ![] bcast_S_S3072 (constant S_ .f32 0x3F800000#32)))))) bitsLt_bf16_f32

variable (m : (ℓ : Loc nD τ sig) → Buf (Elt F) ℓ) (c : Dev nD)

theorem V_x : V m c main_v0 = shapeCast S16384x1024 (m ((c : Thread nD τ).loc main_arg0) : FVec F S4x4096x1024 .f32) shapeCasts_S4x4096x1024_S16384x1024 := by
  unfold V
  simp only [hostOps0, hostOps0_1, hostOps0_2, List.flatten_cons, List.flatten_nil, List.append_nil, List.cons_append,
    List.nil_append, TRef.binary, TRef.unary, TRef.ternary, TRef.toBuf, TRef.ofBuf, cast_eq]
  after_results_simp <;> rfl

theorem V_mod : V m c main_v1 = shapeCast S4x1x6144 (m ((c : Thread nD τ).loc main_arg1) : FVec F S4x6144 .f32) shapeCasts_S4x6144_S4x1x6144 := by
  unfold V
  simp only [hostOps0, hostOps0_1, hostOps0_2, List.flatten_cons, List.flatten_nil, List.append_nil, List.cons_append,
    List.nil_append, TRef.binary, TRef.unary, TRef.ternary, TRef.toBuf, TRef.ofBuf, cast_eq]
  after_results_simp <;> rfl

theorem V_g : V m c main_v2 = shapeCast S1x1024 (m ((c : Thread nD τ).loc main_arg2) : FVec F S1024 .f32) shapeCasts_S1024_S1x1024 := by
  unfold V
  simp only [hostOps0, hostOps0_1, hostOps0_2, List.flatten_cons, List.flatten_nil, List.append_nil, List.cons_append,
    List.nil_append, TRef.binary, TRef.unary, TRef.ternary, TRef.toBuf, TRef.ofBuf, cast_eq]
  after_results_simp <;> rfl

theorem V_w : V m c main_v17 = weights (m ((c : Thread nD τ).loc main_arg3)) := by
  unfold V
  simp only [hostOps0, hostOps0_1, hostOps0_2, List.flatten_cons, List.flatten_nil, List.append_nil, List.cons_append,
    List.nil_append, TRef.binary, TRef.unary, TRef.ternary, TRef.toBuf, TRef.ofBuf, cast_eq]
  after_results_simp <;> rfl

end

/-! ## Their entries -/

theorem queries_at (e : Fin 3072) : queries (ix1 e) = if isQ e then 1#1 else 0#1 := by
  have h : ∀ e : Fin 3072, IntOp.ori (IntOp.cmpi .slt (BitVec.ofNat 32 e.val) 512#32)
      (IntOp.andi (IntOp.cmpi .sge (BitVec.ofNat 32 e.val) 1536#32) (IntOp.cmpi .slt (BitVec.ofNat 32 e.val) 2048#32))
        = if isQ e then 1#1 else 0#1 := by decide +kernel
  exact h e

theorem weights_at (w : FVec Ideal S1024x3072 .f32) (k : Fin 1024) (e : Fin 3072) : weights w (ix2 k e) = w (ix2 k e) * fac e := by
  have h : weights w (ix2 k e) = w (ix2 k e) * Scalar.select (queries (ix1 e)) (Ideal.ofBits FTy.f32 0x3E38AA3B#32)
      (Ideal.ofBits FTy.f32 0x3F800000#32) := by
    unfold weights; pointwise
  rw [h, queries_at, fac, Ideal.ofBits_one_f32]
  split <;> rfl

theorem rows1024_lit (x : FVec Ideal S4x4096x1024 .f32) (b : Fin 4) (s : Fin 4096) (j : Fin 1024) :
    shapeCast S16384x1024 x shapeCasts_S4x4096x1024_S16384x1024 (ix2 ⟨4096 * b.val + s.val, by omega⟩ j) = x (ix3 b s j) := by
  pointwise

theorem rows1024_at (x : FVec Ideal S4x4096x1024 .f32) (b : Fin 4) (s : Fin 4096) (j : Fin 1024) (R : Fin 16384)
    (hR : R.val = 4096 * b.val + s.val) :
    shapeCast S16384x1024 x shapeCasts_S4x4096x1024_S16384x1024 (ix2 R j) = x (ix3 b s j) :=
  (congrArg (fun R => shapeCast S16384x1024 x shapeCasts_S4x4096x1024_S16384x1024 (ix2 R j)) (Fin.ext hR)).trans
    (rows1024_lit x b s j)

theorem mods_at (x : FVec Ideal S4x6144 .f32) (b : Fin 4) (j : Fin 6144) :
    shapeCast S4x1x6144 x shapeCasts_S4x6144_S4x1x6144 (ix3 b 0 j) = x (ix2 b j) := by
  pointwise

theorem gain_at (x : FVec Ideal S1024 .f32) (j : Fin 1024) :
    shapeCast S1x1024 x shapeCasts_S1024_S1x1024 (ix2 0 j) = x (ix1 j) := by
  pointwise

/-! ## The blocks -/

variable (m : (ℓ : Loc nD τ sig) → Buf (Elt Ideal) ℓ) (c : Dev nD) (t : Fin cfg0.N)

/-- A grid point's number. -/
def num (t : Fin cfg0.N) : Fin 32 := grid0.coords t 0
/-- Its sequence. -/
def seqOf (t : Fin cfg0.N) : Fin 4 := ⟨(num t).val / 8, by omega⟩
/-- Row `r` of its block. -/
def rowOf (t : Fin cfg0.N) (r : Fin 512) : Fin 4096 := ⟨512 * ((num t).val % 8) + r.val, by omega⟩
/-- The rows' place among all sequences' rows. -/
def at512 (t : Fin cfg0.N) (r : Fin 512) : Fin 16384 := ⟨512 * (num t).val + r.val, by omega⟩

theorem idx0 : ∀ t : Fin cfg0.N, win0_0.index t (0 : Fin 2) = (grid0.coords t 0).val ∧ win0_0.index t (1 : Fin 2) = 0 :=
  (by decide +kernel : ∀ t : Fin grid0.N, _)
theorem idx1 : ∀ t : Fin cfg0.N, win0_1.index t (0 : Fin 3) = (grid0.coords t 0).val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = (grid0.coords t 0).val ∧ win0_4.index t (1 : Fin 2) = 0 :=
  (by decide +kernel : ∀ t : Fin grid0.N, _)
theorem idx5 : ∀ t : Fin cfg0.N, win0_5.index t (0 : Fin 3) = (grid0.coords t 0).val ∧ win0_5.index t (1 : Fin 3) = 0 ∧ win0_5.index t (2 : Fin 3) = 0 :=
  (by decide +kernel : ∀ t : Fin grid0.N, _)
theorem idx6 : ∀ t : Fin cfg0.N, win0_6.index t (0 : Fin 5) = (grid0.coords t 0).val / 8 ∧ win0_6.index t (1 : Fin 5) = 0 ∧ win0_6.index t (2 : Fin 5) = (grid0.coords t 0).val % 8 / 4 ∧ win0_6.index t (3 : Fin 5) = 0 ∧ win0_6.index t (4 : Fin 5) = (grid0.coords t 0).val % 4 :=
  (by decide +kernel : ∀ t : Fin grid0.N, _)
theorem idx7 : ∀ t : Fin cfg0.N, win0_7.index t (0 : Fin 5) = (grid0.coords t 0).val / 8 ∧ win0_7.index t (1 : Fin 5) = 0 ∧ win0_7.index t (2 : Fin 5) = (grid0.coords t 0).val % 8 ∧ win0_7.index t (3 : Fin 5) = 0 ∧ win0_7.index t (4 : Fin 5) = 0 :=
  (by decide +kernel : ∀ t : Fin grid0.N, _)
theorem idx8 : ∀ t : Fin cfg0.N, win0_8.index t (0 : Fin 4) = (grid0.coords t 0).val / 8 ∧ win0_8.index t (1 : Fin 4) = 0 ∧ win0_8.index t (2 : Fin 4) = (grid0.coords t 0).val % 8 ∧ win0_8.index t (3 : Fin 4) = 0 :=
  (by decide +kernel : ∀ t : Fin grid0.N, _)

theorem emb0 (r : Fin 512) (j : Fin 1024) : ((cfg0.win 0).blk t).view.emb (ix2 r j) = ix2 (at512 t r) j := by
  obtain ⟨e0, e1⟩ := idx0 t
  funext a; apply Fin.ext
  match a with
  | ⟨0, _⟩ => show win0_0.index t (0 : Fin 2) * 512 + 1 * r.val = 512 * (grid0.coords t 0).val + r.val; omega
  | ⟨1, _⟩ => show win0_0.index t (1 : Fin 2) * 1024 + 1 * j.val = j.val; omega

theorem emb1 (j : Fin 6144) : ((cfg0.win 1).blk t).view.emb (ix3 0 0 j) = ix3 (seqOf t) 0 j := by
  obtain ⟨e0, e1, e2⟩ := idx1 t
  funext a; apply Fin.ext
  match a with
  | ⟨0, _⟩ => show win0_1.index t (0 : Fin 3) * 1 + 1 * 0 = (grid0.coords t 0).val / 8; omega
  | ⟨1, _⟩ => show win0_1.index t (1 : Fin 3) * 1 + 1 * 0 = 0; omega
  | ⟨2, _⟩ => show win0_1.index t (2 : Fin 3) * 6144 + 1 * j.val = j.val; omega

theorem emb2 (j : Fin 1024) : ((cfg0.win 2).blk t).view.emb (ix2 0 j) = ix2 0 j := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 1024 + 1 * j.val = j.val; omega

theorem emb3 (k : Fin 1024) (e : Fin 3072) : ((cfg0.win 3).blk t).view.emb (ix2 k e) = ix2 k e := by
  obtain ⟨e0, e1⟩ := idx3 t
  funext a; apply Fin.ext
  match a with
  | ⟨0, _⟩ => show win0_3.index t (0 : Fin 2) * 1024 + 1 * k.val = k.val; omega
  | ⟨1, _⟩ => show win0_3.index t (1 : Fin 2) * 3072 + 1 * e.val = e.val; omega

theorem emb4 (r : Fin 512) (e : Fin 3072) : ((cfg0.win 4).blk t).view.emb (ix2 r e) = ix2 (at512 t r) e := by
  obtain ⟨e0, e1⟩ := idx4 t
  funext a; apply Fin.ext
  match a with
  | ⟨0, _⟩ => show win0_4.index t (0 : Fin 2) * 512 + 1 * r.val = 512 * (grid0.coords t 0).val + r.val; omega
  | ⟨1, _⟩ => show win0_4.index t (1 : Fin 2) * 3072 + 1 * e.val = e.val; omega

theorem emb5 (i : Fin 2) (n : Fin 512) : ((cfg0.win 5).blk t).view.emb (ix3 0 i n) = ix3 (num t) i n := by
  obtain ⟨e0, e1, e2⟩ := idx5 t
  funext a; apply Fin.ext
  match a with
  | ⟨0, _⟩ => show win0_5.index t (0 : Fin 3) * 1 + 1 * 0 = (grid0.coords t 0).val; omega
  | ⟨1, _⟩ => show win0_5.index t (1 : Fin 3) * 2 + 1 * i.val = i.val; omega
  | ⟨2, _⟩ => show win0_5.index t (2 : Fin 3) * 512 + 1 * n.val = n.val; omega

theorem emb6 (q : Fin 4) (d : Fin 128) (k : Fin 512) : ((cfg0.win 6).blk t).view.emb (ix5 0 q 0 d k) = ix5 (seqOf t) q ⟨(num t).val % 8 / 4, by omega⟩ d ⟨512 * ((num t).val % 4) + k.val, by omega⟩ := by
  obtain ⟨e0, e1, e2, e3, e4⟩ := idx6 t
  funext a; apply Fin.ext
  match a with
  | ⟨0, _⟩ => show win0_6.index t (0 : Fin 5) * 1 + 1 * 0 = (grid0.coords t 0).val / 8; omega
  | ⟨1, _⟩ => show win0_6.index t (1 : Fin 5) * 4 + 1 * q.val = q.val; omega
  | ⟨2, _⟩ => show win0_6.index t (2 : Fin 5) * 1 + 1 * 0 = (grid0.coords t 0).val % 8 / 4; omega
  | ⟨3, _⟩ => show win0_6.index t (3 : Fin 5) * 128 + 1 * d.val = d.val; omega
  | ⟨4, _⟩ => show win0_6.index t (4 : Fin 5) * 512 + 1 * k.val = 512 * ((grid0.coords t 0).val % 4) + k.val; omega

theorem emb7 (q : Fin 4) (u : Fin 2) (d : Fin 128) (k : Fin 256) : ((cfg0.win 7).blk t).view.emb (ix5 0 q u d k) = ix5 (seqOf t) q ⟨2 * ((num t).val % 8) + u.val, by omega⟩ d k := by
  obtain ⟨e0, e1, e2, e3, e4⟩ := idx7 t
  funext a; apply Fin.ext
  match a with
  | ⟨0, _⟩ => show win0_7.index t (0 : Fin 5) * 1 + 1 * 0 = (grid0.coords t 0).val / 8; omega
  | ⟨1, _⟩ => show win0_7.index t (1 : Fin 5) * 4 + 1 * q.val = q.val; omega
  | ⟨2, _⟩ => show win0_7.index t (2 : Fin 5) * 2 + 1 * u.val = 2 * ((grid0.coords t 0).val % 8) + u.val; omega
  | ⟨3, _⟩ => show win0_7.index t (3 : Fin 5) * 128 + 1 * d.val = d.val; omega
  | ⟨4, _⟩ => show win0_7.index t (4 : Fin 5) * 256 + 1 * k.val = k.val; omega

theorem emb8 (q : Fin 16) (j : Fin 32) (e : Fin 1536) : ((cfg0.win 8).blk t).view.emb (ix4 0 q j e) = ix4 (seqOf t) q ⟨32 * ((num t).val % 8) + j.val, by omega⟩ e := by
  obtain ⟨e0, e1, e2, e3⟩ := idx8 t
  funext a; apply Fin.ext
  match a with
  | ⟨0, _⟩ => show win0_8.index t (0 : Fin 4) * 1 + 1 * 0 = (grid0.coords t 0).val / 8; omega
  | ⟨1, _⟩ => show win0_8.index t (1 : Fin 4) * 16 + 1 * q.val = q.val; omega
  | ⟨2, _⟩ => show win0_8.index t (2 : Fin 4) * 32 + 1 * j.val = 32 * ((grid0.coords t 0).val % 8) + j.val; omega
  | ⟨3, _⟩ => show win0_8.index t (3 : Fin 4) * 1536 + 1 * e.val = e.val; omega

theorem read0 (X : Vec Ideal S16384x1024 .f32) (r : Fin 512) (j : Fin 1024) :
    ((cfg0.win 0).blk t).view.read (Elt Ideal) X (ix2 r j) = X (ix2 (at512 t r) j) := congrArg X (emb0 t r j)

theorem read1 (X : Vec Ideal S4x1x6144 .f32) (j : Fin 6144) :
    ((cfg0.win 1).blk t).view.read (Elt Ideal) X (ix3 0 0 j) = X (ix3 (seqOf t) 0 j) := congrArg X (emb1 t j)

theorem read2 (X : Vec Ideal S1x1024 .f32) (j : Fin 1024) :
    ((cfg0.win 2).blk t).view.read (Elt Ideal) X (ix2 0 j) = X (ix2 0 j) := congrArg X (emb2 t j)

theorem read3 (X : Vec Ideal S1024x3072 .bf16) (k : Fin 1024) (e : Fin 3072) :
    ((cfg0.win 3).blk t).view.read (Elt Ideal) X (ix2 k e) = X (ix2 k e) := congrArg X (emb3 t k e)

theorem read4 (X : Vec Ideal S16384x3072 .bf16) (r : Fin 512) (e : Fin 3072) :
    ((cfg0.win 4).blk t).view.read (Elt Ideal) X (ix2 r e) = X (ix2 (at512 t r) e) := congrArg X (emb4 t r e)

theorem read5 (X : Vec Ideal S32x2x512 .f32) (i : Fin 2) (n : Fin 512) :
    ((cfg0.win 5).blk t).view.read (Elt Ideal) X (ix3 0 i n) = X (ix3 (num t) i n) := congrArg X (emb5 t i n)

theorem read6 (X : Vec Ideal S4x4x2x128x2048 .bf16) (q : Fin 4) (d : Fin 128) (k : Fin 512) :
    ((cfg0.win 6).blk t).view.read (Elt Ideal) X (ix5 0 q 0 d k) = X (ix5 (seqOf t) q ⟨(num t).val % 8 / 4, by omega⟩ d ⟨512 * ((num t).val % 4) + k.val, by omega⟩) := congrArg X (emb6 t q d k)

theorem read7 (X : Vec Ideal S4x4x16x128x256 .bf16) (q : Fin 4) (u : Fin 2) (d : Fin 128) (k : Fin 256) :
    ((cfg0.win 7).blk t).view.read (Elt Ideal) X (ix5 0 q u d k) = X (ix5 (seqOf t) q ⟨2 * ((num t).val % 8) + u.val, by omega⟩ d k) := congrArg X (emb7 t q u d k)

theorem read8 (X : Vec Ideal S4x16x256x1536 .bf16) (q : Fin 16) (j : Fin 32) (e : Fin 1536) :
    ((cfg0.win 8).blk t).view.read (Elt Ideal) X (ix4 0 q j e) = X (ix4 (seqOf t) q ⟨32 * ((num t).val % 8) + j.val, by omega⟩ e) := congrArg X (emb8 t q j e)

/-- The arguments, by their entries. -/
def args : Args where
  x b s n := (m ((c : Thread nD τ).loc main_arg0) : Vec Ideal S4x4096x1024 .f32) (ix3 b s n)
  mod b n := (m ((c : Thread nD τ).loc main_arg1) : Vec Ideal S4x6144 .f32) (ix2 b n)
  g n := (m ((c : Thread nD τ).loc main_arg2) : Vec Ideal S1024 .f32) (ix1 n)
  w k e := (m ((c : Thread nD τ).loc main_arg3) : Vec Ideal S1024x3072 .f32) (ix2 k e)

/-- The blocks a grid point reads. -/
abbrev bx : Vec Ideal S512x1024 .f32 := iblk m c 0 t
abbrev bm : Vec Ideal S1x1x6144 .f32 := iblk m c 1 t
abbrev bg : Vec Ideal S1x1024 .f32 := iblk m c 2 t
abbrev bw : Vec Ideal S1024x3072 .bf16 := iblk m c 3 t

theorem bx_eq : bx m c t = ((cfg0.win 0).blk t).view.read (Elt Ideal) (shapeCast S16384x1024 (m ((c : Thread nD τ).loc main_arg0) : FVec Ideal S4x4096x1024 .f32) shapeCasts_S4x4096x1024_S16384x1024 : Vec Ideal S16384x1024 .f32) :=
  congrArg (((cfg0.win 0).blk t).view.read (Elt Ideal)) (V_x m c)
theorem bx_at (r : Fin 512) (j : Fin 1024) : bx m c t (ix2 r j) = (args m c).x (seqOf t) (rowOf t r) j :=
  (congrFun (bx_eq m c t) _).trans ((read0 t _ r j).trans (rows1024_at _ (seqOf t) (rowOf t r) j _ (by
    show 512 * (num t).val + r.val = 4096 * ((num t).val / 8) + (512 * ((num t).val % 8) + r.val); omega)))

theorem bm_eq : bm m c t = ((cfg0.win 1).blk t).view.read (Elt Ideal) (shapeCast S4x1x6144 (m ((c : Thread nD τ).loc main_arg1) : FVec Ideal S4x6144 .f32) shapeCasts_S4x6144_S4x1x6144 : Vec Ideal S4x1x6144 .f32) :=
  congrArg (((cfg0.win 1).blk t).view.read (Elt Ideal)) (V_mod m c)
theorem bm_at (j : Fin 6144) : bm m c t (ix3 0 0 j) = (args m c).mod (seqOf t) j :=
  (congrFun (bm_eq m c t) _).trans ((read1 t _ j).trans (mods_at _ (seqOf t) j))

theorem bg_eq : bg m c t = ((cfg0.win 2).blk t).view.read (Elt Ideal) (shapeCast S1x1024 (m ((c : Thread nD τ).loc main_arg2) : FVec Ideal S1024 .f32) shapeCasts_S1024_S1x1024 : Vec Ideal S1x1024 .f32) :=
  congrArg (((cfg0.win 2).blk t).view.read (Elt Ideal)) (V_g m c)
theorem bg_at (j : Fin 1024) : bg m c t (ix2 0 j) = (args m c).g j :=
  (congrFun (bg_eq m c t) _).trans ((read2 t _ j).trans (gain_at _ j))

theorem bw_eq : bw m c t = ((cfg0.win 3).blk t).view.read (Elt Ideal) (weights (F := Ideal) (m ((c : Thread nD τ).loc main_arg3)) : Vec Ideal S1024x3072 .bf16) :=
  congrArg (((cfg0.win 3).blk t).view.read (Elt Ideal)) (V_w m c)
theorem bw_at (k : Fin 1024) (e : Fin 3072) : bw m c t (ix2 k e) = (args m c).w k e * fac e :=
  (congrFun (bw_eq m c t) _).trans ((read3 t _ k e).trans (weights_at _ k e))

/-- A block's row of the projection is the sequence's. -/
theorem pB_eq (r : Fin 512) (e : Fin 3072) :
    pB (bx m c t) (bm m c t) (bg m c t) (bw m c t) r e = col (args m c) (seqOf t) (rowOf t r) e := by
  rw [← col_eq, pB]
  refine Finset.sum_congr rfl fun k _ => ?_
  have hx : (fun k => bx m c t (ix2 r k)) = (args m c).x (seqOf t) (rowOf t r) := funext fun k => bx_at m c t r k
  have hg : (fun k => bg m c t (ix2 0 k)) = (args m c).g := funext fun k => bg_at m c t k
  have hm : ∀ j, bm m c t (ix3 0 0 j) = (args m c).mod (seqOf t) j := fun j => bm_at m c t j
  rw [hRow, h, hx, hg, bw_at]
  simp only [hm]

end Cert.Kernel3Ideal.Even
-- ==== Proof.EvenResult.lean ====
/-
  The projection kernel's result arrays: each grid point writes back its rows' entries, and the blocks cover the arrays.
-/
module

public import proofs.«01_k».proof.Proof.EvenBlocks

@[expose] public section

noncomputable section

namespace Cert.Kernel3Ideal.Even

open Idealize.ShloMosaic Idealize.ShloMosaic.TcCoe
open Cert.Kernel3Ideal.Gen Cert.Proof.Even

variable (m : (ℓ : Loc nD τ sig) → Buf (Elt Ideal) ℓ) (c : Dev nD) (t : Fin cfg0.N)

/-- Off the queries the block's columns are the plain projection. -/
theorem pB_plain (r : Fin 512) (e : Fin 3072) (s : Fin 4096) (he : ¬ isQ e) (hs : s.val = 512 * ((num t).val % 8) + r.val) :
    pB (bx m c t) (bm m c t) (bg m c t) (bw m c t) r e = p (args m c) (seqOf t) s e := by
  have e1 : rowOf t r = s := Fin.ext (by rw [hs]; rfl)
  rw [pB_eq, col_of_not _ _ _ _ he, e1]

/-- Every index of a result array is in some point's block. -/
theorem point : ∀ b : Fin 32, ∃ t : Fin grid0.N, (grid0.coords t 0).val = b.val := by decide +kernel

/-! ## The projections -/

def RES4 : Vec Ideal S16384x3072 .bf16 := fun i => rowsE (args m c) (i (0 : Fin 2)) (i (1 : Fin 2))

theorem block4_at (r : Fin 512) (e : Fin 3072) : pB (bx m c t) (bm m c t) (bg m c t) (bw m c t) r e = rowsE (args m c) (at512 t r) e := by
  have e0 : (⟨(at512 t r).val / 4096, by omega⟩ : Fin 4) = seqOf t := Fin.ext (by
    show (512 * (num t).val + r.val) / 4096 = (num t).val / 8; omega)
  have e1 : (⟨(at512 t r).val % 4096, by omega⟩ : Fin 4096) = rowOf t r := Fin.ext (by
    show (512 * (num t).val + r.val) % 4096 = 512 * ((num t).val % 8) + r.val; omega)
  rw [pB_eq, rowsE, e0, e1]

theorem flushed4_eq : (dats m 0 c).flushed 4 t = ((cfg0.win 4).blk t).view.read (Elt Ideal) (RES4 m c) := by
  have e : (dats m 0 c).flushed 4 t = (cfg0.win 4).cut (grid0.coords t) ((dats m 0 c).after 4 t) := rfl
  rw [e, after0_4]
  funext i
  idx_vars i
  exact (out4_at (bx m c t) (bm m c t) (bg m c t) (bw m c t) i0 i1).trans ((block4_at m c t i0 i1).trans
    (read4 t (RES4 m c) i0 i1).symm)

theorem covered4 (i : S16384x3072.Idx) :
    ∃ t : Fin cfg0.N, (cfg0.win 4).flush t = true ∧ i ∈ ((cfg0.win 4).blk t).view.set := by
  idx_vars i
  obtain ⟨t, h0⟩ := point ⟨i0.val / 512, by omega⟩
  dsimp only at h0
  refine ⟨t, flush0_4 t, ?_⟩
  have h := emb4 t (⟨i0.val % 512, by omega⟩ : Fin 512) i1
  have e0 : at512 t ⟨i0.val % 512, by omega⟩ = i0 := Fin.ext (by
    show 512 * (grid0.coords t 0).val + i0.val % 512 = i0.val
    omega)
  dsimp only at h
  rw [e0] at h
  rw [← h]
  exact ((cfg0.win 4).blk t).view.emb_mem_set _

theorem final4 : (dats m 0 c).arrAt 4 cfg0.N = RES4 m c :=
  (dats m 0 c).arrAt_eq_of_cover 4 (RES4 m c) (fun t _ => flushed4_eq m c t) covered4

/-! ## The means of the keys -/

def RES5 : Vec Ideal S32x2x512 .f32 := fun i => meansE (args m c) (i (0 : Fin 3)) (i (1 : Fin 3)) (i (2 : Fin 3))

theorem block5_at (i : Fin 2) (n : Fin 512) : Ideal.div (∑ r : Fin 256, pB (bx m c t) (bm m c t) (bg m c t) (bw m c t) ⟨i.val * 256 + r.val, by omega⟩ ⟨512 + n.val, by omega⟩)
      (Ideal.ofBits FTy.f32 0x43800000#32) = meansE (args m c) (num t) i n := by
  rw [meansE, kmean]
  refine congrArg (fun z => Ideal.div z (Ideal.ofBits FTy.f32 0x43800000#32)) (Finset.sum_congr rfl fun r _ => ?_)
  exact pB_plain m c t _ _ _ (by rintro (h | h) <;> dsimp only at h <;> omega) (by
    show 256 * (2 * ((num t).val % 8) + i.val) + r.val = 512 * ((num t).val % 8) + (i.val * 256 + r.val); omega)

theorem flushed5_eq : (dats m 0 c).flushed 5 t = ((cfg0.win 5).blk t).view.read (Elt Ideal) (RES5 m c) := by
  have e : (dats m 0 c).flushed 5 t = (cfg0.win 5).cut (grid0.coords t) ((dats m 0 c).after 5 t) := rfl
  rw [e, after0_5]
  funext i
  idx_vars i
  obtain rfl : i0 = 0 := Subsingleton.elim _ _
  exact (out5_at (bx m c t) (bm m c t) (bg m c t) (bw m c t) i1 i2).trans ((block5_at m c t i1 i2).trans
    (read5 t (RES5 m c) i1 i2).symm)

theorem covered5 (i : S32x2x512.Idx) :
    ∃ t : Fin cfg0.N, (cfg0.win 5).flush t = true ∧ i ∈ ((cfg0.win 5).blk t).view.set := by
  idx_vars i
  obtain ⟨t, h0⟩ := point ⟨i0.val, by omega⟩
  dsimp only at h0
  refine ⟨t, flush0_5 t, ?_⟩
  have h := emb5 t i1 i2
  have e0 : num t = i0 := Fin.ext (by
    show (grid0.coords t 0).val = i0.val
    omega)
  dsimp only at h
  rw [e0] at h
  rw [← h]
  exact ((cfg0.win 5).blk t).view.emb_mem_set _

theorem final5 : (dats m 0 c).arrAt 5 cfg0.N = RES5 m c :=
  (dats m 0 c).arrAt_eq_of_cover 5 (RES5 m c) (fun t _ => flushed5_eq m c t) covered5

/-! ## The first attention's values -/

def RES6 : Vec Ideal S4x4x2x128x2048 .bf16 := fun i => vaE (args m c) (i (0 : Fin 5)) (i (1 : Fin 5)) (i (2 : Fin 5)) (i (3 : Fin 5)) (i (4 : Fin 5))

theorem block6_at (q : Fin 4) (d : Fin 128) (k : Fin 512) : pB (bx m c t) (bm m c t) (bg m c t) (bw m c t) k ⟨1024 + 128 * q.val + d.val, by omega⟩
      = vaE (args m c) (seqOf t) q ⟨(num t).val % 8 / 4, by omega⟩ d ⟨512 * ((num t).val % 4) + k.val, by omega⟩ := by
  exact pB_plain m c t _ _ _ (by rintro (h | h) <;> dsimp only at h <;> omega) (by
    show 2048 * ((num t).val % 8 / 4) + (512 * ((num t).val % 4) + k.val) = 512 * ((num t).val % 8) + k.val; omega)

theorem flushed6_eq : (dats m 0 c).flushed 6 t = ((cfg0.win 6).blk t).view.read (Elt Ideal) (RES6 m c) := by
  have e : (dats m 0 c).flushed 6 t = (cfg0.win 6).cut (grid0.coords t) ((dats m 0 c).after 6 t) := rfl
  rw [e, after0_6]
  funext i
  idx_vars i
  obtain rfl : i0 = 0 := Subsingleton.elim _ _
  obtain rfl : i2 = 0 := Subsingleton.elim _ _
  exact (out6_at (bx m c t) (bm m c t) (bg m c t) (bw m c t) i1 i3 i4).trans ((block6_at m c t i1 i3 i4).trans
    (read6 t (RES6 m c) i1 i3 i4).symm)

theorem covered6 (i : S4x4x2x128x2048.Idx) :
    ∃ t : Fin cfg0.N, (cfg0.win 6).flush t = true ∧ i ∈ ((cfg0.win 6).blk t).view.set := by
  idx_vars i
  obtain ⟨t, h0⟩ := point ⟨8 * i0.val + 4 * i2.val + i4.val / 512, by omega⟩
  dsimp only at h0
  refine ⟨t, flush0_6 t, ?_⟩
  have h := emb6 t i1 i3 (⟨i4.val % 512, by omega⟩ : Fin 512)
  have e0 : seqOf t = i0 := Fin.ext (by
    show (grid0.coords t 0).val / 8 = i0.val
    omega)
  have e1 : (⟨(num t).val % 8 / 4, by omega⟩ : Fin 2) = i2 := Fin.ext (by
    show (grid0.coords t 0).val % 8 / 4 = i2.val
    omega)
  have e2 : (⟨512 * ((num t).val % 4) + i4.val % 512, by omega⟩ : Fin 2048) = i4 := Fin.ext (by
    show 512 * ((grid0.coords t 0).val % 4) + i4.val % 512 = i4.val
    omega)
  dsimp only at h
  rw [e0, e1, e2] at h
  rw [← h]
  exact ((cfg0.win 6).blk t).view.emb_mem_set _

theorem final6 : (dats m 0 c).arrAt 6 cfg0.N = RES6 m c :=
  (dats m 0 c).arrAt_eq_of_cover 6 (RES6 m c) (fun t _ => flushed6_eq m c t) covered6

/-! ## The second attention's values -/

def RES7 : Vec Ideal S4x4x16x128x256 .bf16 := fun i => vbE (args m c) (i (0 : Fin 5)) (i (1 : Fin 5)) (i (2 : Fin 5)) (i (3 : Fin 5)) (i (4 : Fin 5))

theorem block7_at (q : Fin 4) (u : Fin 2) (d : Fin 128) (k : Fin 256) : pB (bx m c t) (bm m c t) (bg m c t) (bw m c t) ⟨256 * u.val + k.val, by omega⟩ ⟨2560 + 128 * q.val + d.val, by omega⟩
      = vbE (args m c) (seqOf t) q ⟨2 * ((num t).val % 8) + u.val, by omega⟩ d k := by
  exact pB_plain m c t _ _ _ (by rintro (h | h) <;> dsimp only at h <;> omega) (by
    show 256 * (2 * ((num t).val % 8) + u.val) + k.val = 512 * ((num t).val % 8) + (256 * u.val + k.val); omega)

theorem flushed7_eq : (dats m 0 c).flushed 7 t = ((cfg0.win 7).blk t).view.read (Elt Ideal) (RES7 m c) := by
  have e : (dats m 0 c).flushed 7 t = (cfg0.win 7).cut (grid0.coords t) ((dats m 0 c).after 7 t) := rfl
  rw [e, after0_7]
  funext i
  idx_vars i
  obtain rfl : i0 = 0 := Subsingleton.elim _ _
  exact (out7_at (bx m c t) (bm m c t) (bg m c t) (bw m c t) i1 i2 i3 i4).trans ((block7_at m c t i1 i2 i3 i4).trans
    (read7 t (RES7 m c) i1 i2 i3 i4).symm)

theorem covered7 (i : S4x4x16x128x256.Idx) :
    ∃ t : Fin cfg0.N, (cfg0.win 7).flush t = true ∧ i ∈ ((cfg0.win 7).blk t).view.set := by
  idx_vars i
  obtain ⟨t, h0⟩ := point ⟨8 * i0.val + i2.val / 2, by omega⟩
  dsimp only at h0
  refine ⟨t, flush0_7 t, ?_⟩
  have h := emb7 t i1 (⟨i2.val % 2, by omega⟩ : Fin 2) i3 i4
  have e0 : seqOf t = i0 := Fin.ext (by
    show (grid0.coords t 0).val / 8 = i0.val
    omega)
  have e1 : (⟨2 * ((num t).val % 8) + i2.val % 2, by omega⟩ : Fin 16) = i2 := Fin.ext (by
    show 2 * ((grid0.coords t 0).val % 8) + i2.val % 2 = i2.val
    omega)
  dsimp only at h
  rw [e0, e1] at h
  rw [← h]
  exact ((cfg0.win 7).blk t).view.emb_mem_set _

theorem final7 : (dats m 0 c).arrAt 7 cfg0.N = RES7 m c :=
  (dats m 0 c).arrAt_eq_of_cover 7 (RES7 m c) (fun t _ => flushed7_eq m c t) covered7

/-! ## The columns by class -/

def RES8 : Vec Ideal S4x16x256x1536 .bf16 := fun i => classE (args m c) (i (0 : Fin 4)) (i (1 : Fin 4)) (i (2 : Fin 4)) (i (3 : Fin 4))

theorem block8_at (q : Fin 16) (j : Fin 32) (e : Fin 1536) : pB (bx m c t) (bm m c t) (bg m c t) (bw m c t) ⟨16 * j.val + q.val, by omega⟩ ⟨1536 + e.val, by omega⟩
      = classE (args m c) (seqOf t) q ⟨32 * ((num t).val % 8) + j.val, by omega⟩ e := by
  have e1 : (⟨16 * (32 * ((num t).val % 8) + j.val) + q.val, by omega⟩ : Fin 4096) = rowOf t ⟨16 * j.val + q.val, by omega⟩ :=
    Fin.ext (by show 16 * (32 * ((num t).val % 8) + j.val) + q.val = 512 * ((num t).val % 8) + (16 * j.val + q.val); omega)
  rw [pB_eq, classE]
  exact congrArg (fun s => col (args m c) (seqOf t) s ⟨1536 + e.val, by omega⟩) e1.symm

theorem flushed8_eq : (dats m 0 c).flushed 8 t = ((cfg0.win 8).blk t).view.read (Elt Ideal) (RES8 m c) := by
  have e : (dats m 0 c).flushed 8 t = (cfg0.win 8).cut (grid0.coords t) ((dats m 0 c).after 8 t) := rfl
  rw [e, after0_8]
  funext i
  idx_vars i
  obtain rfl : i0 = 0 := Subsingleton.elim _ _
  exact (out8_at (bx m c t) (bm m c t) (bg m c t) (bw m c t) i1 i2 i3).trans ((block8_at m c t i1 i2 i3).trans
    (read8 t (RES8 m c) i1 i2 i3).symm)

theorem covered8 (i : S4x16x256x1536.Idx) :
    ∃ t : Fin cfg0.N, (cfg0.win 8).flush t = true ∧ i ∈ ((cfg0.win 8).blk t).view.set := by
  idx_vars i
  obtain ⟨t, h0⟩ := point ⟨8 * i0.val + i2.val / 32, by omega⟩
  dsimp only at h0
  refine ⟨t, flush0_8 t, ?_⟩
  have h := emb8 t i1 (⟨i2.val % 32, by omega⟩ : Fin 32) i3
  have e0 : seqOf t = i0 := Fin.ext (by
    show (grid0.coords t 0).val / 8 = i0.val
    omega)
  have e1 : (⟨32 * ((num t).val % 8) + i2.val % 32, by omega⟩ : Fin 256) = i2 := Fin.ext (by
    show 32 * ((grid0.coords t 0).val % 8) + i2.val % 32 = i2.val
    omega)
  dsimp only at h
  rw [e0, e1] at h
  rw [← h]
  exact ((cfg0.win 8).blk t).view.emb_mem_set _

theorem final8 : (dats m 0 c).arrAt 8 cfg0.N = RES8 m c :=
  (dats m 0 c).arrAt_eq_of_cover 8 (RES8 m c) (fun t _ => flushed8_eq m c t) covered8

end Cert.Kernel3Ideal.Even
-- ==== Proof.EvenRef.lean ====
/-
  The reference's input projection of an even layer, entry by entry, and its five results.
-/
module

public import proofs.«01_k».proof.Proof.EvenRow
public import proofs.«01_k».proof.Proof.Gen.Reference3Ideal.Run
public import Idealize.ShloMosaic.Lib.Pointwise

@[expose] public section
set_option maxRecDepth 8192

noncomputable section

namespace Cert.Reference3Ideal.Even

open Idealize.ShloMosaic Idealize.ShloMosaic.TcCoe
open Cert.Reference3Ideal.Gen Cert.Reference3Ideal.Value Cert.Proof.Even
open Cert.Proof.Post (lit modded normed rms)

/-! ## The stages -/

section
variable {F : FTy → Type} [FloatOps F]

/-- A row's division by its root mean square, and the gain. -/
def norm (y : Vec F S4x4096x1024 .f32) (g : Vec F S1024 .f32) : Vec F S4x4096x1024 .f32 :=
  mulf (mulf y (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf y y) (constant S_ .f32 0x00000000#32)
      reducesTo_S4x4096x1024_S4x4096_d2 h_S_)) (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The row normed and modulated. -/
def input (x : Vec F S4x4096x1024 .f32) (mod : Vec F S4x6144 .f32) (g : Vec F S1024 .f32) : Vec F S4x4096x1024 .f32 :=
  addf (mulf (norm x g) (broadcastInDim S4x4096x1024 ![0, 1, 2] bcast_S4x1x1024_S4x4096x1024_0_1_2 (addf (broadcastInDim S4x1x1024 ![]
    bcast_S_S4x1x1024 (constant S_ .f32 0x3F800000#32)) (broadcastInDim S4x1x1024 ![0, 2] bcast_S4x1024_S4x1x1024_0_2
    (extractStridedSlice S4x1024 ![0, 1024] mod slices_S4x6144_S4x1024_0_1024))))) (broadcastInDim S4x4096x1024 ![0, 1, 2]
    bcast_S4x1x1024_S4x4096x1024_0_1_2 (broadcastInDim S4x1x1024 ![0, 2] bcast_S4x1024_S4x1x1024_0_2
    (extractStridedSlice S4x1024 ![0, 0] mod slices_S4x6144_S4x1024_0_0)))

/-- Its projection. -/
def proj (x : Vec F S4x4096x1024 .f32) (mod : Vec F S4x6144 .f32) (g : Vec F S1024 .f32) (w : Vec F S1024x3072 .f32) :
    Vec F S4x4096x3072 .f32 :=
  Host.dotGeneral dot_S4x4096x1024_S1024x3072_S4x4096x3072_2_0_01_1_n_n none (input x mod g) w

variable (P : Vec F S4x4096x3072 .f32)

/-- Columns 0 to 511 of it, with the queries' factor. -/
def times0 : Vec F S4x4096x512 .f32 :=
  mulf (extractStridedSlice S4x4096x512 ![0, 0, 0] P slices_S4x4096x3072_S4x4096x512_0_0_0) (broadcastInDim S4x4096x512 ![]
    bcast_S_S4x4096x512 (constant S_ .f32 0x3E38AA3B#32))

/-- Columns 1536 to 2047 of it, with the queries' factor. -/
def times1536 : Vec F S4x4096x512 .f32 :=
  mulf (extractStridedSlice S4x4096x512 ![0, 0, 1536] P slices_S4x4096x3072_S4x4096x512_0_0_1536) (broadcastInDim S4x4096x512 ![]
    bcast_S_S4x4096x512 (constant S_ .f32 0x3E38AA3B#32))

/-- All its columns, the queries with their factor. -/
def cols : Vec F S4x4096x3072 .bf16 :=
  truncf .bf16 (concatenate S4x4096x3072 2 [⟨S4x4096x512, times0 P⟩,
    ⟨S4x4096x512, extractStridedSlice S4x4096x512 ![0, 0, 512] P slices_S4x4096x3072_S4x4096x512_0_0_512⟩,
    ⟨S4x4096x512, extractStridedSlice S4x4096x512 ![0, 0, 1024] P slices_S4x4096x3072_S4x4096x512_0_0_1024⟩,
    ⟨S4x4096x512, times1536 P⟩,
    ⟨S4x4096x512, extractStridedSlice S4x4096x512 ![0, 0, 2048] P slices_S4x4096x3072_S4x4096x512_0_0_2048⟩,
    ⟨S4x4096x512, extractStridedSlice S4x4096x512 ![0, 0, 2560] P slices_S4x4096x3072_S4x4096x512_0_0_2560⟩] concatenates_S4x4096x512_S4x4096x512_S4x4096x512_S4x4096x512_S4x4096x512_S4x4096x512_S4x4096x3072_d2)
    bitsLt_bf16_f32

/-- The means of the keys. -/
def means : Vec F S32x2x512 .f32 :=
  shapeCast _ (Host.divf (Host.reduceAdd (shapeCast _ (extractStridedSlice S4x4096x512 ![0, 0, 512] P slices_S4x4096x3072_S4x4096x512_0_0_512) shapeCasts_S4x4096x512_S4x16x256x512) (constant S_ .f32 0x00000000#32) reducesTo_S4x16x256x512_S4x16x512_d2 h_S_) (broadcastInDim S4x16x512 ![] bcast_S_S4x16x512 (constant S_ .f32 0x43800000#32))) shapeCasts_S4x16x512_S32x2x512

/-- The first attention's values. -/
def va : Vec F S4x4x2x128x2048 .bf16 :=
  truncf .bf16 (transpose S4x4x2x128x2048 [0, 3, 1, 4, 2] (shapeCast _ (extractStridedSlice S4x4096x512 ![0, 0, 1024] P slices_S4x4096x3072_S4x4096x512_0_0_1024) shapeCasts_S4x4096x512_S4x2x2048x4x128) transposes_S4x2x2048x4x128_S4x4x2x128x2048_0_3_1_4_2) bitsLt_bf16_f32

/-- The second attention's values. -/
def vb : Vec F S4x4x16x128x256 .bf16 :=
  truncf .bf16 (transpose S4x4x16x128x256 [0, 3, 1, 4, 2] (shapeCast _ (extractStridedSlice S4x4096x512 ![0, 0, 2560] P slices_S4x4096x3072_S4x4096x512_0_0_2560) shapeCasts_S4x4096x512_S4x16x256x4x128) transposes_S4x16x256x4x128_S4x4x16x128x256_0_3_1_4_2) bitsLt_bf16_f32

/-- The second attention's columns, the rows by their class. -/
def classes (C : Vec F S4x4096x3072 .bf16) : Vec F S4x16x256x1536 .bf16 :=
  transpose S4x16x256x1536 [0, 2, 1, 3] (shapeCast _ (extractStridedSlice S4x4096x1536 ![0, 0, 1536] C slices_S4x4096x3072_S4x4096x1536_0_0_1536) shapeCasts_S4x4096x1536_S4x256x16x1536) transposes_S4x256x16x1536_S4x16x256x1536_0_2_1_3

end

/-! ## Their entries -/

variable (b : Fin 4) (s : Fin 4096)

theorem norm_at (y : Vec Ideal S4x4096x1024 .f32) (g : Vec Ideal S1024 .f32) (n : Fin 1024) :
    norm y g (ix3 b s n) = normed (fun k => y (ix3 b s k)) (fun k => g (ix1 k)) n := by
  have z : Ideal.ofBits FTy.f32 0x00000000#32 = 0 := Ideal.ofBits_zero_f32
  pointwise [norm, normed, rms, lit]

theorem input_at (x : Vec Ideal S4x4096x1024 .f32) (mod : Vec Ideal S4x6144 .f32) (g : Vec Ideal S1024 .f32) (n : Fin 1024) :
    input x mod g (ix3 b s n) = modded (fun k => x (ix3 b s k)) (fun k => g (ix1 k)) (fun k => mod (ix2 b ⟨1024 + k.val, by omega⟩))
      (fun k => mod (ix2 b ⟨k.val, by omega⟩)) n := by
  rw [modded, ← norm_at]
  pointwise [input, lit]

theorem proj_at (x : Vec Ideal S4x4096x1024 .f32) (mod : Vec Ideal S4x6144 .f32) (g : Vec Ideal S1024 .f32)
    (w : Vec Ideal S1024x3072 .f32) (e : Fin 3072) :
    proj x mod g w (ix3 b s e) = ∑ k : Fin 1024, input x mod g (ix3 b s k) * w (ix2 k e) := by
  pointwise [proj]

variable (P : Vec Ideal S4x4096x3072 .f32)

theorem cols_at (e : Fin 3072) : cols P (ix3 b s e) = P (ix3 b s e) * fac e := by
  have hs : ∀ e' : Fin 3072, e'.val = e.val → P (ix3 b s e') = P (ix3 b s e) := fun e' h => congrArg (fun e => P (ix3 b s e)) (Fin.ext h)
  have hq : isQ e → fac e = Ideal.ofBits FTy.f32 0x3E38AA3B#32 := fun h => if_pos h
  have hn : ¬ isQ e → fac e = 1 := fun h => if_neg h
  pointwise [cols, times0, times1536]
  by_cases h0 : e.val < 512
  · rw [dif_pos h0, hq (by omega)]
  rw [dif_neg h0]
  by_cases h1 : e.val - 512 < 512
  · rw [dif_pos h1, hn (by omega), mul_one, hs _ (by dsimp only; omega)]
  rw [dif_neg h1]
  by_cases h2 : e.val - 512 - 512 < 512
  · rw [dif_pos h2, hn (by omega), mul_one, hs _ (by dsimp only; omega)]
  rw [dif_neg h2]
  by_cases h3 : e.val - 512 - 512 - 512 < 512
  · rw [dif_pos h3, hq (by omega), hs _ (by dsimp only; omega)]
  rw [dif_neg h3]
  by_cases h4 : e.val - 512 - 512 - 512 - 512 < 512
  · rw [dif_pos h4, hn (by omega), mul_one, hs _ (by dsimp only; omega)]
  rw [dif_neg h4]
  rw [hn (by omega), mul_one, hs _ (by dsimp only; omega)]

theorem means_at (T : Fin 32) (i : Fin 2) (n : Fin 512) : means P (ix3 T i n)
    = Ideal.div (∑ r : Fin 256, P (ix3 ⟨T.val / 8, by omega⟩ ⟨256 * (2 * (T.val % 8) + i.val) + r.val, by omega⟩
      ⟨512 + n.val, by omega⟩)) (lit 0x43800000#32) := by
  have z : Ideal.ofBits FTy.f32 0x00000000#32 = 0 := Ideal.ofBits_zero_f32
  pointwise [means, lit]
  refine congrArg (fun z => Ideal.div z (Ideal.ofBits FTy.f32 0x43800000#32)) (Finset.sum_congr rfl fun r _ => ?_)
  exact congrArg (fun s => P (ix3 ⟨T.val / 8, by omega⟩ s ⟨512 + n.val, by omega⟩)) (Fin.ext (by dsimp only; omega))

theorem va_at (q : Fin 4) (g : Fin 2) (d : Fin 128) (k : Fin 2048) : va P (ix5 b q g d k)
    = P (ix3 b ⟨2048 * g.val + k.val, by omega⟩ ⟨1024 + 128 * q.val + d.val, by omega⟩) := by
  pointwise [va]
  exact congrArg₂ (fun s e => P (ix3 b s e)) (Fin.ext (by dsimp only; omega)) (Fin.ext (by dsimp only; omega))

theorem vb_at (q : Fin 4) (g : Fin 16) (d : Fin 128) (k : Fin 256) : vb P (ix5 b q g d k)
    = P (ix3 b ⟨256 * g.val + k.val, by omega⟩ ⟨2560 + 128 * q.val + d.val, by omega⟩) := by
  pointwise [vb]
  exact congrArg₂ (fun s e => P (ix3 b s e)) (Fin.ext (by dsimp only; omega)) (Fin.ext (by dsimp only; omega))

theorem classes_at (C : Vec Ideal S4x4096x3072 .bf16) (q : Fin 16) (j : Fin 256) (e : Fin 1536) : classes C (ix4 b q j e)
    = C (ix3 b ⟨16 * j.val + q.val, by omega⟩ ⟨1536 + e.val, by omega⟩) := by
  pointwise [classes]
  exact congrArg (fun s => C (ix3 b s ⟨1536 + e.val, by omega⟩)) (Fin.ext (by dsimp only; omega))

theorem flat_at (C : Vec Ideal S4x4096x3072 .bf16) (e : Fin 3072) :
    shapeCast S16384x3072 C shapeCasts_S4x4096x3072_S16384x3072 (ix2 ⟨4096 * b.val + s.val, by omega⟩ e) = C (ix3 b s e) := by
  pointwise

/-! ## The results -/

variable (m : (ℓ : Loc nD τ sig) → Buf (Elt Ideal) ℓ) (c : Dev nD)

/-- The arguments, by their entries. -/
def args : Args where
  x b s n := (m ((c.tc : Thread nD τ).loc main_arg0) : Vec Ideal S4x4096x1024 .f32) (ix3 b s n)
  mod b n := (m ((c.tc : Thread nD τ).loc main_arg1) : Vec Ideal S4x6144 .f32) (ix2 b n)
  g n := (m ((c.tc : Thread nD τ).loc main_arg2) : Vec Ideal S1024 .f32) (ix1 n)
  w k e := (m ((c.tc : Thread nD τ).loc main_arg3) : Vec Ideal S1024x3072 .f32) (ix2 k e)

/-- The projection of the arguments. -/
def projOf : Vec Ideal S4x4096x3072 .f32 :=
  proj (F := Ideal) (m ((c.tc : Thread nD τ).loc main_arg0)) (m ((c.tc : Thread nD τ).loc main_arg1))
    (m ((c.tc : Thread nD τ).loc main_arg2)) (m ((c.tc : Thread nD τ).loc main_arg3))

theorem projOf_at (e : Fin 3072) : projOf m c (ix3 b s e) = p (args m c) b s e :=
  (proj_at b s _ _ _ _ e).trans (Finset.sum_congr rfl fun k _ =>
    congrArg (· * (m ((c.tc : Thread nD τ).loc main_arg3) : Vec Ideal S1024x3072 .f32) (ix2 k e)) (input_at b s _ _ _ k))

theorem v50_eq : (res_main_v50 m c : Vec Ideal S16384x3072 .bf16)
    = shapeCast S16384x3072 (cols (projOf m c)) shapeCasts_S4x4096x3072_S16384x3072 := by
  unfold res_main_v50; rfl

theorem v58_eq : (res_main_v58 m c : Vec Ideal S4x16x256x1536 .bf16) = classes (cols (projOf m c)) := by
  unfold res_main_v58; rfl

theorem colOf_at (e : Fin 3072) : cols (projOf m c) (ix3 b s e) = col (args m c) b s e := by
  rw [cols_at, projOf_at, col]

theorem v50_at (R : Fin 16384) (e : Fin 3072) : (res_main_v50 m c : Vec Ideal S16384x3072 .bf16) (ix2 R e) = rowsE (args m c) R e := by
  have hR : R = ⟨4096 * (⟨R.val / 4096, by omega⟩ : Fin 4).val + (⟨R.val % 4096, by omega⟩ : Fin 4096).val, by dsimp only; omega⟩ :=
    Fin.ext (by dsimp only; omega)
  rw [v50_eq, rowsE]
  exact (congrArg (fun R => shapeCast S16384x3072 (cols (projOf m c)) shapeCasts_S4x4096x3072_S16384x3072 (ix2 R e)) hR).trans
    ((flat_at _ _ _ e).trans (colOf_at _ _ m c e))

theorem means_eq (T : Fin 32) (i : Fin 2) (n : Fin 512) : means (projOf m c) (ix3 T i n) = meansE (args m c) T i n := by
  rw [means_at, meansE, kmean]
  simp only [projOf_at]

theorem va_eq (b q : Fin 4) (g : Fin 2) (d : Fin 128) (k : Fin 2048) : va (projOf m c) (ix5 b q g d k) = vaE (args m c) b q g d k := by
  rw [va_at, projOf_at, vaE]

theorem vb_eq (b q : Fin 4) (g : Fin 16) (d : Fin 128) (k : Fin 256) : vb (projOf m c) (ix5 b q g d k) = vbE (args m c) b q g d k := by
  rw [vb_at, projOf_at, vbE]

theorem v58_at (b : Fin 4) (q : Fin 16) (j : Fin 256) (e : Fin 1536) :
    (res_main_v58 m c : Vec Ideal S4x16x256x1536 .bf16) (ix4 b q j e) = classE (args m c) b q j e := by
  rw [v58_eq, classes_at, colOf_at, classE]

end Cert.Reference3Ideal.Even
-- ==== Proof.EvenAlgebraic.lean ====
/-
  The even layers' projection kernel and its reference: their frames, and that both end with the same five arrays.
-/
module

public import proofs.«01_k».proof.Defs
public import proofs.«01_k».proof.Proof.EvenResult
public import proofs.«01_k».proof.Proof.EvenRef
public import proofs.«01_k».proof.Proof.Gen.Kernel3.Frame
public import proofs.«01_k».proof.Proof.Gen.Kernel3Ideal.Value
public import proofs.«01_k».proof.Proof.Gen.Kernel3
public import proofs.«01_k».proof.Proof.Gen.Kernel3Ideal
public import proofs.«01_k».proof.Proof.Gen.Reference3Ideal
public import Idealize.ShloMosaic.Lib.Quiescent

@[expose] public section

noncomputable section

namespace Cert.Proof

open Idealize.ShloMosaic Idealize.ShloMosaic.StableHlo Idealize.SL.Sem

instance factsKernel3 : Cert.Kernel3.Facts := Cert.Kernel3.Gen.facts
instance factsKernel3Ideal : Cert.Kernel3Ideal.Facts := Cert.Kernel3Ideal.Gen.facts
instance factsReference3Ideal : Cert.Reference3Ideal.Facts := Cert.Reference3Ideal.Gen.facts

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

/-- The reference has no counter at all. -/
theorem frame_reference3Ideal : Cert.quiescent_Reference3Ideal := fun m ρ _ =>
  (θ_run Cert.Reference3Ideal.defs _ _).mono
    (fun r h => ⟨fun c => (h c).2.2.2.2.2, Idealize.ShloMosaic.sem_eq_zero_of_no_sems (by decide) r.2⟩)
    (Cert.Reference3Ideal.Value.run m ρ)

/-- Equal arguments have equal entries. -/
theorem args3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) :
    Cert.Reference3Ideal.Even.args m' c = Cert.Kernel3Ideal.Even.args m c := by
  unfold Cert.Reference3Ideal.Even.args Cert.Kernel3Ideal.Even.args
  rw [h0, h1, h2, h3]

theorem algebraic3 : Cert.algebraic_Kernel3Ideal_Reference3Ideal := by
  intro m g m' g' _ hargs
  refine ⟨fun c => Cert.Kernel3Ideal.Even.RES4 m c, fun c => Cert.Kernel3Ideal.Even.RES5 m c, fun c => Cert.Kernel3Ideal.Even.RES6 m c,
    fun c => Cert.Kernel3Ideal.Even.RES7 m c, fun c => Cert.Kernel3Ideal.Even.RES8 m c, ?_, ?_⟩
  · refine (θ_run Cert.Kernel3Ideal.defs _ _).mono (fun _ e c => ?_) (Cert.Kernel3Ideal.Value.run_blocks m g)
    obtain ⟨h4, h5, h6, h7, h8, h⟩ := e c
    exact ⟨h4.trans (Cert.Kernel3Ideal.Even.final4 m c), h5.trans (Cert.Kernel3Ideal.Even.final5 m c),
      h6.trans (Cert.Kernel3Ideal.Even.final6 m c), h7.trans (Cert.Kernel3Ideal.Even.final7 m c),
      h8.trans (Cert.Kernel3Ideal.Even.final8 m c), h⟩
  · refine (θ_run Cert.Reference3Ideal.defs _ _).mono (fun _ e c => ?_) (Cert.Reference3Ideal.Value.run m' g')
    obtain ⟨a0, a1, a2, a3⟩ := hargs c
    have ha := args3_eq m m' c a0 a1 a2 a3
    obtain ⟨h4, h5, h6, h7, h8, h⟩ := e c
    refine ⟨h4.trans ?_, h5.trans ?_, h6.trans ?_, h7.trans ?_, h8.trans ?_, h⟩
    · funext i
      idx_vars i
      refine (Cert.Reference3Ideal.Even.v50_at m' c i0 i1).trans ?_
      rw [ha]; rfl
    · funext i
      idx_vars i
      refine (Cert.Reference3Ideal.Even.means_eq m' c i0 i1 i2).trans ?_
      rw [ha]; rfl
    · funext i
      idx_vars i
      refine (Cert.Reference3Ideal.Even.va_eq m' c i0 i1 i2 i3 i4).trans ?_
      rw [ha]; rfl
    · funext i
      idx_vars i
      refine (Cert.Reference3Ideal.Even.vb_eq m' c i0 i1 i2 i3 i4).trans ?_
      rw [ha]; rfl
    · funext i
      idx_vars i
      refine (Cert.Reference3Ideal.Even.v58_at m' c i0 i1 i2 i3).trans ?_
      rw [ha]; rfl

end Cert.Proof

end
-- ==== Proof.OddRow.lean ====
/-
  An odd layer's input projection, one row at a time, over extended reals: the normed and modulated row times the weights, its
  latent part normed and projected again, and the stick-breaking queries with their factor, which may stand on the weights.
-/
module

public import proofs.«01_k».proof.Proof.EvenRow

@[expose] public section

noncomputable section

namespace Cert.Proof.Odd

open Idealize.ShloMosaic
open Cert.Proof.Post (lit modded)

/-- The operands that the three results read. -/
structure Args where
  x : Fin 4 → Fin 4096 → Fin 1024 → EReal
  mod : Fin 4 → Fin 6144 → EReal
  g : Fin 1024 → EReal
  w : Fin 1024 → Fin 2080 → EReal
  gkv : Fin 256 → EReal
  ukv : Fin 256 → Fin 1024 → EReal

/-- The factor of the stick-breaking queries. -/
def scl : EReal := lit 0x3E000000#32

/-- It is a real number, not negative. -/
theorem scl_real : ∃ r : ℝ, 0 ≤ r ∧ scl = (r : EReal) := by
  have hn : BitVec.extractLsb' 31 1 0x3E000000#32 = 0#1 := by decide
  have he : (BitVec.extractLsb' 23 8 0x3E000000#32).toNat = 124 := by decide
  unfold scl lit Ideal.ofBits Ideal.ieee
  simp only [he, hn]
  norm_num

theorem scl_nonneg : 0 ≤ scl := by
  obtain ⟨r, h, e⟩ := scl_real
  rw [e]; exact_mod_cast h

theorem scl_ne_top : scl ≠ ⊤ := by
  obtain ⟨r, h, e⟩ := scl_real
  rw [e]; exact EReal.coe_ne_top r

/-- A column's factor among the stick-breaking queries and keys. -/
def fac (e : Fin 1024) : EReal := if e.val < 512 then scl else 1

theorem fac_nonneg (e : Fin 1024) : 0 ≤ fac e := by
  unfold fac; split
  · exact scl_nonneg
  · exact zero_le_one

theorem fac_ne_top (e : Fin 1024) : fac e ≠ ⊤ := by
  unfold fac; split
  · exact scl_ne_top
  · exact EReal.coe_ne_top 1

/-- A latent row normed, with its gain. -/
def latent (y g : Fin 256 → EReal) (n : Fin 256) : EReal :=
  y n * Ideal.rsqrt (Ideal.div (∑ k : Fin 256, y k * y k) (lit 0x43800000#32) + lit 0x358637BD#32) * g n

section
variable (A : Args) (b : Fin 4) (s : Fin 4096)

/-- The row normed and modulated. -/
def h (k : Fin 1024) : EReal :=
  modded (A.x b s) A.g (fun n => A.mod b ⟨1024 + n.val, by omega⟩) (fun n => A.mod b ⟨n.val, by omega⟩) k

/-- Its projection. -/
def p (e : Fin 2080) : EReal := ∑ k : Fin 1024, h A b s k * A.w k e

/-- The keys and values of the latent attention. -/
def kv (j : Fin 1024) : EReal :=
  ∑ n : Fin 256, latent (fun n => p A b s ⟨256 + n.val, by omega⟩) A.gkv n * A.ukv n j

/-- The stick-breaking queries, with their factor, and keys. -/
def qk (e : Fin 1024) : EReal := p A b s ⟨544 + e.val, by omega⟩ * fac e

/-- The factor may stand on the weights. -/
theorem qk_eq (e : Fin 1024) : ∑ k : Fin 1024, h A b s k * (A.w k ⟨544 + e.val, by omega⟩ * fac e) = qk A b s e := by
  rw [qk, p, ← Even.sum_mul_fac _ _ _ (fac_nonneg e) (fac_ne_top e)]
  exact Finset.sum_congr rfl fun k _ => (mul_assoc _ _ _).symm

end

/-! ## The results' entries -/

section
variable (A : Args)

/-- The latent attention's values, two heads' dimensions over a group's positions. -/
def vmE (b q : Fin 4) (g : Fin 2) (d : Fin 128) (k : Fin 2048) : EReal :=
  kv A b ⟨2048 * g.val + k.val, by omega⟩ ⟨128 * (2 * q.val + d.val / 64) + 64 + d.val % 64, by omega⟩

/-- The stick-breaking queries and keys, the sequences' rows one after another. -/
def qkE (R : Fin 16384) (e : Fin 1024) : EReal := qk A ⟨R.val / 4096, by omega⟩ ⟨R.val % 4096, by omega⟩ e

/-- The stick-breaking values. -/
def vsE (b q : Fin 4) (g : Fin 2) (d : Fin 128) (k : Fin 2048) : EReal :=
  p A b ⟨2048 * g.val + k.val, by omega⟩ ⟨1568 + 128 * q.val + d.val, by omega⟩

end

end Cert.Proof.Odd
-- ==== Proof.OddOut.lean ====
/-
  What one grid point of the odd layer's projection computes and leaves in its blocks of the three results, entry by entry.
-/
module

public import proofs.«01_k».proof.Proof.OddRow
public import proofs.«01_k».proof.Proof.Gen.Kernel4Ideal.Frame
public import proofs.«01_k».proof.Proof.Gen.Kernel4Ideal.Value
public import Idealize.ShloMosaic.Lib.Pointwise
public import Idealize.ShloMosaic.Lib.Pipeline.ValueKit.Basic

@[expose] public section
set_option maxRecDepth 16384
set_option maxHeartbeats 4000000

noncomputable section

namespace Cert.Kernel4Ideal.Odd

open Idealize.ShloMosaic Idealize.ShloMosaic.TcCoe
open Cert.Kernel4Ideal.Gen Cert.Proof.Odd
open Cert.Proof.Post (lit modded normed rms)

/-- A point's rows, normed and modulated, -/
def hRow (v0 : Vec Ideal S1x1x6144 .f32) (v2 : Vec Ideal S512x1024 .f32) (v4 : Vec Ideal S1x1024 .f32) (r : Fin 512) (k : Fin 1024) :
    EReal :=
  modded (fun k => v2 (ix2 r k)) (fun k => v4 (ix2 0 k)) (fun n => v0 (ix3 0 0 ⟨1024 + n.val, by omega⟩))
    (fun n => v0 (ix3 0 0 ⟨n.val, by omega⟩)) k

/-- and their projection; -/
theorem pay7_at (v0 : Vec Ideal S1x1x6144 .f32) (v2 : Vec Ideal S512x1024 .f32) (v4 : Vec Ideal S1x1024 .f32)
    (v27 : Vec Ideal S1024x2304 .bf16) (r : Fin 512) (e : Fin 2304) :
    k0_pay7 v0 v2 v4 v27 (ix2 r e) = ∑ k : Fin 1024, hRow v0 v2 v4 r k * v27 (ix2 k e) := by
  unfold hRow modded normed rms
  pointwise [k0_pay7]

/-- the latent rows, normed and projected. -/
theorem pay21_at (v31 : FVec Ideal S512x256 .f32) (v74 : Vec Ideal S1x256 .f32) (v89 : Vec Ideal S256x1536 .bf16)
    (r : Fin 512) (j : Fin 1536) : k0_pay21 v31 v74 v89 (ix2 r j)
    = ∑ n : Fin 256, latent (fun n => v31 (ix2 r n)) (fun n => v74 (ix2 0 n)) n * v89 (ix2 n j) := by
  unfold latent
  pointwise [k0_pay21]

variable (x0 : Vec Ideal S512x1024 .f32) (x1 : Vec Ideal S1x1x6144 .f32) (x2 : Vec Ideal S1x1024 .f32)
  (x3 : Vec Ideal S1024x2304 .bf16) (x4 x5 : Vec Ideal S1x256 .f32) (x6 : Vec Ideal S256x2048 .bf16)
  (x7 : Vec Ideal S256x1536 .bf16) (x8 x9 x10 x11 : Vec Ideal S512x128 .f32)

/-- The projection of a block's row, -/
def pB (r : Fin 512) (e : Fin 2304) : EReal := ∑ k : Fin 1024, hRow x1 x0 x2 r k * x3 (ix2 k e)

/-- and the second one of its latent part. -/
def kvB (r : Fin 512) (j : Fin 1536) : EReal :=
  ∑ n : Fin 256, latent (fun n => pB x0 x1 x2 x3 r ⟨256 + n.val, by omega⟩) (fun n => x5 (ix2 0 n)) n * x7 (ix2 n j)

theorem ldMod : View.ld x1 r0_0 = x1 := View.ld_unit_lit (S := S1x1x6144) _ x1 (by decide)
theorem ldRows : View.ld x0 r0_1 = x0 := View.ld_unit_lit (S := S512x1024) _ x0 (by decide)
theorem ldGain : View.ld x2 r0_2 = x2 := View.ld_unit_lit (S := S1x1024) _ x2 (by decide)
theorem ldW : View.ld x3 r0_3 = x3 := View.ld_unit_lit (S := S1024x2304) _ x3 (by decide)
theorem ldGkv : View.ld x5 r0_8 = x5 := View.ld_unit_lit (S := S1x256) _ x5 (by decide)
theorem ldWkv : View.ld x7 r0_10 = x7 := View.ld_unit_lit (S := S256x1536) _ x7 (by decide)

theorem latent_at (r : Fin 512) (n : Fin 256) :
    extractStridedSlice S512x256 ![0, 256] (k0_pay7 x1 x0 x2 x3) slices_S512x2304_o0_256_S512x256 (ix2 r n)
      = pB x0 x1 x2 x3 r ⟨256 + n.val, by omega⟩ := by
  refine Eq.trans (congrArg (k0_pay7 x1 x0 x2 x3) (?_ : _ = ix2 r ⟨256 + n.val, by omega⟩)) (pay7_at ..)
  funext a; apply Fin.ext
  match a with
  | ⟨0, _⟩ => show 0 + r.val = r.val; omega
  | ⟨1, _⟩ => rfl

/-- The latent attention's values, transposed; -/
theorem out14_at (q : Fin 4) (d : Fin 128) (k : Fin 512) :
    out0_14 x0 x1 x2 x3 x4 x5 x6 x7 x8 x9 x10 x11 (ix5 0 q 0 d k)
      = kvB x0 x1 x2 x3 x5 x7 k ⟨1024 + 128 * q.val + d.val, by omega⟩ := by
  unfold out0_14 k0_pay48 k0_pay44
  rw [ldMod, ldRows, ldGain, ldW, ldGkv, ldWkv]
  refine (Value.canon14_eq _ _ _ _ _ _ _).trans (Eq.trans (congrArg (k0_pay21 _ x5 x7) (?_ :
    Value.ix14_0 (ix5 0 q 0 d k) = ix2 k ⟨1024 + 128 * q.val + d.val, by omega⟩)) ?_)
  · funext a; apply Fin.ext
    match a with
    | ⟨0, _⟩ => rfl
    | ⟨1, _⟩ => show q.val * 128 + d.val + 1024 = 1024 + 128 * q.val + d.val; omega
  · refine (pay21_at ..).trans ?_
    unfold kvB
    rw [show (fun n : Fin 256 => extractStridedSlice S512x256 ![0, 256] (k0_pay7 x1 x0 x2 x3) slices_S512x2304_o0_256_S512x256
      (ix2 k n)) = fun n : Fin 256 => pB x0 x1 x2 x3 k ⟨256 + n.val, by omega⟩ from funext fun n => latent_at x0 x1 x2 x3 k n]

/-- the stick-breaking queries and keys; -/
theorem out15_at (r : Fin 512) (e : Fin 1024) :
    out0_15 x0 x1 x2 x3 x4 x5 x6 x7 x8 x9 x10 x11 (ix2 r e) = pB x0 x1 x2 x3 r ⟨768 + e.val, by omega⟩ := by
  unfold out0_15
  rw [ldMod, ldRows, ldGain, ldW]
  refine (Value.canon15_eq _ _ _ _ _).trans (Eq.trans (congrArg (k0_pay7 x1 x0 x2 x3) (?_ :
    Value.ix15_0 (ix2 r e) = ix2 r ⟨768 + e.val, by omega⟩)) (pay7_at ..))
  funext a; apply Fin.ext
  match a with
  | ⟨0, _⟩ => rfl
  | ⟨1, _⟩ => show e.val + 768 = 768 + e.val; omega

/-- the stick-breaking values, transposed. -/
theorem out16_at (q : Fin 4) (d : Fin 128) (k : Fin 512) :
    out0_16 x0 x1 x2 x3 x4 x5 x6 x7 x8 x9 x10 x11 (ix5 0 q 0 d k)
      = pB x0 x1 x2 x3 k ⟨1792 + 128 * q.val + d.val, by omega⟩ := by
  unfold out0_16 k0_pay45
  rw [ldMod, ldRows, ldGain, ldW]
  refine (Value.canon16_eq _ _ _ _ _).trans (Eq.trans (congrArg (k0_pay7 x1 x0 x2 x3) (?_ :
    Value.ix16_0 (ix5 0 q 0 d k) = ix2 k ⟨1792 + 128 * q.val + d.val, by omega⟩)) (pay7_at ..))
  funext a; apply Fin.ext
  match a with
  | ⟨0, _⟩ => rfl
  | ⟨1, _⟩ => show q.val * 128 + d.val + 1792 = 1792 + 128 * q.val + d.val; omega

end Cert.Kernel4Ideal.Odd
-- ==== Proof.OddHost.lean ====
/-
  The operands of the odd layer's projection as functions of its arguments, entry by entry. The columns of the padded rotary
  part, which the three results do not read, are left as they are.
-/
module

public import proofs.«01_k».proof.Proof.OddRow
public import proofs.«01_k».proof.Proof.Gen.Kernel4Ideal.Frame
public import Idealize.ShloMosaic.Lib.Pointwise
public import Idealize.ShloMosaic.Lib.StableHlo.Run

@[expose] public section
set_option maxRecDepth 16384
set_option maxHeartbeats 4000000

noncomputable section

namespace Cert.Kernel4Ideal.Odd

open Idealize.ShloMosaic Idealize.ShloMosaic.TcCoe Idealize.ShloMosaic.StableHlo
open Cert.Kernel4Ideal.Gen Cert.Proof.Odd

/-! ## The operands -/

section
variable {F : FTy → Type} [FloatOps F]

/-- The projection's columns laid out: the latent ones, two rotary parts, the stick-breaking queries with their factor, the keys
and values. -/
def weights (r0 r1 : FVec F S1024x128 .f32) (w : FVec F S1024x2080 .f32) : FVec F S1024x2304 .bf16 :=
  truncf .bf16 (concatenate S1024x2304 1 [⟨S1024x512, extractStridedSlice S1024x512 ![0, 0] w slices_S1024x2080_S1024x512_0_0⟩,
    ⟨S1024x128, r0⟩, ⟨S1024x128, r1⟩,
    ⟨S1024x512, mulf (extractStridedSlice S1024x512 ![0, 544] w slices_S1024x2080_S1024x512_0_544)
      (broadcastInDim S1024x512 ![] bcast_S_S1024x512 (constant S_ .f32 0x3E000000#32))⟩,
    ⟨S1024x1024, extractStridedSlice S1024x1024 ![0, 1056] w slices_S1024x2080_S1024x1024_0_1056⟩]
    concatenates_S1024x512_S1024x128_S1024x128_S1024x512_S1024x1024_S1024x2304_d1) bitsLt_bf16_f32

/-- The second projection's columns laid out: the keys' first, then the values'. -/
def latents (r : FVec F S256x1024 .f32) (w : FVec F S256x1024 .f32) : FVec F S256x1536 .bf16 :=
  truncf .bf16 (concatenate S256x1536 1 [⟨S256x1024, r⟩, ⟨S256x512, shapeCast S256x512 (extractStridedSlice S256x8x64 ![0, 0, 64]
    (shapeCast S256x8x128 w shapeCasts_S256x1024_S256x8x128) slices_S256x8x128_S256x8x64_0_0_64) shapeCasts_S256x8x64_S256x512⟩]
    concatenates_S256x1024_S256x512_S256x1536_d1) bitsLt_bf16_f32

variable (m : (ℓ : Loc nD τ sig) → Buf (Elt F) ℓ) (c : Dev nD)

theorem V_x : V m c main_v34 = shapeCast S16384x1024 (m ((c : Thread nD τ).loc main_arg0) : FVec F S4x4096x1024 .f32) shapeCasts_S4x4096x1024_S16384x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.binary, TRef.unary,
    TRef.ternary, TRef.toBuf, TRef.ofBuf, cast_eq]
  after_results_simp <;> rfl

theorem V_mod : V m c main_v35 = shapeCast S4x1x6144 (m ((c : Thread nD τ).loc main_arg1) : FVec F S4x6144 .f32) shapeCasts_S4x6144_S4x1x6144 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.binary, TRef.unary,
    TRef.ternary, TRef.toBuf, TRef.ofBuf, cast_eq]
  after_results_simp <;> rfl

theorem V_g : V m c main_v36 = shapeCast S1x1024 (m ((c : Thread nD τ).loc main_arg2) : FVec F S1024 .f32) shapeCasts_S1024_S1x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.binary, TRef.unary,
    TRef.ternary, TRef.toBuf, TRef.ofBuf, cast_eq]
  after_results_simp <;> rfl

theorem V_gkv : V m c main_v38 = shapeCast S1x256 (m ((c : Thread nD τ).loc main_arg5) : FVec F S256 .f32) shapeCasts_S256_S1x256 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.binary, TRef.unary,
    TRef.ternary, TRef.toBuf, TRef.ofBuf, cast_eq]
  after_results_simp <;> rfl

theorem V_w : V m c main_v13 = weights (V m c main_v2) (V m c main_v7) (m ((c : Thread nD τ).loc main_arg3)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.binary, TRef.unary,
    TRef.ternary, TRef.toBuf, TRef.ofBuf, cast_eq]
  after_results_simp
  try dsimp only [Matrix.cons_val]
  try after_results_simp
  all_goals rfl

theorem V_wkv : V m c main_v33 = latents (V m c main_v30) (m ((c : Thread nD τ).loc main_arg7)) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16,
    List.flatten_cons, List.flatten_nil, List.append_nil, List.cons_append, List.nil_append, TRef.binary, TRef.unary,
    TRef.ternary, TRef.toBuf, TRef.ofBuf, cast_eq]
  after_results_simp
  all_goals rfl

end

/-! ## Their entries -/

theorem weights_latent (r0 r1 : FVec Ideal S1024x128 .f32) (w : FVec Ideal S1024x2080 .f32) (k : Fin 1024) (n : Fin 256) :
    weights r0 r1 w (ix2 k ⟨256 + n.val, by omega⟩) = w (ix2 k ⟨256 + n.val, by omega⟩) := by
  unfold weights
  pointwise
  rw [dif_pos (show 256 + n.val < 512 by omega)]

theorem weights_q (r0 r1 : FVec Ideal S1024x128 .f32) (w : FVec Ideal S1024x2080 .f32) (k : Fin 1024) (e : Fin 512) :
    weights r0 r1 w (ix2 k ⟨768 + e.val, by omega⟩) = w (ix2 k ⟨544 + e.val, by omega⟩) * scl := by
  unfold weights
  pointwise
  rw [dif_neg (show ¬ (768 + e.val < 512) by omega), dif_neg (show ¬ (768 + e.val - 512 < 128) by omega),
    dif_neg (show ¬ (768 + e.val - 512 - 128 < 128) by omega), dif_pos (show 768 + e.val - 512 - 128 - 128 < 512 by omega)]
  exact congrArg (fun z => w (ix2 k z) * scl) (Fin.ext (by dsimp only; omega))

theorem weights_kv (r0 r1 : FVec Ideal S1024x128 .f32) (w : FVec Ideal S1024x2080 .f32) (k : Fin 1024) (e : Fin 1024) :
    weights r0 r1 w (ix2 k ⟨1280 + e.val, by omega⟩) = w (ix2 k ⟨1056 + e.val, by omega⟩) := by
  unfold weights
  pointwise
  rw [dif_neg (show ¬ (1280 + e.val < 512) by omega), dif_neg (show ¬ (1280 + e.val - 512 < 128) by omega),
    dif_neg (show ¬ (1280 + e.val - 512 - 128 < 128) by omega), dif_neg (show ¬ (1280 + e.val - 512 - 128 - 128 < 512) by omega)]
  exact congrArg (fun z => w (ix2 k z)) (Fin.ext (by dsimp only; omega))

theorem heads_lit (w : FVec Ideal S256x1024 .f32) (n : Fin 256) (h : Fin 8) (d : Fin 64) :
    shapeCast S256x512 (extractStridedSlice S256x8x64 ![0, 0, 64] (shapeCast S256x8x128 w shapeCasts_S256x1024_S256x8x128)
      slices_S256x8x128_S256x8x64_0_0_64) shapeCasts_S256x8x64_S256x512 (ix2 n ⟨64 * h.val + d.val, by omega⟩)
      = w (ix2 n ⟨128 * h.val + 64 + d.val, by omega⟩) := by
  pointwise
  exact congrArg (fun z => w (ix2 n z)) (Fin.ext (by dsimp only; omega))

theorem latents_tail (r w : FVec Ideal S256x1024 .f32) (n : Fin 256) (e : Fin 512) :
    latents r w (ix2 n ⟨1024 + e.val, by omega⟩) = shapeCast S256x512 (extractStridedSlice S256x8x64 ![0, 0, 64]
      (shapeCast S256x8x128 w shapeCasts_S256x1024_S256x8x128) slices_S256x8x128_S256x8x64_0_0_64) shapeCasts_S256x8x64_S256x512
      (ix2 n e) := by
  unfold latents
  generalize shapeCast S256x512 _ _ = z
  pointwise

end Cert.Kernel4Ideal.Odd
-- ==== Proof.OddBlocks.lean ====
/-
  Where each grid point's blocks of the odd layer's projection lie, and what they hold: point `t` takes 512 rows of sequence `t / 8`.
-/
module

public import proofs.«01_k».proof.Proof.OddOut
public import proofs.«01_k».proof.Proof.OddHost

@[expose] public section

noncomputable section

namespace Cert.Kernel4Ideal.Odd

open Idealize.ShloMosaic Idealize.ShloMosaic.TcCoe Idealize.ShloMosaic.StableHlo
open Cert.Kernel4Ideal.Gen Cert.Proof.Odd

theorem rows1024_lit (x : FVec Ideal S4x4096x1024 .f32) (b : Fin 4) (s : Fin 4096) (j : Fin 1024) :
    shapeCast S16384x1024 x shapeCasts_S4x4096x1024_S16384x1024 (ix2 ⟨4096 * b.val + s.val, by omega⟩ j) = x (ix3 b s j) := by
  pointwise

theorem rows1024_at (x : FVec Ideal S4x4096x1024 .f32) (b : Fin 4) (s : Fin 4096) (j : Fin 1024) (R : Fin 16384)
    (hR : R.val = 4096 * b.val + s.val) :
    shapeCast S16384x1024 x shapeCasts_S4x4096x1024_S16384x1024 (ix2 R j) = x (ix3 b s j) :=
  (congrArg (fun R => shapeCast S16384x1024 x shapeCasts_S4x4096x1024_S16384x1024 (ix2 R j)) (Fin.ext hR)).trans
    (rows1024_lit x b s j)

theorem mods_at (x : FVec Ideal S4x6144 .f32) (b : Fin 4) (j : Fin 6144) :
    shapeCast S4x1x6144 x shapeCasts_S4x6144_S4x1x6144 (ix3 b 0 j) = x (ix2 b j) := by
  pointwise

theorem gain_at (x : FVec Ideal S1024 .f32) (j : Fin 1024) :
    shapeCast S1x1024 x shapeCasts_S1024_S1x1024 (ix2 0 j) = x (ix1 j) := by
  pointwise

theorem gain256_at (x : FVec Ideal S256 .f32) (j : Fin 256) :
    shapeCast S1x256 x shapeCasts_S256_S1x256 (ix2 0 j) = x (ix1 j) := by
  pointwise

/-! ## The blocks -/

variable (m : (ℓ : Loc nD τ sig) → Buf (Elt Ideal) ℓ) (c : Dev nD) (t : Fin cfg0.N)

/-- A grid point's number. -/
def num (t : Fin cfg0.N) : Fin 32 := grid0.coords t 0
/-- Its sequence. -/
def seqOf (t : Fin cfg0.N) : Fin 4 := ⟨(num t).val / 8, by omega⟩
/-- Row `r` of its block. -/
def rowOf (t : Fin cfg0.N) (r : Fin 512) : Fin 4096 := ⟨512 * ((num t).val % 8) + r.val, by omega⟩
/-- The rows' place among all sequences' rows. -/
def at512 (t : Fin cfg0.N) (r : Fin 512) : Fin 16384 := ⟨512 * (num t).val + r.val, by omega⟩

theorem idx0 : ∀ t : Fin cfg0.N, win0_0.index t (0 : Fin 2) = (grid0.coords t 0).val ∧ win0_0.index t (1 : Fin 2) = 0 :=
  (by decide +kernel : ∀ t : Fin grid0.N, _)
theorem idx1 : ∀ t : Fin cfg0.N, win0_1.index t (0 : Fin 3) = (grid0.coords t 0).val / 8 ∧ win0_1.index t (1 : Fin 3) = 0 ∧ win0_1.index t (2 : Fin 3) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx14 : ∀ t : Fin cfg0.N, win0_14.index t (0 : Fin 5) = (grid0.coords t 0).val / 8 ∧ win0_14.index t (1 : Fin 5) = 0 ∧ win0_14.index t (2 : Fin 5) = (grid0.coords t 0).val % 8 / 4 ∧ win0_14.index t (3 : Fin 5) = 0 ∧ win0_14.index t (4 : Fin 5) = (grid0.coords t 0).val % 4 :=
  (by decide +kernel : ∀ t : Fin grid0.N, _)
theorem idx15 : ∀ t : Fin cfg0.N, win0_15.index t (0 : Fin 2) = (grid0.coords t 0).val ∧ win0_15.index t (1 : Fin 2) = 0 :=
  (by decide +kernel : ∀ t : Fin grid0.N, _)
theorem idx16 : ∀ t : Fin cfg0.N, win0_16.index t (0 : Fin 5) = (grid0.coords t 0).val / 8 ∧ win0_16.index t (1 : Fin 5) = 0 ∧ win0_16.index t (2 : Fin 5) = (grid0.coords t 0).val % 8 / 4 ∧ win0_16.index t (3 : Fin 5) = 0 ∧ win0_16.index t (4 : Fin 5) = (grid0.coords t 0).val % 4 :=
  (by decide +kernel : ∀ t : Fin grid0.N, _)

theorem emb0 (r : Fin 512) (j : Fin 1024) : ((cfg0.win 0).blk t).view.emb (ix2 r j) = ix2 (at512 t r) j := by
  obtain ⟨e0, e1⟩ := idx0 t
  funext a; apply Fin.ext
  match a with
  | ⟨0, _⟩ => show win0_0.index t (0 : Fin 2) * 512 + 1 * r.val = 512 * (grid0.coords t 0).val + r.val; omega
  | ⟨1, _⟩ => show win0_0.index t (1 : Fin 2) * 1024 + 1 * j.val = j.val; omega

theorem emb1 (j : Fin 6144) : ((cfg0.win 1).blk t).view.emb (ix3 0 0 j) = ix3 (seqOf t) 0 j := by
  obtain ⟨e0, e1, e2⟩ := idx1 t
  funext a; apply Fin.ext
  match a with
  | ⟨0, _⟩ => show win0_1.index t (0 : Fin 3) * 1 + 1 * 0 = (grid0.coords t 0).val / 8; omega
  | ⟨1, _⟩ => show win0_1.index t (1 : Fin 3) * 1 + 1 * 0 = 0; omega
  | ⟨2, _⟩ => show win0_1.index t (2 : Fin 3) * 6144 + 1 * j.val = j.val; omega

theorem emb2 (j : Fin 1024) : ((cfg0.win 2).blk t).view.emb (ix2 0 j) = ix2 0 j := by
  obtain ⟨e0, e1⟩ := idx2 t
  funext a; apply Fin.ext
  match a with
  | ⟨0, _⟩ => show win0_2.index t (0 : Fin 2) * 1 + 1 * 0 = 0; omega
  | ⟨1, _⟩ => show win0_2.index t (1 : Fin 2) * 1024 + 1 * j.val = j.val; omega

theorem emb3 (k : Fin 1024) (e : Fin 2304) : ((cfg0.win 3).blk t).view.emb (ix2 k e) = ix2 k e := by
  obtain ⟨e0, e1⟩ := idx3 t
  funext a; apply Fin.ext
  match a with
  | ⟨0, _⟩ => show win0_3.index t (0 : Fin 2) * 1024 + 1 * k.val = k.val; omega
  | ⟨1, _⟩ => show win0_3.index t (1 : Fin 2) * 2304 + 1 * e.val = e.val; omega

theorem emb5 (j : Fin 256) : ((cfg0.win 5).blk t).view.emb (ix2 0 j) = ix2 0 j := by
  obtain ⟨e0, e1⟩ := idx5 t
  funext a; apply Fin.ext
  match a with
  | ⟨0, _⟩ => show win0_5.index t (0 : Fin 2) * 1 + 1 * 0 = 0; omega
  | ⟨1, _⟩ => show win0_5.index t (1 : Fin 2) * 256 + 1 * j.val = j.val; omega

theorem emb7 (k : Fin 256) (e : Fin 1536) : ((cfg0.win 7).blk t).view.emb (ix2 k e) = ix2 k e := by
  obtain ⟨e0, e1⟩ := idx7 t
  funext a; apply Fin.ext
  match a with
  | ⟨0, _⟩ => show win0_7.index t (0 : Fin 2) * 256 + 1 * k.val = k.val; omega
  | ⟨1, _⟩ => show win0_7.index t (1 : Fin 2) * 1536 + 1 * e.val = e.val; omega

theorem emb14 (q : Fin 4) (d : Fin 128) (k : Fin 512) : ((cfg0.win 14).blk t).view.emb (ix5 0 q 0 d k) = ix5 (seqOf t) q ⟨(num t).val % 8 / 4, by omega⟩ d ⟨512 * ((num t).val % 4) + k.val, by omega⟩ := by
  obtain ⟨e0, e1, e2, e3, e4⟩ := idx14 t
  funext a; apply Fin.ext
  match a with
  | ⟨0, _⟩ => show win0_14.index t (0 : Fin 5) * 1 + 1 * 0 = (grid0.coords t 0).val / 8; omega
  | ⟨1, _⟩ => show win0_14.index t (1 : Fin 5) * 4 + 1 * q.val = q.val; omega
  | ⟨2, _⟩ => show win0_14.index t (2 : Fin 5) * 1 + 1 * 0 = (grid0.coords t 0).val % 8 / 4; omega
  | ⟨3, _⟩ => show win0_14.index t (3 : Fin 5) * 128 + 1 * d.val = d.val; omega
  | ⟨4, _⟩ => show win0_14.index t (4 : Fin 5) * 512 + 1 * k.val = 512 * ((grid0.coords t 0).val % 4) + k.val; omega

theorem emb15 (r : Fin 512) (e : Fin 1024) : ((cfg0.win 15).blk t).view.emb (ix2 r e) = ix2 (at512 t r) e := by
  obtain ⟨e0, e1⟩ := idx15 t
  funext a; apply Fin.ext
  match a with
  | ⟨0, _⟩ => show win0_15.index t (0 : Fin 2) * 512 + 1 * r.val = 512 * (grid0.coords t 0).val + r.val; omega
  | ⟨1, _⟩ => show win0_15.index t (1 : Fin 2) * 1024 + 1 * e.val = e.val; omega

theorem emb16 (q : Fin 4) (d : Fin 128) (k : Fin 512) : ((cfg0.win 16).blk t).view.emb (ix5 0 q 0 d k) = ix5 (seqOf t) q ⟨(num t).val % 8 / 4, by omega⟩ d ⟨512 * ((num t).val % 4) + k.val, by omega⟩ := by
  obtain ⟨e0, e1, e2, e3, e4⟩ := idx16 t
  funext a; apply Fin.ext
  match a with
  | ⟨0, _⟩ => show win0_16.index t (0 : Fin 5) * 1 + 1 * 0 = (grid0.coords t 0).val / 8; omega
  | ⟨1, _⟩ => show win0_16.index t (1 : Fin 5) * 4 + 1 * q.val = q.val; omega
  | ⟨2, _⟩ => show win0_16.index t (2 : Fin 5) * 1 + 1 * 0 = (grid0.coords t 0).val % 8 / 4; omega
  | ⟨3, _⟩ => show win0_16.index t (3 : Fin 5) * 128 + 1 * d.val = d.val; omega
  | ⟨4, _⟩ => show win0_16.index t (4 : Fin 5) * 512 + 1 * k.val = 512 * ((grid0.coords t 0).val % 4) + k.val; omega

theorem read0 (X : Vec Ideal S16384x1024 .f32) (r : Fin 512) (j : Fin 1024) :
    ((cfg0.win 0).blk t).view.read (Elt Ideal) X (ix2 r j) = X (ix2 (at512 t r) j) := congrArg X (emb0 t r j)

theorem read1 (X : Vec Ideal S4x1x6144 .f32) (j : Fin 6144) :
    ((cfg0.win 1).blk t).view.read (Elt Ideal) X (ix3 0 0 j) = X (ix3 (seqOf t) 0 j) := congrArg X (emb1 t j)

theorem read2 (X : Vec Ideal S1x1024 .f32) (j : Fin 1024) :
    ((cfg0.win 2).blk t).view.read (Elt Ideal) X (ix2 0 j) = X (ix2 0 j) := congrArg X (emb2 t j)

theorem read3 (X : Vec Ideal S1024x2304 .bf16) (k : Fin 1024) (e : Fin 2304) :
    ((cfg0.win 3).blk t).view.read (Elt Ideal) X (ix2 k e) = X (ix2 k e) := congrArg X (emb3 t k e)

theorem read5 (X : Vec Ideal S1x256 .f32) (j : Fin 256) :
    ((cfg0.win 5).blk t).view.read (Elt Ideal) X (ix2 0 j) = X (ix2 0 j) := congrArg X (emb5 t j)

theorem read7 (X : Vec Ideal S256x1536 .bf16) (k : Fin 256) (e : Fin 1536) :
    ((cfg0.win 7).blk t).view.read (Elt Ideal) X (ix2 k e) = X (ix2 k e) := congrArg X (emb7 t k e)

theorem read14 (X : Vec Ideal S4x4x2x128x2048 .bf16) (q : Fin 4) (d : Fin 128) (k : Fin 512) :
    ((cfg0.win 14).blk t).view.read (Elt Ideal) X (ix5 0 q 0 d k) = X (ix5 (seqOf t) q ⟨(num t).val % 8 / 4, by omega⟩ d ⟨512 * ((num t).val % 4) + k.val, by omega⟩) := congrArg X (emb14 t q d k)

theorem read15 (X : Vec Ideal S16384x1024 .bf16) (r : Fin 512) (e : Fin 1024) :
    ((cfg0.win 15).blk t).view.read (Elt Ideal) X (ix2 r e) = X (ix2 (at512 t r) e) := congrArg X (emb15 t r e)

theorem read16 (X : Vec Ideal S4x4x2x128x2048 .bf16) (q : Fin 4) (d : Fin 128) (k : Fin 512) :
    ((cfg0.win 16).blk t).view.read (Elt Ideal) X (ix5 0 q 0 d k) = X (ix5 (seqOf t) q ⟨(num t).val % 8 / 4, by omega⟩ d ⟨512 * ((num t).val % 4) + k.val, by omega⟩) := congrArg X (emb16 t q d k)

/-- The arguments, by their entries. -/
def args : Args where
  x b s n := (m ((c : Thread nD τ).loc main_arg0) : Vec Ideal S4x4096x1024 .f32) (ix3 b s n)
  mod b n := (m ((c : Thread nD τ).loc main_arg1) : Vec Ideal S4x6144 .f32) (ix2 b n)
  g n := (m ((c : Thread nD τ).loc main_arg2) : Vec Ideal S1024 .f32) (ix1 n)
  w k e := (m ((c : Thread nD τ).loc main_arg3) : Vec Ideal S1024x2080 .f32) (ix2 k e)
  gkv n := (m ((c : Thread nD τ).loc main_arg5) : Vec Ideal S256 .f32) (ix1 n)
  ukv n j := (m ((c : Thread nD τ).loc main_arg7) : Vec Ideal S256x1024 .f32) (ix2 n j)

/-- The blocks a grid point reads. -/
abbrev bx : Vec Ideal S512x1024 .f32 := iblk m c 0 t
abbrev bm : Vec Ideal S1x1x6144 .f32 := iblk m c 1 t
abbrev bg : Vec Ideal S1x1024 .f32 := iblk m c 2 t
abbrev bw : Vec Ideal S1024x2304 .bf16 := iblk m c 3 t
abbrev bgk : Vec Ideal S1x256 .f32 := iblk m c 5 t
abbrev bwk : Vec Ideal S256x1536 .bf16 := iblk m c 7 t

theorem bx_eq : bx m c t = ((cfg0.win 0).blk t).view.read (Elt Ideal) (shapeCast S16384x1024 (m ((c : Thread nD τ).loc main_arg0) : FVec Ideal S4x4096x1024 .f32) shapeCasts_S4x4096x1024_S16384x1024 : Vec Ideal S16384x1024 .f32) :=
  congrArg (((cfg0.win 0).blk t).view.read (Elt Ideal)) (V_x m c)
theorem bx_at (r : Fin 512) (j : Fin 1024) : bx m c t (ix2 r j) = (args m c).x (seqOf t) (rowOf t r) j :=
  (congrFun (bx_eq m c t) _).trans ((read0 t _ r j).trans (rows1024_at _ (seqOf t) (rowOf t r) j _ (by
    show 512 * (num t).val + r.val = 4096 * ((num t).val / 8) + (512 * ((num t).val % 8) + r.val); omega)))

theorem bm_eq : bm m c t = ((cfg0.win 1).blk t).view.read (Elt Ideal) (shapeCast S4x1x6144 (m ((c : Thread nD τ).loc main_arg1) : FVec Ideal S4x6144 .f32) shapeCasts_S4x6144_S4x1x6144 : Vec Ideal S4x1x6144 .f32) :=
  congrArg (((cfg0.win 1).blk t).view.read (Elt Ideal)) (V_mod m c)
theorem bm_at (j : Fin 6144) : bm m c t (ix3 0 0 j) = (args m c).mod (seqOf t) j :=
  (congrFun (bm_eq m c t) _).trans ((read1 t _ j).trans (mods_at _ (seqOf t) j))

theorem bg_eq : bg m c t = ((cfg0.win 2).blk t).view.read (Elt Ideal) (shapeCast S1x1024 (m ((c : Thread nD τ).loc main_arg2) : FVec Ideal S1024 .f32) shapeCasts_S1024_S1x1024 : Vec Ideal S1x1024 .f32) :=
  congrArg (((cfg0.win 2).blk t).view.read (Elt Ideal)) (V_g m c)
theorem bg_at (j : Fin 1024) : bg m c t (ix2 0 j) = (args m c).g j :=
  (congrFun (bg_eq m c t) _).trans ((read2 t _ j).trans (gain_at _ j))

theorem bw_eq : bw m c t = ((cfg0.win 3).blk t).view.read (Elt Ideal) (weights (F := Ideal) (V m c main_v2) (V m c main_v7) (m ((c : Thread nD τ).loc main_arg3)) : Vec Ideal S1024x2304 .bf16) :=
  congrArg (((cfg0.win 3).blk t).view.read (Elt Ideal)) (V_w m c)
theorem bw_latent (k : Fin 1024) (n : Fin 256) : bw m c t (ix2 k ⟨256 + n.val, by omega⟩) = (args m c).w k ⟨256 + n.val, by omega⟩ :=
  (congrFun (bw_eq m c t) _).trans ((read3 t _ k _).trans (weights_latent _ _ _ k n))
theorem bw_q (k : Fin 1024) (e : Fin 512) : bw m c t (ix2 k ⟨768 + e.val, by omega⟩) = (args m c).w k ⟨544 + e.val, by omega⟩ * scl :=
  (congrFun (bw_eq m c t) _).trans ((read3 t _ k _).trans (weights_q _ _ _ k e))
theorem bw_kv (k : Fin 1024) (e : Fin 1024) : bw m c t (ix2 k ⟨1280 + e.val, by omega⟩) = (args m c).w k ⟨1056 + e.val, by omega⟩ :=
  (congrFun (bw_eq m c t) _).trans ((read3 t _ k _).trans (weights_kv _ _ _ k e))

/-- The stick-breaking queries' and keys' columns. -/
theorem bw_qk (k : Fin 1024) (e : Fin 1024) : bw m c t (ix2 k ⟨768 + e.val, by omega⟩) = (args m c).w k ⟨544 + e.val, by omega⟩ * fac e := by
  by_cases h : e.val < 512
  · rw [show fac e = scl from if_pos h]
    exact bw_q m c t k ⟨e.val, h⟩
  · rw [show fac e = 1 from if_neg h, mul_one]
    have e1 : (⟨768 + e.val, by omega⟩ : Fin 2304) = ⟨1280 + (e.val - 512), by omega⟩ := Fin.ext (by dsimp only; omega)
    have e2 : (⟨544 + e.val, by omega⟩ : Fin 2080) = ⟨1056 + (e.val - 512), by omega⟩ := Fin.ext (by dsimp only; omega)
    rw [e1, e2]
    exact bw_kv m c t k ⟨e.val - 512, by omega⟩

theorem bgk_eq : bgk m c t = ((cfg0.win 5).blk t).view.read (Elt Ideal) (shapeCast S1x256 (m ((c : Thread nD τ).loc main_arg5) : FVec Ideal S256 .f32) shapeCasts_S256_S1x256 : Vec Ideal S1x256 .f32) :=
  congrArg (((cfg0.win 5).blk t).view.read (Elt Ideal)) (V_gkv m c)
theorem bgk_at (j : Fin 256) : bgk m c t (ix2 0 j) = (args m c).gkv j :=
  (congrFun (bgk_eq m c t) _).trans ((read5 t _ j).trans (gain256_at _ j))

theorem bwk_eq : bwk m c t = ((cfg0.win 7).blk t).view.read (Elt Ideal) (latents (F := Ideal) (V m c main_v30) (m ((c : Thread nD τ).loc main_arg7)) : Vec Ideal S256x1536 .bf16) :=
  congrArg (((cfg0.win 7).blk t).view.read (Elt Ideal)) (V_wkv m c)
theorem bwk_at (n : Fin 256) (q : Fin 4) (d : Fin 128) : bwk m c t (ix2 n ⟨1024 + 128 * q.val + d.val, by omega⟩)
    = (args m c).ukv n ⟨128 * (2 * q.val + d.val / 64) + 64 + d.val % 64, by omega⟩ := by
  have e : (⟨1024 + 128 * q.val + d.val, by omega⟩ : Fin 1536)
      = ⟨1024 + (⟨64 * (2 * q.val + d.val / 64) + d.val % 64, by omega⟩ : Fin 512).val, by dsimp only; omega⟩ :=
    Fin.ext (by dsimp only; omega)
  rw [e]
  exact (congrFun (bwk_eq m c t) _).trans ((read7 t _ n _).trans ((latents_tail _ _ n _).trans
    (heads_lit _ n ⟨2 * q.val + d.val / 64, by omega⟩ ⟨d.val % 64, by omega⟩)))

/-- A block's rows are the sequence's, normed and modulated. -/
theorem hRow_eq (r : Fin 512) (k : Fin 1024) : hRow (bm m c t) (bx m c t) (bg m c t) r k = h (args m c) (seqOf t) (rowOf t r) k := by
  have hx : (fun k => bx m c t (ix2 r k)) = (args m c).x (seqOf t) (rowOf t r) := funext fun k => bx_at m c t r k
  have hg : (fun k => bg m c t (ix2 0 k)) = (args m c).g := funext fun k => bg_at m c t k
  have hm : ∀ j, bm m c t (ix3 0 0 j) = (args m c).mod (seqOf t) j := fun j => bm_at m c t j
  rw [hRow, h, hx, hg]
  simp only [hm]

/-- The latent columns of the block's projection, -/
theorem pB_latent (r : Fin 512) (n : Fin 256) : pB (bx m c t) (bm m c t) (bg m c t) (bw m c t) r ⟨256 + n.val, by omega⟩
    = p (args m c) (seqOf t) (rowOf t r) ⟨256 + n.val, by omega⟩ := by
  rw [pB, p]
  exact Finset.sum_congr rfl fun k _ => congrArg₂ (· * ·) (hRow_eq m c t r k) (bw_latent m c t k n)

/-- the stick-breaking queries and keys, -/
theorem pB_qk (r : Fin 512) (e : Fin 1024) : pB (bx m c t) (bm m c t) (bg m c t) (bw m c t) r ⟨768 + e.val, by omega⟩
    = qk (args m c) (seqOf t) (rowOf t r) e := by
  rw [pB, ← qk_eq]
  exact Finset.sum_congr rfl fun k _ => congrArg₂ (· * ·) (hRow_eq m c t r k) (bw_qk m c t k e)

/-- the stick-breaking values, -/
theorem pB_vs (r : Fin 512) (q : Fin 4) (d : Fin 128) :
    pB (bx m c t) (bm m c t) (bg m c t) (bw m c t) r ⟨1792 + 128 * q.val + d.val, by omega⟩
      = p (args m c) (seqOf t) (rowOf t r) ⟨1568 + 128 * q.val + d.val, by omega⟩ := by
  have e1 : (⟨1792 + 128 * q.val + d.val, by omega⟩ : Fin 2304)
      = ⟨1280 + (⟨512 + 128 * q.val + d.val, by omega⟩ : Fin 1024).val, by dsimp only; omega⟩ := Fin.ext (by dsimp only; omega)
  have e2 : (⟨1568 + 128 * q.val + d.val, by omega⟩ : Fin 2080)
      = ⟨1056 + (⟨512 + 128 * q.val + d.val, by omega⟩ : Fin 1024).val, by dsimp only; omega⟩ := Fin.ext (by dsimp only; omega)
  rw [pB, p, e1, e2]
  exact Finset.sum_congr rfl fun k _ => congrArg₂ (· * ·) (hRow_eq m c t r k) (bw_kv m c t k _)

/-- and the latent attention's values. -/
theorem kvB_eq (r : Fin 512) (q : Fin 4) (d : Fin 128) :
    kvB (bx m c t) (bm m c t) (bg m c t) (bw m c t) (bgk m c t) (bwk m c t) r ⟨1024 + 128 * q.val + d.val, by omega⟩
      = kv (args m c) (seqOf t) (rowOf t r) ⟨128 * (2 * q.val + d.val / 64) + 64 + d.val % 64, by omega⟩ := by
  have hp : (fun n : Fin 256 => pB (bx m c t) (bm m c t) (bg m c t) (bw m c t) r ⟨256 + n.val, by omega⟩)
      = fun n => p (args m c) (seqOf t) (rowOf t r) ⟨256 + n.val, by omega⟩ := funext fun n => pB_latent m c t r n
  have hg : (fun n => bgk m c t (ix2 0 n)) = (args m c).gkv := funext fun n => bgk_at m c t n
  rw [kvB, kv, hp, hg]
  exact Finset.sum_congr rfl fun n _ => congrArg _ (bwk_at m c t n q d)

end Cert.Kernel4Ideal.Odd
-- ==== Proof.OddResult.lean ====
/-
  The three result arrays of the odd layer's projection: each grid point writes back its rows' entries, and the blocks cover the
  arrays.
-/
module

public import proofs.«01_k».proof.Proof.OddBlocks

@[expose] public section

noncomputable section

namespace Cert.Kernel4Ideal.Odd

open Idealize.ShloMosaic Idealize.ShloMosaic.TcCoe
open Cert.Kernel4Ideal.Gen Cert.Proof.Odd

variable (m : (ℓ : Loc nD τ sig) → Buf (Elt Ideal) ℓ) (c : Dev nD) (t : Fin cfg0.N)

/-- Every index of a result array is in some point's block. -/
theorem point : ∀ b : Fin 32, ∃ t : Fin grid0.N, (grid0.coords t 0).val = b.val := by decide +kernel

/-- A group's positions among the sequence's rows. -/
theorem rowOf_eq (k : Fin 512) : rowOf t k = ⟨2048 * ((num t).val % 8 / 4) + (512 * ((num t).val % 4) + k.val), by omega⟩ :=
  Fin.ext (by show 512 * ((num t).val % 8) + k.val = 2048 * ((num t).val % 8 / 4) + (512 * ((num t).val % 4) + k.val); omega)

/-! ## The latent attention's values -/

def RES14 : Vec Ideal S4x4x2x128x2048 .bf16 :=
  fun i => vmE (args m c) (i (0 : Fin 5)) (i (1 : Fin 5)) (i (2 : Fin 5)) (i (3 : Fin 5)) (i (4 : Fin 5))

theorem block14_at (q : Fin 4) (d : Fin 128) (k : Fin 512) : kvB (bx m c t) (bm m c t) (bg m c t) (bw m c t) (bgk m c t) (bwk m c t) k ⟨1024 + 128 * q.val + d.val, by omega⟩
      = vmE (args m c) (seqOf t) q ⟨(num t).val % 8 / 4, by omega⟩ d ⟨512 * ((num t).val % 4) + k.val, by omega⟩ := by
  rw [kvB_eq, vmE, rowOf_eq]

theorem flushed14_eq : (dats m 0 c).flushed 14 t = ((cfg0.win 14).blk t).view.read (Elt Ideal) (RES14 m c) := by
  have e : (dats m 0 c).flushed 14 t = (cfg0.win 14).cut (grid0.coords t) ((dats m 0 c).after 14 t) := rfl
  rw [e, after0_14]
  funext i
  idx_vars i
  obtain rfl : i0 = 0 := Subsingleton.elim _ _
  obtain rfl : i2 = 0 := Subsingleton.elim _ _
  exact (out14_at (bx m c t) (bm m c t) (bg m c t) (bw m c t) (iblk m c 4 t) (bgk m c t) (iblk m c 6 t) (bwk m c t) (iblk m c 8 t) (iblk m c 9 t) (iblk m c 10 t) (iblk m c 11 t) i1 i3 i4).trans
    ((block14_at m c t i1 i3 i4).trans (read14 t (RES14 m c) i1 i3 i4).symm)

theorem covered14 (i : S4x4x2x128x2048.Idx) :
    ∃ t : Fin cfg0.N, (cfg0.win 14).flush t = true ∧ i ∈ ((cfg0.win 14).blk t).view.set := by
  idx_vars i
  obtain ⟨t, h0⟩ := point ⟨8 * i0.val + 4 * i2.val + i4.val / 512, by omega⟩
  dsimp only at h0
  refine ⟨t, flush0_14 t, ?_⟩
  have h := emb14 t i1 i3 (⟨i4.val % 512, by omega⟩ : Fin 512)
  have e0 : seqOf t = i0 := Fin.ext (by
    show (grid0.coords t 0).val / 8 = i0.val
    omega)
  have e1 : (⟨(num t).val % 8 / 4, by omega⟩ : Fin 2) = i2 := Fin.ext (by
    show (grid0.coords t 0).val % 8 / 4 = i2.val
    omega)
  have e2 : (⟨512 * ((num t).val % 4) + i4.val % 512, by omega⟩ : Fin 2048) = i4 := Fin.ext (by
    show 512 * ((grid0.coords t 0).val % 4) + i4.val % 512 = i4.val
    omega)
  dsimp only at h
  rw [e0, e1, e2] at h
  rw [← h]
  exact ((cfg0.win 14).blk t).view.emb_mem_set _

theorem final14 : (dats m 0 c).arrAt 14 cfg0.N = RES14 m c :=
  (dats m 0 c).arrAt_eq_of_cover 14 (RES14 m c) (fun t _ => flushed14_eq m c t) covered14

/-! ## The stick-breaking values -/

def RES16 : Vec Ideal S4x4x2x128x2048 .bf16 :=
  fun i => vsE (args m c) (i (0 : Fin 5)) (i (1 : Fin 5)) (i (2 : Fin 5)) (i (3 : Fin 5)) (i (4 : Fin 5))

theorem block16_at (q : Fin 4) (d : Fin 128) (k : Fin 512) : pB (bx m c t) (bm m c t) (bg m c t) (bw m c t) k ⟨1792 + 128 * q.val + d.val, by omega⟩
      = vsE (args m c) (seqOf t) q ⟨(num t).val % 8 / 4, by omega⟩ d ⟨512 * ((num t).val % 4) + k.val, by omega⟩ := by
  rw [pB_vs, vsE, rowOf_eq]

theorem flushed16_eq : (dats m 0 c).flushed 16 t = ((cfg0.win 16).blk t).view.read (Elt Ideal) (RES16 m c) := by
  have e : (dats m 0 c).flushed 16 t = (cfg0.win 16).cut (grid0.coords t) ((dats m 0 c).after 16 t) := rfl
  rw [e, after0_16]
  funext i
  idx_vars i
  obtain rfl : i0 = 0 := Subsingleton.elim _ _
  obtain rfl : i2 = 0 := Subsingleton.elim _ _
  exact (out16_at (bx m c t) (bm m c t) (bg m c t) (bw m c t) (iblk m c 4 t) (bgk m c t) (iblk m c 6 t) (bwk m c t) (iblk m c 8 t) (iblk m c 9 t) (iblk m c 10 t) (iblk m c 11 t) i1 i3 i4).trans
    ((block16_at m c t i1 i3 i4).trans (read16 t (RES16 m c) i1 i3 i4).symm)

theorem covered16 (i : S4x4x2x128x2048.Idx) :
    ∃ t : Fin cfg0.N, (cfg0.win 16).flush t = true ∧ i ∈ ((cfg0.win 16).blk t).view.set := by
  idx_vars i
  obtain ⟨t, h0⟩ := point ⟨8 * i0.val + 4 * i2.val + i4.val / 512, by omega⟩
  dsimp only at h0
  refine ⟨t, flush0_16 t, ?_⟩
  have h := emb16 t i1 i3 (⟨i4.val % 512, by omega⟩ : Fin 512)
  have e0 : seqOf t = i0 := Fin.ext (by
    show (grid0.coords t 0).val / 8 = i0.val
    omega)
  have e1 : (⟨(num t).val % 8 / 4, by omega⟩ : Fin 2) = i2 := Fin.ext (by
    show (grid0.coords t 0).val % 8 / 4 = i2.val
    omega)
  have e2 : (⟨512 * ((num t).val % 4) + i4.val % 512, by omega⟩ : Fin 2048) = i4 := Fin.ext (by
    show 512 * ((grid0.coords t 0).val % 4) + i4.val % 512 = i4.val
    omega)
  dsimp only at h
  rw [e0, e1, e2] at h
  rw [← h]
  exact ((cfg0.win 16).blk t).view.emb_mem_set _

theorem final16 : (dats m 0 c).arrAt 16 cfg0.N = RES16 m c :=
  (dats m 0 c).arrAt_eq_of_cover 16 (RES16 m c) (fun t _ => flushed16_eq m c t) covered16

/-! ## The stick-breaking queries and keys -/

def RES15 : Vec Ideal S16384x1024 .bf16 := fun i => qkE (args m c) (i (0 : Fin 2)) (i (1 : Fin 2))

theorem block15_at (r : Fin 512) (e : Fin 1024) :
    pB (bx m c t) (bm m c t) (bg m c t) (bw m c t) r ⟨768 + e.val, by omega⟩ = qkE (args m c) (at512 t r) e := by
  have e0 : (⟨(at512 t r).val / 4096, by omega⟩ : Fin 4) = seqOf t := Fin.ext (by
    show (512 * (num t).val + r.val) / 4096 = (num t).val / 8; omega)
  have e1 : (⟨(at512 t r).val % 4096, by omega⟩ : Fin 4096) = rowOf t r := Fin.ext (by
    show (512 * (num t).val + r.val) % 4096 = 512 * ((num t).val % 8) + r.val; omega)
  rw [pB_qk, qkE, e0, e1]

theorem flushed15_eq : (dats m 0 c).flushed 15 t = ((cfg0.win 15).blk t).view.read (Elt Ideal) (RES15 m c) := by
  have e : (dats m 0 c).flushed 15 t = (cfg0.win 15).cut (grid0.coords t) ((dats m 0 c).after 15 t) := rfl
  rw [e, after0_15]
  funext i
  idx_vars i
  exact (out15_at (bx m c t) (bm m c t) (bg m c t) (bw m c t) (iblk m c 4 t) (bgk m c t) (iblk m c 6 t) (bwk m c t) (iblk m c 8 t) (iblk m c 9 t) (iblk m c 10 t) (iblk m c 11 t) i0 i1).trans
    ((block15_at m c t i0 i1).trans (read15 t (RES15 m c) i0 i1).symm)

theorem covered15 (i : S16384x1024.Idx) :
    ∃ t : Fin cfg0.N, (cfg0.win 15).flush t = true ∧ i ∈ ((cfg0.win 15).blk t).view.set := by
  idx_vars i
  obtain ⟨t, h0⟩ := point ⟨i0.val / 512, by omega⟩
  dsimp only at h0
  refine ⟨t, flush0_15 t, ?_⟩
  have h := emb15 t (⟨i0.val % 512, by omega⟩ : Fin 512) i1
  have e0 : at512 t ⟨i0.val % 512, by omega⟩ = i0 := Fin.ext (by
    show 512 * (grid0.coords t 0).val + i0.val % 512 = i0.val
    omega)
  dsimp only at h
  rw [e0] at h
  rw [← h]
  exact ((cfg0.win 15).blk t).view.emb_mem_set _

theorem final15 : (dats m 0 c).arrAt 15 cfg0.N = RES15 m c :=
  (dats m 0 c).arrAt_eq_of_cover 15 (RES15 m c) (fun t _ => flushed15_eq m c t) covered15

end Cert.Kernel4Ideal.Odd
-- ==== Proof.OddRef.lean ====
/-
  The reference's input projection of an odd layer, entry by entry, and its three results.
-/
module

public import proofs.«01_k».proof.Proof.OddRow
public import proofs.«01_k».proof.Proof.Gen.Reference4Ideal.Run
public import Idealize.ShloMosaic.Lib.Pointwise

@[expose] public section
set_option maxRecDepth 8192

noncomputable section

namespace Cert.Reference4Ideal.Odd

open Idealize.ShloMosaic Idealize.ShloMosaic.TcCoe
open Cert.Reference4Ideal.Gen Cert.Reference4Ideal.Value Cert.Proof.Odd
open Cert.Proof.Post (lit modded normed rms)

/-! ## The stages -/

section
variable {F : FTy → Type} [FloatOps F]

/-- A row's division by its root mean square, and the gain. -/
def norm (y : Vec F S4x4096x1024 .f32) (g : Vec F S1024 .f32) : Vec F S4x4096x1024 .f32 :=
  mulf (mulf y (broadcastInDim S4x4096x1024 ![0, 1, 2] bcast_S4x4096x1_S4x4096x1024_0_1_2 (Host.rsqrt (addf (Host.divf
    (broadcastInDim S4x4096x1 ![0, 1] bcast_S4x4096_S4x4096x1_0_1 (Host.reduceAdd (mulf y y) (constant S_ .f32 0x00000000#32)
      reducesTo_S4x4096x1024_S4x4096_d2 h_S_)) (broadcastInDim S4x4096x1 ![] bcast_S_S4x4096x1 (constant S_ .f32 0x44800000#32)))
    (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

/-- The row normed and modulated. -/
def input (x : Vec F S4x4096x1024 .f32) (mod : Vec F S4x6144 .f32) (g : Vec F S1024 .f32) : Vec F S4x4096x1024 .f32 :=
  addf (mulf (norm x g) (broadcastInDim S4x4096x1024 ![0, 1, 2] bcast_S4x1x1024_S4x4096x1024_0_1_2 (addf (broadcastInDim S4x1x1024 ![]
    bcast_S_S4x1x1024 (constant S_ .f32 0x3F800000#32)) (broadcastInDim S4x1x1024 ![0, 2] bcast_S4x1024_S4x1x1024_0_2
    (extractStridedSlice S4x1024 ![0, 1024] mod slices_S4x6144_S4x1024_0_1024))))) (broadcastInDim S4x4096x1024 ![0, 1, 2]
    bcast_S4x1x1024_S4x4096x1024_0_1_2 (broadcastInDim S4x1x1024 ![0, 2] bcast_S4x1024_S4x1x1024_0_2
    (extractStridedSlice S4x1024 ![0, 0] mod slices_S4x6144_S4x1024_0_0)))

/-- Its projection. -/
def proj (x : Vec F S4x4096x1024 .f32) (mod : Vec F S4x6144 .f32) (g : Vec F S1024 .f32) (w : Vec F S1024x2080 .f32) :
    Vec F S4x4096x2080 .f32 :=
  Host.dotGeneral dot_S4x4096x1024_S1024x2080_S4x4096x2080_2_0_01_1_n_n none (input x mod g) w

variable (P : Vec F S4x4096x2080 .f32)

/-- A latent row normed, with its gain. -/
def normLatent (y : Vec F S4x4096x256 .f32) (g : Vec F S256 .f32) : Vec F S4x4096x256 .f32 :=
  mulf (mulf y (broadcastInDim S4x4096x256 ![0, 1, 2] bcast_S4x4096x1_S4x4096x256_0_1_2 (Host.rsqrt (addf (Host.divf
    (broadcastInDim S4x4096x1 ![0, 1] bcast_S4x4096_S4x4096x1_0_1 (Host.reduceAdd (mulf y y) (constant S_ .f32 0x00000000#32)
      reducesTo_S4x4096x256_S4x4096_d2 h_S_)) (broadcastInDim S4x4096x1 ![] bcast_S_S4x4096x1 (constant S_ .f32 0x43800000#32)))
    (broadcastInDim S4x4096x1 ![] bcast_S_S4x4096x1 (constant S_ .f32 0x358637BD#32))))))
    (broadcastInDim S4x4096x256 ![0, 1, 2] bcast_S1x1x256_S4x4096x256_0_1_2 (broadcastInDim S1x1x256 ![2] bcast_S256_S1x1x256_2 g))

/-- The keys and values of the latent attention. -/
def keysVals (g : Vec F S256 .f32) (w : Vec F S256x1024 .f32) : Vec F S4x4096x1024 .f32 :=
  Host.dotGeneral dot_S4x4096x256_S256x1024_S4x4096x1024_2_0_01_1_n_n none (normLatent (extractStridedSlice S4x4096x256 ![0, 0, 256] P
    slices_S4x4096x2080_S4x4096x256_0_0_256) g) w

/-- The values among them. -/
def vm (K : Vec F S4x4096x1024 .f32) : Vec F S4x4x2x128x2048 .bf16 :=
  truncf .bf16 (transpose S4x4x2x128x2048 [0, 3, 1, 4, 2] (shapeCast _ (extractStridedSlice S4x4096x8x64 ![0, 0, 0, 64]
    (shapeCast _ K shapeCasts_S4x4096x1024_S4x4096x8x128) slices_S4x4096x8x128_S4x4096x8x64_0_0_0_64)
    shapeCasts_S4x4096x8x64_S4x2x2048x4x128) transposes_S4x2x2048x4x128_S4x4x2x128x2048_0_3_1_4_2) bitsLt_bf16_f32

/-- The stick-breaking queries, keys and values. -/
def sb : Vec F S4x4096x1536 .f32 := extractStridedSlice S4x4096x1536 ![0, 0, 544] P slices_S4x4096x2080_S4x4096x1536_0_0_544

/-- The queries with their factor, and the keys. -/
def sbQk : Vec F S4x4096x1024 .bf16 :=
  truncf .bf16 (concatenate S4x4096x1024 2 [⟨S4x4096x512, mulf (extractStridedSlice S4x4096x512 ![0, 0, 0] (sb P)
      slices_S4x4096x1536_S4x4096x512_0_0_0) (broadcastInDim S4x4096x512 ![] bcast_S_S4x4096x512 (constant S_ .f32 0x3E000000#32))⟩,
    ⟨S4x4096x512, extractStridedSlice S4x4096x512 ![0, 0, 512] (sb P) slices_S4x4096x1536_S4x4096x512_0_0_512⟩]
    concatenates_S4x4096x512_S4x4096x512_S4x4096x1024_d2) bitsLt_bf16_f32

/-- The values. -/
def vs : Vec F S4x4x2x128x2048 .bf16 :=
  truncf .bf16 (transpose S4x4x2x128x2048 [0, 3, 1, 4, 2] (shapeCast _ (extractStridedSlice S4x4096x512 ![0, 0, 1024] (sb P)
    slices_S4x4096x1536_S4x4096x512_0_0_1024) shapeCasts_S4x4096x512_S4x2x2048x4x128)
    transposes_S4x2x2048x4x128_S4x4x2x128x2048_0_3_1_4_2) bitsLt_bf16_f32

end

/-! ## Their entries -/

variable (b : Fin 4) (s : Fin 4096)

theorem norm_at (y : Vec Ideal S4x4096x1024 .f32) (g : Vec Ideal S1024 .f32) (n : Fin 1024) :
    norm y g (ix3 b s n) = normed (fun k => y (ix3 b s k)) (fun k => g (ix1 k)) n := by
  have z : Ideal.ofBits FTy.f32 0x00000000#32 = 0 := Ideal.ofBits_zero_f32
  pointwise [norm, normed, rms, lit]

theorem input_at (x : Vec Ideal S4x4096x1024 .f32) (mod : Vec Ideal S4x6144 .f32) (g : Vec Ideal S1024 .f32) (n : Fin 1024) :
    input x mod g (ix3 b s n) = modded (fun k => x (ix3 b s k)) (fun k => g (ix1 k)) (fun k => mod (ix2 b ⟨1024 + k.val, by omega⟩))
      (fun k => mod (ix2 b ⟨k.val, by omega⟩)) n := by
  rw [modded, ← norm_at]
  pointwise [input, lit]

theorem proj_at (x : Vec Ideal S4x4096x1024 .f32) (mod : Vec Ideal S4x6144 .f32) (g : Vec Ideal S1024 .f32)
    (w : Vec Ideal S1024x2080 .f32) (e : Fin 2080) :
    proj x mod g w (ix3 b s e) = ∑ k : Fin 1024, input x mod g (ix3 b s k) * w (ix2 k e) := by
  pointwise [proj]

theorem normLatent_at (y : Vec Ideal S4x4096x256 .f32) (g : Vec Ideal S256 .f32) (n : Fin 256) :
    normLatent y g (ix3 b s n) = latent (fun k => y (ix3 b s k)) (fun k => g (ix1 k)) n := by
  have z : Ideal.ofBits FTy.f32 0x00000000#32 = 0 := Ideal.ofBits_zero_f32
  pointwise [normLatent, latent, lit]

variable (P : Vec Ideal S4x4096x2080 .f32)

theorem slice_at (n : Fin 256) : extractStridedSlice S4x4096x256 ![0, 0, 256] P slices_S4x4096x2080_S4x4096x256_0_0_256 (ix3 b s n)
    = P (ix3 b s ⟨256 + n.val, by omega⟩) := by
  pointwise

theorem keysVals_at (g : Vec Ideal S256 .f32) (w : Vec Ideal S256x1024 .f32) (j : Fin 1024) : keysVals P g w (ix3 b s j)
    = ∑ n : Fin 256, latent (fun n => P (ix3 b s ⟨256 + n.val, by omega⟩)) (fun k => g (ix1 k)) n * w (ix2 n j) := by
  have h : keysVals P g w (ix3 b s j) = ∑ n : Fin 256, normLatent (extractStridedSlice S4x4096x256 ![0, 0, 256] P
      slices_S4x4096x2080_S4x4096x256_0_0_256) g (ix3 b s n) * w (ix2 n j) := by
    unfold keysVals
    generalize normLatent _ g = y
    pointwise
  rw [h]
  refine Finset.sum_congr rfl fun n _ => congrArg (· * w (ix2 n j)) ?_
  rw [normLatent_at]
  exact congrArg (fun y => latent y (fun k => g (ix1 k)) n) (funext fun k => slice_at b s P k)

theorem vm_at (K : Vec Ideal S4x4096x1024 .f32) (q : Fin 4) (g : Fin 2) (d : Fin 128) (k : Fin 2048) : vm K (ix5 b q g d k)
    = K (ix3 b ⟨2048 * g.val + k.val, by omega⟩ ⟨128 * (2 * q.val + d.val / 64) + 64 + d.val % 64, by omega⟩) := by
  pointwise [vm]
  exact congrArg₂ (fun s e => K (ix3 b s e)) (Fin.ext (by dsimp only; omega)) (Fin.ext (by dsimp only; omega))

theorem sbQk_at (e : Fin 1024) : sbQk P (ix3 b s e) = P (ix3 b s ⟨544 + e.val, by omega⟩) * fac e := by
  have hs : ∀ e' : Fin 2080, e'.val = 544 + e.val → P (ix3 b s e') = P (ix3 b s ⟨544 + e.val, by omega⟩) :=
    fun e' h => congrArg (fun e => P (ix3 b s e)) (Fin.ext h)
  have hq : e.val < 512 → fac e = Ideal.ofBits FTy.f32 0x3E000000#32 := fun h => if_pos h
  have hn : ¬ e.val < 512 → fac e = 1 := fun h => if_neg h
  pointwise [sbQk, sb]
  by_cases h0 : e.val < 512
  · rw [dif_pos h0, hq h0]
    try rw [hs _ (by dsimp only; omega)]
  · rw [dif_neg h0, hn h0, mul_one, hs _ (by dsimp only; omega)]

theorem vs_at (q : Fin 4) (g : Fin 2) (d : Fin 128) (k : Fin 2048) : vs P (ix5 b q g d k)
    = P (ix3 b ⟨2048 * g.val + k.val, by omega⟩ ⟨1568 + 128 * q.val + d.val, by omega⟩) := by
  pointwise [vs, sb]
  exact congrArg₂ (fun s e => P (ix3 b s e)) (Fin.ext (by dsimp only; omega)) (Fin.ext (by dsimp only; omega))

theorem flat_at (C : Vec Ideal S4x4096x1024 .bf16) (e : Fin 1024) :
    shapeCast S16384x1024 C shapeCasts_S4x4096x1024_S16384x1024 (ix2 ⟨4096 * b.val + s.val, by omega⟩ e) = C (ix3 b s e) := by
  pointwise

/-! ## The results -/

variable (m : (ℓ : Loc nD τ sig) → Buf (Elt Ideal) ℓ) (c : Dev nD)

/-- The arguments, by their entries. -/
def args : Args where
  x b s n := (m ((c.tc : Thread nD τ).loc main_arg0) : Vec Ideal S4x4096x1024 .f32) (ix3 b s n)
  mod b n := (m ((c.tc : Thread nD τ).loc main_arg1) : Vec Ideal S4x6144 .f32) (ix2 b n)
  g n := (m ((c.tc : Thread nD τ).loc main_arg2) : Vec Ideal S1024 .f32) (ix1 n)
  w k e := (m ((c.tc : Thread nD τ).loc main_arg3) : Vec Ideal S1024x2080 .f32) (ix2 k e)
  gkv n := (m ((c.tc : Thread nD τ).loc main_arg5) : Vec Ideal S256 .f32) (ix1 n)
  ukv n j := (m ((c.tc : Thread nD τ).loc main_arg7) : Vec Ideal S256x1024 .f32) (ix2 n j)

/-- The projection of the arguments. -/
def projOf : Vec Ideal S4x4096x2080 .f32 :=
  proj (F := Ideal) (m ((c.tc : Thread nD τ).loc main_arg0)) (m ((c.tc : Thread nD τ).loc main_arg1))
    (m ((c.tc : Thread nD τ).loc main_arg2)) (m ((c.tc : Thread nD τ).loc main_arg3))

theorem projOf_at (e : Fin 2080) : projOf m c (ix3 b s e) = p (args m c) b s e :=
  (proj_at b s _ _ _ _ e).trans (Finset.sum_congr rfl fun k _ =>
    congrArg (· * (m ((c.tc : Thread nD τ).loc main_arg3) : Vec Ideal S1024x2080 .f32) (ix2 k e)) (input_at b s _ _ _ k))

/-- The keys and values of the arguments. -/
def kvOf : Vec Ideal S4x4096x1024 .f32 :=
  keysVals (F := Ideal) (projOf m c) (m ((c.tc : Thread nD τ).loc main_arg5)) (m ((c.tc : Thread nD τ).loc main_arg7))

theorem kvOf_at (j : Fin 1024) : kvOf m c (ix3 b s j) = kv (args m c) b s j := by
  refine (keysVals_at b s (projOf m c) _ _ j).trans ?_
  rw [kv]
  simp only [projOf_at]
  rfl

theorem v59_eq : (res_main_v59 m c : Vec Ideal S4x4x2x128x2048 .bf16) = vm (kvOf m c) := by
  unfold res_main_v59; rfl

theorem v59_at (b q : Fin 4) (g : Fin 2) (d : Fin 128) (k : Fin 2048) :
    (res_main_v59 m c : Vec Ideal S4x4x2x128x2048 .bf16) (ix5 b q g d k) = vmE (args m c) b q g d k := by
  rw [v59_eq, vm_at, kvOf_at, vmE]

theorem sbQk_eq (R : Fin 16384) (e : Fin 1024) :
    shapeCast S16384x1024 (sbQk (projOf m c)) shapeCasts_S4x4096x1024_S16384x1024 (ix2 R e) = qkE (args m c) R e := by
  have hR : R = ⟨4096 * (⟨R.val / 4096, by omega⟩ : Fin 4).val + (⟨R.val % 4096, by omega⟩ : Fin 4096).val, by dsimp only; omega⟩ :=
    Fin.ext (by dsimp only; omega)
  rw [qkE, qk]
  refine (congrArg (fun R => shapeCast S16384x1024 (sbQk (projOf m c)) shapeCasts_S4x4096x1024_S16384x1024 (ix2 R e)) hR).trans
    ((flat_at _ _ _ e).trans ?_)
  rw [sbQk_at, projOf_at]

theorem vs_eq (b q : Fin 4) (g : Fin 2) (d : Fin 128) (k : Fin 2048) : vs (projOf m c) (ix5 b q g d k) = vsE (args m c) b q g d k := by
  rw [vs_at, projOf_at, vsE]

end Cert.Reference4Ideal.Odd
-- ==== Proof.OddAlgebraic.lean ====
/-
  The odd layer's projection kernel and its reference: their frames, and that both end with the same values and stick-breaking queries
  and keys.
-/
module

public import proofs.«01_k».proof.Defs
public import proofs.«01_k».proof.Proof.OddResult
public import proofs.«01_k».proof.Proof.OddRef
public import proofs.«01_k».proof.Proof.Gen.Kernel4.Frame
public import proofs.«01_k».proof.Proof.Gen.Kernel4Ideal.Value
public import proofs.«01_k».proof.Proof.Gen.Kernel4
public import proofs.«01_k».proof.Proof.Gen.Kernel4Ideal
public import proofs.«01_k».proof.Proof.Gen.Reference4Ideal
public import Idealize.ShloMosaic.Lib.Quiescent

@[expose] public section

noncomputable section

namespace Cert.Proof

open Idealize.ShloMosaic Idealize.ShloMosaic.StableHlo Idealize.SL.Sem

instance factsKernel4 : Cert.Kernel4.Facts := Cert.Kernel4.Gen.facts
instance factsKernel4Ideal : Cert.Kernel4Ideal.Facts := Cert.Kernel4Ideal.Gen.facts
instance factsReference4Ideal : Cert.Reference4Ideal.Facts := Cert.Reference4Ideal.Gen.facts

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

/-- The reference has no counter at all. -/
theorem frame_reference4Ideal : Cert.quiescent_Reference4Ideal := fun m ρ _ =>
  (θ_run Cert.Reference4Ideal.defs _ _).mono
    (fun r h => ⟨fun c => (h c).2.2.2, Idealize.ShloMosaic.sem_eq_zero_of_no_sems (by decide) r.2⟩)
    (Cert.Reference4Ideal.Value.run m ρ)

/-- Equal arguments have equal entries. -/
theorem args4_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3))
    (h5 : m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5))
    (h7 : m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) :
    Cert.Reference4Ideal.Odd.args m' c = Cert.Kernel4Ideal.Odd.args m c := by
  unfold Cert.Reference4Ideal.Odd.args Cert.Kernel4Ideal.Odd.args
  rw [h0, h1, h2, h3, h5, h7]

theorem algebraic4 : Cert.algebraic_Kernel4Ideal_Reference4Ideal := by
  intro m g m' g' _ hargs
  refine ⟨fun c => Cert.Kernel4Ideal.Odd.RES14 m c, fun c => Cert.Kernel4Ideal.Odd.RES15 m c, fun c => Cert.Kernel4Ideal.Odd.RES16 m c,
    ?_, ?_⟩
  · refine (θ_run Cert.Kernel4Ideal.defs _ _).mono (fun _ e c => ?_) (Cert.Kernel4Ideal.Value.run_blocks m g)
    obtain ⟨_, _, h14, h15, h16, h⟩ := e c
    exact ⟨h14.trans (Cert.Kernel4Ideal.Odd.final14 m c), h15.trans (Cert.Kernel4Ideal.Odd.final15 m c),
      h16.trans (Cert.Kernel4Ideal.Odd.final16 m c), h⟩
  · refine (θ_run Cert.Reference4Ideal.defs _ _).mono (fun _ e c => ?_) (Cert.Reference4Ideal.Value.run m' g')
    obtain ⟨a0, a1, a2, a3, _, a5, _, a7⟩ := hargs c
    have ha := args4_eq m m' c a0 a1 a2 a3 a5 a7
    obtain ⟨h14, h15, h16, h⟩ := e c
    refine ⟨h14.trans ?_, h15.trans ?_, h16.trans ?_, h⟩
    · funext i
      idx_vars i
      refine (Cert.Reference4Ideal.Odd.v59_at m' c i0 i1 i2 i3 i4).trans ?_
      rw [ha]; rfl
    · funext i
      idx_vars i
      refine (Cert.Reference4Ideal.Odd.sbQk_eq m' c i0 i1).trans ?_
      rw [ha]; rfl
    · funext i
      idx_vars i
      refine (Cert.Reference4Ideal.Odd.vs_eq m' c i0 i1 i2 i3 i4).trans ?_
      rw [ha]; rfl

end Cert.Proof

end
-- ==== Proof.lean ====
/-
  The claims of the certificate: the frames of the four kernels, their idealizations and the references; that the attention's
  idealization and its reference compute the same array whenever the queries and keys are finite; and that the rest of the
  layer's idealization and its reference do, and the even layers' and an odd layer's projection's, at any arguments.
-/
module

public import proofs.«01_k».proof.Defs
public import proofs.«01_k».proof.Proof.Algebraic
public import proofs.«01_k».proof.Proof.PostAlgebraic
public import proofs.«01_k».proof.Proof.EvenAlgebraic
public import proofs.«01_k».proof.Proof.OddAlgebraic

@[expose] public section

noncomputable section

namespace Cert.Proof

theorem claim : Cert.Claim :=
  ⟨factsKernel, factsKernelIdeal, factsReferenceIdeal, factsKernel2, factsKernel2Ideal, factsReference2Ideal,
    factsKernel3, factsKernel3Ideal, factsReference3Ideal,
    factsKernel4, factsKernel4Ideal, factsReference4Ideal, factsPre, frame_kernel, frame_kernelIdeal,
    fun m g _ => frame_kernelIdeal m g trivial, frame_referenceIdeal,
    fun m g _ => frame_referenceIdeal m g trivial, frame_kernel2, frame_kernel2Ideal, frame_reference2Ideal,
    frame_kernel3, frame_kernel3Ideal, frame_reference3Ideal,
    frame_kernel4, frame_kernel4Ideal, frame_reference4Ideal, trivial, algebraic, trivial, algebraic2, trivial, algebraic3,
    trivial, algebraic4⟩

end Cert.Proof

end
